-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v32)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v79) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S1x8192x6x192 : Shape := ⟨4, ![1, 8192, 6, 192]⟩
abbrev S1x8192x6x128 : Shape := ⟨4, ![1, 8192, 6, 128]⟩
abbrev S_ : Shape := ⟨0, ![]⟩

class Facts : Prop where
  bcast_S_S1x8192x6x192 : S_.BroadcastsInDim S1x8192x6x192 (![] : Fin 0 → Fin S1x8192x6x192.rank)

variable [Facts]

def fn {F : FTy → Type} [FloatOps F] (main_arg0 : FVec F S1x8192x6x192 .f32) (main_arg1 : FVec F S1x8192x6x192 .f32) (main_arg2 : FVec F S1x8192x6x128 .f32) : IVec S1x8192x6x192 1 :=
  let main_v0 : FVec F S1x8192x6x192 .f32 := Host.absf main_arg0
  let main_cst : FVec F S_ .f32 := constant S_ .f32 0x7F800000#32
  let main_v1 : FVec F S1x8192x6x192 .f32 := broadcastInDim S1x8192x6x192 ![] bcast_S_S1x8192x6x192 main_cst
  let main_v2 : IVec S1x8192x6x192 1 := cmpf .olt main_v0 main_v1
  let main_v3 : FVec F S1x8192x6x192 .f32 := Host.absf main_arg1
  let main_cst_0 : FVec F S_ .f32 := constant S_ .f32 0x7F800000#32
  let main_v4 : FVec F S1x8192x6x192 .f32 := broadcastInDim S1x8192x6x192 ![] bcast_S_S1x8192x6x192 main_cst_0
  let main_v5 : IVec S1x8192x6x192 1 := cmpf .olt main_v3 main_v4
  let main_v6 : IVec S1x8192x6x192 1 := andi main_v2 main_v5
  main_v6
-- ==== Pre_finite4.lean ====
abbrev S1x8192x6x128 : Shape := ⟨4, ![1, 8192, 6, 128]⟩
abbrev S1x8192x6 : Shape := ⟨3, ![1, 8192, 6]⟩
abbrev S_ : Shape := ⟨0, ![]⟩
abbrev S1x8192x6x1 : Shape := ⟨4, ![1, 8192, 6, 1]⟩

class Facts : Prop where
  bcast_S_S1x8192x6x128 : S_.BroadcastsInDim S1x8192x6x128 (![] : Fin 0 → Fin S1x8192x6x128.rank)
  bcast_S1x8192x6_S1x8192x6x1_0_1_2 : S1x8192x6.BroadcastsInDim S1x8192x6x1 (![0, 1, 2] : Fin 3 → Fin S1x8192x6x1.rank)
  bcast_S_S1x8192x6x1 : S_.BroadcastsInDim S1x8192x6x1 (![] : Fin 0 → Fin S1x8192x6x1.rank)
  bcast_S1x8192x6x1_S1x8192x6x128_0_1_2_3 : S1x8192x6x1.BroadcastsInDim S1x8192x6x128 (![0, 1, 2, 3] : Fin 4 → Fin S1x8192x6x128.rank)

variable [Facts]

def fn {F : FTy → Type} [FloatOps F] (main_arg0 : FVec F S1x8192x6x128 .f32) (main_arg1 : FVec F S1x8192x6x128 .f32) (main_arg2 : FVec F S1x8192x6x128 .f32) (main_arg3 : FVec F S1x8192x6 .f32) : IVec S1x8192x6x128 1 :=
  let main_v0 : FVec F S1x8192x6x128 .f32 := Host.absf main_arg0
  let main_cst : FVec F S_ .f32 := constant S_ .f32 0x7F800000#32
  let main_v1 : FVec F S1x8192x6x128 .f32 := broadcastInDim S1x8192x6x128 ![] bcast_S_S1x8192x6x128 main_cst
  let main_v2 : IVec S1x8192x6x128 1 := cmpf .olt main_v0 main_v1
  let main_v3 : FVec F S1x8192x6x128 .f32 := Host.absf main_arg1
  let main_cst_0 : FVec F S_ .f32 := constant S_ .f32 0x7F800000#32
  let main_v4 : FVec F S1x8192x6x128 .f32 := broadcastInDim S1x8192x6x128 ![] bcast_S_S1x8192x6x128 main_cst_0
  let main_v5 : IVec S1x8192x6x128 1 := cmpf .olt main_v3 main_v4
  let main_v6 : IVec S1x8192x6x128 1 := andi main_v2 main_v5
  let main_v7 : FVec F S1x8192x6 .f32 := Host.absf main_arg3
  let main_v8 : FVec F S1x8192x6x1 .f32 := broadcastInDim S1x8192x6x1 ![0, 1, 2] bcast_S1x8192x6_S1x8192x6x1_0_1_2 main_v7
  let main_cst_1 : FVec F S_ .f32 := constant S_ .f32 0x7F800000#32
  let main_v9 : FVec F S1x8192x6x1 .f32 := broadcastInDim S1x8192x6x1 ![] bcast_S_S1x8192x6x1 main_cst_1
  let main_v10 : IVec S1x8192x6x1 1 := cmpf .olt main_v8 main_v9
  let main_v11 : IVec S1x8192x6x128 1 := broadcastInDim S1x8192x6x128 ![0, 1, 2, 3] bcast_S1x8192x6x1_S1x8192x6x128_0_1_2_3 main_v10
  let main_v12 : IVec S1x8192x6x128 1 := andi main_v6 main_v11
  main_v12
-- ==== Pre_finite5.lean ====
abbrev S1x8192x4x2x64 : Shape := ⟨5, ![1, 8192, 4, 2, 64]⟩
abbrev S1x8192x4x128 : Shape := ⟨4, ![1, 8192, 4, 128]⟩
abbrev S64 : Shape := ⟨1, ![64]⟩
abbrev S128 : Shape := ⟨1, ![128]⟩
abbrev S_ : Shape := ⟨0, ![]⟩

class Facts : Prop where
  bcast_S_S1x8192x4x2x64 : S_.BroadcastsInDim S1x8192x4x2x64 (![] : Fin 0 → Fin S1x8192x4x2x64.rank)

variable [Facts]

def fn {F : FTy → Type} [FloatOps F] (main_arg0 : FVec F S1x8192x4x2x64 .f32) (main_arg1 : FVec F S1x8192x4x2x64 .f32) (main_arg2 : FVec F S1x8192x4x128 .f32) (main_arg3 : FVec F S64 .f32) (main_arg4 : FVec F S64 .f32) (main_arg5 : FVec F S64 .f32) (main_arg6 : FVec F S64 .f32) (main_arg7 : FVec F S128 .f32) : IVec S1x8192x4x2x64 1 :=
  let main_v0 : FVec F S1x8192x4x2x64 .f32 := Host.absf main_arg0
  let main_cst : FVec F S_ .f32 := constant S_ .f32 0x7F800000#32
  let main_v1 : FVec F S1x8192x4x2x64 .f32 := broadcastInDim S1x8192x4x2x64 ![] bcast_S_S1x8192x4x2x64 main_cst
  let main_v2 : IVec S1x8192x4x2x64 1 := cmpf .olt main_v0 main_v1
  let main_v3 : FVec F S1x8192x4x2x64 .f32 := Host.absf main_arg1
  let main_cst_0 : FVec F S_ .f32 := constant S_ .f32 0x7F800000#32
  let main_v4 : FVec F S1x8192x4x2x64 .f32 := broadcastInDim S1x8192x4x2x64 ![] bcast_S_S1x8192x4x2x64 main_cst_0
  let main_v5 : IVec S1x8192x4x2x64 1 := cmpf .olt main_v3 main_v4
  let main_v6 : IVec S1x8192x4x2x64 1 := andi main_v2 main_v5
  main_v6
-- ==== Kernel.lean ====
abbrev S1x8192x6x192 : Shape := ⟨4, ![1, 8192, 6, 192]⟩
abbrev S1x8192x6x128 : Shape := ⟨4, ![1, 8192, 6, 128]⟩
abbrev S_ : Shape := ⟨0, ![]⟩
abbrev S1x8192x6x64 : Shape := ⟨4, ![1, 8192, 6, 64]⟩
abbrev S1x8192x6x256 : Shape := ⟨4, ![1, 8192, 6, 256]⟩
abbrev S8192x6x256 : Shape := ⟨3, ![8192, 6, 256]⟩
abbrev S6x256x8192 : Shape := ⟨3, ![6, 256, 8192]⟩
abbrev S8192x1536 : Shape := ⟨2, ![8192, 1536]⟩
abbrev S8192x6x128 : Shape := ⟨3, ![8192, 6, 128]⟩
abbrev S6x128x8192 : Shape := ⟨3, ![6, 128, 8192]⟩
abbrev S8192x768 : Shape := ⟨2, ![8192, 768]⟩
abbrev S1x256x2048 : Shape := ⟨3, ![1, 256, 2048]⟩
abbrev S8192x256 : Shape := ⟨2, ![8192, 256]⟩
abbrev S1x128x8192 : Shape := ⟨3, ![1, 128, 8192]⟩
abbrev S2048x128 : Shape := ⟨2, ![2048, 128]⟩
abbrev S4x1x512 : Shape := ⟨3, ![4, 1, 512]⟩
abbrev S4x128x512 : Shape := ⟨3, ![4, 128, 512]⟩
abbrev S2x512x512 : Shape := ⟨3, ![2, 512, 512]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1x512x512 : Shape := ⟨3, ![1, 512, 512]⟩
abbrev S1x128x512 : Shape := ⟨3, ![1, 128, 512]⟩
abbrev S128x512 : Shape := ⟨2, ![128, 512]⟩
abbrev S1x512x256 : Shape := ⟨3, ![1, 512, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S1x1x512 : Shape := ⟨3, ![1, 1, 512]⟩
abbrev S1x512 : Shape := ⟨2, ![1, 512]⟩
abbrev S512x128 : Shape := ⟨2, ![512, 128]⟩

abbrev nBuf : Space → Nat
  | .hbm => 30
  | .vmem => 12
  | .smem => 0
  | _ => 0

abbrev bufTy : (tb : Table) → Fin (tcTables nBuf tb) → BufTy
  | .hbm, ⟨0, _⟩ => ⟨S1x8192x6x192, .f32⟩
  | .hbm, ⟨1, _⟩ => ⟨S1x8192x6x192, .f32⟩
  | .hbm, ⟨2, _⟩ => ⟨S1x8192x6x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x8192x6x192, .f32⟩
  | .hbm, ⟨8, _⟩ => ⟨S1x8192x6x192, .f32⟩
  | .hbm, ⟨9, _⟩ => ⟨S_, .f32⟩
  | .hbm, ⟨10, _⟩ => ⟨S1x8192x6x64, .f32⟩
  | .hbm, ⟨11, _⟩ => ⟨S1x8192x6x128, .f32⟩
  | .hbm, ⟨12, _⟩ => ⟨S1x8192x6x64, .f32⟩
  | .hbm, ⟨13, _⟩ => ⟨S1x8192x6x256, .f32⟩
  | .hbm, ⟨14, _⟩ => ⟨S8192x6x256, .f32⟩
  | .hbm, ⟨15, _⟩ => ⟨S6x256x8192, .f32⟩
  | .hbm, ⟨16, _⟩ => ⟨S6x256x8192, .bf16⟩
  | .hbm, ⟨17, _⟩ => ⟨S_, .f32⟩
  | .hbm, ⟨18, _⟩ => ⟨S1x8192x6x64, .f32⟩
  | .hbm, ⟨19, _⟩ => ⟨S1x8192x6x128, .f32⟩
  | .hbm, ⟨20, _⟩ => ⟨S1x8192x6x64, .f32⟩
  | .hbm, ⟨21, _⟩ => ⟨S1x8192x6x256, .f32⟩
  | .hbm, ⟨22, _⟩ => ⟨S8192x6x256, .f32⟩
  | .hbm, ⟨23, _⟩ => ⟨S8192x1536, .f32⟩
  | .hbm, ⟨24, _⟩ => ⟨S8192x1536, .bf16⟩
  | .hbm, ⟨25, _⟩ => ⟨S8192x6x128, .f32⟩
  | .hbm, ⟨26, _⟩ => ⟨S6x128x8192, .f32⟩
  | .hbm, ⟨27, _⟩ => ⟨S6x128x8192, .bf16⟩
  | .hbm, ⟨28, _⟩ => ⟨S8192x768, .bf16⟩
  | .hbm, ⟨29, _⟩ => ⟨S8192x768, .f32⟩
  | .local _ .vmem, ⟨0, _⟩ => ⟨S1x256x2048, .bf16⟩
  | .local _ .vmem, ⟨1, _⟩ => ⟨S1x256x2048, .bf16⟩
  | .local _ .vmem, ⟨2, _⟩ => ⟨S8192x256, .bf16⟩
  | .local _ .vmem, ⟨3, _⟩ => ⟨S8192x256, .bf16⟩
  | .local _ .vmem, ⟨4, _⟩ => ⟨S1x128x8192, .bf16⟩
  | .local _ .vmem, ⟨5, _⟩ => ⟨S1x128x8192, .bf16⟩
  | .local _ .vmem, ⟨6, _⟩ => ⟨S2048x128, .bf16⟩
  | .local _ .vmem, ⟨7, _⟩ => ⟨S2048x128, .bf16⟩
  | .local _ .vmem, ⟨8, _⟩ => ⟨S4x1x512, .f32⟩
  | .local _ .vmem, ⟨9, _⟩ => ⟨S4x1x512, .f32⟩
  | .local _ .vmem, ⟨10, _⟩ => ⟨S4x128x512, .f32⟩
  | .local _ .vmem, ⟨11, _⟩ => ⟨S2x512x512, .f32⟩
  | _, _ => ⟨S1x8192x6x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 4], ![false, false]⟩

def k0_mult1 : BitVec 32 :=
  let c0_i32_16 : BitVec 32 := 0#32
  c0_i32_16
@[reducible] def k0_t1_loop (i : grid0.Coords) : Scf.Loop 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_29 : BitVec 32 := 1#32
  ⟨c0_i32_27, v38, c1_i32_29⟩
def k0_mult2 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32 : BitVec 32 := 512#32
  let v93 : BitVec 32 := Scalar.muli v88 c512_i32
  v93
def k0_off1 (i : grid0.Coords) (k0_t1 : Fin (k0_t1_loop i).trips) (c0_i32_65 : BitVec 32) : Fin 2 → Nat :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let v88 : BitVec 32 := Scalar.addi v87 c0_i32_65
  let c512_i32 : BitVec 32 := 512#32
  let v93 : BitVec 32 := Scalar.muli v88 c512_i32
  let v94 : BitVec 32 := v93
  let v95 : Index := Scalar.indexCast v94
  let c0_70 : Index := 0#32
  ![v95.toNat, 0]
def k0_mult3 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_78 : BitVec 32 := 512#32
  let v104 : BitVec 32 := Scalar.muli v88 c512_i32_78
  v104
def k0_off2 (i : grid0.Coords) (k0_t1 : Fin (k0_t1_loop i).trips) (c0_i32_65 : BitVec 32) : Fin 3 → Nat :=
  let c0_79 : Index := 0#32
  let c0_80 : Index := 0#32
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let v88 : BitVec 32 := Scalar.addi v87 c0_i32_65
  let c512_i32_78 : BitVec 32 := 512#32
  let v104 : BitVec 32 := Scalar.muli v88 c512_i32_78
  let v105 : BitVec 32 := v104
  let v106 : Index := Scalar.indexCast v105
  ![0, 0, v106.toNat]
def k0_mult4 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_128 : BitVec 32 := 512#32
  let v177 : BitVec 32 := Scalar.muli v88 c512_i32_128
  v177
def k0_mult5 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_137 : BitVec 32 := 512#32
  let v188 : BitVec 32 := Scalar.muli v88 c512_i32_137
  v188
def k0_mult6 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_188 : BitVec 32 := 512#32
  let v261 : BitVec 32 := Scalar.muli v88 c512_i32_188
  v261
def k0_mult7 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_197 : BitVec 32 := 512#32
  let v272 : BitVec 32 := Scalar.muli v88 c512_i32_197
  v272
def k0_mult8 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_248 : BitVec 32 := 512#32
  let v345 : BitVec 32 := Scalar.muli v89 c512_i32_248
  v345
def k0_mult9 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_257 : BitVec 32 := 512#32
  let v356 : BitVec 32 := Scalar.muli v88 c512_i32_257
  v356
def k0_mult10 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_308 : BitVec 32 := 512#32
  let v429 : BitVec 32 := Scalar.muli v89 c512_i32_308
  v429
def k0_mult11 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_317 : BitVec 32 := 512#32
  let v440 : BitVec 32 := Scalar.muli v89 c512_i32_317
  v440
def k0_mult12 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_368 : BitVec 32 := 512#32
  let v513 : BitVec 32 := Scalar.muli v89 c512_i32_368
  v513
def k0_mult13 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_377 : BitVec 32 := 512#32
  let v524 : BitVec 32 := Scalar.muli v89 c512_i32_377
  v524
def k0_mult14 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_428 : BitVec 32 := 512#32
  let v597 : BitVec 32 := Scalar.muli v89 c512_i32_428
  v597
def k0_mult15 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_437 : BitVec 32 := 512#32
  let v608 : BitVec 32 := Scalar.muli v89 c512_i32_437
  v608
def k0_mult16 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_488 : BitVec 32 := 512#32
  let v681 : BitVec 32 := Scalar.muli v90 c512_i32_488
  v681
def k0_mult17 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_497 : BitVec 32 := 512#32
  let v692 : BitVec 32 := Scalar.muli v89 c512_i32_497
  v692
def k0_mult18 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_548 : BitVec 32 := 512#32
  let v765 : BitVec 32 := Scalar.muli v90 c512_i32_548
  v765
def k0_mult19 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_557 : BitVec 32 := 512#32
  let v776 : BitVec 32 := Scalar.muli v90 c512_i32_557
  v776
def k0_mult20 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_608 : BitVec 32 := 512#32
  let v849 : BitVec 32 := Scalar.muli v90 c512_i32_608
  v849
def k0_mult21 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_617 : BitVec 32 := 512#32
  let v860 : BitVec 32 := Scalar.muli v90 c512_i32_617
  v860
def k0_mult22 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_668 : BitVec 32 := 512#32
  let v933 : BitVec 32 := Scalar.muli v90 c512_i32_668
  v933
def k0_mult23 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_677 : BitVec 32 := 512#32
  let v944 : BitVec 32 := Scalar.muli v90 c512_i32_677
  v944
def k0_mult24 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_728 : BitVec 32 := 512#32
  let v1017 : BitVec 32 := Scalar.muli v91 c512_i32_728
  v1017
def k0_mult25 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_737 : BitVec 32 := 512#32
  let v1028 : BitVec 32 := Scalar.muli v90 c512_i32_737
  v1028
def k0_mult26 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_788 : BitVec 32 := 512#32
  let v1101 : BitVec 32 := Scalar.muli v91 c512_i32_788
  v1101
def k0_mult27 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_797 : BitVec 32 := 512#32
  let v1112 : BitVec 32 := Scalar.muli v91 c512_i32_797
  v1112
def k0_mult28 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_848 : BitVec 32 := 512#32
  let v1185 : BitVec 32 := Scalar.muli v91 c512_i32_848
  v1185
def k0_mult29 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_857 : BitVec 32 := 512#32
  let v1196 : BitVec 32 := Scalar.muli v91 c512_i32_857
  v1196
def k0_mult30 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_908 : BitVec 32 := 512#32
  let v1269 : BitVec 32 := Scalar.muli v91 c512_i32_908
  v1269
def k0_mult31 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_917 : BitVec 32 := 512#32
  let v1280 : BitVec 32 := Scalar.muli v91 c512_i32_917
  v1280
def k0_mult32 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c4_i32_69 : BitVec 32 := 4#32
  let v92 : BitVec 32 := Scalar.addi v87 c4_i32_69
  let c512_i32_968 : BitVec 32 := 512#32
  let v1353 : BitVec 32 := Scalar.muli v92 c512_i32_968
  v1353
def k0_mult33 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_977 : BitVec 32 := 512#32
  let v1364 : BitVec 32 := Scalar.muli v91 c512_i32_977
  v1364
@[reducible] def k0_t2_loop (i : grid0.Coords) : Scf.Loop 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let v35 : BitVec 32 := Scalar.addi c0_i32_27 v34
  let c1_i32_30 : BitVec 32 := 1#32
  ⟨v38, v35, c1_i32_30⟩
def k0_mult34 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32 : BitVec 32 := 512#32
  let v93 : BitVec 32 := Scalar.muli v88 c512_i32
  v93
def k0_off3 (i : grid0.Coords) (k0_t2 : Fin (k0_t2_loop i).trips) (c0_i32_65 : BitVec 32) : Fin 2 → Nat :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let v88 : BitVec 32 := Scalar.addi v87 c0_i32_65
  let c512_i32 : BitVec 32 := 512#32
  let v93 : BitVec 32 := Scalar.muli v88 c512_i32
  let v94 : BitVec 32 := v93
  let v95 : Index := Scalar.indexCast v94
  let c0_70 : Index := 0#32
  ![v95.toNat, 0]
def k0_mult35 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_78 : BitVec 32 := 512#32
  let v104 : BitVec 32 := Scalar.muli v88 c512_i32_78
  v104
def k0_off4 (i : grid0.Coords) (k0_t2 : Fin (k0_t2_loop i).trips) (c0_i32_65 : BitVec 32) : Fin 3 → Nat :=
  let c0_79 : Index := 0#32
  let c0_80 : Index := 0#32
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let v88 : BitVec 32 := Scalar.addi v87 c0_i32_65
  let c512_i32_78 : BitVec 32 := 512#32
  let v104 : BitVec 32 := Scalar.muli v88 c512_i32_78
  let v105 : BitVec 32 := v104
  let v106 : Index := Scalar.indexCast v105
  ![0, 0, v106.toNat]
def k0_mult36 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_128 : BitVec 32 := 512#32
  let v177 : BitVec 32 := Scalar.muli v88 c512_i32_128
  v177
def k0_mult37 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_137 : BitVec 32 := 512#32
  let v188 : BitVec 32 := Scalar.muli v88 c512_i32_137
  v188
def k0_mult38 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_188 : BitVec 32 := 512#32
  let v261 : BitVec 32 := Scalar.muli v88 c512_i32_188
  v261
def k0_mult39 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_197 : BitVec 32 := 512#32
  let v272 : BitVec 32 := Scalar.muli v88 c512_i32_197
  v272
def k0_mult40 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_248 : BitVec 32 := 512#32
  let v345 : BitVec 32 := Scalar.muli v89 c512_i32_248
  v345
def k0_mult41 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_257 : BitVec 32 := 512#32
  let v356 : BitVec 32 := Scalar.muli v88 c512_i32_257
  v356
def k0_mult42 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_308 : BitVec 32 := 512#32
  let v429 : BitVec 32 := Scalar.muli v89 c512_i32_308
  v429
def k0_mult43 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_317 : BitVec 32 := 512#32
  let v440 : BitVec 32 := Scalar.muli v89 c512_i32_317
  v440
def k0_mult44 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_368 : BitVec 32 := 512#32
  let v513 : BitVec 32 := Scalar.muli v89 c512_i32_368
  v513
def k0_mult45 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_377 : BitVec 32 := 512#32
  let v524 : BitVec 32 := Scalar.muli v89 c512_i32_377
  v524
def k0_mult46 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_428 : BitVec 32 := 512#32
  let v597 : BitVec 32 := Scalar.muli v89 c512_i32_428
  v597
def k0_mult47 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_437 : BitVec 32 := 512#32
  let v608 : BitVec 32 := Scalar.muli v89 c512_i32_437
  v608
def k0_mult48 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_488 : BitVec 32 := 512#32
  let v681 : BitVec 32 := Scalar.muli v90 c512_i32_488
  v681
def k0_mult49 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_497 : BitVec 32 := 512#32
  let v692 : BitVec 32 := Scalar.muli v89 c512_i32_497
  v692
def k0_mult50 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_548 : BitVec 32 := 512#32
  let v765 : BitVec 32 := Scalar.muli v90 c512_i32_548
  v765
def k0_mult51 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_557 : BitVec 32 := 512#32
  let v776 : BitVec 32 := Scalar.muli v90 c512_i32_557
  v776
def k0_mult52 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_608 : BitVec 32 := 512#32
  let v849 : BitVec 32 := Scalar.muli v90 c512_i32_608
  v849
def k0_mult53 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_617 : BitVec 32 := 512#32
  let v860 : BitVec 32 := Scalar.muli v90 c512_i32_617
  v860
def k0_mult54 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_668 : BitVec 32 := 512#32
  let v933 : BitVec 32 := Scalar.muli v90 c512_i32_668
  v933
def k0_mult55 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_677 : BitVec 32 := 512#32
  let v944 : BitVec 32 := Scalar.muli v90 c512_i32_677
  v944
def k0_mult56 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_728 : BitVec 32 := 512#32
  let v1017 : BitVec 32 := Scalar.muli v91 c512_i32_728
  v1017
def k0_mult57 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_737 : BitVec 32 := 512#32
  let v1028 : BitVec 32 := Scalar.muli v90 c512_i32_737
  v1028
def k0_mult58 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_788 : BitVec 32 := 512#32
  let v1101 : BitVec 32 := Scalar.muli v91 c512_i32_788
  v1101
def k0_mult59 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_797 : BitVec 32 := 512#32
  let v1112 : BitVec 32 := Scalar.muli v91 c512_i32_797
  v1112
def k0_mult60 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_848 : BitVec 32 := 512#32
  let v1185 : BitVec 32 := Scalar.muli v91 c512_i32_848
  v1185
def k0_mult61 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_857 : BitVec 32 := 512#32
  let v1196 : BitVec 32 := Scalar.muli v91 c512_i32_857
  v1196
def k0_mult62 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_908 : BitVec 32 := 512#32
  let v1269 : BitVec 32 := Scalar.muli v91 c512_i32_908
  v1269
def k0_mult63 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_917 : BitVec 32 := 512#32
  let v1280 : BitVec 32 := Scalar.muli v91 c512_i32_917
  v1280
def k0_mult64 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c4_i32_69 : BitVec 32 := 4#32
  let v92 : BitVec 32 := Scalar.addi v87 c4_i32_69
  let c512_i32_968 : BitVec 32 := 512#32
  let v1353 : BitVec 32 := Scalar.muli v92 c512_i32_968
  v1353
def k0_mult65 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_977 : BitVec 32 := 512#32
  let v1364 : BitVec 32 := Scalar.muli v91 c512_i32_977
  v1364
def k0_cond1 (i : grid0.Coords) : BitVec 1 :=
  let arg1 : BitVec 32 := BitVec.ofNat 32 (i 1).val
  let c4_i32 : BitVec 32 := 4#32
  let v0 : BitVec 32 := Scalar.muli arg1 c4_i32
  let c3_i32_31 : BitVec 32 := 3#32
  let v39 : BitVec 32 := Scalar.andi v0 c3_i32_31
  let c0_i32_32 : BitVec 32 := 0#32
  let v40 : BitVec 1 := Scalar.cmpi .eq v39 c0_i32_32
  let v41 : BitVec 32 := Scalar.extui v40
  let c0_i32_33 : BitVec 32 := 0#32
  let v42 : BitVec 1 := Scalar.cmpi .ne v41 c0_i32_33
  v42

def k0_mult66 (i : grid0.Coords) : BitVec 32 :=
  let arg1 : BitVec 32 := BitVec.ofNat 32 (i 1).val
  let c4_i32 : BitVec 32 := 4#32
  let v0 : BitVec 32 := Scalar.muli arg1 c4_i32
  let c0_i32_10 : BitVec 32 := 0#32
  let v14 : BitVec 32 := Scalar.addi v0 c0_i32_10
  let c512_i32 : BitVec 32 := 512#32
  let v87 : BitVec 32 := Scalar.muli v14 c512_i32
  v87
def k0_off5 (i : grid0.Coords) (c0_i32_10 : BitVec 32) : Fin 2 → Nat :=
  let arg1 : BitVec 32 := BitVec.ofNat 32 (i 1).val
  let c4_i32 : BitVec 32 := 4#32
  let v0 : BitVec 32 := Scalar.muli arg1 c4_i32
  let v14 : BitVec 32 := Scalar.addi v0 c0_i32_10
  let c512_i32 : BitVec 32 := 512#32
  let v87 : BitVec 32 := Scalar.muli v14 c512_i32
  let v88 : BitVec 32 := v87
  let v89 : Index := Scalar.indexCast v88
  let c0_64 : Index := 0#32
  ![v89.toNat, 0]
def k0_mult67 (i : grid0.Coords) : BitVec 32 :=
  let arg1 : BitVec 32 := BitVec.ofNat 32 (i 1).val
  let c4_i32 : BitVec 32 := 4#32
  let v0 : BitVec 32 := Scalar.muli arg1 c4_i32
  let c0_i32 : BitVec 32 := 0#32
  let v13 : BitVec 32 := Scalar.addi v0 c0_i32
  let c512_i32_72 : BitVec 32 := 512#32
  let v98 : BitVec 32 := Scalar.muli v13 c512_i32_72
  v98
def k0_off6 (i : grid0.Coords) (c0_i32 : BitVec 32) : Fin 3 → Nat :=
  let c0_73 : Index := 0#32
  let c0_74 : Index := 0#32
  let arg1 : BitVec 32 := BitVec.ofNat 32 (i 1).val
  let c4_i32 : BitVec 32 := 4#32
  let v0 : BitVec 32 := Scalar.muli arg1 c4_i32
  let v13 : BitVec 32 := Scalar.addi v0 c0_i32
  let c512_i32_72 : BitVec 32 := 512#32
  let v98 : BitVec 32 := Scalar.muli v13 c512_i32_72
  let v99 : BitVec 32 := v98
  let v100 : Index := Scalar.indexCast v99
  ![0, 0, v100.toNat]
def k0_mult68 (i : grid0.Coords) : BitVec 32 :=
  let arg1 : BitVec 32 := BitVec.ofNat 32 (i 1).val
  let c4_i32 : BitVec 32 := 4#32
  let v0 : BitVec 32 := Scalar.muli arg1 c4_i32
  let c0_i32_11 : BitVec 32 := 0#32
  let v15 : BitVec 32 := Scalar.addi v0 c0_i32_11
  let c512_i32_125 : BitVec 32 := 512#32
  let v185 : BitVec 32 := Scalar.muli v15 c512_i32_125
  v185
def k0_mult69 (i : grid0.Coords) : BitVec 32 :=
  let arg1 : BitVec 32 := BitVec.ofNat 32 (i 1).val
  let c4_i32 : BitVec 32 := 4#32
  let v0 : BitVec 32 := Scalar.muli arg1 c4_i32
  let c0_i32_10 : BitVec 32 := 0#32
  let v14 : BitVec 32 := Scalar.addi v0 c0_i32_10
  let c512_i32_134 : BitVec 32 := 512#32
  let v196 : BitVec 32 := Scalar.muli v14 c512_i32_134
  v196
def k0_mult70 (i : grid0.Coords) : BitVec 32 :=
  let arg1 : BitVec 32 := BitVec.ofNat 32 (i 1).val
  let c4_i32 : BitVec 32 := 4#32
  let v0 : BitVec 32 := Scalar.muli arg1 c4_i32
  let c0_i32_12 : BitVec 32 := 0#32
  let v16 : BitVec 32 := Scalar.addi v0 c0_i32_12
  let c512_i32_185 : BitVec 32 := 512#32
  let v269 : BitVec 32 := Scalar.muli v16 c512_i32_185
  v269
def k0_mult71 (i : grid0.Coords) : BitVec 32 :=
  let arg1 : BitVec 32 := BitVec.ofNat 32 (i 1).val
  let c4_i32 : BitVec 32 := 4#32
  let v0 : BitVec 32 := Scalar.muli arg1 c4_i32
  let c0_i32_11 : BitVec 32 := 0#32
  let v15 : BitVec 32 := Scalar.addi v0 c0_i32_11
  let c512_i32_194 : BitVec 32 := 512#32
  let v280 : BitVec 32 := Scalar.muli v15 c512_i32_194
  v280
def k0_mult72 (i : grid0.Coords) : BitVec 32 :=
  let arg1 : BitVec 32 := BitVec.ofNat 32 (i 1).val
  let c4_i32 : BitVec 32 := 4#32
  let v0 : BitVec 32 := Scalar.muli arg1 c4_i32
  let c1_i32 : BitVec 32 := 1#32
  let v17 : BitVec 32 := Scalar.addi v0 c1_i32
  let c512_i32_245 : BitVec 32 := 512#32
  let v353 : BitVec 32 := Scalar.muli v17 c512_i32_245
  v353
def k0_mult73 (i : grid0.Coords) : BitVec 32 :=
  let arg1 : BitVec 32 := BitVec.ofNat 32 (i 1).val
  let c4_i32 : BitVec 32 := 4#32
  let v0 : BitVec 32 := Scalar.muli arg1 c4_i32
  let c0_i32_12 : BitVec 32 := 0#32
  let v16 : BitVec 32 := Scalar.addi v0 c0_i32_12
  let c512_i32_254 : BitVec 32 := 512#32
  let v364 : BitVec 32 := Scalar.muli v16 c512_i32_254
  v364
def k0_mult74 (i : grid0.Coords) : BitVec 32 :=
  let arg1 : BitVec 32 := BitVec.ofNat 32 (i 1).val
  let c4_i32 : BitVec 32 := 4#32
  let v0 : BitVec 32 := Scalar.muli arg1 c4_i32
  let c1_i32_13 : BitVec 32 := 1#32
  let v18 : BitVec 32 := Scalar.addi v0 c1_i32_13
  let c512_i32_305 : BitVec 32 := 512#32
  let v437 : BitVec 32 := Scalar.muli v18 c512_i32_305
  v437
def k0_mult75 (i : grid0.Coords) : BitVec 32 :=
  let arg1 : BitVec 32 := BitVec.ofNat 32 (i 1).val
  let c4_i32 : BitVec 32 := 4#32
  let v0 : BitVec 32 := Scalar.muli arg1 c4_i32
  let c1_i32 : BitVec 32 := 1#32
  let v17 : BitVec 32 := Scalar.addi v0 c1_i32
  let c512_i32_314 : BitVec 32 := 512#32
  let v448 : BitVec 32 := Scalar.muli v17 c512_i32_314
  v448
def k0_mult76 (i : grid0.Coords) : BitVec 32 :=
  let arg1 : BitVec 32 := BitVec.ofNat 32 (i 1).val
  let c4_i32 : BitVec 32 := 4#32
  let v0 : BitVec 32 := Scalar.muli arg1 c4_i32
  let c1_i32_14 : BitVec 32 := 1#32
  let v19 : BitVec 32 := Scalar.addi v0 c1_i32_14
  let c512_i32_369 : BitVec 32 := 512#32
  let v535 : BitVec 32 := Scalar.muli v19 c512_i32_369
  v535
def k0_mult77 (i : grid0.Coords) : BitVec 32 :=
  let arg1 : BitVec 32 := BitVec.ofNat 32 (i 1).val
  let c4_i32 : BitVec 32 := 4#32
  let v0 : BitVec 32 := Scalar.muli arg1 c4_i32
  let c1_i32_13 : BitVec 32 := 1#32
  let v18 : BitVec 32 := Scalar.addi v0 c1_i32_13
  let c512_i32_378 : BitVec 32 := 512#32
  let v546 : BitVec 32 := Scalar.muli v18 c512_i32_378
  v546
def k0_mult78 (i : grid0.Coords) : BitVec 32 :=
  let arg1 : BitVec 32 := BitVec.ofNat 32 (i 1).val
  let c4_i32 : BitVec 32 := 4#32
  let v0 : BitVec 32 := Scalar.muli arg1 c4_i32
  let c2_i32 : BitVec 32 := 2#32
  let v20 : BitVec 32 := Scalar.addi v0 c2_i32
  let c512_i32_429 : BitVec 32 := 512#32
  let v619 : BitVec 32 := Scalar.muli v20 c512_i32_429
  v619
def k0_mult79 (i : grid0.Coords) : BitVec 32 :=
  let arg1 : BitVec 32 := BitVec.ofNat 32 (i 1).val
  let c4_i32 : BitVec 32 := 4#32
  let v0 : BitVec 32 := Scalar.muli arg1 c4_i32
  let c1_i32_14 : BitVec 32 := 1#32
  let v19 : BitVec 32 := Scalar.addi v0 c1_i32_14
  let c512_i32_438 : BitVec 32 := 512#32
  let v630 : BitVec 32 := Scalar.muli v19 c512_i32_438
  v630
def k0_mult80 (i : grid0.Coords) : BitVec 32 :=
  let arg1 : BitVec 32 := BitVec.ofNat 32 (i 1).val
  let c4_i32 : BitVec 32 := 4#32
  let v0 : BitVec 32 := Scalar.muli arg1 c4_i32
  let c2_i32_15 : BitVec 32 := 2#32
  let v21 : BitVec 32 := Scalar.addi v0 c2_i32_15
  let c512_i32_489 : BitVec 32 := 512#32
  let v703 : BitVec 32 := Scalar.muli v21 c512_i32_489
  v703
def k0_mult81 (i : grid0.Coords) : BitVec 32 :=
  let arg1 : BitVec 32 := BitVec.ofNat 32 (i 1).val
  let c4_i32 : BitVec 32 := 4#32
  let v0 : BitVec 32 := Scalar.muli arg1 c4_i32
  let c2_i32 : BitVec 32 := 2#32
  let v20 : BitVec 32 := Scalar.addi v0 c2_i32
  let c512_i32_498 : BitVec 32 := 512#32
  let v714 : BitVec 32 := Scalar.muli v20 c512_i32_498
  v714
def k0_mult82 (i : grid0.Coords) : BitVec 32 :=
  let arg1 : BitVec 32 := BitVec.ofNat 32 (i 1).val
  let c4_i32 : BitVec 32 := 4#32
  let v0 : BitVec 32 := Scalar.muli arg1 c4_i32
  let c3_i32 : BitVec 32 := 3#32
  let v22 : BitVec 32 := Scalar.addi v0 c3_i32
  let c512_i32_553 : BitVec 32 := 512#32
  let v801 : BitVec 32 := Scalar.muli v22 c512_i32_553
  v801
def k0_mult83 (i : grid0.Coords) : BitVec 32 :=
  let arg1 : BitVec 32 := BitVec.ofNat 32 (i 1).val
  let c4_i32 : BitVec 32 := 4#32
  let v0 : BitVec 32 := Scalar.muli arg1 c4_i32
  let c2_i32_15 : BitVec 32 := 2#32
  let v21 : BitVec 32 := Scalar.addi v0 c2_i32_15
  let c512_i32_562 : BitVec 32 := 512#32
  let v812 : BitVec 32 := Scalar.muli v21 c512_i32_562
  v812
def k0_mult84 (i : grid0.Coords) : BitVec 32 :=
  let arg1 : BitVec 32 := BitVec.ofNat 32 (i 1).val
  let c4_i32 : BitVec 32 := 4#32
  let v0 : BitVec 32 := Scalar.muli arg1 c4_i32
  let c3_i32 : BitVec 32 := 3#32
  let v22 : BitVec 32 := Scalar.addi v0 c3_i32
  let c512_i32_613 : BitVec 32 := 512#32
  let v885 : BitVec 32 := Scalar.muli v22 c512_i32_613
  v885
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x8192x6x192 : Shape := ⟨4, ![1, 8192, 6, 192]⟩
abbrev S1x8192x6x128 : Shape := ⟨4, ![1, 8192, 6, 128]⟩
abbrev S1x6x8192x8192 : Shape := ⟨4, ![1, 6, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x6x8192 : Shape := ⟨3, ![1, 6, 8192]⟩
abbrev S1x6x8192x1 : Shape := ⟨4, ![1, 6, 8192, 1]⟩
abbrev S1x6x128x8192 : Shape := ⟨4, ![1, 6, 128, 8192]⟩
abbrev S8192x768 : Shape := ⟨2, ![8192, 768]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x6x192, .f32⟩
  | .hbm, ⟨1, _⟩ => ⟨S1x8192x6x192, .f32⟩
  | .hbm, ⟨2, _⟩ => ⟨S1x8192x6x128, .f32⟩
  | .hbm, ⟨3, _⟩ => ⟨S1x6x8192x8192, .f32⟩
  | .hbm, ⟨4, _⟩ => ⟨S_, .f32⟩
  | .hbm, ⟨5, _⟩ => ⟨S1x6x8192x8192, .f32⟩
  | .hbm, ⟨6, _⟩ => ⟨S1x6x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S1x6x8192x8192, .i1⟩
  | .hbm, ⟨16, _⟩ => ⟨S1x6x8192x8192, .f32⟩
  | .hbm, ⟨17, _⟩ => ⟨S1x6x8192x8192, .f32⟩
  | .hbm, ⟨18, _⟩ => ⟨S_, .f32⟩
  | .hbm, ⟨19, _⟩ => ⟨S1x6x8192, .f32⟩
  | .hbm, ⟨20, _⟩ => ⟨S_, .f32⟩
  | .hbm, ⟨21, _⟩ => ⟨S1x6x8192, .f32⟩
  | .hbm, ⟨22, _⟩ => ⟨S1x6x8192, .f32⟩
  | .hbm, ⟨23, _⟩ => ⟨S1x6x8192x1, .f32⟩
  | .hbm, ⟨24, _⟩ => ⟨S1x6x8192x8192, .f32⟩
  | .hbm, ⟨25, _⟩ => ⟨S1x6x8192x8192, .f32⟩
  | .hbm, ⟨26, _⟩ => ⟨S1x6x8192x8192, .f32⟩
  | .hbm, ⟨27, _⟩ => ⟨S_, .f32⟩
  | .hbm, ⟨28, _⟩ => ⟨S1x6x8192, .f32⟩
  | .hbm, ⟨29, _⟩ => ⟨S1x6x8192x1, .f32⟩
  | .hbm, ⟨30, _⟩ => ⟨S1x6x8192x8192, .f32⟩
  | .hbm, ⟨31, _⟩ => ⟨S1x6x8192x8192, .f32⟩
  | .hbm, ⟨32, _⟩ => ⟨S1x6x128x8192, .f32⟩
  | .hbm, ⟨33, _⟩ => ⟨S1x8192x6x128, .f32⟩
  | .hbm, ⟨34, _⟩ => ⟨S8192x768, .f32⟩
  | _, _ => ⟨S1x8192x6x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel2.lean ====
abbrev S1x8192x2048 : Shape := ⟨3, ![1, 8192, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S1x2048x8192 : Shape := ⟨3, ![1, 2048, 8192]⟩
abbrev S512x2048 : Shape := ⟨2, ![512, 2048]⟩
abbrev S1x2048x1024 : Shape := ⟨3, ![1, 2048, 1024]⟩
abbrev S1x1024x2048 : Shape := ⟨3, ![1, 1024, 2048]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S1024x2048 : Shape := ⟨2, ![1024, 2048]⟩
abbrev S512x1024 : Shape := ⟨2, ![512, 1024]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S2048x8192, .bf16⟩
  | .hbm, ⟨7, _⟩ => ⟨S1x2048x8192, .bf16⟩
  | .hbm, ⟨8, _⟩ => ⟨S8192x2048, .bf16⟩
  | .hbm, ⟨9, _⟩ => ⟨S1x8192x2048, .bf16⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S1x8192x2048 : Shape := ⟨3, ![1, 8192, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x8192 : Shape := ⟨3, ![1, 8192, 8192]⟩

abbrev nBuf : Space → Nat
  | .hbm => 28
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S1x8192x2048, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x2048, .f32⟩
  | .hbm, ⟨16, _⟩ => ⟨S1x8192x2048, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S1x8192x8192, .f32⟩
  | .hbm, ⟨21, _⟩ => ⟨S_, .f32⟩
  | .hbm, ⟨22, _⟩ => ⟨S1x8192x8192, .f32⟩
  | .hbm, ⟨23, _⟩ => ⟨S1x8192x8192, .f32⟩
  | .hbm, ⟨24, _⟩ => ⟨S1x8192x8192, .f32⟩
  | .hbm, ⟨25, _⟩ => ⟨S1x8192x2048, .f32⟩
  | .hbm, ⟨26, _⟩ => ⟨S1x8192x2048, .f32⟩
  | .hbm, ⟨27, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel3.lean ====
abbrev S1x8192x2048 : Shape := ⟨3, ![1, 8192, 2048]⟩
abbrev S1x8192x512 : Shape := ⟨3, ![1, 8192, 512]⟩
abbrev S1x8192x768 : Shape := ⟨3, ![1, 8192, 768]⟩
abbrev S2048x2048 : Shape := ⟨2, ![2048, 2048]⟩
abbrev S8192x2048 : Shape := ⟨2, ![8192, 2048]⟩
abbrev S8192x512 : Shape := ⟨2, ![8192, 512]⟩
abbrev S8192x768 : Shape := ⟨2, ![8192, 768]⟩
abbrev S1x2048x2048 : Shape := ⟨3, ![1, 2048, 2048]⟩
abbrev S512x2048 : Shape := ⟨2, ![512, 2048]⟩
abbrev S512x512 : Shape := ⟨2, ![512, 512]⟩
abbrev S512x768 : Shape := ⟨2, ![512, 768]⟩
abbrev S1x512x2048 : Shape := ⟨3, ![1, 512, 2048]⟩
abbrev S1x768x2048 : Shape := ⟨3, ![1, 768, 2048]⟩
abbrev S768x2048 : Shape := ⟨2, ![768, 2048]⟩

abbrev nBuf : Space → Nat
  | .hbm => 15
  | .vmem => 11
  | .smem => 0
  | _ => 0

abbrev bufTy : (tb : Table) → Fin (tcTables nBuf tb) → BufTy
  | .hbm, ⟨0, _⟩ => ⟨S1x8192x2048, .f32⟩
  | .hbm, ⟨1, _⟩ => ⟨S1x8192x512, .f32⟩
  | .hbm, ⟨2, _⟩ => ⟨S1x8192x768, .f32⟩
  | .hbm, ⟨3, _⟩ => ⟨S1x8192x768, .f32⟩
  | .hbm, ⟨4, _⟩ => ⟨S2048x2048, .f32⟩
  | .hbm, ⟨5, _⟩ => ⟨S8192x2048, .f32⟩
  | .hbm, ⟨6, _⟩ => ⟨S8192x512, .f32⟩
  | .hbm, ⟨7, _⟩ => ⟨S8192x512, .bf16⟩
  | .hbm, ⟨8, _⟩ => ⟨S8192x768, .f32⟩
  | .hbm, ⟨9, _⟩ => ⟨S8192x768, .bf16⟩
  | .hbm, ⟨10, _⟩ => ⟨S8192x768, .f32⟩
  | .hbm, ⟨11, _⟩ => ⟨S8192x768, .bf16⟩
  | .hbm, ⟨12, _⟩ => ⟨S2048x2048, .bf16⟩
  | .hbm, ⟨13, _⟩ => ⟨S1x2048x2048, .bf16⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S1x8192x2048 : Shape := ⟨3, ![1, 8192, 2048]⟩
abbrev S1x8192x512 : Shape := ⟨3, ![1, 8192, 512]⟩
abbrev S1x8192x768 : Shape := ⟨3, ![1, 8192, 768]⟩
abbrev S2048x2048 : Shape := ⟨2, ![2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x512, .f32⟩
  | .hbm, ⟨2, _⟩ => ⟨S1x8192x768, .f32⟩
  | .hbm, ⟨3, _⟩ => ⟨S1x8192x768, .f32⟩
  | .hbm, ⟨4, _⟩ => ⟨S2048x2048, .f32⟩
  | .hbm, ⟨5, _⟩ => ⟨S1x8192x2048, .f32⟩
  | .hbm, ⟨6, _⟩ => ⟨S1x8192x2048, .f32⟩
  | .hbm, ⟨7, _⟩ => ⟨S1x8192x2048, .f32⟩
  | .hbm, ⟨8, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel4.lean ====
abbrev S1x8192x6x128 : Shape := ⟨4, ![1, 8192, 6, 128]⟩
abbrev S1x8192x6 : Shape := ⟨3, ![1, 8192, 6]⟩
abbrev S_ : Shape := ⟨0, ![]⟩
abbrev S1x8192x6x3 : Shape := ⟨4, ![1, 8192, 6, 3]⟩
abbrev S1x8192x6x125 : Shape := ⟨4, ![1, 8192, 6, 125]⟩
abbrev S1x8192x6x256 : Shape := ⟨4, ![1, 8192, 6, 256]⟩
abbrev S8192x6x256 : Shape := ⟨3, ![8192, 6, 256]⟩
abbrev S6x256x8192 : Shape := ⟨3, ![6, 256, 8192]⟩
abbrev S1x8192x6x1 : Shape := ⟨4, ![1, 8192, 6, 1]⟩
abbrev S8192x1536 : Shape := ⟨2, ![8192, 1536]⟩
abbrev S8192x6x128 : Shape := ⟨3, ![8192, 6, 128]⟩
abbrev S6x128x8192 : Shape := ⟨3, ![6, 128, 8192]⟩
abbrev S8192x768 : Shape := ⟨2, ![8192, 768]⟩
abbrev S1x256x2048 : Shape := ⟨3, ![1, 256, 2048]⟩
abbrev S8192x256 : Shape := ⟨2, ![8192, 256]⟩
abbrev S1x128x8192 : Shape := ⟨3, ![1, 128, 8192]⟩
abbrev S2048x128 : Shape := ⟨2, ![2048, 128]⟩
abbrev S4x1x512 : Shape := ⟨3, ![4, 1, 512]⟩
abbrev S4x128x512 : Shape := ⟨3, ![4, 128, 512]⟩
abbrev S2x512x512 : Shape := ⟨3, ![2, 512, 512]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1x512x512 : Shape := ⟨3, ![1, 512, 512]⟩
abbrev S1x128x512 : Shape := ⟨3, ![1, 128, 512]⟩
abbrev S128x512 : Shape := ⟨2, ![128, 512]⟩
abbrev S1x512x256 : Shape := ⟨3, ![1, 512, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S1x1x512 : Shape := ⟨3, ![1, 1, 512]⟩
abbrev S1x512 : Shape := ⟨2, ![1, 512]⟩
abbrev S512x128 : Shape := ⟨2, ![512, 128]⟩

abbrev nBuf : Space → Nat
  | .hbm => 42
  | .vmem => 12
  | .smem => 0
  | _ => 0

abbrev bufTy : (tb : Table) → Fin (tcTables nBuf tb) → BufTy
  | .hbm, ⟨0, _⟩ => ⟨S1x8192x6x128, .f32⟩
  | .hbm, ⟨1, _⟩ => ⟨S1x8192x6x128, .f32⟩
  | .hbm, ⟨2, _⟩ => ⟨S1x8192x6x128, .f32⟩
  | .hbm, ⟨3, _⟩ => ⟨S1x8192x6, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x8192x6x3, .f32⟩
  | .hbm, ⟨8, _⟩ => ⟨S_, .f32⟩
  | .hbm, ⟨9, _⟩ => ⟨S1x8192x6x125, .f32⟩
  | .hbm, ⟨10, _⟩ => ⟨S_, .f32⟩
  | .hbm, ⟨11, _⟩ => ⟨S_, .f32⟩
  | .hbm, ⟨12, _⟩ => ⟨S1x8192x6x128, .f32⟩
  | .hbm, ⟨13, _⟩ => ⟨S1x8192x6x128, .f32⟩
  | .hbm, ⟨14, _⟩ => ⟨S1x8192x6x256, .f32⟩
  | .hbm, ⟨15, _⟩ => ⟨S8192x6x256, .f32⟩
  | .hbm, ⟨16, _⟩ => ⟨S6x256x8192, .f32⟩
  | .hbm, ⟨17, _⟩ => ⟨S6x256x8192, .bf16⟩
  | .hbm, ⟨18, _⟩ => ⟨S1x8192x6, .f32⟩
  | .hbm, ⟨19, _⟩ => ⟨S1x8192x6, .f32⟩
  | .hbm, ⟨20, _⟩ => ⟨S1x8192x6x1, .f32⟩
  | .hbm, ⟨21, _⟩ => ⟨S1x8192x6x1, .f32⟩
  | .hbm, ⟨22, _⟩ => ⟨S1x8192x6x1, .bf16⟩
  | .hbm, ⟨23, _⟩ => ⟨S1x8192x6x1, .f32⟩
  | .hbm, ⟨24, _⟩ => ⟨S1x8192x6x1, .f32⟩
  | .hbm, ⟨25, _⟩ => ⟨S1x8192x6x1, .bf16⟩
  | .hbm, ⟨26, _⟩ => ⟨S1x8192x6x1, .f32⟩
  | .hbm, ⟨27, _⟩ => ⟨S1x8192x6x1, .f32⟩
  | .hbm, ⟨28, _⟩ => ⟨S1x8192x6x1, .bf16⟩
  | .hbm, ⟨29, _⟩ => ⟨S1x8192x6x1, .f32⟩
  | .hbm, ⟨30, _⟩ => ⟨S1x8192x6x1, .f32⟩
  | .hbm, ⟨31, _⟩ => ⟨S_, .f32⟩
  | .hbm, ⟨32, _⟩ => ⟨S1x8192x6x125, .f32⟩
  | .hbm, ⟨33, _⟩ => ⟨S1x8192x6x256, .f32⟩
  | .hbm, ⟨34, _⟩ => ⟨S8192x6x256, .f32⟩
  | .hbm, ⟨35, _⟩ => ⟨S8192x1536, .f32⟩
  | .hbm, ⟨36, _⟩ => ⟨S8192x1536, .bf16⟩
  | .hbm, ⟨37, _⟩ => ⟨S8192x6x128, .f32⟩
  | .hbm, ⟨38, _⟩ => ⟨S6x128x8192, .f32⟩
  | .hbm, ⟨39, _⟩ => ⟨S6x128x8192, .bf16⟩
  | .hbm, ⟨40, _⟩ => ⟨S8192x768, .bf16⟩
  | .hbm, ⟨41, _⟩ => ⟨S8192x768, .f32⟩
  | .local _ .vmem, ⟨0, _⟩ => ⟨S1x256x2048, .bf16⟩
  | .local _ .vmem, ⟨1, _⟩ => ⟨S1x256x2048, .bf16⟩
  | .local _ .vmem, ⟨2, _⟩ => ⟨S8192x256, .bf16⟩
  | .local _ .vmem, ⟨3, _⟩ => ⟨S8192x256, .bf16⟩
  | .local _ .vmem, ⟨4, _⟩ => ⟨S1x128x8192, .bf16⟩
  | .local _ .vmem, ⟨5, _⟩ => ⟨S1x128x8192, .bf16⟩
  | .local _ .vmem, ⟨6, _⟩ => ⟨S2048x128, .bf16⟩
  | .local _ .vmem, ⟨7, _⟩ => ⟨S2048x128, .bf16⟩
  | .local _ .vmem, ⟨8, _⟩ => ⟨S4x1x512, .f32⟩
  | .local _ .vmem, ⟨9, _⟩ => ⟨S4x1x512, .f32⟩
  | .local _ .vmem, ⟨10, _⟩ => ⟨S4x128x512, .f32⟩
  | .local _ .vmem, ⟨11, _⟩ => ⟨S2x512x512, .f32⟩
  | _, _ => ⟨S1x8192x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 4], ![false, false]⟩

def k0_mult1 : BitVec 32 :=
  let c0_i32_16 : BitVec 32 := 0#32
  c0_i32_16
@[reducible] def k0_t1_loop (i : grid0.Coords) : Scf.Loop 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_29 : BitVec 32 := 1#32
  ⟨c0_i32_27, v38, c1_i32_29⟩
def k0_mult2 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32 : BitVec 32 := 512#32
  let v93 : BitVec 32 := Scalar.muli v88 c512_i32
  v93
def k0_off1 (i : grid0.Coords) (k0_t1 : Fin (k0_t1_loop i).trips) (c0_i32_65 : BitVec 32) : Fin 2 → Nat :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let v88 : BitVec 32 := Scalar.addi v87 c0_i32_65
  let c512_i32 : BitVec 32 := 512#32
  let v93 : BitVec 32 := Scalar.muli v88 c512_i32
  let v94 : BitVec 32 := v93
  let v95 : Index := Scalar.indexCast v94
  let c0_70 : Index := 0#32
  ![v95.toNat, 0]
def k0_mult3 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_78 : BitVec 32 := 512#32
  let v104 : BitVec 32 := Scalar.muli v88 c512_i32_78
  v104
def k0_off2 (i : grid0.Coords) (k0_t1 : Fin (k0_t1_loop i).trips) (c0_i32_65 : BitVec 32) : Fin 3 → Nat :=
  let c0_79 : Index := 0#32
  let c0_80 : Index := 0#32
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let v88 : BitVec 32 := Scalar.addi v87 c0_i32_65
  let c512_i32_78 : BitVec 32 := 512#32
  let v104 : BitVec 32 := Scalar.muli v88 c512_i32_78
  let v105 : BitVec 32 := v104
  let v106 : Index := Scalar.indexCast v105
  ![0, 0, v106.toNat]
def k0_mult4 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_128 : BitVec 32 := 512#32
  let v177 : BitVec 32 := Scalar.muli v88 c512_i32_128
  v177
def k0_mult5 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_137 : BitVec 32 := 512#32
  let v188 : BitVec 32 := Scalar.muli v88 c512_i32_137
  v188
def k0_mult6 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_188 : BitVec 32 := 512#32
  let v261 : BitVec 32 := Scalar.muli v88 c512_i32_188
  v261
def k0_mult7 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_197 : BitVec 32 := 512#32
  let v272 : BitVec 32 := Scalar.muli v88 c512_i32_197
  v272
def k0_mult8 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_248 : BitVec 32 := 512#32
  let v345 : BitVec 32 := Scalar.muli v89 c512_i32_248
  v345
def k0_mult9 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c0_i32_65 : BitVec 32 := 0#32
  let v88 : BitVec 32 := Scalar.addi v87 c0_i32_65
  let c512_i32_257 : BitVec 32 := 512#32
  let v356 : BitVec 32 := Scalar.muli v88 c512_i32_257
  v356
def k0_mult10 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_308 : BitVec 32 := 512#32
  let v429 : BitVec 32 := Scalar.muli v89 c512_i32_308
  v429
def k0_mult11 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_317 : BitVec 32 := 512#32
  let v440 : BitVec 32 := Scalar.muli v89 c512_i32_317
  v440
def k0_mult12 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_368 : BitVec 32 := 512#32
  let v513 : BitVec 32 := Scalar.muli v89 c512_i32_368
  v513
def k0_mult13 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_377 : BitVec 32 := 512#32
  let v524 : BitVec 32 := Scalar.muli v89 c512_i32_377
  v524
def k0_mult14 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_428 : BitVec 32 := 512#32
  let v597 : BitVec 32 := Scalar.muli v89 c512_i32_428
  v597
def k0_mult15 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_437 : BitVec 32 := 512#32
  let v608 : BitVec 32 := Scalar.muli v89 c512_i32_437
  v608
def k0_mult16 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_488 : BitVec 32 := 512#32
  let v681 : BitVec 32 := Scalar.muli v90 c512_i32_488
  v681
def k0_mult17 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c1_i32_66 : BitVec 32 := 1#32
  let v89 : BitVec 32 := Scalar.addi v87 c1_i32_66
  let c512_i32_497 : BitVec 32 := 512#32
  let v692 : BitVec 32 := Scalar.muli v89 c512_i32_497
  v692
def k0_mult18 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_548 : BitVec 32 := 512#32
  let v765 : BitVec 32 := Scalar.muli v90 c512_i32_548
  v765
def k0_mult19 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_557 : BitVec 32 := 512#32
  let v776 : BitVec 32 := Scalar.muli v90 c512_i32_557
  v776
def k0_mult20 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_608 : BitVec 32 := 512#32
  let v849 : BitVec 32 := Scalar.muli v90 c512_i32_608
  v849
def k0_mult21 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_617 : BitVec 32 := 512#32
  let v860 : BitVec 32 := Scalar.muli v90 c512_i32_617
  v860
def k0_mult22 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_668 : BitVec 32 := 512#32
  let v933 : BitVec 32 := Scalar.muli v90 c512_i32_668
  v933
def k0_mult23 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_677 : BitVec 32 := 512#32
  let v944 : BitVec 32 := Scalar.muli v90 c512_i32_677
  v944
def k0_mult24 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_728 : BitVec 32 := 512#32
  let v1017 : BitVec 32 := Scalar.muli v91 c512_i32_728
  v1017
def k0_mult25 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c2_i32_67 : BitVec 32 := 2#32
  let v90 : BitVec 32 := Scalar.addi v87 c2_i32_67
  let c512_i32_737 : BitVec 32 := 512#32
  let v1028 : BitVec 32 := Scalar.muli v90 c512_i32_737
  v1028
def k0_mult26 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_788 : BitVec 32 := 512#32
  let v1101 : BitVec 32 := Scalar.muli v91 c512_i32_788
  v1101
def k0_mult27 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_797 : BitVec 32 := 512#32
  let v1112 : BitVec 32 := Scalar.muli v91 c512_i32_797
  v1112
def k0_mult28 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_848 : BitVec 32 := 512#32
  let v1185 : BitVec 32 := Scalar.muli v91 c512_i32_848
  v1185
def k0_mult29 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_857 : BitVec 32 := 512#32
  let v1196 : BitVec 32 := Scalar.muli v91 c512_i32_857
  v1196
def k0_mult30 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_908 : BitVec 32 := 512#32
  let v1269 : BitVec 32 := Scalar.muli v91 c512_i32_908
  v1269
def k0_mult31 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_917 : BitVec 32 := 512#32
  let v1280 : BitVec 32 := Scalar.muli v91 c512_i32_917
  v1280
def k0_mult32 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c4_i32_69 : BitVec 32 := 4#32
  let v92 : BitVec 32 := Scalar.addi v87 c4_i32_69
  let c512_i32_968 : BitVec 32 := 512#32
  let v1353 : BitVec 32 := Scalar.muli v92 c512_i32_968
  v1353
def k0_mult33 (i : grid0.Coords) (k0_t1 : Fin (k0_t1_loop i).trips) : BitVec 32 :=
  let c0_i32_27 : BitVec 32 := 0#32
  let c1_i32_29 : BitVec 32 := 1#32
  let arg10 : BitVec 32 := Scf.iv c0_i32_27 c1_i32_29 k0_t1
  let c4_i32_64 : BitVec 32 := 4#32
  let v87 : BitVec 32 := Scalar.muli arg10 c4_i32_64
  let c3_i32_68 : BitVec 32 := 3#32
  let v91 : BitVec 32 := Scalar.addi v87 c3_i32_68
  let c512_i32_977 : BitVec 32 := 512#32
  let v1364 : BitVec 32 := Scalar.muli v91 c512_i32_977
  v1364
@[reducible] def k0_t2_loop (i : grid0.Coords) : Scf.Loop 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let v35 : BitVec 32 := Scalar.addi c0_i32_27 v34
  let c1_i32_30 : BitVec 32 := 1#32
  ⟨v38, v35, c1_i32_30⟩
def k0_mult34 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32 : BitVec 32 := 512#32
  let v93 : BitVec 32 := Scalar.muli v88 c512_i32
  v93
def k0_off3 (i : grid0.Coords) (k0_t2 : Fin (k0_t2_loop i).trips) (c0_i32_65 : BitVec 32) : Fin 2 → Nat :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let v88 : BitVec 32 := Scalar.addi v87 c0_i32_65
  let c512_i32 : BitVec 32 := 512#32
  let v93 : BitVec 32 := Scalar.muli v88 c512_i32
  let v94 : BitVec 32 := v93
  let v95 : Index := Scalar.indexCast v94
  let c0_70 : Index := 0#32
  ![v95.toNat, 0]
def k0_mult35 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_78 : BitVec 32 := 512#32
  let v104 : BitVec 32 := Scalar.muli v88 c512_i32_78
  v104
def k0_off4 (i : grid0.Coords) (k0_t2 : Fin (k0_t2_loop i).trips) (c0_i32_65 : BitVec 32) : Fin 3 → Nat :=
  let c0_79 : Index := 0#32
  let c0_80 : Index := 0#32
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let v88 : BitVec 32 := Scalar.addi v87 c0_i32_65
  let c512_i32_78 : BitVec 32 := 512#32
  let v104 : BitVec 32 := Scalar.muli v88 c512_i32_78
  let v105 : BitVec 32 := v104
  let v106 : Index := Scalar.indexCast v105
  ![0, 0, v106.toNat]
def k0_mult36 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_128 : BitVec 32 := 512#32
  let v177 : BitVec 32 := Scalar.muli v88 c512_i32_128
  v177
def k0_mult37 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_137 : BitVec 32 := 512#32
  let v188 : BitVec 32 := Scalar.muli v88 c512_i32_137
  v188
def k0_mult38 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_188 : BitVec 32 := 512#32
  let v261 : BitVec 32 := Scalar.muli v88 c512_i32_188
  v261
def k0_mult39 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_197 : BitVec 32 := 512#32
  let v272 : BitVec 32 := Scalar.muli v88 c512_i32_197
  v272
def k0_mult40 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_248 : BitVec 32 := 512#32
  let v345 : BitVec 32 := Scalar.muli v89 c512_i32_248
  v345
def k0_mult41 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c0_i32_65 : BitVec 32 := 0#32
  let v88 : BitVec 32 := Scalar.addi v87 c0_i32_65
  let c512_i32_257 : BitVec 32 := 512#32
  let v356 : BitVec 32 := Scalar.muli v88 c512_i32_257
  v356
def k0_mult42 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_308 : BitVec 32 := 512#32
  let v429 : BitVec 32 := Scalar.muli v89 c512_i32_308
  v429
def k0_mult43 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_317 : BitVec 32 := 512#32
  let v440 : BitVec 32 := Scalar.muli v89 c512_i32_317
  v440
def k0_mult44 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_368 : BitVec 32 := 512#32
  let v513 : BitVec 32 := Scalar.muli v89 c512_i32_368
  v513
def k0_mult45 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_377 : BitVec 32 := 512#32
  let v524 : BitVec 32 := Scalar.muli v89 c512_i32_377
  v524
def k0_mult46 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_428 : BitVec 32 := 512#32
  let v597 : BitVec 32 := Scalar.muli v89 c512_i32_428
  v597
def k0_mult47 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_437 : BitVec 32 := 512#32
  let v608 : BitVec 32 := Scalar.muli v89 c512_i32_437
  v608
def k0_mult48 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_488 : BitVec 32 := 512#32
  let v681 : BitVec 32 := Scalar.muli v90 c512_i32_488
  v681
def k0_mult49 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c1_i32_66 : BitVec 32 := 1#32
  let v89 : BitVec 32 := Scalar.addi v87 c1_i32_66
  let c512_i32_497 : BitVec 32 := 512#32
  let v692 : BitVec 32 := Scalar.muli v89 c512_i32_497
  v692
def k0_mult50 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_548 : BitVec 32 := 512#32
  let v765 : BitVec 32 := Scalar.muli v90 c512_i32_548
  v765
def k0_mult51 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_557 : BitVec 32 := 512#32
  let v776 : BitVec 32 := Scalar.muli v90 c512_i32_557
  v776
def k0_mult52 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_608 : BitVec 32 := 512#32
  let v849 : BitVec 32 := Scalar.muli v90 c512_i32_608
  v849
def k0_mult53 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_617 : BitVec 32 := 512#32
  let v860 : BitVec 32 := Scalar.muli v90 c512_i32_617
  v860
def k0_mult54 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_668 : BitVec 32 := 512#32
  let v933 : BitVec 32 := Scalar.muli v90 c512_i32_668
  v933
def k0_mult55 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_677 : BitVec 32 := 512#32
  let v944 : BitVec 32 := Scalar.muli v90 c512_i32_677
  v944
def k0_mult56 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_728 : BitVec 32 := 512#32
  let v1017 : BitVec 32 := Scalar.muli v91 c512_i32_728
  v1017
def k0_mult57 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c2_i32_67 : BitVec 32 := 2#32
  let v90 : BitVec 32 := Scalar.addi v87 c2_i32_67
  let c512_i32_737 : BitVec 32 := 512#32
  let v1028 : BitVec 32 := Scalar.muli v90 c512_i32_737
  v1028
def k0_mult58 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_788 : BitVec 32 := 512#32
  let v1101 : BitVec 32 := Scalar.muli v91 c512_i32_788
  v1101
def k0_mult59 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_797 : BitVec 32 := 512#32
  let v1112 : BitVec 32 := Scalar.muli v91 c512_i32_797
  v1112
def k0_mult60 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_848 : BitVec 32 := 512#32
  let v1185 : BitVec 32 := Scalar.muli v91 c512_i32_848
  v1185
def k0_mult61 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_857 : BitVec 32 := 512#32
  let v1196 : BitVec 32 := Scalar.muli v91 c512_i32_857
  v1196
def k0_mult62 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_908 : BitVec 32 := 512#32
  let v1269 : BitVec 32 := Scalar.muli v91 c512_i32_908
  v1269
def k0_mult63 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_917 : BitVec 32 := 512#32
  let v1280 : BitVec 32 := Scalar.muli v91 c512_i32_917
  v1280
def k0_mult64 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c4_i32_69 : BitVec 32 := 4#32
  let v92 : BitVec 32 := Scalar.addi v87 c4_i32_69
  let c512_i32_968 : BitVec 32 := 512#32
  let v1353 : BitVec 32 := Scalar.muli v92 c512_i32_968
  v1353
def k0_mult65 (i : grid0.Coords) (k0_t2 : Fin (k0_t2_loop i).trips) : BitVec 32 :=
  let c0_i32_27 : BitVec 32 := 0#32
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let v34 : BitVec 32 := Scalar.subi v33 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_30 : BitVec 32 := 1#32
  let arg10 : BitVec 32 := Scf.iv v38 c1_i32_30 k0_t2
  let c4_i32_64 : BitVec 32 := 4#32
  let v87 : BitVec 32 := Scalar.muli arg10 c4_i32_64
  let c3_i32_68 : BitVec 32 := 3#32
  let v91 : BitVec 32 := Scalar.addi v87 c3_i32_68
  let c512_i32_977 : BitVec 32 := 512#32
  let v1364 : BitVec 32 := Scalar.muli v91 c512_i32_977
  v1364
def k0_cond1 (i : grid0.Coords) : BitVec 1 :=
  let arg1 : BitVec 32 := BitVec.ofNat 32 (i 1).val
  let c4_i32 : BitVec 32 := 4#32
  let v0 : BitVec 32 := Scalar.muli arg1 c4_i32
  let c3_i32_31 : BitVec 32 := 3#32
  let v39 : BitVec 32 := Scalar.andi v0 c3_i32_31
  let c0_i32_32 : BitVec 32 := 0#32
  let v40 : BitVec 1 := Scalar.cmpi .eq v39 c0_i32_32
  let v41 : BitVec 32 := Scalar.extui v40
  let c0_i32_33 : BitVec 32 := 0#32
  let v42 : BitVec 1 := Scalar.cmpi .ne v41 c0_i32_33
  v42

def k0_mult66 (i : grid0.Coords) : BitVec 32 :=
  let arg1 : BitVec 32 := BitVec.ofNat 32 (i 1).val
  let c4_i32 : BitVec 32 := 4#32
  let v0 : BitVec 32 := Scalar.muli arg1 c4_i32
  let c0_i32_10 : BitVec 32 := 0#32
  let v14 : BitVec 32 := Scalar.addi v0 c0_i32_10
  let c512_i32 : BitVec 32 := 512#32
  let v87 : BitVec 32 := Scalar.muli v14 c512_i32
  v87
def k0_off5 (i : grid0.Coords) (c0_i32_10 : BitVec 32) : Fin 2 → Nat :=
  let arg1 : BitVec 32 := BitVec.ofNat 32 (i 1).val
  let c4_i32 : BitVec 32 := 4#32
  let v0 : BitVec 32 := Scalar.muli arg1 c4_i32
  let v14 : BitVec 32 := Scalar.addi v0 c0_i32_10
  let c512_i32 : BitVec 32 := 512#32
  let v87 : BitVec 32 := Scalar.muli v14 c512_i32
  let v88 : BitVec 32 := v87
  let v89 : Index := Scalar.indexCast v88
  let c0_64 : Index := 0#32
  ![v89.toNat, 0]
def k0_mult67 (i : grid0.Coords) : BitVec 32 :=
  let arg1 : BitVec 32 := BitVec.ofNat 32 (i 1).val
  let c4_i32 : BitVec 32 := 4#32
  let v0 : BitVec 32 := Scalar.muli arg1 c4_i32
  let c0_i32 : BitVec 32 := 0#32
  let v13 : BitVec 32 := Scalar.addi v0 c0_i32
  let c512_i32_72 : BitVec 32 := 512#32
  let v98 : BitVec 32 := Scalar.muli v13 c512_i32_72
  v98
def k0_off6 (i : grid0.Coords) (c0_i32 : BitVec 32) : Fin 3 → Nat :=
  let c0_73 : Index := 0#32
  let c0_74 : Index := 0#32
  let arg1 : BitVec 32 := BitVec.ofNat 32 (i 1).val
  let c4_i32 : BitVec 32 := 4#32
  let v0 : BitVec 32 := Scalar.muli arg1 c4_i32
  let v13 : BitVec 32 := Scalar.addi v0 c0_i32
  let c512_i32_72 : BitVec 32 := 512#32
  let v98 : BitVec 32 := Scalar.muli v13 c512_i32_72
  let v99 : BitVec 32 := v98
  let v100 : Index := Scalar.indexCast v99
  ![0, 0, v100.toNat]
def k0_mult68 (i : grid0.Coords) : BitVec 32 :=
  let arg1 : BitVec 32 := BitVec.ofNat 32 (i 1).val
  let c4_i32 : BitVec 32 := 4#32
  let v0 : BitVec 32 := Scalar.muli arg1 c4_i32
  let c0_i32_11 : BitVec 32 := 0#32
  let v15 : BitVec 32 := Scalar.addi v0 c0_i32_11
  let c512_i32_125 : BitVec 32 := 512#32
  let v185 : BitVec 32 := Scalar.muli v15 c512_i32_125
  v185
def k0_mult69 (i : grid0.Coords) : BitVec 32 :=
  let arg1 : BitVec 32 := BitVec.ofNat 32 (i 1).val
  let c4_i32 : BitVec 32 := 4#32
  let v0 : BitVec 32 := Scalar.muli arg1 c4_i32
  let c0_i32_10 : BitVec 32 := 0#32
  let v14 : BitVec 32 := Scalar.addi v0 c0_i32_10
  let c512_i32_134 : BitVec 32 := 512#32
  let v196 : BitVec 32 := Scalar.muli v14 c512_i32_134
  v196
def k0_mult70 (i : grid0.Coords) : BitVec 32 :=
  let arg1 : BitVec 32 := BitVec.ofNat 32 (i 1).val
  let c4_i32 : BitVec 32 := 4#32
  let v0 : BitVec 32 := Scalar.muli arg1 c4_i32
  let c0_i32_12 : BitVec 32 := 0#32
  let v16 : BitVec 32 := Scalar.addi v0 c0_i32_12
  let c512_i32_185 : BitVec 32 := 512#32
  let v269 : BitVec 32 := Scalar.muli v16 c512_i32_185
  v269
def k0_mult71 (i : grid0.Coords) : BitVec 32 :=
  let arg1 : BitVec 32 := BitVec.ofNat 32 (i 1).val
  let c4_i32 : BitVec 32 := 4#32
  let v0 : BitVec 32 := Scalar.muli arg1 c4_i32
  let c0_i32_11 : BitVec 32 := 0#32
  let v15 : BitVec 32 := Scalar.addi v0 c0_i32_11
  let c512_i32_194 : BitVec 32 := 512#32
  let v280 : BitVec 32 := Scalar.muli v15 c512_i32_194
  v280
def k0_mult72 (i : grid0.Coords) : BitVec 32 :=
  let arg1 : BitVec 32 := BitVec.ofNat 32 (i 1).val
  let c4_i32 : BitVec 32 := 4#32
  let v0 : BitVec 32 := Scalar.muli arg1 c4_i32
  let c1_i32 : BitVec 32 := 1#32
  let v17 : BitVec 32 := Scalar.addi v0 c1_i32
  let c512_i32_245 : BitVec 32 := 512#32
  let v353 : BitVec 32 := Scalar.muli v17 c512_i32_245
  v353
def k0_mult73 (i : grid0.Coords) : BitVec 32 :=
  let arg1 : BitVec 32 := BitVec.ofNat 32 (i 1).val
  let c4_i32 : BitVec 32 := 4#32
  let v0 : BitVec 32 := Scalar.muli arg1 c4_i32
  let c0_i32_12 : BitVec 32 := 0#32
  let v16 : BitVec 32 := Scalar.addi v0 c0_i32_12
  let c512_i32_254 : BitVec 32 := 512#32
  let v364 : BitVec 32 := Scalar.muli v16 c512_i32_254
  v364
def k0_mult74 (i : grid0.Coords) : BitVec 32 :=
  let arg1 : BitVec 32 := BitVec.ofNat 32 (i 1).val
  let c4_i32 : BitVec 32 := 4#32
  let v0 : BitVec 32 := Scalar.muli arg1 c4_i32
  let c1_i32_13 : BitVec 32 := 1#32
  let v18 : BitVec 32 := Scalar.addi v0 c1_i32_13
  let c512_i32_305 : BitVec 32 := 512#32
  let v437 : BitVec 32 := Scalar.muli v18 c512_i32_305
  v437
def k0_mult75 (i : grid0.Coords) : BitVec 32 :=
  let arg1 : BitVec 32 := BitVec.ofNat 32 (i 1).val
  let c4_i32 : BitVec 32 := 4#32
  let v0 : BitVec 32 := Scalar.muli arg1 c4_i32
  let c1_i32 : BitVec 32 := 1#32
  let v17 : BitVec 32 := Scalar.addi v0 c1_i32
  let c512_i32_314 : BitVec 32 := 512#32
  let v448 : BitVec 32 := Scalar.muli v17 c512_i32_314
  v448
def k0_mult76 (i : grid0.Coords) : BitVec 32 :=
  let arg1 : BitVec 32 := BitVec.ofNat 32 (i 1).val
  let c4_i32 : BitVec 32 := 4#32
  let v0 : BitVec 32 := Scalar.muli arg1 c4_i32
  let c1_i32_14 : BitVec 32 := 1#32
  let v19 : BitVec 32 := Scalar.addi v0 c1_i32_14
  let c512_i32_369 : BitVec 32 := 512#32
  let v535 : BitVec 32 := Scalar.muli v19 c512_i32_369
  v535
def k0_mult77 (i : grid0.Coords) : BitVec 32 :=
  let arg1 : BitVec 32 := BitVec.ofNat 32 (i 1).val
  let c4_i32 : BitVec 32 := 4#32
  let v0 : BitVec 32 := Scalar.muli arg1 c4_i32
  let c1_i32_13 : BitVec 32 := 1#32
  let v18 : BitVec 32 := Scalar.addi v0 c1_i32_13
  let c512_i32_378 : BitVec 32 := 512#32
  let v546 : BitVec 32 := Scalar.muli v18 c512_i32_378
  v546
def k0_mult78 (i : grid0.Coords) : BitVec 32 :=
  let arg1 : BitVec 32 := BitVec.ofNat 32 (i 1).val
  let c4_i32 : BitVec 32 := 4#32
  let v0 : BitVec 32 := Scalar.muli arg1 c4_i32
  let c2_i32 : BitVec 32 := 2#32
  let v20 : BitVec 32 := Scalar.addi v0 c2_i32
  let c512_i32_429 : BitVec 32 := 512#32
  let v619 : BitVec 32 := Scalar.muli v20 c512_i32_429
  v619
def k0_mult79 (i : grid0.Coords) : BitVec 32 :=
  let arg1 : BitVec 32 := BitVec.ofNat 32 (i 1).val
  let c4_i32 : BitVec 32 := 4#32
  let v0 : BitVec 32 := Scalar.muli arg1 c4_i32
  let c1_i32_14 : BitVec 32 := 1#32
  let v19 : BitVec 32 := Scalar.addi v0 c1_i32_14
  let c512_i32_438 : BitVec 32 := 512#32
  let v630 : BitVec 32 := Scalar.muli v19 c512_i32_438
  v630
def k0_mult80 (i : grid0.Coords) : BitVec 32 :=
  let arg1 : BitVec 32 := BitVec.ofNat 32 (i 1).val
  let c4_i32 : BitVec 32 := 4#32
  let v0 : BitVec 32 := Scalar.muli arg1 c4_i32
  let c2_i32_15 : BitVec 32 := 2#32
  let v21 : BitVec 32 := Scalar.addi v0 c2_i32_15
  let c512_i32_489 : BitVec 32 := 512#32
  let v703 : BitVec 32 := Scalar.muli v21 c512_i32_489
  v703
def k0_mult81 (i : grid0.Coords) : BitVec 32 :=
  let arg1 : BitVec 32 := BitVec.ofNat 32 (i 1).val
  let c4_i32 : BitVec 32 := 4#32
  let v0 : BitVec 32 := Scalar.muli arg1 c4_i32
  let c2_i32 : BitVec 32 := 2#32
  let v20 : BitVec 32 := Scalar.addi v0 c2_i32
  let c512_i32_498 : BitVec 32 := 512#32
  let v714 : BitVec 32 := Scalar.muli v20 c512_i32_498
  v714
def k0_mult82 (i : grid0.Coords) : BitVec 32 :=
  let arg1 : BitVec 32 := BitVec.ofNat 32 (i 1).val
  let c4_i32 : BitVec 32 := 4#32
  let v0 : BitVec 32 := Scalar.muli arg1 c4_i32
  let c3_i32 : BitVec 32 := 3#32
  let v22 : BitVec 32 := Scalar.addi v0 c3_i32
  let c512_i32_553 : BitVec 32 := 512#32
  let v801 : BitVec 32 := Scalar.muli v22 c512_i32_553
  v801
def k0_mult83 (i : grid0.Coords) : BitVec 32 :=
  let arg1 : BitVec 32 := BitVec.ofNat 32 (i 1).val
  let c4_i32 : BitVec 32 := 4#32
  let v0 : BitVec 32 := Scalar.muli arg1 c4_i32
  let c2_i32_15 : BitVec 32 := 2#32
  let v21 : BitVec 32 := Scalar.addi v0 c2_i32_15
  let c512_i32_562 : BitVec 32 := 512#32
  let v812 : BitVec 32 := Scalar.muli v21 c512_i32_562
  v812
def k0_mult84 (i : grid0.Coords) : BitVec 32 :=
  let arg1 : BitVec 32 := BitVec.ofNat 32 (i 1).val
  let c4_i32 : BitVec 32 := 4#32
  let v0 : BitVec 32 := Scalar.muli arg1 c4_i32
  let c3_i32 : BitVec 32 := 3#32
  let v22 : BitVec 32 := Scalar.addi v0 c3_i32
  let c512_i32_613 : BitVec 32 := 512#32
  let v885 : BitVec 32 := Scalar.muli v22 c512_i32_613
  v885
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S1x8192x6x128 : Shape := ⟨4, ![1, 8192, 6, 128]⟩
abbrev S1x8192x6 : Shape := ⟨3, ![1, 8192, 6]⟩
abbrev S1x6x8192x8192 : Shape := ⟨4, ![1, 6, 8192, 8192]⟩
abbrev S_ : Shape := ⟨0, ![]⟩
abbrev S1x6x8192 : Shape := ⟨3, ![1, 6, 8192]⟩
abbrev S1x6x8192x1 : Shape := ⟨4, ![1, 6, 8192, 1]⟩
abbrev S1x6x1x8192 : Shape := ⟨4, ![1, 6, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x6x128x8192 : Shape := ⟨4, ![1, 6, 128, 8192]⟩
abbrev S8192x768 : Shape := ⟨2, ![8192, 768]⟩

abbrev nBuf : Space → Nat
  | .hbm => 43
  | .vmem => 0
  | .smem => 0
  | _ => 0

abbrev bufTy : (tb : Table) → Fin (tcTables nBuf tb) → BufTy
  | .hbm, ⟨0, _⟩ => ⟨S1x8192x6x128, .f32⟩
  | .hbm, ⟨1, _⟩ => ⟨S1x8192x6x128, .f32⟩
  | .hbm, ⟨2, _⟩ => ⟨S1x8192x6x128, .f32⟩
  | .hbm, ⟨3, _⟩ => ⟨S1x8192x6, .f32⟩
  | .hbm, ⟨4, _⟩ => ⟨S1x6x8192x8192, .f32⟩
  | .hbm, ⟨5, _⟩ => ⟨S_, .f32⟩
  | .hbm, ⟨6, _⟩ => ⟨S1x6x8192x8192, .f32⟩
  | .hbm, ⟨7, _⟩ => ⟨S1x6x8192x8192, .f32⟩
  | .hbm, ⟨8, _⟩ => ⟨S1x6x8192, .f32⟩
  | .hbm, ⟨9, _⟩ => ⟨S1x6x8192x1, .f32⟩
  | .hbm, ⟨10, _⟩ => ⟨S1x6x8192x8192, .f32⟩
  | .hbm, ⟨11, _⟩ => ⟨S1x6x8192x8192, .f32⟩
  | .hbm, ⟨12, _⟩ => ⟨S1x6x1x8192, .f32⟩
  | .hbm, ⟨13, _⟩ => ⟨S1x6x8192x8192, .f32⟩
  | .hbm, ⟨14, _⟩ => ⟨S1x6x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S1x6x8192x8192, .i1⟩
  | .hbm, ⟨24, _⟩ => ⟨S1x6x8192x8192, .f32⟩
  | .hbm, ⟨25, _⟩ => ⟨S1x6x8192x8192, .f32⟩
  | .hbm, ⟨26, _⟩ => ⟨S_, .f32⟩
  | .hbm, ⟨27, _⟩ => ⟨S1x6x8192, .f32⟩
  | .hbm, ⟨28, _⟩ => ⟨S_, .f32⟩
  | .hbm, ⟨29, _⟩ => ⟨S1x6x8192, .f32⟩
  | .hbm, ⟨30, _⟩ => ⟨S1x6x8192, .f32⟩
  | .hbm, ⟨31, _⟩ => ⟨S1x6x8192x1, .f32⟩
  | .hbm, ⟨32, _⟩ => ⟨S1x6x8192x8192, .f32⟩
  | .hbm, ⟨33, _⟩ => ⟨S1x6x8192x8192, .f32⟩
  | .hbm, ⟨34, _⟩ => ⟨S1x6x8192x8192, .f32⟩
  | .hbm, ⟨35, _⟩ => ⟨S_, .f32⟩
  | .hbm, ⟨36, _⟩ => ⟨S1x6x8192, .f32⟩
  | .hbm, ⟨37, _⟩ => ⟨S1x6x8192x1, .f32⟩
  | .hbm, ⟨38, _⟩ => ⟨S1x6x8192x8192, .f32⟩
  | .hbm, ⟨39, _⟩ => ⟨S1x6x8192x8192, .f32⟩
  | .hbm, ⟨40, _⟩ => ⟨S1x6x128x8192, .f32⟩
  | .hbm, ⟨41, _⟩ => ⟨S1x8192x6x128, .f32⟩
  | .hbm, ⟨42, _⟩ => ⟨S8192x768, .f32⟩
  | _, _ => ⟨S1x8192x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel5.lean ====
abbrev S1x8192x4x2x64 : Shape := ⟨5, ![1, 8192, 4, 2, 64]⟩
abbrev S1x8192x4x128 : Shape := ⟨4, ![1, 8192, 4, 128]⟩
abbrev S64 : Shape := ⟨1, ![64]⟩
abbrev S128 : Shape := ⟨1, ![128]⟩
abbrev S_ : Shape := ⟨0, ![]⟩
abbrev S8192x4x128 : Shape := ⟨3, ![8192, 4, 128]⟩
abbrev S4x128x8192 : Shape := ⟨3, ![4, 128, 8192]⟩
abbrev S8192x4x2x64 : Shape := ⟨4, ![8192, 4, 2, 64]⟩
abbrev S8192x512 : Shape := ⟨2, ![8192, 512]⟩
abbrev S1x64 : Shape := ⟨2, ![1, 64]⟩
abbrev S4x64 : Shape := ⟨2, ![4, 64]⟩
abbrev S1x128 : Shape := ⟨2, ![1, 128]⟩
abbrev S1x128x2048 : Shape := ⟨3, ![1, 128, 2048]⟩
abbrev S8192x128 : Shape := ⟨2, ![8192, 128]⟩
abbrev S1x128x8192 : Shape := ⟨3, ![1, 128, 8192]⟩
abbrev S2048x128 : Shape := ⟨2, ![2048, 128]⟩
abbrev S8x1x512 : Shape := ⟨3, ![8, 1, 512]⟩
abbrev S8x128x512 : Shape := ⟨3, ![8, 128, 512]⟩
abbrev S2x512x512 : Shape := ⟨3, ![2, 512, 512]⟩
abbrev S512x128 : Shape := ⟨2, ![512, 128]⟩
abbrev S1x128x512 : Shape := ⟨3, ![1, 128, 512]⟩
abbrev S128x512 : Shape := ⟨2, ![128, 512]⟩
abbrev S512x512 : Shape := ⟨2, ![512, 512]⟩
abbrev S1x512x512 : Shape := ⟨3, ![1, 512, 512]⟩
abbrev S1x512x256 : Shape := ⟨3, ![1, 512, 256]⟩
abbrev S512x256 : Shape := ⟨2, ![512, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S1 : Shape := ⟨1, ![1]⟩
abbrev S1x1 : Shape := ⟨2, ![1, 1]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 32
  | .vmem => 14
  | .smem => 0
  | _ => 0

abbrev bufTy : (tb : Table) → Fin (tcTables nBuf tb) → BufTy
  | .hbm, ⟨0, _⟩ => ⟨S1x8192x4x2x64, .f32⟩
  | .hbm, ⟨1, _⟩ => ⟨S1x8192x4x2x64, .f32⟩
  | .hbm, ⟨2, _⟩ => ⟨S1x8192x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x8192x4x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x8192x4x128, .f32⟩
  | .hbm, ⟨14, _⟩ => ⟨S1x8192x4x128, .f32⟩
  | .hbm, ⟨15, _⟩ => ⟨S8192x4x128, .f32⟩
  | .hbm, ⟨16, _⟩ => ⟨S4x128x8192, .f32⟩
  | .hbm, ⟨17, _⟩ => ⟨S4x128x8192, .bf16⟩
  | .hbm, ⟨18, _⟩ => ⟨S8192x4x2x64, .f32⟩
  | .hbm, ⟨19, _⟩ => ⟨S8192x512, .f32⟩
  | .hbm, ⟨20, _⟩ => ⟨S8192x512, .bf16⟩
  | .hbm, ⟨21, _⟩ => ⟨S8192x4x128, .f32⟩
  | .hbm, ⟨22, _⟩ => ⟨S4x128x8192, .f32⟩
  | .hbm, ⟨23, _⟩ => ⟨S4x128x8192, .bf16⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S4x64, .f32⟩
  | .hbm, ⟨29, _⟩ => ⟨S1x128, .f32⟩
  | .hbm, ⟨30, _⟩ => ⟨S8192x512, .bf16⟩
  | .hbm, ⟨31, _⟩ => ⟨S8192x512, .f32⟩
  | .local _ .vmem, ⟨0, _⟩ => ⟨S1x128x2048, .bf16⟩
  | .local _ .vmem, ⟨1, _⟩ => ⟨S1x128x2048, .bf16⟩
  | .local _ .vmem, ⟨2, _⟩ => ⟨S8192x128, .bf16⟩
  | .local _ .vmem, ⟨3, _⟩ => ⟨S8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S4x64, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | .local _ .vmem, ⟨10, _⟩ => ⟨S8x1x512, .f32⟩
  | .local _ .vmem, ⟨11, _⟩ => ⟨S8x1x512, .f32⟩
  | .local _ .vmem, ⟨12, _⟩ => ⟨S8x128x512, .f32⟩
  | .local _ .vmem, ⟨13, _⟩ => ⟨S2x512x512, .f32⟩
  | _, _ => ⟨S1x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32_26 : BitVec 32 := 0#32
  c0_i32_26
@[reducible] def k0_t1_loop (i : grid0.Coords) : Scf.Loop 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_40 : BitVec 32 := 1#32
  ⟨c0_i32_38, v53, c1_i32_40⟩
def k0_mult2 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32 : BitVec 32 := 512#32
  let v231 : BitVec 32 := Scalar.muli v228 c512_i32
  v231
def k0_off1 (i : grid0.Coords) (k0_t1 : Fin (k0_t1_loop i).trips) (c0_i32_129 : BitVec 32) : Fin 2 → Nat :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let v228 : BitVec 32 := Scalar.addi v227 c0_i32_129
  let c512_i32 : BitVec 32 := 512#32
  let v231 : BitVec 32 := Scalar.muli v228 c512_i32
  let v232 : BitVec 32 := v231
  let v233 : Index := Scalar.indexCast v232
  let c0_132 : Index := 0#32
  ![v233.toNat, 0]
def k0_mult3 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_142 : BitVec 32 := 512#32
  let v247 : BitVec 32 := Scalar.muli v228 c512_i32_142
  v247
def k0_off2 (i : grid0.Coords) (k0_t1 : Fin (k0_t1_loop i).trips) (c0_i32_129 : BitVec 32) : Fin 3 → Nat :=
  let c0_143 : Index := 0#32
  let c0_144 : Index := 0#32
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let v228 : BitVec 32 := Scalar.addi v227 c0_i32_129
  let c512_i32_142 : BitVec 32 := 512#32
  let v247 : BitVec 32 := Scalar.muli v228 c512_i32_142
  let v248 : BitVec 32 := v247
  let v249 : Index := Scalar.indexCast v248
  ![0, 0, v249.toNat]
def k0_mult4 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_192 : BitVec 32 := 512#32
  let v320 : BitVec 32 := Scalar.muli v228 c512_i32_192
  v320
def k0_mult5 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_203 : BitVec 32 := 512#32
  let v336 : BitVec 32 := Scalar.muli v228 c512_i32_203
  v336
def k0_mult6 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_254 : BitVec 32 := 512#32
  let v409 : BitVec 32 := Scalar.muli v228 c512_i32_254
  v409
def k0_mult7 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_265 : BitVec 32 := 512#32
  let v425 : BitVec 32 := Scalar.muli v228 c512_i32_265
  v425
def k0_mult8 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_316 : BitVec 32 := 512#32
  let v498 : BitVec 32 := Scalar.muli v228 c512_i32_316
  v498
def k0_mult9 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_327 : BitVec 32 := 512#32
  let v514 : BitVec 32 := Scalar.muli v228 c512_i32_327
  v514
def k0_mult10 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_378 : BitVec 32 := 512#32
  let v587 : BitVec 32 := Scalar.muli v228 c512_i32_378
  v587
def k0_mult11 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_389 : BitVec 32 := 512#32
  let v603 : BitVec 32 := Scalar.muli v228 c512_i32_389
  v603
def k0_mult12 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_440 : BitVec 32 := 512#32
  let v676 : BitVec 32 := Scalar.muli v228 c512_i32_440
  v676
def k0_mult13 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_451 : BitVec 32 := 512#32
  let v692 : BitVec 32 := Scalar.muli v228 c512_i32_451
  v692
def k0_mult14 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_502 : BitVec 32 := 512#32
  let v765 : BitVec 32 := Scalar.muli v228 c512_i32_502
  v765
def k0_mult15 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_513 : BitVec 32 := 512#32
  let v781 : BitVec 32 := Scalar.muli v228 c512_i32_513
  v781
def k0_mult16 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_564 : BitVec 32 := 512#32
  let v854 : BitVec 32 := Scalar.muli v229 c512_i32_564
  v854
def k0_mult17 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c0_i32_129 : BitVec 32 := 0#32
  let v228 : BitVec 32 := Scalar.addi v227 c0_i32_129
  let c512_i32_575 : BitVec 32 := 512#32
  let v870 : BitVec 32 := Scalar.muli v228 c512_i32_575
  v870
def k0_mult18 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_626 : BitVec 32 := 512#32
  let v943 : BitVec 32 := Scalar.muli v229 c512_i32_626
  v943
def k0_mult19 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_637 : BitVec 32 := 512#32
  let v959 : BitVec 32 := Scalar.muli v229 c512_i32_637
  v959
def k0_mult20 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_688 : BitVec 32 := 512#32
  let v1032 : BitVec 32 := Scalar.muli v229 c512_i32_688
  v1032
def k0_mult21 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_699 : BitVec 32 := 512#32
  let v1048 : BitVec 32 := Scalar.muli v229 c512_i32_699
  v1048
def k0_mult22 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_750 : BitVec 32 := 512#32
  let v1121 : BitVec 32 := Scalar.muli v229 c512_i32_750
  v1121
def k0_mult23 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_761 : BitVec 32 := 512#32
  let v1137 : BitVec 32 := Scalar.muli v229 c512_i32_761
  v1137
def k0_mult24 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_812 : BitVec 32 := 512#32
  let v1210 : BitVec 32 := Scalar.muli v229 c512_i32_812
  v1210
def k0_mult25 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_823 : BitVec 32 := 512#32
  let v1226 : BitVec 32 := Scalar.muli v229 c512_i32_823
  v1226
def k0_mult26 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_874 : BitVec 32 := 512#32
  let v1299 : BitVec 32 := Scalar.muli v229 c512_i32_874
  v1299
def k0_mult27 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_885 : BitVec 32 := 512#32
  let v1315 : BitVec 32 := Scalar.muli v229 c512_i32_885
  v1315
def k0_mult28 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_936 : BitVec 32 := 512#32
  let v1388 : BitVec 32 := Scalar.muli v229 c512_i32_936
  v1388
def k0_mult29 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_947 : BitVec 32 := 512#32
  let v1404 : BitVec 32 := Scalar.muli v229 c512_i32_947
  v1404
def k0_mult30 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_998 : BitVec 32 := 512#32
  let v1477 : BitVec 32 := Scalar.muli v229 c512_i32_998
  v1477
def k0_mult31 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_1009 : BitVec 32 := 512#32
  let v1493 : BitVec 32 := Scalar.muli v229 c512_i32_1009
  v1493
def k0_mult32 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c2_i32_131 : BitVec 32 := 2#32
  let v230 : BitVec 32 := Scalar.addi v227 c2_i32_131
  let c512_i32_1060 : BitVec 32 := 512#32
  let v1566 : BitVec 32 := Scalar.muli v230 c512_i32_1060
  v1566
def k0_mult33 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c2_i32_128 : BitVec 32 := 2#32
  let v227 : BitVec 32 := Scalar.muli arg12 c2_i32_128
  let c1_i32_130 : BitVec 32 := 1#32
  let v229 : BitVec 32 := Scalar.addi v227 c1_i32_130
  let c512_i32_1071 : BitVec 32 := 512#32
  let v1582 : BitVec 32 := Scalar.muli v229 c512_i32_1071
  v1582
@[reducible] def k0_t2_loop (i : grid0.Coords) : Scf.Loop 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let v50 : BitVec 32 := Scalar.addi c0_i32_38 v49
  let c1_i32_41 : BitVec 32 := 1#32
  ⟨v53, v50, c1_i32_41⟩
def k0_mult34 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32 : BitVec 32 := 512#32
  let v231 : BitVec 32 := Scalar.muli v228 c512_i32
  v231
def k0_off3 (i : grid0.Coords) (k0_t2 : Fin (k0_t2_loop i).trips) (c0_i32_129 : BitVec 32) : Fin 2 → Nat :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let v228 : BitVec 32 := Scalar.addi v227 c0_i32_129
  let c512_i32 : BitVec 32 := 512#32
  let v231 : BitVec 32 := Scalar.muli v228 c512_i32
  let v232 : BitVec 32 := v231
  let v233 : Index := Scalar.indexCast v232
  let c0_132 : Index := 0#32
  ![v233.toNat, 0]
def k0_mult35 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_142 : BitVec 32 := 512#32
  let v247 : BitVec 32 := Scalar.muli v228 c512_i32_142
  v247
def k0_off4 (i : grid0.Coords) (k0_t2 : Fin (k0_t2_loop i).trips) (c0_i32_129 : BitVec 32) : Fin 3 → Nat :=
  let c0_143 : Index := 0#32
  let c0_144 : Index := 0#32
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let v228 : BitVec 32 := Scalar.addi v227 c0_i32_129
  let c512_i32_142 : BitVec 32 := 512#32
  let v247 : BitVec 32 := Scalar.muli v228 c512_i32_142
  let v248 : BitVec 32 := v247
  let v249 : Index := Scalar.indexCast v248
  ![0, 0, v249.toNat]
def k0_mult36 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_192 : BitVec 32 := 512#32
  let v320 : BitVec 32 := Scalar.muli v228 c512_i32_192
  v320
def k0_mult37 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_203 : BitVec 32 := 512#32
  let v336 : BitVec 32 := Scalar.muli v228 c512_i32_203
  v336
def k0_mult38 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_254 : BitVec 32 := 512#32
  let v409 : BitVec 32 := Scalar.muli v228 c512_i32_254
  v409
def k0_mult39 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_265 : BitVec 32 := 512#32
  let v425 : BitVec 32 := Scalar.muli v228 c512_i32_265
  v425
def k0_mult40 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_316 : BitVec 32 := 512#32
  let v498 : BitVec 32 := Scalar.muli v228 c512_i32_316
  v498
def k0_mult41 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_327 : BitVec 32 := 512#32
  let v514 : BitVec 32 := Scalar.muli v228 c512_i32_327
  v514
def k0_mult42 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_378 : BitVec 32 := 512#32
  let v587 : BitVec 32 := Scalar.muli v228 c512_i32_378
  v587
def k0_mult43 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_389 : BitVec 32 := 512#32
  let v603 : BitVec 32 := Scalar.muli v228 c512_i32_389
  v603
def k0_mult44 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_440 : BitVec 32 := 512#32
  let v676 : BitVec 32 := Scalar.muli v228 c512_i32_440
  v676
def k0_mult45 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_451 : BitVec 32 := 512#32
  let v692 : BitVec 32 := Scalar.muli v228 c512_i32_451
  v692
def k0_mult46 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_502 : BitVec 32 := 512#32
  let v765 : BitVec 32 := Scalar.muli v228 c512_i32_502
  v765
def k0_mult47 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_513 : BitVec 32 := 512#32
  let v781 : BitVec 32 := Scalar.muli v228 c512_i32_513
  v781
def k0_mult48 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_564 : BitVec 32 := 512#32
  let v854 : BitVec 32 := Scalar.muli v229 c512_i32_564
  v854
def k0_mult49 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c0_i32_129 : BitVec 32 := 0#32
  let v228 : BitVec 32 := Scalar.addi v227 c0_i32_129
  let c512_i32_575 : BitVec 32 := 512#32
  let v870 : BitVec 32 := Scalar.muli v228 c512_i32_575
  v870
def k0_mult50 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_626 : BitVec 32 := 512#32
  let v943 : BitVec 32 := Scalar.muli v229 c512_i32_626
  v943
def k0_mult51 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_637 : BitVec 32 := 512#32
  let v959 : BitVec 32 := Scalar.muli v229 c512_i32_637
  v959
def k0_mult52 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_688 : BitVec 32 := 512#32
  let v1032 : BitVec 32 := Scalar.muli v229 c512_i32_688
  v1032
def k0_mult53 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_699 : BitVec 32 := 512#32
  let v1048 : BitVec 32 := Scalar.muli v229 c512_i32_699
  v1048
def k0_mult54 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_750 : BitVec 32 := 512#32
  let v1121 : BitVec 32 := Scalar.muli v229 c512_i32_750
  v1121
def k0_mult55 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_761 : BitVec 32 := 512#32
  let v1137 : BitVec 32 := Scalar.muli v229 c512_i32_761
  v1137
def k0_mult56 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_812 : BitVec 32 := 512#32
  let v1210 : BitVec 32 := Scalar.muli v229 c512_i32_812
  v1210
def k0_mult57 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_823 : BitVec 32 := 512#32
  let v1226 : BitVec 32 := Scalar.muli v229 c512_i32_823
  v1226
def k0_mult58 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_874 : BitVec 32 := 512#32
  let v1299 : BitVec 32 := Scalar.muli v229 c512_i32_874
  v1299
def k0_mult59 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_885 : BitVec 32 := 512#32
  let v1315 : BitVec 32 := Scalar.muli v229 c512_i32_885
  v1315
def k0_mult60 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_936 : BitVec 32 := 512#32
  let v1388 : BitVec 32 := Scalar.muli v229 c512_i32_936
  v1388
def k0_mult61 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_947 : BitVec 32 := 512#32
  let v1404 : BitVec 32 := Scalar.muli v229 c512_i32_947
  v1404
def k0_mult62 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_998 : BitVec 32 := 512#32
  let v1477 : BitVec 32 := Scalar.muli v229 c512_i32_998
  v1477
def k0_mult63 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_1009 : BitVec 32 := 512#32
  let v1493 : BitVec 32 := Scalar.muli v229 c512_i32_1009
  v1493
def k0_mult64 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c2_i32_131 : BitVec 32 := 2#32
  let v230 : BitVec 32 := Scalar.addi v227 c2_i32_131
  let c512_i32_1060 : BitVec 32 := 512#32
  let v1566 : BitVec 32 := Scalar.muli v230 c512_i32_1060
  v1566
def k0_mult65 (i : grid0.Coords) (k0_t2 : Fin (k0_t2_loop i).trips) : BitVec 32 :=
  let c0_i32_38 : BitVec 32 := 0#32
  let arg1 : BitVec 32 := BitVec.ofNat 32 (i 1).val
  let c4_i32 : BitVec 32 := 4#32
  let v0 : BitVec 32 := Scalar.muli arg1 c4_i32
  let c1_i32_36 : BitVec 32 := 1#32
  let v48 : BitVec 32 := Scalar.shrui v0 c1_i32_36
  let v49 : BitVec 32 := Scalar.subi v48 c0_i32_38
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_41 : BitVec 32 := 1#32
  let arg12 : BitVec 32 := Scf.iv v53 c1_i32_41 k0_t2
  let c2_i32_128 : BitVec 32 := 2#32
  let v227 : BitVec 32 := Scalar.muli arg12 c2_i32_128
  let c1_i32_130 : BitVec 32 := 1#32
  let v229 : BitVec 32 := Scalar.addi v227 c1_i32_130
  let c512_i32_1071 : BitVec 32 := 512#32
  let v1582 : BitVec 32 := Scalar.muli v229 c512_i32_1071
  v1582
def k0_cond1 (i : grid0.Coords) : BitVec 1 :=
  let arg1 : BitVec 32 := BitVec.ofNat 32 (i 1).val
  let c4_i32 : BitVec 32 := 4#32
  let v0 : BitVec 32 := Scalar.muli arg1 c4_i32
  let c1_i32_42 : BitVec 32 := 1#32
  let v54 : BitVec 32 := Scalar.andi v0 c1_i32_42
  let c0_i32_43 : BitVec 32 := 0#32
  let v55 : BitVec 1 := Scalar.cmpi .eq v54 c0_i32_43
  let v56 : BitVec 32 := Scalar.extui v55
  let c0_i32_44 : BitVec 32 := 0#32
  let v57 : BitVec 1 := Scalar.cmpi .ne v56 c0_i32_44
  v57

def k0_mult66 (i : grid0.Coords) : BitVec 32 :=
  let arg1 : BitVec 32 := BitVec.ofNat 32 (i 1).val
  let c4_i32 : BitVec 32 := 4#32
  let v0 : BitVec 32 := Scalar.muli arg1 c4_i32
  let c0_i32_10 : BitVec 32 := 0#32
  let v14 : BitVec 32 := Scalar.addi v0 c0_i32_10
  let c512_i32 : BitVec 32 := 512#32
  let v227 : BitVec 32 := Scalar.muli v14 c512_i32
  v227
def k0_off5 (i : grid0.Coords) (c0_i32_10 : BitVec 32) : Fin 2 → Nat :=
  let arg1 : BitVec 32 := BitVec.ofNat 32 (i 1).val
  let c4_i32 : BitVec 32 := 4#32
  let v0 : BitVec 32 := Scalar.muli arg1 c4_i32
  let v14 : BitVec 32 := Scalar.addi v0 c0_i32_10
  let c512_i32 : BitVec 32 := 512#32
  let v227 : BitVec 32 := Scalar.muli v14 c512_i32
  let v228 : BitVec 32 := v227
  let v229 : Index := Scalar.indexCast v228
  let c0_128 : Index := 0#32
  ![v229.toNat, 0]
def k0_mult67 (i : grid0.Coords) : BitVec 32 :=
  let arg1 : BitVec 32 := BitVec.ofNat 32 (i 1).val
  let c4_i32 : BitVec 32 := 4#32
  let v0 : BitVec 32 := Scalar.muli arg1 c4_i32
  let c0_i32 : BitVec 32 := 0#32
  let v13 : BitVec 32 := Scalar.addi v0 c0_i32
  let c512_i32_138 : BitVec 32 := 512#32
  let v243 : BitVec 32 := Scalar.muli v13 c512_i32_138
  v243
def k0_off6 (i : grid0.Coords) (c0_i32 : BitVec 32) : Fin 3 → Nat :=
  let c0_139 : Index := 0#32
  let c0_140 : Index := 0#32
  let arg1 : BitVec 32 := BitVec.ofNat 32 (i 1).val
  let c4_i32 : BitVec 32 := 4#32
  let v0 : BitVec 32 := Scalar.muli arg1 c4_i32
  let v13 : BitVec 32 := Scalar.addi v0 c0_i32
  let c512_i32_138 : BitVec 32 := 512#32
  let v243 : BitVec 32 := Scalar.muli v13 c512_i32_138
  let v244 : BitVec 32 := v243
  let v245 : Index := Scalar.indexCast v244
  ![0, 0, v245.toNat]
def k0_mult68 (i : grid0.Coords) : BitVec 32 :=
  let arg1 : BitVec 32 := BitVec.ofNat 32 (i 1).val
  let c4_i32 : BitVec 32 := 4#32
  let v0 : BitVec 32 := Scalar.muli arg1 c4_i32
  let c0_i32_11 : BitVec 32 := 0#32
  let v15 : BitVec 32 := Scalar.addi v0 c0_i32_11
  let c512_i32_191 : BitVec 32 := 512#32
  let v330 : BitVec 32 := Scalar.muli v15 c512_i32_191
  v330
def k0_mult69 (i : grid0.Coords) : BitVec 32 :=
  let arg1 : BitVec 32 := BitVec.ofNat 32 (i 1).val
  let c4_i32 : BitVec 32 := 4#32
  let v0 : BitVec 32 := Scalar.muli arg1 c4_i32
  let c0_i32_10 : BitVec 32 := 0#32
  let v14 : BitVec 32 := Scalar.addi v0 c0_i32_10
  let c512_i32_202 : BitVec 32 := 512#32
  let v346 : BitVec 32 := Scalar.muli v14 c512_i32_202
  v346
def k0_mult70 (i : grid0.Coords) : BitVec 32 :=
  let arg1 : BitVec 32 := BitVec.ofNat 32 (i 1).val
  let c4_i32 : BitVec 32 := 4#32
  let v0 : BitVec 32 := Scalar.muli arg1 c4_i32
  let c0_i32_12 : BitVec 32 := 0#32
  let v16 : BitVec 32 := Scalar.addi v0 c0_i32_12
  let c512_i32_257 : BitVec 32 := 512#32
  let v433 : BitVec 32 := Scalar.muli v16 c512_i32_257
  v433
def k0_mult71 (i : grid0.Coords) : BitVec 32 :=
  let arg1 : BitVec 32 := BitVec.ofNat 32 (i 1).val
  let c4_i32 : BitVec 32 := 4#32
  let v0 : BitVec 32 := Scalar.muli arg1 c4_i32
  let c0_i32_11 : BitVec 32 := 0#32
  let v15 : BitVec 32 := Scalar.addi v0 c0_i32_11
  let c512_i32_268 : BitVec 32 := 512#32
  let v449 : BitVec 32 := Scalar.muli v15 c512_i32_268
  v449
def k0_mult72 (i : grid0.Coords) : BitVec 32 :=
  let arg1 : BitVec 32 := BitVec.ofNat 32 (i 1).val
  let c4_i32 : BitVec 32 := 4#32
  let v0 : BitVec 32 := Scalar.muli arg1 c4_i32
  let c0_i32_13 : BitVec 32 := 0#32
  let v17 : BitVec 32 := Scalar.addi v0 c0_i32_13
  let c512_i32_319 : BitVec 32 := 512#32
  let v522 : BitVec 32 := Scalar.muli v17 c512_i32_319
  v522
def k0_mult73 (i : grid0.Coords) : BitVec 32 :=
  let arg1 : BitVec 32 := BitVec.ofNat 32 (i 1).val
  let c4_i32 : BitVec 32 := 4#32
  let v0 : BitVec 32 := Scalar.muli arg1 c4_i32
  let c0_i32_12 : BitVec 32 := 0#32
  let v16 : BitVec 32 := Scalar.addi v0 c0_i32_12
  let c512_i32_330 : BitVec 32 := 512#32
  let v538 : BitVec 32 := Scalar.muli v16 c512_i32_330
  v538
def k0_mult74 (i : grid0.Coords) : BitVec 32 :=
  let arg1 : BitVec 32 := BitVec.ofNat 32 (i 1).val
  let c4_i32 : BitVec 32 := 4#32
  let v0 : BitVec 32 := Scalar.muli arg1 c4_i32
  let c0_i32_14 : BitVec 32 := 0#32
  let v18 : BitVec 32 := Scalar.addi v0 c0_i32_14
  let c512_i32_381 : BitVec 32 := 512#32
  let v611 : BitVec 32 := Scalar.muli v18 c512_i32_381
  v611
def k0_mult75 (i : grid0.Coords) : BitVec 32 :=
  let arg1 : BitVec 32 := BitVec.ofNat 32 (i 1).val
  let c4_i32 : BitVec 32 := 4#32
  let v0 : BitVec 32 := Scalar.muli arg1 c4_i32
  let c0_i32_13 : BitVec 32 := 0#32
  let v17 : BitVec 32 := Scalar.addi v0 c0_i32_13
  let c512_i32_392 : BitVec 32 := 512#32
  let v627 : BitVec 32 := Scalar.muli v17 c512_i32_392
  v627
def k0_mult76 (i : grid0.Coords) : BitVec 32 :=
  let arg1 : BitVec 32 := BitVec.ofNat 32 (i 1).val
  let c4_i32 : BitVec 32 := 4#32
  let v0 : BitVec 32 := Scalar.muli arg1 c4_i32
  let c0_i32_15 : BitVec 32 := 0#32
  let v19 : BitVec 32 := Scalar.addi v0 c0_i32_15
  let c512_i32_443 : BitVec 32 := 512#32
  let v700 : BitVec 32 := Scalar.muli v19 c512_i32_443
  v700
def k0_mult77 (i : grid0.Coords) : BitVec 32 :=
  let arg1 : BitVec 32 := BitVec.ofNat 32 (i 1).val
  let c4_i32 : BitVec 32 := 4#32
  let v0 : BitVec 32 := Scalar.muli arg1 c4_i32
  let c0_i32_14 : BitVec 32 := 0#32
  let v18 : BitVec 32 := Scalar.addi v0 c0_i32_14
  let c512_i32_454 : BitVec 32 := 512#32
  let v716 : BitVec 32 := Scalar.muli v18 c512_i32_454
  v716
def k0_mult78 (i : grid0.Coords) : BitVec 32 :=
  let arg1 : BitVec 32 := BitVec.ofNat 32 (i 1).val
  let c4_i32 : BitVec 32 := 4#32
  let v0 : BitVec 32 := Scalar.muli arg1 c4_i32
  let c0_i32_16 : BitVec 32 := 0#32
  let v20 : BitVec 32 := Scalar.addi v0 c0_i32_16
  let c512_i32_505 : BitVec 32 := 512#32
  let v789 : BitVec 32 := Scalar.muli v20 c512_i32_505
  v789
def k0_mult79 (i : grid0.Coords) : BitVec 32 :=
  let arg1 : BitVec 32 := BitVec.ofNat 32 (i 1).val
  let c4_i32 : BitVec 32 := 4#32
  let v0 : BitVec 32 := Scalar.muli arg1 c4_i32
  let c0_i32_15 : BitVec 32 := 0#32
  let v19 : BitVec 32 := Scalar.addi v0 c0_i32_15
  let c512_i32_516 : BitVec 32 := 512#32
  let v805 : BitVec 32 := Scalar.muli v19 c512_i32_516
  v805
def k0_mult80 (i : grid0.Coords) : BitVec 32 :=
  let arg1 : BitVec 32 := BitVec.ofNat 32 (i 1).val
  let c4_i32 : BitVec 32 := 4#32
  let v0 : BitVec 32 := Scalar.muli arg1 c4_i32
  let c1_i32 : BitVec 32 := 1#32
  let v21 : BitVec 32 := Scalar.addi v0 c1_i32
  let c512_i32_567 : BitVec 32 := 512#32
  let v878 : BitVec 32 := Scalar.muli v21 c512_i32_567
  v878
def k0_mult81 (i : grid0.Coords) : BitVec 32 :=
  let arg1 : BitVec 32 := BitVec.ofNat 32 (i 1).val
  let c4_i32 : BitVec 32 := 4#32
  let v0 : BitVec 32 := Scalar.muli arg1 c4_i32
  let c0_i32_16 : BitVec 32 := 0#32
  let v20 : BitVec 32 := Scalar.addi v0 c0_i32_16
  let c512_i32_578 : BitVec 32 := 512#32
  let v894 : BitVec 32 := Scalar.muli v20 c512_i32_578
  v894
def k0_mult82 (i : grid0.Coords) : BitVec 32 :=
  let arg1 : BitVec 32 := BitVec.ofNat 32 (i 1).val
  let c4_i32 : BitVec 32 := 4#32
  let v0 : BitVec 32 := Scalar.muli arg1 c4_i32
  let c1_i32_17 : BitVec 32 := 1#32
  let v22 : BitVec 32 := Scalar.addi v0 c1_i32_17
  let c512_i32_629 : BitVec 32 := 512#32
  let v967 : BitVec 32 := Scalar.muli v22 c512_i32_629
  v967
def k0_mult83 (i : grid0.Coords) : BitVec 32 :=
  let arg1 : BitVec 32 := BitVec.ofNat 32 (i 1).val
  let c4_i32 : BitVec 32 := 4#32
  let v0 : BitVec 32 := Scalar.muli arg1 c4_i32
  let c1_i32 : BitVec 32 := 1#32
  let v21 : BitVec 32 := Scalar.addi v0 c1_i32
  let c512_i32_640 : BitVec 32 := 512#32
  let v983 : BitVec 32 := Scalar.muli v21 c512_i32_640
  v983
def k0_mult84 (i : grid0.Coords) : BitVec 32 :=
  let arg1 : BitVec 32 := BitVec.ofNat 32 (i 1).val
  let c4_i32 : BitVec 32 := 4#32
  let v0 : BitVec 32 := Scalar.muli arg1 c4_i32
  let c1_i32_18 : BitVec 32 := 1#32
  let v23 : BitVec 32 := Scalar.addi v0 c1_i32_18
  let c512_i32_695 : BitVec 32 := 512#32
  let v1070 : BitVec 32 := Scalar.muli v23 c512_i32_695
  v1070
def k0_mult85 (i : grid0.Coords) : BitVec 32 :=
  let arg1 : BitVec 32 := BitVec.ofNat 32 (i 1).val
  let c4_i32 : BitVec 32 := 4#32
  let v0 : BitVec 32 := Scalar.muli arg1 c4_i32
  let c1_i32_17 : BitVec 32 := 1#32
  let v22 : BitVec 32 := Scalar.addi v0 c1_i32_17
  let c512_i32_706 : BitVec 32 := 512#32
  let v1086 : BitVec 32 := Scalar.muli v22 c512_i32_706
  v1086
def k0_mult86 (i : grid0.Coords) : BitVec 32 :=
  let arg1 : BitVec 32 := BitVec.ofNat 32 (i 1).val
  let c4_i32 : BitVec 32 := 4#32
  let v0 : BitVec 32 := Scalar.muli arg1 c4_i32
  let c1_i32_19 : BitVec 32 := 1#32
  let v24 : BitVec 32 := Scalar.addi v0 c1_i32_19
  let c512_i32_761 : BitVec 32 := 512#32
  let v1173 : BitVec 32 := Scalar.muli v24 c512_i32_761
  v1173
def k0_mult87 (i : grid0.Coords) : BitVec 32 :=
  let arg1 : BitVec 32 := BitVec.ofNat 32 (i 1).val
  let c4_i32 : BitVec 32 := 4#32
  let v0 : BitVec 32 := Scalar.muli arg1 c4_i32
  let c1_i32_18 : BitVec 32 := 1#32
  let v23 : BitVec 32 := Scalar.addi v0 c1_i32_18
  let c512_i32_772 : BitVec 32 := 512#32
  let v1189 : BitVec 32 := Scalar.muli v23 c512_i32_772
  v1189
def k0_mult88 (i : grid0.Coords) : BitVec 32 :=
  let arg1 : BitVec 32 := BitVec.ofNat 32 (i 1).val
  let c4_i32 : BitVec 32 := 4#32
  let v0 : BitVec 32 := Scalar.muli arg1 c4_i32
  let c1_i32_20 : BitVec 32 := 1#32
  let v25 : BitVec 32 := Scalar.addi v0 c1_i32_20
  let c512_i32_823 : BitVec 32 := 512#32
  let v1262 : BitVec 32 := Scalar.muli v25 c512_i32_823
  v1262
def k0_mult89 (i : grid0.Coords) : BitVec 32 :=
  let arg1 : BitVec 32 := BitVec.ofNat 32 (i 1).val
  let c4_i32 : BitVec 32 := 4#32
  let v0 : BitVec 32 := Scalar.muli arg1 c4_i32
  let c1_i32_19 : BitVec 32 := 1#32
  let v24 : BitVec 32 := Scalar.addi v0 c1_i32_19
  let c512_i32_834 : BitVec 32 := 512#32
  let v1278 : BitVec 32 := Scalar.muli v24 c512_i32_834
  v1278
def k0_mult90 (i : grid0.Coords) : BitVec 32 :=
  let arg1 : BitVec 32 := BitVec.ofNat 32 (i 1).val
  let c4_i32 : BitVec 32 := 4#32
  let v0 : BitVec 32 := Scalar.muli arg1 c4_i32
  let c1_i32_21 : BitVec 32 := 1#32
  let v26 : BitVec 32 := Scalar.addi v0 c1_i32_21
  let c512_i32_885 : BitVec 32 := 512#32
  let v1351 : BitVec 32 := Scalar.muli v26 c512_i32_885
  v1351
def k0_mult91 (i : grid0.Coords) : BitVec 32 :=
  let arg1 : BitVec 32 := BitVec.ofNat 32 (i 1).val
  let c4_i32 : BitVec 32 := 4#32
  let v0 : BitVec 32 := Scalar.muli arg1 c4_i32
  let c1_i32_20 : BitVec 32 := 1#32
  let v25 : BitVec 32 := Scalar.addi v0 c1_i32_20
  let c512_i32_896 : BitVec 32 := 512#32
  let v1367 : BitVec 32 := Scalar.muli v25 c512_i32_896
  v1367
def k0_mult92 (i : grid0.Coords) : BitVec 32 :=
  let arg1 : BitVec 32 := BitVec.ofNat 32 (i 1).val
  let c4_i32 : BitVec 32 := 4#32
  let v0 : BitVec 32 := Scalar.muli arg1 c4_i32
  let c2_i32 : BitVec 32 := 2#32
  let v27 : BitVec 32 := Scalar.addi v0 c2_i32
  let c512_i32_947 : BitVec 32 := 512#32
  let v1440 : BitVec 32 := Scalar.muli v27 c512_i32_947
  v1440
def k0_mult93 (i : grid0.Coords) : BitVec 32 :=
  let arg1 : BitVec 32 := BitVec.ofNat 32 (i 1).val
  let c4_i32 : BitVec 32 := 4#32
  let v0 : BitVec 32 := Scalar.muli arg1 c4_i32
  let c1_i32_21 : BitVec 32 := 1#32
  let v26 : BitVec 32 := Scalar.addi v0 c1_i32_21
  let c512_i32_958 : BitVec 32 := 512#32
  let v1456 : BitVec 32 := Scalar.muli v26 c512_i32_958
  v1456
def k0_mult94 (i : grid0.Coords) : BitVec 32 :=
  let arg1 : BitVec 32 := BitVec.ofNat 32 (i 1).val
  let c4_i32 : BitVec 32 := 4#32
  let v0 : BitVec 32 := Scalar.muli arg1 c4_i32
  let c2_i32_22 : BitVec 32 := 2#32
  let v28 : BitVec 32 := Scalar.addi v0 c2_i32_22
  let c512_i32_1009 : BitVec 32 := 512#32
  let v1529 : BitVec 32 := Scalar.muli v28 c512_i32_1009
  v1529
def k0_mult95 (i : grid0.Coords) : BitVec 32 :=
  let arg1 : BitVec 32 := BitVec.ofNat 32 (i 1).val
  let c4_i32 : BitVec 32 := 4#32
  let v0 : BitVec 32 := Scalar.muli arg1 c4_i32
  let c2_i32 : BitVec 32 := 2#32
  let v27 : BitVec 32 := Scalar.addi v0 c2_i32
  let c512_i32_1020 : BitVec 32 := 512#32
  let v1545 : BitVec 32 := Scalar.muli v27 c512_i32_1020
  v1545
def k0_mult96 (i : grid0.Coords) : BitVec 32 :=
  let arg1 : BitVec 32 := BitVec.ofNat 32 (i 1).val
  let c4_i32 : BitVec 32 := 4#32
  let v0 : BitVec 32 := Scalar.muli arg1 c4_i32
  let c2_i32_23 : BitVec 32 := 2#32
  let v29 : BitVec 32 := Scalar.addi v0 c2_i32_23
  let c512_i32_1075 : BitVec 32 := 512#32
  let v1632 : BitVec 32 := Scalar.muli v29 c512_i32_1075
  v1632
def k0_mult97 (i : grid0.Coords) : BitVec 32 :=
  let arg1 : BitVec 32 := BitVec.ofNat 32 (i 1).val
  let c4_i32 : BitVec 32 := 4#32
  let v0 : BitVec 32 := Scalar.muli arg1 c4_i32
  let c2_i32_22 : BitVec 32 := 2#32
  let v28 : BitVec 32 := Scalar.addi v0 c2_i32_22
  let c512_i32_1086 : BitVec 32 := 512#32
  let v1648 : BitVec 32 := Scalar.muli v28 c512_i32_1086
  v1648
def k0_mult98 (i : grid0.Coords) : BitVec 32 :=
  let arg1 : BitVec 32 := BitVec.ofNat 32 (i 1).val
  let c4_i32 : BitVec 32 := 4#32
  let v0 : BitVec 32 := Scalar.muli arg1 c4_i32
  let c2_i32_24 : BitVec 32 := 2#32
  let v30 : BitVec 32 := Scalar.addi v0 c2_i32_24
  let c512_i32_1141 : BitVec 32 := 512#32
  let v1735 : BitVec 32 := Scalar.muli v30 c512_i32_1141
  v1735
def k0_mult99 (i : grid0.Coords) : BitVec 32 :=
  let arg1 : BitVec 32 := BitVec.ofNat 32 (i 1).val
  let c4_i32 : BitVec 32 := 4#32
  let v0 : BitVec 32 := Scalar.muli arg1 c4_i32
  let c2_i32_23 : BitVec 32 := 2#32
  let v29 : BitVec 32 := Scalar.addi v0 c2_i32_23
  let c512_i32_1152 : BitVec 32 := 512#32
  let v1751 : BitVec 32 := Scalar.muli v29 c512_i32_1152
  v1751
def k0_mult100 (i : grid0.Coords) : BitVec 32 :=
  let arg1 : BitVec 32 := BitVec.ofNat 32 (i 1).val
  let c4_i32 : BitVec 32 := 4#32
  let v0 : BitVec 32 := Scalar.muli arg1 c4_i32
  let c3_i32 : BitVec 32 := 3#32
  let v31 : BitVec 32 := Scalar.addi v0 c3_i32
  let c512_i32_1203 : BitVec 32 := 512#32
  let v1824 : BitVec 32 := Scalar.muli v31 c512_i32_1203
  v1824
def k0_mult101 (i : grid0.Coords) : BitVec 32 :=
  let arg1 : BitVec 32 := BitVec.ofNat 32 (i 1).val
  let c4_i32 : BitVec 32 := 4#32
  let v0 : BitVec 32 := Scalar.muli arg1 c4_i32
  let c2_i32_24 : BitVec 32 := 2#32
  let v30 : BitVec 32 := Scalar.addi v0 c2_i32_24
  let c512_i32_1214 : BitVec 32 := 512#32
  let v1840 : BitVec 32 := Scalar.muli v30 c512_i32_1214
  v1840
def k0_mult102 (i : grid0.Coords) : BitVec 32 :=
  let arg1 : BitVec 32 := BitVec.ofNat 32 (i 1).val
  let c4_i32 : BitVec 32 := 4#32
  let v0 : BitVec 32 := Scalar.muli arg1 c4_i32
  let c3_i32_25 : BitVec 32 := 3#32
  let v32 : BitVec 32 := Scalar.addi v0 c3_i32_25
  let c512_i32_1265 : BitVec 32 := 512#32
  let v1913 : BitVec 32 := Scalar.muli v32 c512_i32_1265
  v1913
def k0_mult103 (i : grid0.Coords) : BitVec 32 :=
  let arg1 : BitVec 32 := BitVec.ofNat 32 (i 1).val
  let c4_i32 : BitVec 32 := 4#32
  let v0 : BitVec 32 := Scalar.muli arg1 c4_i32
  let c3_i32 : BitVec 32 := 3#32
  let v31 : BitVec 32 := Scalar.addi v0 c3_i32
  let c512_i32_1276 : BitVec 32 := 512#32
  let v1929 : BitVec 32 := Scalar.muli v31 c512_i32_1276
  v1929
def k0_mult104 (i : grid0.Coords) : BitVec 32 :=
  let arg1 : BitVec 32 := BitVec.ofNat 32 (i 1).val
  let c4_i32 : BitVec 32 := 4#32
  let v0 : BitVec 32 := Scalar.muli arg1 c4_i32
  let c3_i32_25 : BitVec 32 := 3#32
  let v32 : BitVec 32 := Scalar.addi v0 c3_i32_25
  let c512_i32_1331 : BitVec 32 := 512#32
  let v2016 : BitVec 32 := Scalar.muli v32 c512_i32_1331
  v2016
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S1x8192x4x2x64 : Shape := ⟨5, ![1, 8192, 4, 2, 64]⟩
abbrev S1x8192x4x128 : Shape := ⟨4, ![1, 8192, 4, 128]⟩
abbrev S64 : Shape := ⟨1, ![64]⟩
abbrev S128 : Shape := ⟨1, ![128]⟩
abbrev S_ : Shape := ⟨0, ![]⟩
abbrev S8192 : Shape := ⟨1, ![8192]⟩
abbrev S1x8192x4x1x64 : Shape := ⟨5, ![1, 8192, 4, 1, 64]⟩
abbrev S1x8192x4x64 : Shape := ⟨4, ![1, 8192, 4, 64]⟩
abbrev S1x4x8192x8192 : Shape := ⟨4, ![1, 4, 8192, 8192]⟩
abbrev S1x8192 : Shape := ⟨2, ![1, 8192]⟩
abbrev S8192x1 : Shape := ⟨2, ![8192, 1]⟩
abbrev S8192x8192 : Shape := ⟨2, ![8192, 8192]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S8192x512 : Shape := ⟨2, ![8192, 512]⟩

abbrev nBuf : Space → Nat
  | .hbm => 111
  | .vmem => 0
  | .smem => 0
  | _ => 0

abbrev bufTy : (tb : Table) → Fin (tcTables nBuf tb) → BufTy
  | .hbm, ⟨0, _⟩ => ⟨S1x8192x4x2x64, .f32⟩
  | .hbm, ⟨1, _⟩ => ⟨S1x8192x4x2x64, .f32⟩
  | .hbm, ⟨2, _⟩ => ⟨S1x8192x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .i32⟩
  | .hbm, ⟨20, _⟩ => ⟨S1x8192x4x1x64, .f32⟩
  | .hbm, ⟨21, _⟩ => ⟨S1x8192x4x64, .f32⟩
  | .hbm, ⟨22, _⟩ => ⟨S1x8192x4x1x64, .f32⟩
  | .hbm, ⟨23, _⟩ => ⟨S1x8192x4x64, .f32⟩
  | .hbm, ⟨24, _⟩ => ⟨S1x4x8192x8192, .f32⟩
  | .hbm, ⟨25, _⟩ => ⟨S_, .f32⟩
  | .hbm, ⟨26, _⟩ => ⟨S1x4x8192x8192, .f32⟩
  | .hbm, ⟨27, _⟩ => ⟨S1x4x8192x8192, .f32⟩
  | .hbm, ⟨28, _⟩ => ⟨S1x8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S_, .f32⟩
  | .hbm, ⟨34, _⟩ => ⟨S_, .f32⟩
  | .hbm, ⟨35, _⟩ => ⟨S1x4x8192x8192, .i1⟩
  | .hbm, ⟨36, _⟩ => ⟨S1x4x8192x8192, .f32⟩
  | .hbm, ⟨37, _⟩ => ⟨S1x4x8192x8192, .f32⟩
  | .hbm, ⟨38, _⟩ => ⟨S_, .f32⟩
  | .hbm, ⟨39, _⟩ => ⟨S1x4x8192, .f32⟩
  | .hbm, ⟨40, _⟩ => ⟨S_, .f32⟩
  | .hbm, ⟨41, _⟩ => ⟨S1x4x8192, .f32⟩
  | .hbm, ⟨42, _⟩ => ⟨S1x4x8192, .f32⟩
  | .hbm, ⟨43, _⟩ => ⟨S1x4x8192x1, .f32⟩
  | .hbm, ⟨44, _⟩ => ⟨S1x4x8192x8192, .f32⟩
  | .hbm, ⟨45, _⟩ => ⟨S1x4x8192x8192, .f32⟩
  | .hbm, ⟨46, _⟩ => ⟨S1x4x8192x8192, .f32⟩
  | .hbm, ⟨47, _⟩ => ⟨S_, .f32⟩
  | .hbm, ⟨48, _⟩ => ⟨S1x4x8192, .f32⟩
  | .hbm, ⟨49, _⟩ => ⟨S1x4x8192x1, .f32⟩
  | .hbm, ⟨50, _⟩ => ⟨S1x4x8192x8192, .f32⟩
  | .hbm, ⟨51, _⟩ => ⟨S1x4x8192x8192, .f32⟩
  | .hbm, ⟨52, _⟩ => ⟨S1x4x128x8192, .f32⟩
  | .hbm, ⟨53, _⟩ => ⟨S1x8192x4x128, .f32⟩
  | .hbm, ⟨54, _⟩ => ⟨S1x8192x4x1x64, .f32⟩
  | .hbm, ⟨55, _⟩ => ⟨S1x8192x4x64, .f32⟩
  | .hbm, ⟨56, _⟩ => ⟨S1x8192x4x1x64, .f32⟩
  | .hbm, ⟨57, _⟩ => ⟨S1x8192x4x64, .f32⟩
  | .hbm, ⟨58, _⟩ => ⟨S1x4x8192x8192, .f32⟩
  | .hbm, ⟨59, _⟩ => ⟨S_, .f32⟩
  | .hbm, ⟨60, _⟩ => ⟨S1x4x8192x8192, .f32⟩
  | .hbm, ⟨61, _⟩ => ⟨S1x4x8192x8192, .f32⟩
  | .hbm, ⟨62, _⟩ => ⟨S1x8192, .i32⟩
  | .hbm, ⟨63, _⟩ => ⟨S8192x1, .i32⟩
  | .hbm, ⟨64, _⟩ => ⟨S8192x8192, .i32⟩
  | .hbm, ⟨65, _⟩ => ⟨S8192x8192, .i32⟩
  | .hbm, ⟨66, _⟩ => ⟨S8192x8192, .i1⟩
  | .hbm, ⟨67, _⟩ => ⟨S_, .f32⟩
  | .hbm, ⟨68, _⟩ => ⟨S_, .f32⟩
  | .hbm, ⟨69, _⟩ => ⟨S1x4x8192x8192, .i1⟩
  | .hbm, ⟨70, _⟩ => ⟨S1x4x8192x8192, .f32⟩
  | .hbm, ⟨71, _⟩ => ⟨S1x4x8192x8192, .f32⟩
  | .hbm, ⟨72, _⟩ => ⟨S_, .f32⟩
  | .hbm, ⟨73, _⟩ => ⟨S1x4x8192, .f32⟩
  | .hbm, ⟨74, _⟩ => ⟨S_, .f32⟩
  | .hbm, ⟨75, _⟩ => ⟨S1x4x8192, .f32⟩
  | .hbm, ⟨76, _⟩ => ⟨S1x4x8192, .f32⟩
  | .hbm, ⟨77, _⟩ => ⟨S1x4x8192x1, .f32⟩
  | .hbm, ⟨78, _⟩ => ⟨S1x4x8192x8192, .f32⟩
  | .hbm, ⟨79, _⟩ => ⟨S1x4x8192x8192, .f32⟩
  | .hbm, ⟨80, _⟩ => ⟨S1x4x8192x8192, .f32⟩
  | .hbm, ⟨81, _⟩ => ⟨S_, .f32⟩
  | .hbm, ⟨82, _⟩ => ⟨S1x4x8192, .f32⟩
  | .hbm, ⟨83, _⟩ => ⟨S1x4x8192x1, .f32⟩
  | .hbm, ⟨84, _⟩ => ⟨S1x4x8192x8192, .f32⟩
  | .hbm, ⟨85, _⟩ => ⟨S1x4x8192x8192, .f32⟩
  | .hbm, ⟨86, _⟩ => ⟨S1x4x128x8192, .f32⟩
  | .hbm, ⟨87, _⟩ => ⟨S1x8192x4x128, .f32⟩
  | .hbm, ⟨88, _⟩ => ⟨S1x8192x4x128, .f32⟩
  | .hbm, ⟨89, _⟩ => ⟨S1x8192x4x128, .f32⟩
  | .hbm, ⟨90, _⟩ => ⟨S1x8192x4x128, .f32⟩
  | .hbm, ⟨91, _⟩ => ⟨S1x8192x4x128, .f32⟩
  | .hbm, ⟨92, _⟩ => ⟨S_, .f32⟩
  | .hbm, ⟨93, _⟩ => ⟨S1x8192x4, .f32⟩
  | .hbm, ⟨94, _⟩ => ⟨S1x8192x4x1, .f32⟩
  | .hbm, ⟨95, _⟩ => ⟨S_, .f32⟩
  | .hbm, ⟨96, _⟩ => ⟨S1x8192x4x1, .f32⟩
  | .hbm, ⟨97, _⟩ => ⟨S1x8192x4x1, .f32⟩
  | .hbm, ⟨98, _⟩ => ⟨S_, .f32⟩
  | .hbm, ⟨99, _⟩ => ⟨S1x8192x4x1, .f32⟩
  | .hbm, ⟨100, _⟩ => ⟨S1x8192x4x1, .f32⟩
  | .hbm, ⟨101, _⟩ => ⟨S1x8192x4x1, .f32⟩
  | .hbm, ⟨102, _⟩ => ⟨S1x8192x4x128, .f32⟩
  | .hbm, ⟨103, _⟩ => ⟨S1x8192x4x128, .f32⟩
  | .hbm, ⟨104, _⟩ => ⟨S1x1x1x128, .f32⟩
  | .hbm, ⟨105, _⟩ => ⟨S1x8192x4x128, .f32⟩
  | .hbm, ⟨106, _⟩ => ⟨S1x8192x4x128, .f32⟩
  | .hbm, ⟨107, _⟩ => ⟨S_, .f32⟩
  | .hbm, ⟨108, _⟩ => ⟨S1x8192x4x128, .f32⟩
  | .hbm, ⟨109, _⟩ => ⟨S1x8192x4x128, .f32⟩
  | .hbm, ⟨110, _⟩ => ⟨S8192x512, .f32⟩
  | _, _ => ⟨S1x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Proof.FfnPay.lean ====
/- One block of the feed-forward call: what the body stores, at an index, as sums over the extended reals. -/
module

public import proofs.«01_k».proof.Proof.Gen.Kernel2Ideal.Value
public import Idealize.ShloMosaic.Lib.Pointwise

@[expose] public section

set_option maxRecDepth 65536

noncomputable section

namespace Cert.Ffn

open Idealize.ShloMosaic

/-- A row over its root mean square, times the gains. -/
def normed (r g : Fin 2048 → EReal) (e : Fin 2048) : EReal :=
  r e * Ideal.rsqrt (Ideal.div (∑ k, r k * r k) (Ideal.ofBits .f32 0x45000000#32) + Ideal.ofBits .f32 0x358637BD#32) * g e

/-- One hidden unit of a row. -/
def unit (h w : Fin 2048 → EReal) : EReal := max (∑ e, h e * w e) 0 * max (∑ e, h e * w e) 0

/-- What some hidden units add to one entry. -/
def unitSum {n : ℕ} (h : Fin 2048 → EReal) (w : Fin 2048 → Fin n → EReal) (d : Fin n → EReal) : EReal :=
  ∑ f, unit h (fun e => w e f) * d f

end Cert.Ffn

namespace Cert.Kernel2Ideal.Hand

open Cert.Kernel2Ideal Cert.Kernel2Ideal.Gen Cert.Ffn
open Idealize.ShloMosaic Idealize.ShloMosaic.TcCoe Idealize.ShloMosaic.Tactic

theorem norm_apply (x : FVec Ideal S256x2048 .f32) (g : FVec Ideal S1x2048 .f32) (i : Fin 256) (e : Fin 2048) :
    (k0_pay6 x g : FVec Ideal S256x2048 .bf16) (ix2 i e) = normed (fun e => (x (ix2 i e) : EReal)) (fun e => (g (ix2 (0 : Fin 1) e) : EReal)) e := by
  pointwise [k0_pay6, k0_pay5, normed]

theorem pay4_apply (o : FVec Ideal S512x2048 .f32) (h : FVec Ideal S512x2048 .bf16) (w : FVec Ideal S1x2048x1024 .bf16) (d : FVec Ideal S1x1024x2048 .bf16)
    (i : Fin 512) (e : Fin 2048) :
    k0_pay4 (F := Ideal) o h w d (ix2 i e) = o (ix2 i e) + unitSum (fun k => h (ix2 i k)) (fun k f => w (ix3 (0 : Fin 1) k f)) (fun f => d (ix3 (0 : Fin 1) f e)) := by
  pointwise [k0_pay4, unitSum, unit]

theorem pay8_apply (x : FVec Ideal S256x2048 .f32) (g : FVec Ideal S1x2048 .f32) (w : FVec Ideal S1x2048x1024 .bf16) (d : FVec Ideal S1x1024x2048 .bf16)
    (i : Fin 256) (e : Fin 2048) :
    k0_pay8 (F := Ideal) x g w d (ix2 i e) = x (ix2 i e) + unitSum (normed (fun e => (x (ix2 i e) : EReal)) (fun e => (g (ix2 (0 : Fin 1) e) : EReal))) (fun k f => w (ix3 (0 : Fin 1) k f)) (fun f => d (ix3 (0 : Fin 1) f e)) := by
  rw [show normed (fun e => (x (ix2 i e) : EReal)) (fun e => (g (ix2 (0 : Fin 1) e) : EReal)) = fun k => (k0_pay6 x g : FVec Ideal S256x2048 .bf16) (ix2 i k) from
    funext fun k => (norm_apply x g i k).symm]
  pointwise [k0_pay8, k0_pay5, unitSum, unit]

/-- The second half of the rows is computed as the first. -/
theorem pay2_eq (x : FVec Ideal S256x2048 .f32) (g : FVec Ideal S1x2048 .f32) : k0_pay2 (F := Ideal) (k0_pay9 (F := Ideal) x) (k0_pay10 (F := Ideal) x) g = k0_pay6 (F := Ideal) x g :=
  (shapeCast_self _ _).trans rfl

theorem pay7_eq (x : FVec Ideal S256x2048 .f32) (g : FVec Ideal S1x2048 .f32) : k0_pay7 (F := Ideal) x g = k0_pay6 (F := Ideal) x g :=
  shapeCast_self _ _

theorem pay3_eq (x : FVec Ideal S256x2048 .f32) (g : FVec Ideal S1x2048 .f32) (w : FVec Ideal S1x2048x1024 .bf16) (d : FVec Ideal S1x1024x2048 .bf16) :
    k0_pay3 (F := Ideal) (k0_pay9 (F := Ideal) x) (k0_pay10 (F := Ideal) x) g w d = k0_pay8 (F := Ideal) x g w d := rfl

variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S1x1024x2048 .bf16) (harg5 : arg5.IsWhole)
  (arg6 : Memref sig .tc .vmem S512x2048 .f32) (harg6 : arg6.IsWhole) (arg7 : Memref sig .tc .vmem S512x2048 .bf16) (harg7 : arg7.IsWhole)
  (x : FVec Ideal S512x2048 .f32) (g : FVec Ideal S1x2048 .f32) (w : FVec Ideal S1x2048x1024 .bf16) (d : FVec Ideal S1x1024x2048 .bf16)

theorem hz2 : (![0, 0] : Fin 2 → Nat) = fun _ => 0 := funext fun a => by fin_cases a <;> rfl
theorem hz3 : (![0, 0, 0] : Fin 3 → Nat) = fun _ => 0 := funext fun a => by fin_cases a <;> rfl

theorem out_B (hc0 : ¬cond0_0 i) (hc1 : cond0_1 i) (o : FVec Ideal S512x2048 .f32) (h : FVec Ideal S512x2048 .bf16) :
    out0_B_4 (F := Ideal) c i arg2 harg2 arg3 harg3 arg4 harg4 arg5 harg5 arg6 harg6 arg7 harg7 hc0 hc1 x g w d o h = k0_pay4 (F := Ideal) o h w d := by
  unfold out0_B_4
  rw [View.read_writes_eq_canon _ _ _ (cover0_B_4 (F := Ideal) c i arg2 harg2 arg3 harg3 arg4 harg4 arg5 harg5 arg6 harg6 arg7 harg7 hc0 hc1 x g w d o h)]
  unfold kernelRun0_B
  dsimp only
  rw [View.canon_unit_zero hz2]
  simp only [View.readAt_eq_ld, harg6.read_unread, harg7.read_unread, harg4.read_unread, harg5.read_unread, View.ld_unit_zero (S := S512x2048) hz2,
    View.ld_unit_zero (S := S1x2048x1024) hz3, View.ld_unit_zero (S := S1x1024x2048) hz3]

/-- The normed rows of a block. -/
def rowsOf : FVec Ideal S512x2048 .bf16 := fun y =>
  normed (fun e => (x (ix2 (⟨(y 0).val, (y 0).isLt⟩ : Fin 512) e) : EReal)) (fun e => (g (ix2 (0 : Fin 1) e) : EReal)) ⟨(y 1).val, (y 1).isLt⟩

/-- What the first point of a row block leaves. -/
def startOf : FVec Ideal S512x2048 .f32 := fun y =>
  (x (ix2 (⟨(y 0).val, (y 0).isLt⟩ : Fin 512) (⟨(y 1).val, (y 1).isLt⟩ : Fin 2048)) : EReal) + unitSum (normed (fun e => (x (ix2 (⟨(y 0).val, (y 0).isLt⟩ : Fin 512) e) : EReal)) (fun e => (g (ix2 (0 : Fin 1) e) : EReal)))
    (fun k f => w (ix3 (0 : Fin 1) k f)) (fun f => d (ix3 (0 : Fin 1) f (⟨(y 1).val, (y 1).isLt⟩ : Fin 2048)))

/-- An index of half a block. -/
theorem half_idx (j : S256x2048.Idx) : ∃ (i : Fin 256) (e : Fin 2048), j = ix2 i e :=
  ⟨⟨(j 0).val, (j 0).isLt⟩, ⟨(j 1).val, (j 1).isLt⟩, by funext a; fin_cases a <;> rfl⟩

/-- Half of a block's rows, read at an index. -/
theorem emb_half (o : ℕ) (ho : o ≤ 256) (inb) (i : Fin 256) (e : Fin 2048) :
    (Rect.unit (s := S512x2048) ![o, 0] ![256, 2048] inb).emb (ix2 i e) = ix2 (⟨o + i.val, by omega⟩ : Fin 512) e := by
  funext a
  apply Fin.ext
  rw [Rect.emb_apply]
  fin_cases a <;> simp [ix2]

theorem ld_half (o : ℕ) (ho : o ≤ 256) (inb) (i : Fin 256) (e : Fin 2048) :
    View.ld (Val := Elt Ideal) (e' := .f32) x (Rect.unit (s := S512x2048) ![o, 0] ![256, 2048] inb) (ix2 i e) = x (ix2 (⟨o + i.val, by omega⟩ : Fin 512) e) :=
  congrArg x (emb_half o ho inb i e)

/-- The rows `o, o + 1, …` of a block, computed from those rows alone. -/
theorem start_part (o : ℕ) (ho : o ≤ 256) (inb) (i : Fin 256) (e : Fin 2048) :
    k0_pay8 (F := Ideal) (View.ld x (Rect.unit (s := S512x2048) ![o, 0] ![256, 2048] inb)) g w d (ix2 i e)
      = startOf x g w d ((Rect.unit (s := S512x2048) ![o, 0] ![256, 2048] inb).emb (ix2 i e)) := by
  rw [emb_half o ho inb]
  refine (pay8_apply _ g w d i e).trans ?_
  simp only [ld_half x o ho inb]
  rfl

theorem rows_part (o : ℕ) (ho : o ≤ 256) (inb) (i : Fin 256) (e : Fin 2048) :
    k0_pay6 (F := Ideal) (View.ld x (Rect.unit (s := S512x2048) ![o, 0] ![256, 2048] inb)) g (ix2 i e)
      = rowsOf x g ((Rect.unit (s := S512x2048) ![o, 0] ![256, 2048] inb).emb (ix2 i e)) := by
  rw [emb_half o ho inb]
  refine (norm_apply _ g i e).trans ?_
  simp only [ld_half x o ho inb]
  rfl

theorem scratch_A (hc0 : cond0_0 i) (hc1 : ¬cond0_1 i) :
    sout0_A_0 (F := Ideal) c i arg2 harg2 arg3 harg3 arg4 harg4 arg5 harg5 arg6 harg6 arg7 harg7 hc0 hc1 x g w d = rowsOf x g := by
  funext y
  have hc := scover0_A_0 (F := Ideal) c i arg2 harg2 arg3 harg3 arg4 harg4 arg5 harg5 arg6 harg6 arg7 harg7 hc0 hc1 x g w d
  unfold sout0_A_0
  rw [View.read_writes_eq_canon _ _ _ hc]
  refine View.canon_apply_of_pieces (rowsOf x g) _ (fun p hp j => ?_) y (hc y)
  unfold kernelRun0_A at hp
  dsimp only at hp
  unfold kernelRun0_A.sl.r kernelRun0_A.sl.r_1 at hp
  simp only [View.readAt_eq_ld, harg2.read_unread, harg3.read_unread, harg4.read_unread, harg5.read_unread,
    View.ld_unit_zero (S := S1x2048) hz2, View.ld_unit_zero (S := S1x2048x1024) hz3, View.ld_unit_zero (S := S1x1024x2048) hz3, List.mem_cons, List.mem_nil_iff, or_false] at hp
  rcases hp with rfl | rfl <;> obtain ⟨i, e, rfl⟩ := half_idx j <;> dsimp only
  · rw [pay2_eq]
    exact rows_part x g 256 (by decide) _ i e
  · rw [pay7_eq]
    exact rows_part x g 0 (by decide) _ i e

theorem out_A (hc0 : cond0_0 i) (hc1 : ¬cond0_1 i) :
    out0_A_4 (F := Ideal) c i arg2 harg2 arg3 harg3 arg4 harg4 arg5 harg5 arg6 harg6 arg7 harg7 hc0 hc1 x g w d = startOf x g w d := by
  funext y
  have hc := cover0_A_4 (F := Ideal) c i arg2 harg2 arg3 harg3 arg4 harg4 arg5 harg5 arg6 harg6 arg7 harg7 hc0 hc1 x g w d
  unfold out0_A_4
  rw [View.read_writes_eq_canon _ _ _ hc]
  refine View.canon_apply_of_pieces (startOf x g w d) _ (fun p hp j => ?_) y (hc y)
  unfold kernelRun0_A at hp
  dsimp only at hp
  unfold kernelRun0_A.sl.r kernelRun0_A.sl.r_1 at hp
  simp only [View.readAt_eq_ld, harg2.read_unread, harg3.read_unread, harg4.read_unread, harg5.read_unread,
    View.ld_unit_zero (S := S1x2048) hz2, View.ld_unit_zero (S := S1x2048x1024) hz3, View.ld_unit_zero (S := S1x1024x2048) hz3, List.mem_cons, List.mem_nil_iff, or_false] at hp
  rcases hp with rfl | rfl <;> obtain ⟨i, e, rfl⟩ := half_idx j <;> dsimp only
  · rw [pay3_eq]
    exact start_part x g w d 256 (by decide) _ i e
  · exact start_part x g w d 0 (by decide) _ i e

end Cert.Kernel2Ideal.Hand

end
-- ==== Proof.FfnRun.lean ====
/- The feed-forward call's result array: each entry is the input's plus the sum over the hidden units, block of units by block. -/
module

public import proofs.«01_k».proof.Proof.FfnPay
public import Idealize.ShloMosaic.Lib.Pipeline.ValueKit.Geometry
public import Idealize.ShloMosaic.Lib.StableHlo.Run

@[expose] public section

set_option maxRecDepth 65536

noncomputable section

namespace Cert.Ffn

open Idealize.ShloMosaic

/-- A sum over `a` blocks of `b` is one sum. -/
theorem sum_blocks {M : Type} [AddCommMonoid M] (a b : ℕ) (F : ℕ → M) :
    ∑ j ∈ Finset.range a, ∑ f : Fin b, F (b * j + f.val) = ∑ n ∈ Finset.range (b * a), F n := by
  induction a with
  | zero => simp
  | succ a ih =>
    rw [Finset.sum_range_succ, ih, Nat.mul_succ, Finset.sum_range_add]
    exact congrArg _ (Finset.sum_range (fun f => F (b * a + f))).symm

end Cert.Ffn

namespace Cert.Kernel2Ideal.Hand

open Cert.Kernel2Ideal Cert.Kernel2Ideal.Gen Cert.Ffn
open Idealize.ShloMosaic Idealize.ShloMosaic.TcCoe Idealize.ShloMosaic.Tactic

variable (m : (ℓ : Loc nD τ sig) → Buf (Elt Ideal) ℓ) (c : Dev nD)

theorem V_x : V m c main_v0 = shapeCast S8192x2048 (m ((c : Thread nD τ).loc main_arg0) : FVec Ideal S1x8192x2048 .f32) shapeCasts_S1x8192x2048_S8192x2048 := by
  simp only [V, hostOps0, List.flatten_cons, List.flatten_nil, List.append_nil]
  after_results_simp <;> rfl

theorem V_g : V m c main_v1 = shapeCast S1x2048 (m ((c : Thread nD τ).loc main_arg1) : FVec Ideal S2048 .f32) shapeCasts_S2048_S1x2048 := by
  simp only [V, hostOps0, List.flatten_cons, List.flatten_nil, List.append_nil]
  after_results_simp <;> rfl

theorem V_w : V m c main_v3 = (broadcastInDim S1x2048x8192 ![1, 2] bcast_S2048x8192_S1x2048x8192_1_2
    (truncf .bf16 (m ((c : Thread nD τ).loc main_arg2) : FVec Ideal S2048x8192 .f32) bitsLt_bf16_f32) : FVec Ideal S1x2048x8192 .bf16) := by
  simp only [V, hostOps0, List.flatten_cons, List.flatten_nil, List.append_nil]
  after_results_simp <;> rfl

theorem V_d : V m c main_v5 = (broadcastInDim S1x8192x2048 ![1, 2] bcast_S8192x2048_S1x8192x2048_1_2
    (truncf .bf16 (m ((c : Thread nD τ).loc main_arg3) : FVec Ideal S8192x2048 .f32) bitsLt_bf16_f32) : FVec Ideal S1x8192x2048 .bf16) := by
  simp only [V, hostOps0, List.flatten_cons, List.flatten_nil, List.append_nil]
  after_results_simp <;> rfl

theorem cast_x (X : FVec Ideal S1x8192x2048 .f32) (s : Fin 8192) (e : Fin 2048) :
    shapeCast S8192x2048 X shapeCasts_S1x8192x2048_S8192x2048 (ix2 s e) = X (ix3 (0 : Fin 1) s e) := by
  pointwise

theorem cast_g (G : FVec Ideal S2048 .f32) (e : Fin 2048) :
    shapeCast S1x2048 G shapeCasts_S2048_S1x2048 (ix2 (0 : Fin 1) e) = G (ix1 e) := by
  pointwise

theorem cast_w (W : FVec Ideal S2048x8192 .f32) (k : Fin 2048) (f : Fin 8192) :
    (broadcastInDim S1x2048x8192 ![1, 2] bcast_S2048x8192_S1x2048x8192_1_2 (truncf .bf16 W bitsLt_bf16_f32) : FVec Ideal S1x2048x8192 .bf16) (ix3 (0 : Fin 1) k f) = W (ix2 k f) := by
  pointwise

theorem cast_d (D : FVec Ideal S8192x2048 .f32) (f : Fin 8192) (e : Fin 2048) :
    (broadcastInDim S1x8192x2048 ![1, 2] bcast_S8192x2048_S1x8192x2048_1_2 (truncf .bf16 D bitsLt_bf16_f32) : FVec Ideal S1x8192x2048 .bf16) (ix3 (0 : Fin 1) f e) = D (ix2 f e) := by
  pointwise

theorem index0 : ∀ t : Fin cfg0.N, win0_0.index t = ![t.val / 8, 0] :=
  (by decide +kernel : ∀ t : Fin grid0.N, win0_0.index t = ![t.val / 8, 0])

theorem index1 : ∀ t : Fin cfg0.N, win0_1.index t = ![0, 0] :=
  (by decide +kernel : ∀ t : Fin grid0.N, win0_1.index t = ![0, 0])

theorem index2 : ∀ t : Fin cfg0.N, win0_2.index t = ![0, 0, t.val % 8] :=
  (by decide +kernel : ∀ t : Fin grid0.N, win0_2.index t = ![0, 0, t.val % 8])

theorem index3 : ∀ t : Fin cfg0.N, win0_3.index t = ![0, t.val % 8, 0] :=
  (by decide +kernel : ∀ t : Fin grid0.N, win0_3.index t = ![0, t.val % 8, 0])

theorem pt_lt (t : Fin cfg0.N) : t.val < 128 := t.isLt
theorem nat_lt {n : ℕ} (h : n < cfg0.N) : n < 128 := h

section
variable {c} (X : FVec Ideal S1x8192x2048 .f32) (G : FVec Ideal S2048 .f32) (W : FVec Ideal S2048x8192 .f32) (D : FVec Ideal S8192x2048 .f32)

theorem blk_x (eX : m ((c : Thread nD τ).loc main_arg0) = X) (t : Fin cfg0.N) (i : Fin 512) (e : Fin 2048) :
    iblk m c 0 t (ix2 i e) = X (ix3 (0 : Fin 1) (⟨512 * (t.val / 8) + i.val, by have := pt_lt t; omega⟩ : Fin 8192) e) := by
  rw [← cast_x X, ← eX, ← V_x]
  blk_simp [iblk]
  congr 1
  blk_ext [index0]

theorem blk_g (eG : m ((c : Thread nD τ).loc main_arg1) = G) (t : Fin cfg0.N) (e : Fin 2048) :
    iblk m c 1 t (ix2 (0 : Fin 1) e) = G (ix1 e) := by
  rw [← cast_g G, ← eG, ← V_g]
  blk_simp [iblk]
  congr 1
  blk_ext [index1]

theorem blk_w (eW : m ((c : Thread nD τ).loc main_arg2) = W) (t : Fin cfg0.N) (k : Fin 2048) (f : Fin 1024) :
    iblk m c 2 t (ix3 (0 : Fin 1) k f) = W (ix2 k (⟨1024 * (t.val % 8) + f.val, by omega⟩ : Fin 8192)) := by
  rw [← cast_w W, ← eW, ← V_w]
  blk_simp [iblk]
  congr 1
  blk_ext [index2]

theorem blk_d (eD : m ((c : Thread nD τ).loc main_arg3) = D) (t : Fin cfg0.N) (f : Fin 1024) (e : Fin 2048) :
    iblk m c 3 t (ix3 (0 : Fin 1) f e) = D (ix2 (⟨1024 * (t.val % 8) + f.val, by omega⟩ : Fin 8192) e) := by
  rw [← cast_d D, ← eD, ← V_d]
  blk_simp [iblk]
  congr 1
  blk_ext [index3]

/-- The normed row `s`. -/
def row (s : Fin 8192) : Fin 2048 → EReal := normed (fun e => (X (ix3 (0 : Fin 1) s e) : EReal)) (fun e => (G (ix1 e) : EReal))

/-- The hidden units `1024 j, …` of row `s`, weighed by column `e`. -/
def slab (s : Fin 8192) (e : Fin 2048) (j : ℕ) : EReal :=
  unitSum (n := 1024) (row X G s) (fun k f => W (ix2 k (⟨(1024 * j + f.val) % 8192, by omega⟩ : Fin 8192))) (fun f => D (ix2 (⟨(1024 * j + f.val) % 8192, by omega⟩ : Fin 8192) e))

/-- An entry after the first `n` blocks of hidden units. -/
def upto (s : Fin 8192) (e : Fin 2048) (n : ℕ) : EReal := (X (ix3 (0 : Fin 1) s e) : EReal) + ∑ j ∈ Finset.range n, slab X G W D s e j

theorem upto_succ (s : Fin 8192) (e : Fin 2048) (n : ℕ) : upto X G W D s e (n + 1) = upto X G W D s e n + slab X G W D s e n := by
  unfold upto
  rw [Finset.sum_range_succ, add_assoc]

theorem upto_one (s : Fin 8192) (e : Fin 2048) : upto X G W D s e 1 = (X (ix3 (0 : Fin 1) s e) : EReal) + slab X G W D s e 0 := by
  unfold upto
  rw [Finset.sum_range_one]

theorem slab_blk (eW : m ((c : Thread nD τ).loc main_arg2) = W) (eD : m ((c : Thread nD τ).loc main_arg3) = D) (t : Fin cfg0.N) (s : Fin 8192) (e : Fin 2048) :
    unitSum (n := 1024) (row X G s) (fun k f => iblk m c 2 t (ix3 (0 : Fin 1) k f)) (fun f => iblk m c 3 t (ix3 (0 : Fin 1) f e)) = slab X G W D s e (t.val % 8) := by
  unfold slab
  have h : ∀ f : Fin 1024, (⟨(1024 * (t.val % 8) + f.val) % 8192, by omega⟩ : Fin 8192) = ⟨1024 * (t.val % 8) + f.val, by omega⟩ :=
    fun f => Fin.ext (Nat.mod_eq_of_lt (by omega))
  simp only [h, blk_w m W eW, blk_d m D eD]

theorem row_blk (eX : m ((c : Thread nD τ).loc main_arg0) = X) (eG : m ((c : Thread nD τ).loc main_arg1) = G) (t : Fin cfg0.N) (i : Fin 512) :
    normed (fun e => (iblk m c 0 t (ix2 i e) : EReal)) (fun e => (iblk m c 1 t (ix2 (0 : Fin 1) e) : EReal))
      = row X G (⟨512 * (t.val / 8) + i.val, by have := pt_lt t; omega⟩ : Fin 8192) := by
  unfold row
  simp only [blk_x m X eX, blk_g m G eG]

/-- What a point leaves: the rows' normed values and the entries so far. -/
theorem outs_apply (eX : m ((c : Thread nD τ).loc main_arg0) = X) (eG : m ((c : Thread nD τ).loc main_arg1) = G)
    (eW : m ((c : Thread nD τ).loc main_arg2) = W) (eD : m ((c : Thread nD τ).loc main_arg3) = D) : ∀ (n : ℕ) (h : n < cfg0.N) (i : Fin 512),
    (∀ e : Fin 2048, (outsAt0 m c n h).2 (ix2 i e) = row X G (⟨512 * (n / 8) + i.val, by have := nat_lt h; omega⟩ : Fin 8192) e)
    ∧ (∀ e : Fin 2048, (outsAt0 m c n h).1 (ix2 i e) = upto X G W D (⟨512 * (n / 8) + i.val, by have := nat_lt h; omega⟩ : Fin 8192) e (n % 8 + 1)) := by
  have first : ∀ (t : Fin cfg0.N) (h0 : t.val % 8 = 0) (i : Fin 512),
      (∀ e : Fin 2048, (outsAt0 m c t.val t.isLt).2 (ix2 i e) = row X G (⟨512 * (t.val / 8) + i.val, by have := pt_lt t; omega⟩ : Fin 8192) e)
      ∧ (∀ e : Fin 2048, (outsAt0 m c t.val t.isLt).1 (ix2 i e) = upto X G W D (⟨512 * (t.val / 8) + i.val, by have := pt_lt t; omega⟩ : Fin 8192) e (t.val % 8 + 1)) := by
    intro t h0 i
    rw [outsAt0_A m c t h0 (by omega)]
    dsimp only
    rw [out_A, scratch_A]
    refine ⟨fun e => ?_, fun e => ?_⟩
    · exact congrFun (row_blk m X G eX eG t i) e
    · rw [h0, upto_one, ← blk_x m X eX]
      have hs := slab_blk m X G W D eW eD t (⟨512 * (t.val / 8) + i.val, by have := pt_lt t; omega⟩ : Fin 8192) e
      rw [h0, ← row_blk m X G eX eG t i] at hs
      rw [← hs]
      rfl
  intro n
  induction n with
  | zero =>
    intro h i
    exact first ⟨0, h⟩ rfl i
  | succ n ih =>
    intro h i
    by_cases h0 : (n + 1) % 8 = 0
    · exact first ⟨n + 1, h⟩ h0 i
    · obtain ⟨ih2, ih1⟩ := ih (Nat.lt_of_succ_lt h) i
      have ed : (n + 1) / 8 = n / 8 := by omega
      have em : (n + 1) % 8 = n % 8 + 1 := by omega
      have hs := slab_blk m X G W D eW eD ⟨n + 1, h⟩ (⟨512 * (n / 8) + i.val, by have := nat_lt h; omega⟩ : Fin 8192)
      rw [outsAt0_B m c ⟨n + 1, h⟩ h0 (by show 1 ≤ (n + 1) % 8; omega)]
      dsimp only
      rw [out_B]
      simp only [ed, em]
      refine ⟨ih2, fun e => ?_⟩
      refine (pay4_apply _ _ _ _ i e).trans ?_
      rw [upto_succ]
      refine congrArg₂ (· + ·) (ih1 e) ?_
      refine Eq.trans ?_ ((hs e).trans (by rw [show ((⟨n + 1, h⟩ : Fin cfg0.N).val % 8) = n % 8 + 1 from em]))
      exact congrArg (fun r => unitSum (n := 1024) r _ _) (funext ih2)

/-- An entry of the result array. -/
theorem G4_apply (eX : m ((c : Thread nD τ).loc main_arg0) = X) (eG : m ((c : Thread nD τ).loc main_arg1) = G)
    (eW : m ((c : Thread nD τ).loc main_arg2) = W) (eD : m ((c : Thread nD τ).loc main_arg3) = D) (s : Fin 8192) (e : Fin 2048) :
    Value.G4 m c (ix2 s e) = upto X G W D s e 8 := by
  have hpt : Value.pt4Of (ix2 s e) = 8 * (s.val / 512) + 7 := by
    show 8 * (1 * (s.val / 512 - 0) + 1 * (e.val / 2048 - 0)) + 7 = _
    omega
  have hp : Value.pt4Of (ix2 s e) < cfg0.N := by
    rw [hpt]
    show _ < 128
    omega
  have hl : Value.loc4Of (ix2 s e) = ix2 (⟨s.val % 512, by omega⟩ : Fin 512) e := by
    funext a
    apply Fin.ext
    fin_cases a
    · rfl
    · exact Nat.mod_eq_of_lt e.isLt
  have key : ∀ (p : ℕ) (h : p < cfg0.N), p = 8 * (s.val / 512) + 7 → (outsAt0 m c p h).1 (ix2 (⟨s.val % 512, by omega⟩ : Fin 512) e) = upto X G W D s e 8 := by
    rintro p h rfl
    have h1 := (outs_apply m X G W D eX eG eW eD _ h (⟨s.val % 512, by omega⟩ : Fin 512)).2 e
    have e1 : (8 * (s.val / 512) + 7) % 8 + 1 = 8 := by omega
    have e2 : (⟨512 * ((8 * (s.val / 512) + 7) / 8) + s.val % 512, by omega⟩ : Fin 8192) = s := Fin.ext (by show 512 * ((8 * (s.val / 512) + 7) / 8) + s.val % 512 = s.val; omega)
    rw [e1, e2] at h1
    exact h1
  unfold Value.G4
  rw [dif_pos hp, hl]
  exact (congrFun (congrArg Prod.fst (Value.outsAt0_sweep m c _ hp).symm) _).trans (key _ hp hpt)

/-- All the hidden units in one sum. -/
theorem upto_all (s : Fin 8192) (e : Fin 2048) : upto X G W D s e 8 = (X (ix3 (0 : Fin 1) s e) : EReal) + unitSum (n := 8192) (row X G s) (fun k f => W (ix2 k f)) (fun f => D (ix2 f e)) := by
  unfold upto slab unitSum
  rw [sum_blocks 8 1024 (fun n => unit (row X G s) (fun k => W (ix2 k (⟨n % 8192, by omega⟩ : Fin 8192))) * (D (ix2 (⟨n % 8192, by omega⟩ : Fin 8192) e) : EReal)), Finset.sum_range]
  have h : ∀ f : Fin (1024 * 8), (⟨f.val % 8192, by omega⟩ : Fin 8192) = f := fun f => Fin.ext (Nat.mod_eq_of_lt f.isLt)
  simp only [h]

end

end Cert.Kernel2Ideal.Hand

end
-- ==== Proof.FfnRef.lean ====
/- The feed-forward reference at an index. -/
module

public import proofs.«01_k».proof.Proof.FfnPay
public import proofs.«01_k».proof.Proof.Gen.Reference2Ideal.Run

@[expose] public section

set_option maxRecDepth 65536

noncomputable section

namespace Cert.Reference2Ideal.Hand

open Cert.Reference2Ideal Cert.Reference2Ideal.Gen Cert.Ffn
open Idealize.ShloMosaic Idealize.ShloMosaic.TcCoe

variable (X : FVec Ideal S1x8192x2048 .f32) (G : FVec Ideal S2048 .f32) (W : FVec Ideal S2048x8192 .f32) (D : FVec Ideal S8192x2048 .f32)

/-- The normed rows. -/
def rows : FVec Ideal S1x8192x2048 .f32 :=
  mulf (mulf X (broadcastInDim S1x8192x2048 ![0, 1, 2] bcast_S1x8192x1_S1x8192x2048_0_1_2 (Host.rsqrt (addf (Host.divf (broadcastInDim S1x8192x1 ![0, 1] bcast_S1x8192_S1x8192x1_0_1 (Host.reduceAdd (mulf X X) (constant S_ .f32 0x00000000#32) reducesTo_S1x8192x2048_S1x8192_d2 h_S_)) (broadcastInDim S1x8192x1 ![] bcast_S_S1x8192x1 (constant S_ .f32 0x45000000#32))) (broadcastInDim S1x8192x1 ![] bcast_S_S1x8192x1 (constant S_ .f32 0x358637BD#32)))))) (broadcastInDim S1x8192x2048 ![0, 1, 2] bcast_S1x1x2048_S1x8192x2048_0_1_2 (broadcastInDim S1x1x2048 ![2] bcast_S2048_S1x1x2048_2 G))

/-- The hidden units before the square. -/
def act (R : FVec Ideal S1x8192x2048 .f32) : FVec Ideal S1x8192x8192 .f32 :=
  maximumf (Host.dotGeneral dot_S1x8192x2048_S2048x8192_S1x8192x8192_2_0_01_1_n_n none R W) (broadcastInDim S1x8192x8192 ![] bcast_S_S1x8192x8192 (constant S_ .f32 0x00000000#32))

def res (A : FVec Ideal S1x8192x8192 .f32) : FVec Ideal S8192x2048 .f32 :=
  shapeCast S8192x2048 (addf X (Host.dotGeneral dot_S1x8192x8192_S8192x2048_S1x8192x2048_2_0_01_1_n_n none (mulf A A) D)) shapeCasts_S1x8192x2048_S8192x2048

theorem rows_apply (s : Fin 8192) (e : Fin 2048) :
    rows X G (ix3 (0 : Fin 1) s e) = normed (fun e => (X (ix3 (0 : Fin 1) s e) : EReal)) (fun e => (G (ix1 e) : EReal)) e := by
  pointwise [rows, normed]

theorem act_apply (R : FVec Ideal S1x8192x2048 .f32) (s f : Fin 8192) :
    act W R (ix3 (0 : Fin 1) s f) = max (∑ e : Fin 2048, (R (ix3 (0 : Fin 1) s e) : EReal) * W (ix2 e f)) 0 := by
  pointwise [act]

theorem res_apply (A : FVec Ideal S1x8192x8192 .f32) (s : Fin 8192) (e : Fin 2048) :
    res X D A (ix2 s e) = (X (ix3 (0 : Fin 1) s e) : EReal) + ∑ f : Fin 8192, (A (ix3 (0 : Fin 1) s f) : EReal) * A (ix3 (0 : Fin 1) s f) * D (ix2 f e) := by
  pointwise [res]

theorem entry (s : Fin 8192) (e : Fin 2048) :
    res X D (act W (rows X G)) (ix2 s e) = (X (ix3 (0 : Fin 1) s e) : EReal) + unitSum (n := 8192) (normed (fun e => (X (ix3 (0 : Fin 1) s e) : EReal)) (fun e => (G (ix1 e) : EReal)))
      (fun k f => W (ix2 k f)) (fun f => D (ix2 f e)) := by
  rw [res_apply]
  simp only [act_apply, rows_apply]
  rfl

end Cert.Reference2Ideal.Hand

end
-- ==== Proof.FfnJoin.lean ====
/- The feed-forward call's result array is the reference's. -/
module

public import proofs.«01_k».proof.Proof.FfnRun
public import proofs.«01_k».proof.Proof.FfnRef

@[expose] public section

set_option maxRecDepth 65536

noncomputable section

namespace Cert.Reference2Ideal.Hand

open Cert.Reference2Ideal Cert.Reference2Ideal.Gen
open Idealize.ShloMosaic Idealize.ShloMosaic.TcCoe

/-- The reference's result over the arguments it starts from. -/
abbrev result (X : FVec Ideal S1x8192x2048 .f32) (G : FVec Ideal S2048 .f32) (W : FVec Ideal S2048x8192 .f32) (D : FVec Ideal S8192x2048 .f32) : FVec Ideal S8192x2048 .f32 :=
  res X D (act W (rows X G))

end Cert.Reference2Ideal.Hand

namespace Cert.FfnJoin

open Idealize.ShloMosaic Idealize.ShloMosaic.TcCoe
open Cert.Kernel2Ideal Cert.Kernel2Ideal.Gen Cert.Kernel2Ideal.Hand

variable (m : (ℓ : Loc nD τ sig) → Buf (Elt Ideal) ℓ) (c : Dev nD)

/-- The two results are one array. -/
theorem out_eq (X X' : FVec Ideal S1x8192x2048 .f32) (G G' : FVec Ideal S2048 .f32) (W W' : FVec Ideal S2048x8192 .f32) (D D' : FVec Ideal S8192x2048 .f32)
    (eX : m ((c : Thread nD τ).loc main_arg0) = X) (eG : m ((c : Thread nD τ).loc main_arg1) = G)
    (eW : m ((c : Thread nD τ).loc main_arg2) = W) (eD : m ((c : Thread nD τ).loc main_arg3) = D)
    (h0 : X' = X) (h1 : G' = G) (h2 : W' = W) (h3 : D' = D) :
    Cert.Reference2Ideal.Hand.result X' G' W' D' = Value.G4 m c := by
  subst h0 h1 h2 h3
  funext i
  have hi : (i : S8192x2048.Idx) = ix2 (⟨(i 0).val, (i 0).isLt⟩ : Fin 8192) (⟨(i 1).val, (i 1).isLt⟩ : Fin 2048) := by
    funext a; fin_cases a <;> rfl
  rw [hi]
  exact (Cert.Reference2Ideal.Hand.entry X' G' W' D' _ _).trans
    ((G4_apply m X' G' W' D' eX eG eW eD _ _).trans (upto_all X' G' W' D' _ _)).symm

end Cert.FfnJoin

end
-- ==== Proof.Steps.lean ====
/- One load and one store, by values: a buffer held whole at the values `x` reads a window of `x`, and a store leaves `x` with the stored values put over the window. -/
module

public import Idealize.ShloMosaic.Lib.VecWindow
public import Idealize.ShloMosaic.Lib.Tactic
public import Idealize.ShloMosaic.Lib.Pipeline.Kit

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Steps

variable {nD : Nat} {τ : Topo} {sig : RefSig} {Ix : Type} [DecidableEq Ix]
variable {Val : EltTy → Type} [∀ e, Nonempty (Val e)] {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)} {cs : CoreSpace}

local notation "𝕄" => MT nD τ sig Ix Val Name U Lvl

/-- The memref's own elements held whole at contents that read `x`. -/
def Held (m : Memref sig c.2.kind cs s e) (x : s.Idx → Val e) : sProp 𝕄 :=
  iprop(m.view.loc c ↦[m.view.set]{fullShare} m.view.rep x)

/-- The values a load through the rectangle reads. -/
abbrev win (x : s.Idx → Val e) (off size : Fin s.rank → ℕ) (inb : ∀ a, off a + size a ≤ s.size a) : (Rect.unit off size inb).shape.Idx → Val e :=
  VecWindow.window x off size inb

/-- A load at the head of a program. -/
theorem wp_ld {m : Memref sig c.2.kind cs s e} {x : s.Idx → Val e} {off size : Fin s.rank → ℕ} {inb : ∀ a, off a + size a ≤ s.size a}
    {hl : m.view.LoadsAt (Rect.unit off size inb).toLoadRect}
    {k : ((Rect.unit off size inb).shape.Idx → Val e) → Prog (TpuEff nD τ sig Val Λ c.2) α} :
    (Held (Ix := Ix) (Name := Name) (U := U) (Lvl := Lvl) c m x)
      ⊢ iprop((Held c m x -∗ wp frame (wpE defs 𝒱 c bd) E (k (VecWindow.window x off size inb)) Q)
        -∗ wp frame (wpE defs 𝒱 c bd) E (.op (.load m (Rect.unit off size inb).toLoadRect hl) k) Q) := by
  rw [← View.readAt_rep_unit m.view x inb rfl inb]
  exact wp_load 𝒱 c bd E (m.view.setOn_subset_set _)

/-- A store at the head of a program. -/
theorem wp_st {m : Memref sig c.2.kind cs s e} {x : s.Idx → Val e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} :
    (Held (Ix := Ix) (Name := Name) (U := U) (Lvl := Lvl) c m x)
      ⊢ iprop((Held c m (VecWindow.put x off size w) -∗ wp frame (wpE defs 𝒱 c bd) E (k ⟨⟩) Q)
        -∗ wp frame (wpE defs 𝒱 c bd) E (.op (.store m (Rect.unit off size inb) w Finset.univ hx hm) k) Q) := by
  refine Entails.trans (wp_store_writes₀ 𝒱 c bd E (Q := Q) (w := w) (hx := hx) (hm := hm) (k := k) (S := m.view.set) (f := m.view.rep x)
    (m.view.set_slice_subset _)) (wand_mono_left (wand_mono_left ?_))
  exact pointsTo_rep_of_read c m _ fullShare _ (View.read_writes_rep_unit m.view x inb w rfl)

/-- A program that only returns. -/
theorem wp_done {x : α} : Q x ⊢ wp frame (wpE defs 𝒱 c bd) E (Pure.pure x) Q := by
  show Q x ⊢ wp frame (wpE defs 𝒱 c bd) E (Prog.ret x) Q
  rw [wp_ret]
  iintro H
  imodintro
  iexact H

end Steps

end Cert.Attn

end

end
-- ==== Proof.Units.lean ====
/- The pieces the attention kernel's body is made of, over any memrefs of the right shapes: the scores of one block of keys against one tile of queries, one online-softmax update of
   a block of columns, and the closing division; each as a program and as the pure change it makes to the scratch buffers. -/
module

public import proofs.«01_k».proof.Proof.Steps
public import Idealize.ShloMosaic.PureOps
public import Idealize.ShloMosaic.Lib.Pipeline.TableIdle

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev T256 : Shape := ⟨1, ![256]⟩
abbrev T1x256 : Shape := ⟨2, ![1, 256]⟩
abbrev T1x512 : Shape := ⟨2, ![1, 512]⟩
abbrev T128x256 : Shape := ⟨2, ![128, 256]⟩
abbrev T128x512 : Shape := ⟨2, ![128, 512]⟩
abbrev T512x128 : Shape := ⟨2, ![512, 128]⟩
abbrev T256x512 : Shape := ⟨2, ![256, 512]⟩
abbrev T512x256 : Shape := ⟨2, ![512, 256]⟩
abbrev T512x512 : Shape := ⟨2, ![512, 512]⟩
abbrev T2048x128 : Shape := ⟨2, ![2048, 128]⟩
abbrev T8192x256 : Shape := ⟨2, ![8192, 256]⟩
abbrev T1x1x256 : Shape := ⟨3, ![1, 1, 256]⟩
abbrev T1x1x512 : Shape := ⟨3, ![1, 1, 512]⟩
abbrev T1x128x256 : Shape := ⟨3, ![1, 128, 256]⟩
abbrev T1x128x512 : Shape := ⟨3, ![1, 128, 512]⟩
abbrev T1x256x512 : Shape := ⟨3, ![1, 256, 512]⟩
abbrev T1x512x256 : Shape := ⟨3, ![1, 512, 256]⟩
abbrev T1x512x512 : Shape := ⟨3, ![1, 512, 512]⟩
abbrev T2x512x512 : Shape := ⟨3, ![2, 512, 512]⟩
abbrev T4x1x512 : Shape := ⟨3, ![4, 1, 512]⟩
abbrev T4x128x512 : Shape := ⟨3, ![4, 128, 512]⟩
abbrev T1x128x8192 : Shape := ⟨3, ![1, 128, 8192]⟩
abbrev T1x256x2048 : Shape := ⟨3, ![1, 256, 2048]⟩

theorem cast_s : T1x512x256.ShapeCasts T512x256 := by decide
theorem cast_v : T1x128x512.ShapeCasts T128x512 := by decide
theorem pos_T1x128x512 : 0 < T1x128x512.numel := by decide
theorem pos_T512x256 : 0 < T512x256.numel := by decide
theorem pos_T1x256x512 : 0 < T1x256x512.numel := by decide
theorem pos_T1x512x512 : 0 < T1x512x512.numel := by decide
theorem pos_T1x512x256 : 0 < T1x512x256.numel := by decide
theorem pos_T1x1x256 : 0 < T1x1x256.numel := by decide
theorem pos_T1x128x256 : 0 < T1x128x256.numel := by decide

/-- Where the tile `st` of the queries starts. -/
abbrev qo (st : ℕ) : Fin 3 → ℕ := ![0, 0, 512 * st]
/-- Where half `h` of score buffer `u` starts. -/
abbrev so (u h : ℕ) : Fin 3 → ℕ := ![u, 0, 256 * h]
/-- Where half `h` of the tile `st` starts in the running buffers. -/
abbrev mo (st h : ℕ) : Fin 3 → ℕ := ![st, 0, 256 * h]
theorem hqo : ∀ st : Fin 4, ∀ a, qo st a + T1x256x512.size a ≤ T1x256x2048.size a := by decide
theorem hso : ∀ u : Fin 2, ∀ a, so u 0 a + T1x512x512.size a ≤ T2x512x512.size a := by decide
theorem hsc : ∀ (u h : Fin 2), ∀ a, so u h a + T1x512x256.size a ≤ T2x512x512.size a := by decide
theorem hmo : ∀ (st : Fin 4) (h : Fin 2), ∀ a, mo st h a + T1x1x256.size a ≤ T4x1x512.size a := by decide
theorem hao : ∀ (st : Fin 4) (h : Fin 2), ∀ a, mo st h a + T1x128x256.size a ≤ T4x128x512.size a := by decide

/-- Where the tile `st` of the output starts. -/
abbrev oo (st : ℕ) : Fin 2 → ℕ := ![512 * st, 0]
theorem hoo : ∀ st : Fin 4, ∀ a, oo st a + T512x128.size a ≤ T2048x128.size a := by decide
theorem hae : ∀ st : Fin 4, ∀ a, mo st 0 a + T1x128x512.size a ≤ T4x128x512.size a := by decide
theorem hme : ∀ st : Fin 4, ∀ a, mo st 0 a + T1x1x512.size a ≤ T4x1x512.size a := by decide
theorem hpk : ∀ st : Fin 4, (Rect.unit (s := T2048x128) (oo st) T512x128.size (hoo st)).PackedRows (EltTy.packing .bf16) := by decide
theorem cast_v' : T1x128x512.ShapeCasts T128x512 := by decide
theorem pos_T512x128 : 0 < T512x128.numel := by decide
theorem pos_T1x1x512 : 0 < T1x1x512.numel := by decide
theorem pos_T4x1x512 : 0 < T4x1x512.numel := by decide
theorem pos_T4x128x512 : 0 < T4x128x512.numel := by decide
theorem in_T4x1x512 : ∀ a, (![0, 0, 0] : Fin 3 → ℕ) a + T4x1x512.size a ≤ T4x1x512.size a := by decide
theorem in_T4x128x512 : ∀ a, (![0, 0, 0] : Fin 3 → ℕ) a + T4x128x512.size a ≤ T4x128x512.size a := by decide
theorem in_k0 : ∀ a, (![0, 0] : Fin 2 → ℕ) a + T512x256.size a ≤ T8192x256.size a := by decide

/-- Keys by queries, over the head's channels. -/
def dotKQ : DotDims T512x256 T256x512 T512x512 where
  lhsContracting := [1]
  rhsContracting := [0]
  lhsNonContracting := [0]
  rhsNonContracting := [1]
  lhsBatch := []
  rhsBatch := []
  wf := by decide

/-- Value channels by queries, over the keys of a block. -/
def dotVP : DotDims T128x512 T512x256 T128x256 where
  lhsContracting := [1]
  rhsContracting := [0]
  lhsNonContracting := [0]
  rhsNonContracting := [1]
  lhsBatch := []
  rhsBatch := []
  wf := by decide

section Pure

variable {F : FTy → Type} [FloatOps F]

/-- The scores of a block of keys against a tile of queries. -/
def payScores (x : Vec F T512x256 .bf16) (y : Vec F T1x256x512 .bf16) : FVec F T1x512x512 .f32 :=
  shapeCast T1x512x512 (matmul dotKQ none (shapeCast T512x256 x (by decide)) (shapeCast T256x512 y (by decide)) (constant T512x512 .f32 0x00000000#32)) (by decide)

/-- The mask inside a diagonal block: the key's place at most the query's, else the mask constant. -/
def maskAt (nb : F .f32) (off : BitVec 32) (s2 : FVec F T512x256 .f32) : FVec F T512x256 .f32 :=
  select (cmpi .sle (iota .tc T512x256 32 [0] (by decide)) (addi (iota .tc T512x256 32 [1] (by decide)) (broadcast T512x256 off))) s2 (broadcast T512x256 nb)

/-- The running maximum after a block, from the one before and the block's scores. -/
def newMax (s2 : FVec F T512x256 .f32) (x : Vec F T1x1x256 .f32) : FVec F T1x256 .f32 :=
  maximumf (shapeCast T1x256 x (by decide)) (shapeCast T1x256 (multiReduction .maximumf [0] T256 s2 0xFF800000#32 (by decide) (.inl rfl) rfl) (by decide))

/-- The factor the sums so far are scaled by. -/
def rescale (s2 : FVec F T512x256 .f32) (x : Vec F T1x1x256 .f32) : FVec F T1x256 .f32 :=
  exp2 (subf (shapeCast T1x256 x (by decide)) (newMax s2 x))

/-- The block's weights under the new maximum. -/
def weights (s2 : FVec F T512x256 .f32) (x : Vec F T1x1x256 .f32) : FVec F T512x256 .f32 :=
  exp2 (subf s2 (broadcastTo T512x256 (newMax s2 x) (by decide)))

/-- What the running maximum's buffer is given. -/
def payM (s2 : FVec F T512x256 .f32) (x : Vec F T1x1x256 .f32) : FVec F T1x1x256 .f32 :=
  shapeCast T1x1x256 (newMax s2 x) (by decide)

/-- What the running sum's buffer is given. -/
def payL (s2 : FVec F T512x256 .f32) (x : Vec F T1x1x256 .f32) (l : Vec F T1x1x256 .f32) : FVec F T1x1x256 .f32 :=
  shapeCast T1x1x256 (addf (mulf (rescale s2 x) (shapeCast T1x256 l (by decide)))
    (shapeCast T1x256 (multiReduction .add [0] T256 (weights s2 x) 0x00000000#32 (by decide) (.inl rfl) rfl) (by decide))) (by decide)

/-- What the running weighted values' buffer is given. -/
def payA (s2 : FVec F T512x256 .f32) (x : Vec F T1x1x256 .f32) (vb : FVec F T128x512 .bf16) (a : Vec F T1x128x256 .f32) : FVec F T1x128x256 .f32 :=
  shapeCast T1x128x256 (addf (mulf (shapeCast T128x256 a (by decide)) (broadcastTo T128x256 (rescale s2 x) (by decide)))
    (matmul dotVP none vb (truncf .bf16 (weights s2 x) (by decide)) (constant T128x256 .f32 0x00000000#32))) (by decide)

/-- The closing division of one tile. -/
def payOut (a : FVec F T128x512 .f32) (l : Vec F T1x1x512 .f32) : FVec F T512x128 .bf16 :=
  truncf .bf16 (transpose T512x128 [1, 0] (mulf a
    (broadcastTo T128x512 (divf (broadcast T1x512 (Scalar.ofBits .f32 0x3F800000#32)) (shapeCast T1x512 l (by decide))) (by decide))) (by decide)) (by decide)

/-- The scratch buffers' values: running maximum, running sum, running weighted values, the two score buffers. -/
@[ext] structure St (F : FTy → Type) where
  m : Vec F T4x1x512 .f32
  l : Vec F T4x1x512 .f32
  a : Vec F T4x128x512 .f32
  s : Vec F T2x512x512 .f32

/-- What a block of scores does to the scratch. -/
def effScores (K : Vec F T8192x256 .bf16) (Q : Vec F T1x256x2048 .bf16) (ko : Fin 2 → ℕ) (hk : ∀ a, ko a + T512x256.size a ≤ T8192x256.size a)
    (qo : Fin 3 → ℕ) (hq : ∀ a, qo a + T1x256x512.size a ≤ T1x256x2048.size a) (so : Fin 3 → ℕ) (σ : St F) : St F :=
  { σ with s := VecWindow.put σ.s so T1x512x512.size (payScores (VecWindow.window K ko T512x256.size hk) (VecWindow.window Q qo T1x256x512.size hq)) }

/-- What one update of 256 columns does to the scratch. -/
def effChunk (f : FVec F T512x256 .f32 → FVec F T512x256 .f32) (vb : FVec F T128x512 .bf16)
    (so : Fin 3 → ℕ) (hs : ∀ a, so a + T1x512x256.size a ≤ T2x512x512.size a) (mo : Fin 3 → ℕ) (hm : ∀ a, mo a + T1x1x256.size a ≤ T4x1x512.size a)
    (ha : ∀ a, mo a + T1x128x256.size a ≤ T4x128x512.size a) (σ : St F) : St F :=
  let s2 := f (shapeCast T512x256 (VecWindow.window σ.s so T1x512x256.size hs : Vec F T1x512x256 .f32) cast_s)
  let x := VecWindow.window σ.m mo T1x1x256.size hm
  { σ with
    m := VecWindow.put σ.m mo T1x1x256.size (payM s2 x)
    l := VecWindow.put σ.l mo T1x1x256.size (payL s2 x (VecWindow.window σ.l mo T1x1x256.size hm))
    a := VecWindow.put σ.a mo T1x128x256.size (payA s2 x vb (VecWindow.window σ.a mo T1x128x256.size ha)) }

/-- What one block of keys against one tile of queries does to the scratch. -/
def effUnit (V : Vec F T1x128x8192 .bf16) (f0 f1 : FVec F T512x256 .f32 → FVec F T512x256 .f32) (vo : Fin 3 → ℕ) (hv : ∀ a, vo a + T1x128x512.size a ≤ T1x128x8192.size a)
    (so so' : Fin 3 → ℕ) (hs : ∀ a, so a + T1x512x256.size a ≤ T2x512x512.size a) (hs' : ∀ a, so' a + T1x512x256.size a ≤ T2x512x512.size a)
    (mo mo' : Fin 3 → ℕ) (hm : ∀ a, mo a + T1x1x256.size a ≤ T4x1x512.size a) (ha : ∀ a, mo a + T1x128x256.size a ≤ T4x128x512.size a)
    (hm' : ∀ a, mo' a + T1x1x256.size a ≤ T4x1x512.size a) (ha' : ∀ a, mo' a + T1x128x256.size a ≤ T4x128x512.size a) (σ : St F) : St F :=
  effChunk f1 (shapeCast T128x512 (VecWindow.window V vo T1x128x512.size hv : Vec F T1x128x512 .bf16) cast_v) so' hs' mo' hm' ha'
    (effChunk f0 (shapeCast T128x512 (VecWindow.window V vo T1x128x512.size hv : Vec F T1x128x512 .bf16) cast_v) so hs mo hm ha σ)

/-- What the scores of a block against tile `st`, into buffer `u`, do to the scratch. -/
def effScoresAt (K : Vec F T8192x256 .bf16) (X : Vec F T1x256x2048 .bf16) (ko : Fin 2 → ℕ) (hk : ∀ a, ko a + T512x256.size a ≤ T8192x256.size a) (st : Fin 4) (u : Fin 2) (σ : St F) : St F :=
  effScores K X ko hk (qo st) (hqo st) (so u 0) σ

/-- What a block against tile `st` does to the scratch. -/
def effUnitAt (V : Vec F T1x128x8192 .bf16) (f : ℕ → FVec F T512x256 .f32 → FVec F T512x256 .f32) (vo : Fin 3 → ℕ) (hv : ∀ a, vo a + T1x128x512.size a ≤ T1x128x8192.size a)
    (st : Fin 4) (u : Fin 2) (σ : St F) : St F :=
  effUnit V (f 0) (f 1) vo hv (so u 0) (so u 1) (hsc u 0) (hsc u 1) (mo st 0) (mo st 1) (hmo st 0) (hao st 0) (hmo st 1) (hao st 1) σ

/-- What four whole blocks do to the scratch. -/
def effTrip (K : Vec F T8192x256 .bf16) (X : Vec F T1x256x2048 .bf16) (V : Vec F T1x128x8192 .bf16) (ko : Fin 5 → Fin 2 → ℕ) (hk : ∀ b, ∀ a, ko b a + T512x256.size a ≤ T8192x256.size a)
    (vo : Fin 4 → Fin 3 → ℕ) (hv : ∀ b, ∀ a, vo b a + T1x128x512.size a ≤ T1x128x8192.size a) (σ : St F) : St F :=
  let σ := effScoresAt K X (ko 0) (hk 0) 1 1 σ
  let σ := effUnitAt V (fun _ x => x) (vo 0) (hv 0) 0 0 σ
  let σ := effScoresAt K X (ko 0) (hk 0) 2 0 σ
  let σ := effUnitAt V (fun _ x => x) (vo 0) (hv 0) 1 1 σ
  let σ := effScoresAt K X (ko 0) (hk 0) 3 1 σ
  let σ := effUnitAt V (fun _ x => x) (vo 0) (hv 0) 2 0 σ
  let σ := effScoresAt K X (ko 1) (hk 1) 0 0 σ
  let σ := effUnitAt V (fun _ x => x) (vo 0) (hv 0) 3 1 σ
  let σ := effScoresAt K X (ko 1) (hk 1) 1 1 σ
  let σ := effUnitAt V (fun _ x => x) (vo 1) (hv 1) 0 0 σ
  let σ := effScoresAt K X (ko 1) (hk 1) 2 0 σ
  let σ := effUnitAt V (fun _ x => x) (vo 1) (hv 1) 1 1 σ
  let σ := effScoresAt K X (ko 1) (hk 1) 3 1 σ
  let σ := effUnitAt V (fun _ x => x) (vo 1) (hv 1) 2 0 σ
  let σ := effScoresAt K X (ko 2) (hk 2) 0 0 σ
  let σ := effUnitAt V (fun _ x => x) (vo 1) (hv 1) 3 1 σ
  let σ := effScoresAt K X (ko 2) (hk 2) 1 1 σ
  let σ := effUnitAt V (fun _ x => x) (vo 2) (hv 2) 0 0 σ
  let σ := effScoresAt K X (ko 2) (hk 2) 2 0 σ
  let σ := effUnitAt V (fun _ x => x) (vo 2) (hv 2) 1 1 σ
  let σ := effScoresAt K X (ko 2) (hk 2) 3 1 σ
  let σ := effUnitAt V (fun _ x => x) (vo 2) (hv 2) 2 0 σ
  let σ := effScoresAt K X (ko 3) (hk 3) 0 0 σ
  let σ := effUnitAt V (fun _ x => x) (vo 2) (hv 2) 3 1 σ
  let σ := effScoresAt K X (ko 3) (hk 3) 1 1 σ
  let σ := effUnitAt V (fun _ x => x) (vo 3) (hv 3) 0 0 σ
  let σ := effScoresAt K X (ko 3) (hk 3) 2 0 σ
  let σ := effUnitAt V (fun _ x => x) (vo 3) (hv 3) 1 1 σ
  let σ := effScoresAt K X (ko 3) (hk 3) 3 1 σ
  let σ := effUnitAt V (fun _ x => x) (vo 3) (hv 3) 2 0 σ
  let σ := effScoresAt K X (ko 4) (hk 4) 0 0 σ
  let σ := effUnitAt V (fun _ x => x) (vo 3) (hv 3) 3 1 σ
  σ

/-- What the four diagonal blocks do to the scratch. -/
def effTail (nb : F .f32) (K : Vec F T8192x256 .bf16) (X : Vec F T1x256x2048 .bf16) (V : Vec F T1x128x8192 .bf16) (ko : Fin 4 → Fin 2 → ℕ) (hk : ∀ b, ∀ a, ko b a + T512x256.size a ≤ T8192x256.size a)
    (vo : Fin 4 → Fin 3 → ℕ) (hv : ∀ b, ∀ a, vo b a + T1x128x512.size a ≤ T1x128x8192.size a) (σ : St F) : St F :=
  let σ := effScoresAt K X (ko 0) (hk 0) 1 1 σ
  let σ := effUnitAt V (fun h => maskAt nb (BitVec.ofNat 32 (256 * h))) (vo 0) (hv 0) 0 0 σ
  let σ := effScoresAt K X (ko 0) (hk 0) 2 0 σ
  let σ := effUnitAt V (fun _ x => x) (vo 0) (hv 0) 1 1 σ
  let σ := effScoresAt K X (ko 0) (hk 0) 3 1 σ
  let σ := effUnitAt V (fun _ x => x) (vo 0) (hv 0) 2 0 σ
  let σ := effScoresAt K X (ko 1) (hk 1) 1 0 σ
  let σ := effUnitAt V (fun _ x => x) (vo 0) (hv 0) 3 1 σ
  let σ := effScoresAt K X (ko 1) (hk 1) 2 1 σ
  let σ := effUnitAt V (fun h => maskAt nb (BitVec.ofNat 32 (256 * h))) (vo 1) (hv 1) 1 0 σ
  let σ := effScoresAt K X (ko 1) (hk 1) 3 0 σ
  let σ := effUnitAt V (fun _ x => x) (vo 1) (hv 1) 2 1 σ
  let σ := effScoresAt K X (ko 2) (hk 2) 2 1 σ
  let σ := effUnitAt V (fun _ x => x) (vo 1) (hv 1) 3 0 σ
  let σ := effScoresAt K X (ko 2) (hk 2) 3 0 σ
  let σ := effUnitAt V (fun h => maskAt nb (BitVec.ofNat 32 (256 * h))) (vo 2) (hv 2) 2 1 σ
  let σ := effScoresAt K X (ko 3) (hk 3) 3 1 σ
  let σ := effUnitAt V (fun _ x => x) (vo 2) (hv 2) 3 0 σ
  let σ := effUnitAt V (fun h => maskAt nb (BitVec.ofNat 32 (256 * h))) (vo 3) (hv 3) 3 1 σ
  σ

/-- The scratch as the body sets it first. -/
def effInit (nb : F .f32) (σ : St F) : St F :=
  { m := VecWindow.put σ.m ![0, 0, 0] T4x1x512.size (shapeCast T4x1x512 (broadcast T4x1x512 nb) (by decide))
    l := VecWindow.put σ.l ![0, 0, 0] T4x1x512.size (shapeCast T4x1x512 (broadcast T4x1x512 (Scalar.ofBits .f32 0x00000000#32)) (by decide))
    a := VecWindow.put σ.a ![0, 0, 0] T4x128x512.size (shapeCast T4x128x512 (broadcast T4x128x512 (Scalar.ofBits .f32 0x00000000#32)) (by decide))
    s := σ.s }

/-- The scratch after `n` trips. -/
def effLoop {N : ℕ} (e : Fin N → St F → St F) (σ : St F) : ℕ → St F
  | 0 => σ
  | n + 1 => if h : n < N then e ⟨n, h⟩ (effLoop e σ n) else effLoop e σ n

/-- What the closing division of tile `st` does to the output block. -/
def effOut (σ : St F) (st : Fin 4) (O : Vec F T2048x128 .bf16) : Vec F T2048x128 .bf16 :=
  VecWindow.put O (oo st) T512x128.size (payOut (shapeCast T128x512 (VecWindow.window σ.a (mo st 0) T1x128x512.size (hae st)) cast_v') (VecWindow.window σ.l (mo st 0) T1x1x512.size (hme st)))

end Pure

section Programs

variable {F : FTy → Type} [FloatOps F] {nD : Nat} {τ : Topo} {sig : RefSig} {Λ : Labels}
variable (q : Memref sig .tc .vmem T1x256x2048 .bf16) (k : Memref sig .tc .vmem T8192x256 .bf16) (v : Memref sig .tc .vmem T1x128x8192 .bf16)
variable (o : Memref sig .tc .vmem T2048x128 .bf16)
variable (m : Memref sig .tc .vmem T4x1x512 .f32) (l : Memref sig .tc .vmem T4x1x512 .f32) (a : Memref sig .tc .vmem T4x128x512 .f32) (s : Memref sig .tc .vmem T2x512x512 .f32)

/-- The scores of one block, into a score buffer. -/
def scores (ko : Fin 2 → ℕ) (hk : ∀ a, ko a + T512x256.size a ≤ T8192x256.size a) (qo : Fin 3 → ℕ) (hq : ∀ a, qo a + T1x256x512.size a ≤ T1x256x2048.size a)
    (so : Fin 3 → ℕ) (hs : ∀ a, so a + T1x512x512.size a ≤ T2x512x512.size a) : Prog (TpuEff nD τ sig (Elt F) Λ .tc) PUnit := do
  let x : Vec F T512x256 .bf16 ← Prog.lift (.load k (Rect.unit (s := T8192x256) ko T512x256.size hk).toLoadRect (View.loadsAt_vmem pos_T512x256))
  let y : Vec F T1x256x512 .bf16 ← Prog.lift (.load q (Rect.unit (s := T1x256x2048) qo T1x256x512.size hq).toLoadRect (View.loadsAt_vmem pos_T1x256x512))
  let _z : Vec F T1x512x512 .f32 ← Prog.lift (.load s (Rect.unit (s := T2x512x512) so T1x512x512.size hs).toLoadRect (View.loadsAt_vmem pos_T1x512x512))
  Prog.lift (.store s (Rect.unit (s := T2x512x512) so T1x512x512.size hs) (payScores x y) Finset.univ (View.stores_vmem_bits_univ pos_T1x512x512 rfl) (.inl rfl))

/-- One online-softmax update of 256 columns. -/
def chunk (f : FVec F T512x256 .f32 → FVec F T512x256 .f32) (vb : FVec F T128x512 .bf16)
    (so : Fin 3 → ℕ) (hs : ∀ a, so a + T1x512x256.size a ≤ T2x512x512.size a) (mo : Fin 3 → ℕ) (hm : ∀ a, mo a + T1x1x256.size a ≤ T4x1x512.size a)
    (ha : ∀ a, mo a + T1x128x256.size a ≤ T4x128x512.size a) : Prog (TpuEff nD τ sig (Elt F) Λ .tc) PUnit := do
  let x : Vec F T1x512x256 .f32 ← Prog.lift (.load s (Rect.unit (s := T2x512x512) so T1x512x256.size hs).toLoadRect (View.loadsAt_vmem pos_T1x512x256))
  let y : Vec F T1x1x256 .f32 ← Prog.lift (.load m (Rect.unit (s := T4x1x512) mo T1x1x256.size hm).toLoadRect (View.loadsAt_vmem pos_T1x1x256))
  let _y' : Vec F T1x1x256 .f32 ← Prog.lift (.load m (Rect.unit (s := T4x1x512) mo T1x1x256.size hm).toLoadRect (View.loadsAt_vmem pos_T1x1x256))
  Prog.lift (.store m (Rect.unit (s := T4x1x512) mo T1x1x256.size hm) (payM (f (shapeCast T512x256 x cast_s)) y) Finset.univ (View.stores_vmem_bits_univ pos_T1x1x256 rfl) (.inl rfl))
  let z : Vec F T1x1x256 .f32 ← Prog.lift (.load l (Rect.unit (s := T4x1x512) mo T1x1x256.size hm).toLoadRect (View.loadsAt_vmem pos_T1x1x256))
  let _z' : Vec F T1x1x256 .f32 ← Prog.lift (.load l (Rect.unit (s := T4x1x512) mo T1x1x256.size hm).toLoadRect (View.loadsAt_vmem pos_T1x1x256))
  Prog.lift (.store l (Rect.unit (s := T4x1x512) mo T1x1x256.size hm) (payL (f (shapeCast T512x256 x cast_s)) y z) Finset.univ (View.stores_vmem_bits_univ pos_T1x1x256 rfl) (.inl rfl))
  let w : Vec F T1x128x256 .f32 ← Prog.lift (.load a (Rect.unit (s := T4x128x512) mo T1x128x256.size ha).toLoadRect (View.loadsAt_vmem pos_T1x128x256))
  let _w' : Vec F T1x128x256 .f32 ← Prog.lift (.load a (Rect.unit (s := T4x128x512) mo T1x128x256.size ha).toLoadRect (View.loadsAt_vmem pos_T1x128x256))
  Prog.lift (.store a (Rect.unit (s := T4x128x512) mo T1x128x256.size ha) (payA (f (shapeCast T512x256 x cast_s)) y vb w) Finset.univ (View.stores_vmem_bits_univ pos_T1x128x256 rfl) (.inl rfl))

/-- One block of keys against one tile of queries: the values, then two updates of 256 columns. -/
def unit (f0 f1 : FVec F T512x256 .f32 → FVec F T512x256 .f32) (vo : Fin 3 → ℕ) (hv : ∀ a, vo a + T1x128x512.size a ≤ T1x128x8192.size a)
    (so so' : Fin 3 → ℕ) (hs : ∀ a, so a + T1x512x256.size a ≤ T2x512x512.size a) (hs' : ∀ a, so' a + T1x512x256.size a ≤ T2x512x512.size a)
    (mo mo' : Fin 3 → ℕ) (hm : ∀ a, mo a + T1x1x256.size a ≤ T4x1x512.size a) (ha : ∀ a, mo a + T1x128x256.size a ≤ T4x128x512.size a)
    (hm' : ∀ a, mo' a + T1x1x256.size a ≤ T4x1x512.size a) (ha' : ∀ a, mo' a + T1x128x256.size a ≤ T4x128x512.size a) :
    Prog (TpuEff nD τ sig (Elt F) Λ .tc) PUnit := do
  let x : Vec F T1x128x512 .bf16 ← Prog.lift (.load v (Rect.unit (s := T1x128x8192) vo T1x128x512.size hv).toLoadRect (View.loadsAt_vmem pos_T1x128x512))
  chunk m l a s f0 (shapeCast T128x512 x cast_v) so hs mo hm ha
  chunk m l a s f1 (shapeCast T128x512 x cast_v) so' hs' mo' hm' ha'

/-- The scores of a block against tile `st`, into buffer `u`. -/
def scoresAt (ko : Fin 2 → ℕ) (hk : ∀ a, ko a + T512x256.size a ≤ T8192x256.size a) (st : Fin 4) (u : Fin 2) : Prog (TpuEff nD τ sig (Elt F) Λ .tc) PUnit :=
  scores q k s ko hk (qo st) (hqo st) (so u 0) (hso u)

/-- A block against tile `st`, its scores in buffer `u`; `f h` is done to the scores of half `h` first. -/
def unitAt (f : ℕ → FVec F T512x256 .f32 → FVec F T512x256 .f32) (vo : Fin 3 → ℕ) (hv : ∀ a, vo a + T1x128x512.size a ≤ T1x128x8192.size a) (st : Fin 4) (u : Fin 2) :
    Prog (TpuEff nD τ sig (Elt F) Λ .tc) PUnit :=
  unit v m l a s (f 0) (f 1) vo hv (so u 0) (so u 1) (hsc u 0) (hsc u 1) (mo st 0) (mo st 1) (hmo st 0) (hao st 0) (hmo st 1) (hao st 1)

/-- Four whole blocks of keys against the four tiles: the scores run one unit ahead. -/
def trip (ko : Fin 5 → Fin 2 → ℕ) (hk : ∀ b, ∀ a, ko b a + T512x256.size a ≤ T8192x256.size a) (vo : Fin 4 → Fin 3 → ℕ) (hv : ∀ b, ∀ a, vo b a + T1x128x512.size a ≤ T1x128x8192.size a) :
    Prog (TpuEff nD τ sig (Elt F) Λ .tc) PUnit := do
  scoresAt q k s (ko 0) (hk 0) 1 1
  unitAt v m l a s (fun _ x => x) (vo 0) (hv 0) 0 0
  scoresAt q k s (ko 0) (hk 0) 2 0
  unitAt v m l a s (fun _ x => x) (vo 0) (hv 0) 1 1
  scoresAt q k s (ko 0) (hk 0) 3 1
  unitAt v m l a s (fun _ x => x) (vo 0) (hv 0) 2 0
  scoresAt q k s (ko 1) (hk 1) 0 0
  unitAt v m l a s (fun _ x => x) (vo 0) (hv 0) 3 1
  scoresAt q k s (ko 1) (hk 1) 1 1
  unitAt v m l a s (fun _ x => x) (vo 1) (hv 1) 0 0
  scoresAt q k s (ko 1) (hk 1) 2 0
  unitAt v m l a s (fun _ x => x) (vo 1) (hv 1) 1 1
  scoresAt q k s (ko 1) (hk 1) 3 1
  unitAt v m l a s (fun _ x => x) (vo 1) (hv 1) 2 0
  scoresAt q k s (ko 2) (hk 2) 0 0
  unitAt v m l a s (fun _ x => x) (vo 1) (hv 1) 3 1
  scoresAt q k s (ko 2) (hk 2) 1 1
  unitAt v m l a s (fun _ x => x) (vo 2) (hv 2) 0 0
  scoresAt q k s (ko 2) (hk 2) 2 0
  unitAt v m l a s (fun _ x => x) (vo 2) (hv 2) 1 1
  scoresAt q k s (ko 2) (hk 2) 3 1
  unitAt v m l a s (fun _ x => x) (vo 2) (hv 2) 2 0
  scoresAt q k s (ko 3) (hk 3) 0 0
  unitAt v m l a s (fun _ x => x) (vo 2) (hv 2) 3 1
  scoresAt q k s (ko 3) (hk 3) 1 1
  unitAt v m l a s (fun _ x => x) (vo 3) (hv 3) 0 0
  scoresAt q k s (ko 3) (hk 3) 2 0
  unitAt v m l a s (fun _ x => x) (vo 3) (hv 3) 1 1
  scoresAt q k s (ko 3) (hk 3) 3 1
  unitAt v m l a s (fun _ x => x) (vo 3) (hv 3) 2 0
  scoresAt q k s (ko 4) (hk 4) 0 0
  unitAt v m l a s (fun _ x => x) (vo 3) (hv 3) 3 1
  pure ⟨⟩

/-- The four blocks on the diagonal: a block is met by its own tile, masked, and by the later ones. -/
def tail (nb : F .f32) (ko : Fin 4 → Fin 2 → ℕ) (hk : ∀ b, ∀ a, ko b a + T512x256.size a ≤ T8192x256.size a) (vo : Fin 4 → Fin 3 → ℕ)
    (hv : ∀ b, ∀ a, vo b a + T1x128x512.size a ≤ T1x128x8192.size a) : Prog (TpuEff nD τ sig (Elt F) Λ .tc) PUnit := do
  scoresAt q k s (ko 0) (hk 0) 1 1
  unitAt v m l a s (fun h => maskAt nb (BitVec.ofNat 32 (256 * h))) (vo 0) (hv 0) 0 0
  scoresAt q k s (ko 0) (hk 0) 2 0
  unitAt v m l a s (fun _ x => x) (vo 0) (hv 0) 1 1
  scoresAt q k s (ko 0) (hk 0) 3 1
  unitAt v m l a s (fun _ x => x) (vo 0) (hv 0) 2 0
  scoresAt q k s (ko 1) (hk 1) 1 0
  unitAt v m l a s (fun _ x => x) (vo 0) (hv 0) 3 1
  scoresAt q k s (ko 1) (hk 1) 2 1
  unitAt v m l a s (fun h => maskAt nb (BitVec.ofNat 32 (256 * h))) (vo 1) (hv 1) 1 0
  scoresAt q k s (ko 1) (hk 1) 3 0
  unitAt v m l a s (fun _ x => x) (vo 1) (hv 1) 2 1
  scoresAt q k s (ko 2) (hk 2) 2 1
  unitAt v m l a s (fun _ x => x) (vo 1) (hv 1) 3 0
  scoresAt q k s (ko 2) (hk 2) 3 0
  unitAt v m l a s (fun h => maskAt nb (BitVec.ofNat 32 (256 * h))) (vo 2) (hv 2) 2 1
  scoresAt q k s (ko 3) (hk 3) 3 1
  unitAt v m l a s (fun _ x => x) (vo 2) (hv 2) 3 0
  unitAt v m l a s (fun h => maskAt nb (BitVec.ofNat 32 (256 * h))) (vo 3) (hv 3) 3 1
  pure ⟨⟩

/-- The scratch set first: the maximum at the mask constant, the sums at zero. -/
def init (nb : F .f32) : Prog (TpuEff nD τ sig (Elt F) Λ .tc) PUnit := do
  let _x : Vec F T4x1x512 .f32 ← Prog.lift (.load m (Rect.unit (s := T4x1x512) ![0, 0, 0] T4x1x512.size in_T4x1x512).toLoadRect (View.loadsAt_vmem pos_T4x1x512))
  Prog.lift (.store m (Rect.unit (s := T4x1x512) ![0, 0, 0] T4x1x512.size in_T4x1x512) (shapeCast T4x1x512 (broadcast T4x1x512 nb) (by decide)) Finset.univ (View.stores_vmem_bits_univ pos_T4x1x512 rfl) (.inl rfl))
  let _y : Vec F T4x1x512 .f32 ← Prog.lift (.load l (Rect.unit (s := T4x1x512) ![0, 0, 0] T4x1x512.size in_T4x1x512).toLoadRect (View.loadsAt_vmem pos_T4x1x512))
  Prog.lift (.store l (Rect.unit (s := T4x1x512) ![0, 0, 0] T4x1x512.size in_T4x1x512) (shapeCast T4x1x512 (broadcast T4x1x512 (Scalar.ofBits .f32 0x00000000#32)) (by decide)) Finset.univ (View.stores_vmem_bits_univ pos_T4x1x512 rfl) (.inl rfl))
  let _z : Vec F T4x128x512 .f32 ← Prog.lift (.load a (Rect.unit (s := T4x128x512) ![0, 0, 0] T4x128x512.size in_T4x128x512).toLoadRect (View.loadsAt_vmem pos_T4x128x512))
  Prog.lift (.store a (Rect.unit (s := T4x128x512) ![0, 0, 0] T4x128x512.size in_T4x128x512) (shapeCast T4x128x512 (broadcast T4x128x512 (Scalar.ofBits .f32 0x00000000#32)) (by decide)) Finset.univ (View.stores_vmem_bits_univ pos_T4x128x512 rfl) (.inl rfl))

/-- The closing division of tile `st`, its sum of values already loaded. -/
def outOf (ho : o.IsWhole) (st : Fin 4) (x : FVec F T128x512 .f32) : Prog (TpuEff nD τ sig (Elt F) Λ .tc) PUnit := do
  let y : Vec F T1x1x512 .f32 ← Prog.lift (.load l (Rect.unit (s := T4x1x512) (mo st 0) T1x1x512.size (hme st)).toLoadRect (View.loadsAt_vmem pos_T1x1x512))
  let _z : Vec F T512x128 .bf16 ← Prog.lift (.load o (Rect.unit (s := T2048x128) (oo st) T512x128.size (hoo st)).toLoadRect (View.loadsAt_vmem pos_T512x128))
  Prog.lift (.store o (Rect.unit (s := T2048x128) (oo st) T512x128.size (hoo st)) (payOut x y) Finset.univ (View.stores_vmem pos_T512x128 (ho.storeExact_slice rfl _ (hpk st)) (fun _ => rfl)) (.inl rfl))

/-- The closing division of tile `st`. -/
def out (ho : o.IsWhole) (st : Fin 4) : Prog (TpuEff nD τ sig (Elt F) Λ .tc) PUnit := do
  let x : Vec F T1x128x512 .f32 ← Prog.lift (.load a (Rect.unit (s := T4x128x512) (mo st 0) T1x128x512.size (hae st)).toLoadRect (View.loadsAt_vmem pos_T1x128x512))
  outOf o l ho st (shapeCast T128x512 x cast_v')

/-- The body at one grid point, up to the second tile's closing division. -/
def attnHead (ho : o.IsWhole) (nb : F .f32) (lp : Scf.Loop 32) (ok : lp.OK) (body : Fin lp.trips → PUnit → Prog (TpuEff nD τ sig (Elt F) Λ .tc) PUnit)
    (lp2 : Scf.Loop 32) (ok2 : lp2.OK) (body2 : Fin lp2.trips → PUnit → Prog (TpuEff nD τ sig (Elt F) Λ .tc) PUnit)
    (cond : BitVec 1) (last : cond = 1#1 → Prog (TpuEff nD τ sig (Elt F) Λ .tc) PUnit) : Prog (TpuEff nD τ sig (Elt F) Λ .tc) (FVec F T128x512 .f32) := do
  init m l a nb
  scoresAt q k s ![0, 0] in_k0 0 0
  lp.for ok ⟨⟩ body
  lp2.for ok2 ⟨⟩ body2
  if h : cond = 1#1 then last h else pure ⟨⟩
  out o l a ho 0
  let x : Vec F T1x128x512 .f32 ← Prog.lift (.load a (Rect.unit (s := T4x128x512) (mo 1 0) T1x128x512.size (hae 1)).toLoadRect (View.loadsAt_vmem pos_T1x128x512))
  pure (shapeCast T128x512 x cast_v')

/-- The whole body at one grid point. -/
def attn (ho : o.IsWhole) (nb : F .f32) (lp : Scf.Loop 32) (ok : lp.OK) (body : Fin lp.trips → PUnit → Prog (TpuEff nD τ sig (Elt F) Λ .tc) PUnit)
    (lp2 : Scf.Loop 32) (ok2 : lp2.OK) (body2 : Fin lp2.trips → PUnit → Prog (TpuEff nD τ sig (Elt F) Λ .tc) PUnit)
    (cond : BitVec 1) (last : cond = 1#1 → Prog (TpuEff nD τ sig (Elt F) Λ .tc) PUnit) : Prog (TpuEff nD τ sig (Elt F) Λ .tc) PUnit := do
  let x : FVec F T128x512 .f32 ← attnHead q k o m l a s ho nb lp ok body lp2 ok2 body2 cond last
  outOf o l ho 1 x
  out o l a ho 2
  out o l a ho 3
  pure ⟨⟩

end Programs

section Specs

variable {F : FTy → Type} [FloatOps F] {nD : Nat} {τ : Topo} {sig : RefSig} {Λ : Labels}
variable {q : Memref sig .tc .vmem T1x256x2048 .bf16} {k : Memref sig .tc .vmem T8192x256 .bf16} {v : Memref sig .tc .vmem T1x128x8192 .bf16}
variable {o : Memref sig .tc .vmem T2048x128 .bf16}
variable {m : Memref sig .tc .vmem T4x1x512 .f32} {l : Memref sig .tc .vmem T4x1x512 .f32} {a : Memref sig .tc .vmem T4x128x512 .f32} {s : Memref sig .tc .vmem T2x512x512 .f32}
variable {Ix : Type} [DecidableEq Ix] {Name : Type} [DecidableEq Name] {U : Type} [URA U] {Lvl : Type} [Preorder Lvl]
variable {defs : Defs nD τ sig (Elt F) Λ} {𝒱 : Variants} {c : Dev nD} {bd : Option 𝒱.V} {E : Set Name}
variable {α : Type} {Φ : α → sProp (MT nD τ sig Ix (Elt F) Name U Lvl)}

local notation "𝕄" => MT nD τ sig Ix (Elt F) Name U Lvl

/-- The scratch buffers held at their values. -/
def HeldSt (c : Dev nD) (m l : Memref sig .tc .vmem T4x1x512 .f32) (a : Memref sig .tc .vmem T4x128x512 .f32) (s : Memref sig .tc .vmem T2x512x512 .f32) (σ : St F) : sProp 𝕄 :=
  iprop(Held (c : Thread nD τ) m σ.m ∗ Held (c : Thread nD τ) l σ.l ∗ Held (c : Thread nD τ) a σ.a ∗ Held (c : Thread nD τ) s σ.s)

theorem wp_scores {K : Vec F T8192x256 .bf16} {X : Vec F T1x256x2048 .bf16} {σ : St F} {ko : Fin 2 → ℕ} {hk : ∀ a, ko a + T512x256.size a ≤ T8192x256.size a}
    {qo : Fin 3 → ℕ} {hq : ∀ a, qo a + T1x256x512.size a ≤ T1x256x2048.size a} {so : Fin 3 → ℕ} {hs : ∀ a, so a + T1x512x512.size a ≤ T2x512x512.size a}
    {κ : PUnit → Prog (TpuEff nD τ sig (Elt F) Λ .tc) α} :
    iprop(Held (c : Thread nD τ) k K ∗ Held (c : Thread nD τ) q X ∗ HeldSt c m l a s σ)
      ⊢ iprop(((Held (c : Thread nD τ) k K ∗ Held (c : Thread nD τ) q X ∗ HeldSt c m l a s (effScores K X ko hk qo hq so σ)) -∗ wp frame (wpE defs 𝒱 (c : Thread nD τ) bd) E (κ ⟨⟩) Φ)
        -∗ wp frame (wpE defs 𝒱 (c : Thread nD τ) bd) E (scores q k s ko hk qo hq so hs >>= κ) Φ : sProp 𝕄) := by
  unfold HeldSt
  iintro ⟨Hk, Hq, Hm, Hl, Ha, Hs⟩ HW
  unfold scores
  iapply wp_ld $$ Hk
  iintro Hk
  iapply wp_ld $$ Hq
  iintro Hq
  iapply wp_ld $$ Hs
  iintro Hs
  iapply wp_st $$ Hs
  iintro Hs
  iapply HW
  dsimp only [effScores]
  iframe

theorem wp_chunk {σ : St F} {f : FVec F T512x256 .f32 → FVec F T512x256 .f32} {vb : FVec F T128x512 .bf16}
    {so : Fin 3 → ℕ} {hs : ∀ a, so a + T1x512x256.size a ≤ T2x512x512.size a} {mo : Fin 3 → ℕ} {hm : ∀ a, mo a + T1x1x256.size a ≤ T4x1x512.size a}
    {ha : ∀ a, mo a + T1x128x256.size a ≤ T4x128x512.size a}
    {κ : PUnit → Prog (TpuEff nD τ sig (Elt F) Λ .tc) α} :
    HeldSt c m l a s σ
      ⊢ iprop((HeldSt c m l a s (effChunk f vb so hs mo hm ha σ) -∗ wp frame (wpE defs 𝒱 (c : Thread nD τ) bd) E (κ ⟨⟩) Φ)
        -∗ wp frame (wpE defs 𝒱 (c : Thread nD τ) bd) E (chunk m l a s f vb so hs mo hm ha >>= κ) Φ : sProp 𝕄) := by
  unfold HeldSt
  iintro ⟨Hm, Hl, Ha, Hs⟩ HW
  unfold chunk
  iapply wp_ld $$ Hs
  iintro Hs
  iapply wp_ld $$ Hm
  iintro Hm
  iapply wp_ld $$ Hm
  iintro Hm
  iapply wp_st $$ Hm
  iintro Hm
  iapply wp_ld $$ Hl
  iintro Hl
  iapply wp_ld $$ Hl
  iintro Hl
  iapply wp_st $$ Hl
  iintro Hl
  iapply wp_ld $$ Ha
  iintro Ha
  iapply wp_ld $$ Ha
  iintro Ha
  iapply wp_st $$ Ha
  iintro Ha
  iapply HW
  dsimp only [effChunk]
  iframe

theorem wp_unit {V : Vec F T1x128x8192 .bf16} {σ : St F} {f0 f1 : FVec F T512x256 .f32 → FVec F T512x256 .f32} {vo : Fin 3 → ℕ} {hv : ∀ a, vo a + T1x128x512.size a ≤ T1x128x8192.size a}
    {so so' : Fin 3 → ℕ} {hs : ∀ a, so a + T1x512x256.size a ≤ T2x512x512.size a} {hs' : ∀ a, so' a + T1x512x256.size a ≤ T2x512x512.size a}
    {mo mo' : Fin 3 → ℕ} {hm : ∀ a, mo a + T1x1x256.size a ≤ T4x1x512.size a} {ha : ∀ a, mo a + T1x128x256.size a ≤ T4x128x512.size a}
    {hm' : ∀ a, mo' a + T1x1x256.size a ≤ T4x1x512.size a} {ha' : ∀ a, mo' a + T1x128x256.size a ≤ T4x128x512.size a}
    {κ : PUnit → Prog (TpuEff nD τ sig (Elt F) Λ .tc) α} :
    iprop(Held (c : Thread nD τ) v V ∗ HeldSt c m l a s σ)
      ⊢ iprop(((Held (c : Thread nD τ) v V ∗ HeldSt c m l a s (effUnit V f0 f1 vo hv so so' hs hs' mo mo' hm ha hm' ha' σ)) -∗ wp frame (wpE defs 𝒱 (c : Thread nD τ) bd) E (κ ⟨⟩) Φ)
        -∗ wp frame (wpE defs 𝒱 (c : Thread nD τ) bd) E (unit v m l a s f0 f1 vo hv so so' hs hs' mo mo' hm ha hm' ha' >>= κ) Φ : sProp 𝕄) := by
  iintro ⟨Hv, HS⟩ HW
  unfold unit
  iapply wp_ld $$ Hv
  iintro Hv
  iapply wp_chunk $$ HS
  iintro HS
  iapply wp_chunk $$ HS
  iintro HS
  iapply HW
  unfold effUnit
  iframe

theorem wp_scoresAt {K : Vec F T8192x256 .bf16} {X : Vec F T1x256x2048 .bf16} {σ : St F} {ko : Fin 2 → ℕ} {hk : ∀ a, ko a + T512x256.size a ≤ T8192x256.size a}
    {st : Fin 4} {u : Fin 2} {κ : PUnit → Prog (TpuEff nD τ sig (Elt F) Λ .tc) α} :
    iprop(Held (c : Thread nD τ) k K ∗ Held (c : Thread nD τ) q X ∗ HeldSt c m l a s σ)
      ⊢ iprop(((Held (c : Thread nD τ) k K ∗ Held (c : Thread nD τ) q X ∗ HeldSt c m l a s (effScoresAt K X ko hk st u σ)) -∗ wp frame (wpE defs 𝒱 (c : Thread nD τ) bd) E (κ ⟨⟩) Φ)
        -∗ wp frame (wpE defs 𝒱 (c : Thread nD τ) bd) E (scoresAt q k s ko hk st u >>= κ) Φ : sProp 𝕄) := wp_scores

theorem wp_unitAt {V : Vec F T1x128x8192 .bf16} {σ : St F} {f : ℕ → FVec F T512x256 .f32 → FVec F T512x256 .f32} {vo : Fin 3 → ℕ} {hv : ∀ a, vo a + T1x128x512.size a ≤ T1x128x8192.size a}
    {st : Fin 4} {u : Fin 2} {κ : PUnit → Prog (TpuEff nD τ sig (Elt F) Λ .tc) α} :
    iprop(Held (c : Thread nD τ) v V ∗ HeldSt c m l a s σ)
      ⊢ iprop(((Held (c : Thread nD τ) v V ∗ HeldSt c m l a s (effUnitAt V f vo hv st u σ)) -∗ wp frame (wpE defs 𝒱 (c : Thread nD τ) bd) E (κ ⟨⟩) Φ)
        -∗ wp frame (wpE defs 𝒱 (c : Thread nD τ) bd) E (unitAt v m l a s f vo hv st u >>= κ) Φ : sProp 𝕄) := wp_unit

/-- The three inputs and the scratch held at their values. -/
def HeldAll (c : Dev nD) (q : Memref sig .tc .vmem T1x256x2048 .bf16) (k : Memref sig .tc .vmem T8192x256 .bf16) (v : Memref sig .tc .vmem T1x128x8192 .bf16)
    (m l : Memref sig .tc .vmem T4x1x512 .f32) (a : Memref sig .tc .vmem T4x128x512 .f32) (s : Memref sig .tc .vmem T2x512x512 .f32)
    (X : Vec F T1x256x2048 .bf16) (K : Vec F T8192x256 .bf16) (V : Vec F T1x128x8192 .bf16) (σ : St F) : sProp 𝕄 :=
  iprop(Held (c : Thread nD τ) k K ∗ Held (c : Thread nD τ) q X ∗ Held (c : Thread nD τ) v V ∗ HeldSt c m l a s σ)

theorem wp_trip {K : Vec F T8192x256 .bf16} {X : Vec F T1x256x2048 .bf16} {V : Vec F T1x128x8192 .bf16} {σ : St F} {ko : Fin 5 → Fin 2 → ℕ}
    {hk : ∀ b, ∀ a, ko b a + T512x256.size a ≤ T8192x256.size a} {vo : Fin 4 → Fin 3 → ℕ} {hv : ∀ b, ∀ a, vo b a + T1x128x512.size a ≤ T1x128x8192.size a} {Ψ : PUnit → sProp 𝕄} :
    HeldAll c q k v m l a s X K V σ
      ⊢ iprop((HeldAll c q k v m l a s X K V (effTrip K X V ko hk vo hv σ) -∗ Ψ ⟨⟩)
        -∗ wp frame (wpE defs 𝒱 (c : Thread nD τ) bd) E (trip q k v m l a s ko hk vo hv) Ψ : sProp 𝕄) := by
  unfold HeldAll
  iintro ⟨HK, HX, HV, HS⟩ HW
  unfold trip
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_done
  iapply HW
  unfold effTrip
  iframe

theorem wp_tail {nb : F .f32} {K : Vec F T8192x256 .bf16} {X : Vec F T1x256x2048 .bf16} {V : Vec F T1x128x8192 .bf16} {σ : St F} {ko : Fin 4 → Fin 2 → ℕ}
    {hk : ∀ b, ∀ a, ko b a + T512x256.size a ≤ T8192x256.size a} {vo : Fin 4 → Fin 3 → ℕ} {hv : ∀ b, ∀ a, vo b a + T1x128x512.size a ≤ T1x128x8192.size a} {Ψ : PUnit → sProp 𝕄} :
    HeldAll c q k v m l a s X K V σ
      ⊢ iprop((HeldAll c q k v m l a s X K V (effTail nb K X V ko hk vo hv σ) -∗ Ψ ⟨⟩)
        -∗ wp frame (wpE defs 𝒱 (c : Thread nD τ) bd) E (tail q k v m l a s nb ko hk vo hv) Ψ : sProp 𝕄) := by
  unfold HeldAll
  iintro ⟨HK, HX, HV, HS⟩ HW
  unfold tail
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_unitAt $$ [$HV $HS]
  iintro ⟨HV, HS⟩
  iapply wp_done
  iapply HW
  unfold effTail
  iframe

theorem wp_init {nb : F .f32} {σ : St F} {κ : PUnit → Prog (TpuEff nD τ sig (Elt F) Λ .tc) α} :
    HeldSt c m l a s σ
      ⊢ iprop((HeldSt c m l a s (effInit nb σ) -∗ wp frame (wpE defs 𝒱 (c : Thread nD τ) bd) E (κ ⟨⟩) Φ)
        -∗ wp frame (wpE defs 𝒱 (c : Thread nD τ) bd) E (init m l a nb >>= κ) Φ : sProp 𝕄) := by
  unfold HeldSt
  iintro ⟨Hm, Hl, Ha, Hs⟩ HW
  unfold init
  iapply wp_ld $$ Hm
  iintro Hm
  iapply wp_st $$ Hm
  iintro Hm
  iapply wp_ld $$ Hl
  iintro Hl
  iapply wp_st $$ Hl
  iintro Hl
  iapply wp_ld $$ Ha
  iintro Ha
  iapply wp_st $$ Ha
  iintro Ha
  iapply HW
  dsimp only [effInit]
  iframe

theorem wp_out {ho : o.IsWhole} {st : Fin 4} {σ : St F} {O : Vec F T2048x128 .bf16} {κ : PUnit → Prog (TpuEff nD τ sig (Elt F) Λ .tc) α} :
    iprop(HeldSt c m l a s σ ∗ Held (c : Thread nD τ) o O)
      ⊢ iprop((HeldSt c m l a s σ ∗ Held (c : Thread nD τ) o (effOut σ st O) -∗ wp frame (wpE defs 𝒱 (c : Thread nD τ) bd) E (κ ⟨⟩) Φ)
        -∗ wp frame (wpE defs 𝒱 (c : Thread nD τ) bd) E (out o l a ho st >>= κ) Φ : sProp 𝕄) := by
  unfold HeldSt
  iintro ⟨⟨Hm, Hl, Ha, Hs⟩, Ho⟩ HW
  unfold out outOf
  iapply wp_ld $$ Ha
  iintro Ha
  iapply wp_ld $$ Hl
  iintro Hl
  iapply wp_ld $$ Ho
  iintro Ho
  iapply wp_st $$ Ho
  iintro Ho
  iapply HW
  unfold effOut
  iframe

/-- What the whole body leaves in the scratch. -/
def effAttn (nb : F .f32) (K : Vec F T8192x256 .bf16) (X : Vec F T1x256x2048 .bf16) (V : Vec F T1x128x8192 .bf16) (N : ℕ)
    (ko : Fin N → Fin 5 → Fin 2 → ℕ) (hk : ∀ t b, ∀ a, ko t b a + T512x256.size a ≤ T8192x256.size a)
    (vo : Fin N → Fin 4 → Fin 3 → ℕ) (hv : ∀ t b, ∀ a, vo t b a + T1x128x512.size a ≤ T1x128x8192.size a)
    (ke : Fin 4 → Fin 2 → ℕ) (hke : ∀ b, ∀ a, ke b a + T512x256.size a ≤ T8192x256.size a)
    (ve : Fin 4 → Fin 3 → ℕ) (hve : ∀ b, ∀ a, ve b a + T1x128x512.size a ≤ T1x128x8192.size a) (σ : St F) : St F :=
  effTail nb K X V ke hke ve hve
    (effLoop (fun t => effTrip K X V (ko t) (hk t) (vo t) (hv t)) (effScoresAt K X ![0, 0] in_k0 0 0 (effInit nb σ)) N)

/-- What the four closing divisions leave in the output block. -/
def effOuts (σ : St F) (O : Vec F T2048x128 .bf16) : Vec F T2048x128 .bf16 := effOut σ 3 (effOut σ 2 (effOut σ 1 (effOut σ 0 O)))

theorem wp_attn {ho : o.IsWhole} {nb : F .f32} {K : Vec F T8192x256 .bf16} {X : Vec F T1x256x2048 .bf16} {V : Vec F T1x128x8192 .bf16} {σ : St F} {O : Vec F T2048x128 .bf16}
    {lp : Scf.Loop 32} {ok : lp.OK} {body : Fin lp.trips → PUnit → Prog (TpuEff nD τ sig (Elt F) Λ .tc) PUnit}
    {lp2 : Scf.Loop 32} {ok2 : lp2.OK} {body2 : Fin lp2.trips → PUnit → Prog (TpuEff nD τ sig (Elt F) Λ .tc) PUnit}
    {cond : BitVec 1} {last : cond = 1#1 → Prog (TpuEff nD τ sig (Elt F) Λ .tc) PUnit}
    {ko : Fin lp.trips → Fin 5 → Fin 2 → ℕ} {hk : ∀ t b, ∀ a, ko t b a + T512x256.size a ≤ T8192x256.size a}
    {vo : Fin lp.trips → Fin 4 → Fin 3 → ℕ} {hv : ∀ t b, ∀ a, vo t b a + T1x128x512.size a ≤ T1x128x8192.size a}
    {ke : Fin 4 → Fin 2 → ℕ} {hke : ∀ b, ∀ a, ke b a + T512x256.size a ≤ T8192x256.size a}
    {ve : Fin 4 → Fin 3 → ℕ} {hve : ∀ b, ∀ a, ve b a + T1x128x512.size a ≤ T1x128x8192.size a} {Ψ : PUnit → sProp 𝕄}
    (hb : ∀ t, body t ⟨⟩ = trip q k v m l a s (ko t) (hk t) (vo t) (hv t)) (h2 : lp2.trips = 0)
    (hc : cond = 1#1) (hl : last hc = tail q k v m l a s nb ke hke ve hve) :
    iprop(HeldAll c q k v m l a s X K V σ ∗ Held (c : Thread nD τ) o O)
      ⊢ iprop((HeldAll c q k v m l a s X K V (effAttn nb K X V lp.trips ko hk vo hv ke hke ve hve σ)
          ∗ Held (c : Thread nD τ) o (effOuts (effAttn nb K X V lp.trips ko hk vo hv ke hke ve hve σ) O) -∗ Ψ ⟨⟩)
        -∗ wp frame (wpE defs 𝒱 (c : Thread nD τ) bd) E (attn q k o m l a s ho nb lp ok body lp2 ok2 body2 cond last) Ψ : sProp 𝕄) := by
  iintro ⟨HA, HO⟩ HW
  unfold HeldAll
  icases HA with ⟨HK, HX, HV, HS⟩
  unfold attn
  rw [wp_bind]
  unfold attnHead
  iapply wp_init $$ HS
  iintro HS
  iapply wp_scoresAt $$ [$HK $HX $HS]
  iintro ⟨HK, HX, HS⟩
  iapply Scf.wp_for_bind (I := fun n _ => HeldAll c q k v m l a s X K V
    (effLoop (fun t => effTrip K X V (ko t) (hk t) (vo t) (hv t)) (effScoresAt K X ![0, 0] in_k0 0 0 (effInit nb σ)) n))
    (hbody := fun t _ => by
      rw [show body t _ = _ from hb t]
      iintro HA
      iapply wp_trip $$ HA
      iintro HA
      have e : effLoop (fun t => effTrip K X V (ko t) (hk t) (vo t) (hv t)) (effScoresAt K X ![0, 0] in_k0 0 0 (effInit nb σ)) (t.val + 1)
        = effTrip K X V (ko t) (hk t) (vo t) (hv t) (effLoop (fun t => effTrip K X V (ko t) (hk t) (vo t) (hv t)) (effScoresAt K X ![0, 0] in_k0 0 0 (effInit nb σ)) t.val) := by
        show (if h : t.val < lp.trips then _ else _) = _
        rw [dif_pos t.isLt]
      rw [e]
      iexact HA) $$ [HK HX HV HS]
  · unfold HeldAll
    dsimp only [effLoop]
    iframe
  iintro %u HA
  rw [Scf.for_trips0_bind lp2 ok2 h2, dif_pos hc, hl, wp_bind]
  iapply wp_tail $$ HA
  iintro HA
  unfold HeldAll
  icases HA with ⟨HK, HX, HV, HS⟩
  iapply wp_out $$ [$HS $HO]
  iintro ⟨HS, HO⟩
  unfold HeldSt outOf
  icases HS with ⟨Hm, Hl, Ha, Hs⟩
  iapply wp_ld $$ Ha
  iintro Ha
  iapply wp_done
  iapply wp_ld $$ Hl
  iintro Hl
  iapply wp_ld $$ HO
  iintro HO
  iapply wp_st $$ HO
  iintro HO
  iapply wp_out $$ [Hm Hl Ha Hs HO]
  · unfold HeldSt
    iframe
  iintro ⟨HS, HO⟩
  iapply wp_out $$ [$HS $HO]
  iintro ⟨HS, HO⟩
  iapply wp_done
  iapply HW
  unfold effOuts effAttn
  iframe
  isplitl [HS]
  · unfold HeldSt
    iexact HS
  · iexact HO

end Specs

end Cert.Attn

end

end
-- ==== Proof.Flow.lean ====
/- What the body leaves in the output block, as a function of the blocks it reads alone: for each tile of queries and each half of it, the running maximum, sum and weighted values
   after the blocks of keys taken one after the other, and the closing division. -/
module

public import proofs.«01_k».proof.Proof.Units
public import Idealize.ShloMosaic.Lib.Pointwise.Index

@[expose] public section

noncomputable section

namespace Cert.Attn

open Idealize.ShloMosaic

variable {F : FTy → Type} [FloatOps F]

/-- The running values of 256 queries. -/
@[ext] structure Col (F : FTy → Type) where
  m : Vec F T1x1x256 .f32
  l : Vec F T1x1x256 .f32
  a : Vec F T1x128x256 .f32

/-- The running values after one more block, of scores `s` and values `vb`. -/
def Col.step (s : FVec F T512x256 .f32) (vb : FVec F T128x512 .bf16) (c : Col F) : Col F :=
  ⟨payM s c.m, payL s c.m c.l, payA s c.m vb c.a⟩

/-- The running values before the first block. -/
def Col.start (nb : F .f32) : Col F :=
  ⟨fun _ => nb, fun _ => Scalar.ofBits .f32 0x00000000#32, fun _ => Scalar.ofBits .f32 0x00000000#32⟩

/-- Half `h` of tile `st`, read off the scratch. -/
def col (σ : St F) (st : Fin 4) (h : Fin 2) : Col F :=
  ⟨VecWindow.window σ.m (mo st h) T1x1x256.size (hmo st h), VecWindow.window σ.l (mo st h) T1x1x256.size (hmo st h),
    VecWindow.window σ.a (mo st h) T1x128x256.size (hao st h)⟩

/-- Half `h` of the score buffer `u`. -/
def buf (σ : St F) (u h : Fin 2) : FVec F T512x256 .f32 := shapeCast T512x256 (VecWindow.window σ.s (so u h) T1x512x256.size (hsc u h) : Vec F T1x512x256 .f32) cast_s

theorem in_half : ∀ h : Fin 2, ∀ a, (![0, 0, 256 * h.val] : Fin 3 → ℕ) a + T1x512x256.size a ≤ T1x512x512.size a := by decide

/-- Half `h` of a block of scores. -/
def half (S : FVec F T1x512x512 .f32) (h : Fin 2) : FVec F T512x256 .f32 :=
  shapeCast T512x256 (VecWindow.window (s := T1x512x512) S ![0, 0, 256 * h.val] T1x512x256.size (in_half h) : Vec F T1x512x256 .f32) cast_s

theorem window_off {α : Type} {s : Shape} (x : s.Idx → α) (off off' size : Fin s.rank → ℕ) (inb : ∀ a, off a + size a ≤ s.size a) (inb' : ∀ a, off' a + size a ≤ s.size a)
    (e : off = off') : VecWindow.window x off size inb = VecWindow.window x off' size inb' := by subst e; rfl

theorem in_so : ∀ u h : Fin 2, ∀ a, so u 0 a ≤ so u h a ∧ so u h a + T1x512x256.size a ≤ so u 0 a + T1x512x512.size a := by decide
theorem so_sub : ∀ u h : Fin 2, ∀ a, so u h a - so u 0 a = (![0, 0, 256 * h.val] : Fin 3 → ℕ) a := by decide

/-- Half `h` of the scores of the block at `ko` against tile `st`. -/
def sc (K : Vec F T8192x256 .bf16) (X : Vec F T1x256x2048 .bf16) (ko : Fin 2 → ℕ) (hk : ∀ a, ko a + T512x256.size a ≤ T8192x256.size a) (st : Fin 4) (h : Fin 2) : FVec F T512x256 .f32 :=
  half (payScores (VecWindow.window K ko T512x256.size hk) (VecWindow.window X (qo st) T1x256x512.size (hqo st))) h

/-- The values of the block at `vo`. -/
def vblk (V : Vec F T1x128x8192 .bf16) (vo : Fin 3 → ℕ) (hv : ∀ a, vo a + T1x128x512.size a ≤ T1x128x8192.size a) : FVec F T128x512 .bf16 :=
  shapeCast T128x512 (VecWindow.window V vo T1x128x512.size hv : Vec F T1x128x512 .bf16) cast_v

section
variable (K : Vec F T8192x256 .bf16) (X : Vec F T1x256x2048 .bf16) (ko : Fin 2 → ℕ) (hk : ∀ a, ko a + T512x256.size a ≤ T8192x256.size a)

theorem col_scores (st : Fin 4) (u : Fin 2) (σ : St F) (st' : Fin 4) (h : Fin 2) : col (effScoresAt K X ko hk st u σ) st' h = col σ st' h := rfl

theorem buf_scores_same (st : Fin 4) (u : Fin 2) (σ : St F) (h : Fin 2) : buf (effScoresAt K X ko hk st u σ) u h = sc K X ko hk st h := by
  unfold buf sc half
  refine congrArg (fun w => shapeCast T512x256 w cast_s) ?_
  refine (VecWindow.window_put_of_inside (s := T2x512x512) _ (so u 0) T1x512x512.size (so u h) T1x512x256.size _ _ (in_so u h)).trans ?_
  exact window_off _ _ _ _ _ _ (funext (so_sub u h))

theorem buf_scores_ne (st : Fin 4) (u : Fin 2) (σ : St F) (u' h : Fin 2) (hu : u' ≠ u) : buf (effScoresAt K X ko hk st u σ) u' h = buf σ u' h := by
  unfold buf
  refine congrArg (fun w => shapeCast T512x256 w cast_s) ?_
  refine VecWindow.window_put_of_disjoint (s := T2x512x512) _ (so u 0) T1x512x512.size (so u' h) T1x512x256.size _ _ 0 ?_
  have hu' : u'.val ≠ u.val := fun e => hu (Fin.ext e)
  show u'.val + 1 ≤ u.val ∨ u.val + 1 ≤ u'.val
  omega

end

section
variable (f : FVec F T512x256 .f32 → FVec F T512x256 .f32) (vb : FVec F T128x512 .bf16)

theorem col_chunk_same (u : Fin 2) (st : Fin 4) (h : Fin 2) (σ : St F) :
    col (effChunk f vb (so u h) (hsc u h) (mo st h) (hmo st h) (hao st h) σ) st h = Col.step (f (buf σ u h)) vb (col σ st h) := by
  unfold col effChunk Col.step buf
  simp only [VecWindow.window_put_same]

theorem apart {st st' : Fin 4} {h h' : Fin 2} (hne : ¬ (st' = st ∧ h' = h)) (n : ℕ) :
    ∃ a : Fin 3, (mo st' h' a + (![1, n, 256] : Fin 3 → ℕ) a ≤ mo st h a ∨ mo st h a + (![1, n, 256] : Fin 3 → ℕ) a ≤ mo st' h' a) := by
  by_cases e : st' = st
  · have e2 : h'.val ≠ h.val := fun e2 => hne ⟨e, Fin.ext e2⟩
    refine ⟨2, ?_⟩
    show 256 * h'.val + 256 ≤ 256 * h.val ∨ 256 * h.val + 256 ≤ 256 * h'.val
    omega
  · have e2 : st'.val ≠ st.val := fun e2 => e (Fin.ext e2)
    refine ⟨0, ?_⟩
    show st'.val + 1 ≤ st.val ∨ st.val + 1 ≤ st'.val
    omega

theorem col_chunk_ne (u : Fin 2) (st : Fin 4) (h : Fin 2) (σ : St F) (st' : Fin 4) (h' : Fin 2) (hne : ¬ (st' = st ∧ h' = h)) :
    col (effChunk f vb (so u h) (hsc u h) (mo st h) (hmo st h) (hao st h) σ) st' h' = col σ st' h' := by
  obtain ⟨a1, h1⟩ := apart hne 1
  obtain ⟨a2, h2⟩ := apart hne 128
  unfold col effChunk
  refine Col.ext ?_ ?_ ?_
  · exact VecWindow.window_put_of_disjoint (s := T4x1x512) _ (mo st h) T1x1x256.size (mo st' h') T1x1x256.size _ _ a1 h1
  · exact VecWindow.window_put_of_disjoint (s := T4x1x512) _ (mo st h) T1x1x256.size (mo st' h') T1x1x256.size _ _ a1 h1
  · exact VecWindow.window_put_of_disjoint (s := T4x128x512) _ (mo st h) T1x128x256.size (mo st' h') T1x128x256.size _ _ a2 h2

end

section
variable (V : Vec F T1x128x8192 .bf16) (f : ℕ → FVec F T512x256 .f32 → FVec F T512x256 .f32) (vo : Fin 3 → ℕ) (hv : ∀ a, vo a + T1x128x512.size a ≤ T1x128x8192.size a)

theorem buf_unit (st : Fin 4) (u : Fin 2) (σ : St F) (u' h : Fin 2) : buf (effUnitAt V f vo hv st u σ) u' h = buf σ u' h := rfl

theorem col_unit_same (st : Fin 4) (u : Fin 2) (σ : St F) (h : Fin 2) : col (effUnitAt V f vo hv st u σ) st h = Col.step (f h.val (buf σ u h)) (vblk V vo hv) (col σ st h) := by
  unfold effUnitAt effUnit
  match h with
  | 0 =>
    refine (col_chunk_ne (f 1) _ u st 1 _ st 0 (by simp)).trans ?_
    exact col_chunk_same (f 0) _ u st 0 σ
  | 1 =>
    refine (col_chunk_same (f 1) _ u st 1 _).trans ?_
    exact congrArg (Col.step (f 1 (buf σ u 1)) (vblk V vo hv)) (col_chunk_ne (f 0) _ u st 0 σ st 1 (by simp))

theorem col_unit_ne (st : Fin 4) (u : Fin 2) (σ : St F) (st' : Fin 4) (h : Fin 2) (hne : st' ≠ st) : col (effUnitAt V f vo hv st u σ) st' h = col σ st' h := by
  unfold effUnitAt effUnit
  refine (col_chunk_ne (f 1) _ u st 1 _ st' h (fun e => hne e.1)).trans ?_
  exact col_chunk_ne (f 0) _ u st 0 σ st' h (fun e => hne e.1)

end

section
variable (K : Vec F T8192x256 .bf16) (X : Vec F T1x256x2048 .bf16) (V : Vec F T1x128x8192 .bf16)

theorem buf_trip (ko : Fin 5 → Fin 2 → ℕ) (hk : ∀ b, ∀ a, ko b a + T512x256.size a ≤ T8192x256.size a)
    (vo : Fin 4 → Fin 3 → ℕ) (hv : ∀ b, ∀ a, vo b a + T1x128x512.size a ≤ T1x128x8192.size a) (σ : St F) (h : Fin 2) :
    buf (effTrip K X V ko hk vo hv σ) 0 h = sc K X (ko 4) (hk 4) 0 h := by
  unfold effTrip
  simp only [buf_unit, buf_scores_same]

theorem col_trip (ko : Fin 5 → Fin 2 → ℕ) (hk : ∀ b, ∀ a, ko b a + T512x256.size a ≤ T8192x256.size a)
    (vo : Fin 4 → Fin 3 → ℕ) (hv : ∀ b, ∀ a, vo b a + T1x128x512.size a ≤ T1x128x8192.size a) (σ : St F) (st : Fin 4) (h : Fin 2)
    (hb : buf σ 0 h = sc K X (ko 0) (hk 0) 0 h) :
    col (effTrip K X V ko hk vo hv σ) st h = Col.step (sc K X (ko 3) (hk 3) st h) (vblk V (vo 3) (hv 3)) (Col.step (sc K X (ko 2) (hk 2) st h) (vblk V (vo 2) (hv 2))
      (Col.step (sc K X (ko 1) (hk 1) st h) (vblk V (vo 1) (hv 1)) (Col.step (sc K X (ko 0) (hk 0) st h) (vblk V (vo 0) (hv 0)) (col σ st h)))) := by
  unfold effTrip
  match st with
  | 0 => simp (disch := decide) only [col_scores, col_unit_same, col_unit_ne, buf_unit, buf_scores_same, buf_scores_ne, hb]
  | 1 => simp (disch := decide) only [col_scores, col_unit_same, col_unit_ne, buf_unit, buf_scores_same, buf_scores_ne, hb]
  | 2 => simp (disch := decide) only [col_scores, col_unit_same, col_unit_ne, buf_unit, buf_scores_same, buf_scores_ne, hb]
  | 3 => simp (disch := decide) only [col_scores, col_unit_same, col_unit_ne, buf_unit, buf_scores_same, buf_scores_ne, hb]

/-- The key block number `n` (of sixteen). -/
def keys (n : ℕ) : Vec F T512x256 .bf16 := fun i => K (ix2 (⟨(512 * n + (i 0).val) % 8192, Nat.mod_lt _ (by decide)⟩ : Fin 8192) (i 1 : Fin 256))

/-- The value block number `n` (of sixteen). -/
def vals (n : ℕ) : FVec F T128x512 .bf16 := shapeCast T128x512 (fun i => V (ix3 (0 : Fin 1) (i 1 : Fin 128) (⟨(512 * n + (i 2).val) % 8192, Nat.mod_lt _ (by decide)⟩ : Fin 8192)) : Vec F T1x128x512 .bf16) cast_v

/-- Half `h` of the scores of the key block `n` against tile `st`. -/
def scN (n : ℕ) (st : Fin 4) (h : Fin 2) : FVec F T512x256 .f32 :=
  half (payScores (keys K n) (VecWindow.window X (qo st) T1x256x512.size (hqo st))) h

theorem sc_eq (ko : Fin 2 → ℕ) (hk : ∀ a, ko a + T512x256.size a ≤ T8192x256.size a) (n : ℕ) (e : ko = ![512 * n, 0]) (st : Fin 4) (h : Fin 2) :
    sc K X ko hk st h = scN K X n st h := by
  subst e
  unfold sc scN
  refine congrArg (fun w => half (payScores w _) h) ?_
  funext i
  unfold keys VecWindow.window
  have hn : 512 * n + 512 ≤ 8192 := hk 0
  have hi : (i 0).val < 512 := (i 0).isLt
  refine congrArg K (funext fun a => Fin.ext ?_)
  match a with
  | 0 =>
    show 512 * n + 1 * (i 0).val = (512 * n + (i 0).val) % 8192
    omega
  | 1 =>
    show 0 + 1 * (i 1).val = (i 1).val
    omega

theorem vblk_eq (vo : Fin 3 → ℕ) (hv : ∀ a, vo a + T1x128x512.size a ≤ T1x128x8192.size a) (n : ℕ) (e : vo = ![0, 0, 512 * n]) :
    vblk V vo hv = vals V n := by
  subst e
  unfold vblk vals
  refine congrArg (fun w => shapeCast T128x512 w cast_v) ?_
  funext i
  unfold VecWindow.window
  have hn : 512 * n + 512 ≤ 8192 := hv 2
  have hi : (i 2).val < 512 := (i 2).isLt
  refine congrArg V (funext fun a => Fin.ext ?_)
  match a with
  | 0 =>
    have h0 : (i 0).val < 1 := (i 0).isLt
    show 0 + 1 * (i 0).val = 0
    omega
  | 1 =>
    show 0 + 1 * (i 1).val = (i 1).val
    omega
  | 2 =>
    show 512 * n + 1 * (i 2).val = (512 * n + (i 2).val) % 8192
    omega

/-- The running values of half `h` of tile `st` after the first `n` blocks, each taken whole. -/
def run (nb : F .f32) (st : Fin 4) (h : Fin 2) : ℕ → Col F
  | 0 => Col.start nb
  | n + 1 => Col.step (scN K X n st h) (vals V n) (run nb st h n)

/-- The running values after the `p`-th step's diagonal block too, masked inside it. -/
def ends (nb : F .f32) (p : ℕ) (st : Fin 4) (h : Fin 2) : Col F :=
  Col.step (maskAt nb (BitVec.ofNat 32 (256 * h.val)) (scN K X (4 * p + st.val) st h)) (vals V (4 * p + st.val)) (run K X V nb st h (4 * p + st.val))

theorem col_tail (nb : F .f32) (ko : Fin 4 → Fin 2 → ℕ) (hk : ∀ b, ∀ a, ko b a + T512x256.size a ≤ T8192x256.size a)
    (vo : Fin 4 → Fin 3 → ℕ) (hv : ∀ b, ∀ a, vo b a + T1x128x512.size a ≤ T1x128x8192.size a) (σ : St F) (p : ℕ)
    (ek : ∀ b, ko b = ![512 * (4 * p + b.val), 0]) (ev : ∀ b, vo b = ![0, 0, 512 * (4 * p + b.val)]) (st : Fin 4) (h : Fin 2)
    (hb : buf σ 0 h = scN K X (4 * p) 0 h) (hc : col σ st h = run K X V nb st h (4 * p)) :
    col (effTail nb K X V ko hk vo hv σ) st h = ends K X V nb p st h := by
  have s0 : ∀ st, sc K X (ko 0) (hk 0) st h = scN K X (4 * p) st h := fun st => sc_eq K X _ _ _ (ek 0) st h
  have s1 : ∀ st, sc K X (ko 1) (hk 1) st h = scN K X (4 * p + 1) st h := fun st => sc_eq K X _ _ _ (ek 1) st h
  have s2 : ∀ st, sc K X (ko 2) (hk 2) st h = scN K X (4 * p + 2) st h := fun st => sc_eq K X _ _ _ (ek 2) st h
  have s3 : ∀ st, sc K X (ko 3) (hk 3) st h = scN K X (4 * p + 3) st h := fun st => sc_eq K X _ _ _ (ek 3) st h
  have v0 : vblk V (vo 0) (hv 0) = vals V (4 * p) := vblk_eq V _ _ _ (ev 0)
  have v1 : vblk V (vo 1) (hv 1) = vals V (4 * p + 1) := vblk_eq V _ _ _ (ev 1)
  have v2 : vblk V (vo 2) (hv 2) = vals V (4 * p + 2) := vblk_eq V _ _ _ (ev 2)
  have v3 : vblk V (vo 3) (hv 3) = vals V (4 * p + 3) := vblk_eq V _ _ _ (ev 3)
  unfold effTail
  match st, hc with
  | 0, hc => simp (disch := decide) only [col_scores, col_unit_same, col_unit_ne, buf_unit, buf_scores_same, buf_scores_ne, hb, hc, s0, s1, s2, s3, v0, v1, v2, v3]; rfl
  | 1, hc => simp (disch := decide) only [col_scores, col_unit_same, col_unit_ne, buf_unit, buf_scores_same, buf_scores_ne, hb, hc, s0, s1, s2, s3, v0, v1, v2, v3]; rfl
  | 2, hc => simp (disch := decide) only [col_scores, col_unit_same, col_unit_ne, buf_unit, buf_scores_same, buf_scores_ne, hb, hc, s0, s1, s2, s3, v0, v1, v2, v3]; rfl
  | 3, hc => simp (disch := decide) only [col_scores, col_unit_same, col_unit_ne, buf_unit, buf_scores_same, buf_scores_ne, hb, hc, s0, s1, s2, s3, v0, v1, v2, v3]; rfl

theorem in_mo : ∀ (st : Fin 4) (h : Fin 2) (a : Fin 3), (![0, 0, 0] : Fin 3 → ℕ) a ≤ mo st h a ∧ mo st h a + T1x1x256.size a ≤ (![0, 0, 0] : Fin 3 → ℕ) a + T4x1x512.size a := by decide
theorem in_ao : ∀ (st : Fin 4) (h : Fin 2) (a : Fin 3), (![0, 0, 0] : Fin 3 → ℕ) a ≤ mo st h a ∧ mo st h a + T1x128x256.size a ≤ (![0, 0, 0] : Fin 3 → ℕ) a + T4x128x512.size a := by decide

theorem col_init (nb : F .f32) (σ : St F) (st : Fin 4) (h : Fin 2) : col (effInit nb σ) st h = Col.start nb := by
  unfold effInit col
  refine Col.ext ?_ ?_ ?_
  · exact (VecWindow.window_put_of_inside (s := T4x1x512) _ ![0, 0, 0] T4x1x512.size (mo st h) T1x1x256.size _ _ (in_mo st h)).trans rfl
  · exact (VecWindow.window_put_of_inside (s := T4x1x512) _ ![0, 0, 0] T4x1x512.size (mo st h) T1x1x256.size _ _ (in_mo st h)).trans rfl
  · exact (VecWindow.window_put_of_inside (s := T4x128x512) _ ![0, 0, 0] T4x128x512.size (mo st h) T1x128x256.size _ _ (in_ao st h)).trans rfl

theorem col_attn (nb : F .f32) (N : ℕ)
    (ko : Fin N → Fin 5 → Fin 2 → ℕ) (hk : ∀ t b, ∀ a, ko t b a + T512x256.size a ≤ T8192x256.size a)
    (vo : Fin N → Fin 4 → Fin 3 → ℕ) (hv : ∀ t b, ∀ a, vo t b a + T1x128x512.size a ≤ T1x128x8192.size a)
    (ke : Fin 4 → Fin 2 → ℕ) (hke : ∀ b, ∀ a, ke b a + T512x256.size a ≤ T8192x256.size a)
    (ve : Fin 4 → Fin 3 → ℕ) (hve : ∀ b, ∀ a, ve b a + T1x128x512.size a ≤ T1x128x8192.size a) (σ : St F)
    (eko : ∀ t b, ko t b = ![512 * (4 * t.val + b.val), 0]) (evo : ∀ t b, vo t b = ![0, 0, 512 * (4 * t.val + b.val)])
    (eke : ∀ b, ke b = ![512 * (4 * N + b.val), 0]) (eve : ∀ b, ve b = ![0, 0, 512 * (4 * N + b.val)]) (st : Fin 4) (h : Fin 2) :
    col (effAttn nb K X V N ko hk vo hv ke hke ve hve σ) st h = ends K X V nb N st h := by
  have key : ∀ n, n ≤ N → (∀ h, buf (effLoop (fun t => effTrip K X V (ko t) (hk t) (vo t) (hv t)) (effScoresAt K X ![0, 0] in_k0 0 0 (effInit nb σ)) n) 0 h = scN K X (4 * n) 0 h)
      ∧ ∀ st h, col (effLoop (fun t => effTrip K X V (ko t) (hk t) (vo t) (hv t)) (effScoresAt K X ![0, 0] in_k0 0 0 (effInit nb σ)) n) st h = run K X V nb st h (4 * n) := by
    intro n
    induction n with
    | zero =>
      intro _
      refine ⟨fun h => ?_, fun st h => ?_⟩
      · exact (buf_scores_same K X _ _ 0 0 _ h).trans (sc_eq K X _ _ 0 rfl 0 h)
      · exact (col_scores K X _ _ 0 0 _ st h).trans (col_init nb σ st h)
    | succ n ih =>
      intro hn
      obtain ⟨ib, ic⟩ := ih (by omega)
      have hlt : n < N := by omega
      have e : effLoop (fun t => effTrip K X V (ko t) (hk t) (vo t) (hv t)) (effScoresAt K X ![0, 0] in_k0 0 0 (effInit nb σ)) (n + 1)
          = effTrip K X V (ko ⟨n, hlt⟩) (hk ⟨n, hlt⟩) (vo ⟨n, hlt⟩) (hv ⟨n, hlt⟩) (effLoop (fun t => effTrip K X V (ko t) (hk t) (vo t) (hv t)) (effScoresAt K X ![0, 0] in_k0 0 0 (effInit nb σ)) n) := by
        simp only [effLoop, dif_pos hlt]
      rw [e]
      refine ⟨fun h => ?_, fun st h => ?_⟩
      · rw [buf_trip]
        exact sc_eq K X _ _ _ (eko ⟨n, hlt⟩ 4) 0 h
      · rw [col_trip K X V _ _ _ _ _ st h ((ib h).trans (sc_eq K X _ _ _ (eko ⟨n, hlt⟩ 0) 0 h).symm), ic st h]
        rw [sc_eq K X _ _ _ (eko ⟨n, hlt⟩ 0) st h, sc_eq K X _ _ _ (eko ⟨n, hlt⟩ 1) st h, sc_eq K X _ _ _ (eko ⟨n, hlt⟩ 2) st h, sc_eq K X _ _ _ (eko ⟨n, hlt⟩ 3) st h,
          vblk_eq V _ _ _ (evo ⟨n, hlt⟩ 0), vblk_eq V _ _ _ (evo ⟨n, hlt⟩ 1), vblk_eq V _ _ _ (evo ⟨n, hlt⟩ 2), vblk_eq V _ _ _ (evo ⟨n, hlt⟩ 3)]
        rfl
  obtain ⟨ib, ic⟩ := key N le_rfl
  exact col_tail K X V nb ke hke ve hve _ N eke eve st h (ib h) (ic st h)

end

/-- The weighted values of a tile, from its two halves. -/
def wideA (c : Fin 2 → Col F) : Vec F T1x128x512 .f32 :=
  fun i => (c ⟨(i 2).val / 256, (by have : (i 2).val < 512 := (i 2).isLt; omega : (i 2).val / 256 < 2)⟩).a (ix3 (0 : Fin 1) (i 1 : Fin 128) (⟨(i 2).val % 256, Nat.mod_lt _ (by decide)⟩ : Fin 256))

/-- The sums of a tile, from its two halves. -/
def wideL (c : Fin 2 → Col F) : Vec F T1x1x512 .f32 :=
  fun i => (c ⟨(i 2).val / 256, (by have : (i 2).val < 512 := (i 2).isLt; omega : (i 2).val / 256 < 2)⟩).l (ix3 (0 : Fin 1) (0 : Fin 1) (⟨(i 2).val % 256, Nat.mod_lt _ (by decide)⟩ : Fin 256))

/-- The output block, from the halves of the four tiles. -/
def outs (c : Fin 4 → Fin 2 → Col F) : Vec F T2048x128 .bf16 := fun j =>
  payOut (shapeCast T128x512 (wideA (c ⟨(j 0).val / 512, (by have : (j 0).val < 2048 := (j 0).isLt; omega : (j 0).val / 512 < 4)⟩)) cast_v')
    (wideL (c ⟨(j 0).val / 512, (by have : (j 0).val < 2048 := (j 0).isLt; omega : (j 0).val / 512 < 4)⟩))
    (ix2 (⟨(j 0).val % 512, Nat.mod_lt _ (by decide)⟩ : Fin 512) (j 1 : Fin 128))

theorem wideA_col (σ : St F) (st : Fin 4) : VecWindow.window σ.a (mo st 0) T1x128x512.size (hae st) = wideA (col σ st) := by
  funext i
  unfold wideA col VecWindow.window
  have hi : (i 2).val < 512 := (i 2).isLt
  have h0 : (i 0).val < 1 := (i 0).isLt
  refine congrArg σ.a (funext fun a => Fin.ext ?_)
  match a with
  | 0 =>
    show st.val + 1 * (i 0).val = st.val + 1 * 0
    omega
  | 1 => rfl
  | 2 =>
    show 256 * 0 + 1 * (i 2).val = 256 * ((i 2).val / 256) + 1 * ((i 2).val % 256)
    omega

theorem wideL_col (σ : St F) (st : Fin 4) : VecWindow.window σ.l (mo st 0) T1x1x512.size (hme st) = wideL (col σ st) := by
  funext i
  unfold wideL col VecWindow.window
  have hi : (i 2).val < 512 := (i 2).isLt
  have h0 : (i 0).val < 1 := (i 0).isLt
  have h1 : (i 1).val < 1 := (i 1).isLt
  refine congrArg σ.l (funext fun a => Fin.ext ?_)
  match a with
  | 0 =>
    show st.val + 1 * (i 0).val = st.val + 1 * 0
    omega
  | 1 =>
    show 0 + 1 * (i 1).val = 0 + 1 * 0
    omega
  | 2 =>
    show 256 * 0 + 1 * (i 2).val = 256 * ((i 2).val / 256) + 1 * ((i 2).val % 256)
    omega

theorem effOut_hit (σ : St F) (st : Fin 4) (O : Vec F T2048x128 .bf16) (j : T2048x128.Idx) (h : (j 0).val / 512 = st.val) : effOut σ st O j = outs (col σ) j := by
  have hj : (j 0).val < 2048 := (j 0).isLt
  have hj1 : (j 1).val < 128 := (j 1).isLt
  have hst : (⟨(j 0).val / 512, (by omega : (j 0).val / 512 < 4)⟩ : Fin 4) = st := Fin.ext h
  have hin : ∀ a, oo st a ≤ (j a).val ∧ (j a).val < oo st a + T512x128.size a := by
    intro a
    match a with
    | 0 => show 512 * st.val ≤ (j 0).val ∧ (j 0).val < 512 * st.val + 512; omega
    | 1 => show 0 ≤ (j 1).val ∧ (j 1).val < 0 + 128; omega
  unfold effOut outs
  rw [wideA_col, wideL_col, hst]
  refine (dif_pos hin).trans ?_
  refine congrArg _ (funext fun a => Fin.ext ?_)
  match a with
  | 0 => show (j 0).val - 512 * st.val = (j 0).val % 512; omega
  | 1 => show (j 1).val - 0 = (j 1).val; omega

theorem effOut_miss (σ : St F) (st : Fin 4) (O : Vec F T2048x128 .bf16) (j : T2048x128.Idx) (h : (j 0).val / 512 ≠ st.val) : effOut σ st O j = O j := by
  unfold effOut
  refine dif_neg fun hin => ?_
  have h0 : 512 * st.val ≤ (j 0).val ∧ (j 0).val < 512 * st.val + 512 := hin 0
  omega

/-- The output block does not depend on what the output buffer held, nor on the scratch beyond the halves of its tiles. -/
theorem effOuts_eq (σ : St F) (O : Vec F T2048x128 .bf16) : effOuts σ O = outs (col σ) := by
  funext j
  have hj : (j 0).val < 2048 := (j 0).isLt
  unfold effOuts
  by_cases h3 : (j 0).val / 512 = 3
  · exact effOut_hit σ 3 _ j h3
  rw [effOut_miss σ 3 _ j h3]
  by_cases h2 : (j 0).val / 512 = 2
  · exact effOut_hit σ 2 _ j h2
  rw [effOut_miss σ 2 _ j h2]
  by_cases h1 : (j 0).val / 512 = 1
  · exact effOut_hit σ 1 _ j h1
  rw [effOut_miss σ 1 _ j h1]
  exact effOut_hit σ 0 _ j (by show _ = 0; omega)

end Cert.Attn
-- ==== Proof.ProgI.lean ====
/- The printed body as the attention program of Units.lean. -/
module

public import proofs.«01_k».proof.KernelIdeal
public import proofs.«01_k».proof.Proof.Gen.KernelIdeal
public import proofs.«01_k».proof.Proof.Units

@[expose] public section

set_option maxRecDepth 65536

noncomputable section

namespace Cert.KernelIdeal.Hand

open Cert.KernelIdeal
open Idealize.ShloMosaic Idealize.SL.Sem

variable {F : FTy → Type} [FloatOps F] [Named F] [Facts]

open Facts₀ Facts

/-- One trip of the loop over whole blocks. -/
def t1b (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) : Fin (k0_t1_loop i).trips → PUnit → Prog (TpuEff nD τ sig (Elt F) Λ₀ .tc) PUnit :=
  have c0_i32_27 : BitVec 32 := 0#32
  have c1_i32_29 : BitVec 32 := 1#32
  fun k0_t1 _ => do
    let ⟨v1368, v1430, v1431, cst_1024⟩ : Σ' (v1368 : FVec F S128x512 .bf16) (v1430 : FVec F S128x256 .f32) (v1431 : FVec F S512x256 .bf16), FVec F S128x256 .f32 ← k0_part41 i arg2 harg2 arg3 harg3 arg4 harg4 arg5 harg5 arg6 harg6 arg7 harg7 arg8 harg8 arg9 harg9 c0_i32_27 c1_i32_29 k0_t1
    have v1432 : FVec F S128x256 .f32 := matmul dot_S128x512_S512x256_S128x256_1_0_0_1_n_n none v1368 v1431 cst_1024
    have v1433 : FVec F S128x256 .f32 := addf v1430 v1432
    let c3_1025 : Index := 3#32
    let c0_1026 : Index := 0#32
    let c256_1027 : Index := 256#32
    let v1434 : Vec F S1x128x256 .f32 ← Prog.lift (.load arg8 (Rect.unit (s := S4x128x512) ![3, 0, 256] S1x128x256.size inb_S4x128x512_S1x128x256_3_0_256).toLoadRect (View.loadsAt_vmem h_S1x128x256))
    have v1435 : FVec F S128x256 .f32 := shapeCast S128x256 v1434 shapeCasts_S1x128x256_S128x256
    have v1436 : FVec F S1x128x256 .f32 := shapeCast S1x128x256 v1433 shapeCasts_S128x256_S1x128x256
    Prog.lift (.store arg8 (Rect.unit (s := S4x128x512) ![3, 0, 256] S1x128x256.size inb_S4x128x512_S1x128x256_3_0_256) v1436 Finset.univ (View.stores_vmem_bits_univ h_S1x128x256 rfl) (.inl rfl))
    pure ⟨⟩

/-- The second loop of the printed body, which makes no trip. -/
def t2b (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) : Fin (k0_t2_loop i).trips → PUnit → Prog (TpuEff nD τ sig (Elt F) Λ₀ .tc) PUnit :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let c0_i32_26 : BitVec 32 := 0#32
  let c0_i32_27 : BitVec 32 := 0#32
  let v34 : BitVec 32 := Scalar.subi v33 c0_i32_27
  let v35 : BitVec 32 := Scalar.addi c0_i32_27 v34
  let c1_i32_28 : BitVec 32 := 1#32
  let v36 : BitVec 32 := Scalar.divsi v34 c1_i32_28
  let v37 : BitVec 32 := Scalar.muli v36 c1_i32_28
  let v38 : BitVec 32 := Scalar.addi c0_i32_27 v37
  have c1_i32_30 : BitVec 32 := 1#32
  fun k0_t2 _ => do
    let ⟨v1368, v1430, v1431, cst_1024⟩ : Σ' (v1368 : FVec F S128x512 .bf16) (v1430 : FVec F S128x256 .f32) (v1431 : FVec F S512x256 .bf16), FVec F S128x256 .f32 ← k0_part82 i arg2 harg2 arg3 harg3 arg4 harg4 arg5 harg5 arg6 harg6 arg7 harg7 arg8 harg8 arg9 harg9 v38 c1_i32_30 k0_t2
    have v1432 : FVec F S128x256 .f32 := matmul dot_S128x512_S512x256_S128x256_1_0_0_1_n_n none v1368 v1431 cst_1024
    have v1433 : FVec F S128x256 .f32 := addf v1430 v1432
    let c3_1025 : Index := 3#32
    let c0_1026 : Index := 0#32
    let c256_1027 : Index := 256#32
    let v1434 : Vec F S1x128x256 .f32 ← Prog.lift (.load arg8 (Rect.unit (s := S4x128x512) ![3, 0, 256] S1x128x256.size inb_S4x128x512_S1x128x256_3_0_256).toLoadRect (View.loadsAt_vmem h_S1x128x256))
    have v1435 : FVec F S128x256 .f32 := shapeCast S128x256 v1434 shapeCasts_S1x128x256_S128x256
    have v1436 : FVec F S1x128x256 .f32 := shapeCast S1x128x256 v1433 shapeCasts_S128x256_S1x128x256
    Prog.lift (.store arg8 (Rect.unit (s := S4x128x512) ![3, 0, 256] S1x128x256.size inb_S4x128x512_S1x128x256_3_0_256) v1436 Finset.univ (View.stores_vmem_bits_univ h_S1x128x256 rfl) (.inl rfl))
    pure ⟨⟩

/-- The diagonal blocks. -/
def lastb (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) (k0_h1 : k0_cond1 i = 1#1) : Prog (TpuEff nD τ sig (Elt F) Λ₀ .tc) PUnit :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  have v13 : BitVec 32 := Scalar.addi v0 0#32
  have v14 : BitVec 32 := Scalar.addi v0 0#32
  have v15 : BitVec 32 := Scalar.addi v0 0#32
  have v16 : BitVec 32 := Scalar.addi v0 0#32
  have v17 : BitVec 32 := Scalar.addi v0 1#32
  have v18 : BitVec 32 := Scalar.addi v0 1#32
  have v19 : BitVec 32 := Scalar.addi v0 1#32
  have v20 : BitVec 32 := Scalar.addi v0 2#32
  have v21 : BitVec 32 := Scalar.addi v0 2#32
  have v22 : BitVec 32 := Scalar.addi v0 3#32
  do
    let ⟨v102, v111, v116, v118, v121⟩ : Σ' (v102 : FVec F S128x512 .bf16) (v111 : FVec F S512x256 .f32) (v116 : FVec F S1x256 .f32) (v118 : FVec F S1x256 .f32), FVec F S1x1x256 .f32 ← k0_part83 i arg2 harg2 arg3 harg3 arg4 harg4 arg5 harg5 arg6 harg6 arg7 harg7 arg8 harg8 arg9 harg9 v13 v14 k0_h1
    let ⟨v152, v154, v155⟩ : Σ' (v152 : FVec F S512x256 .f32) (v154 : FVec F S1x256 .f32), FVec F S256 .f32 ← k0_part84 i arg2 harg2 arg3 harg3 arg4 harg4 arg5 harg5 arg6 harg6 arg7 harg7 arg8 harg8 arg9 harg9 v102 v111 v116 v118 v121
    let ⟨v189, v190⟩ : Σ' (v189 : FVec F S512x256 .bf16), Vec F S1x256x512 .bf16 ← k0_part85 i arg2 harg2 arg3 harg3 arg4 harg4 arg5 harg5 arg6 harg6 arg7 harg7 arg8 harg8 arg9 harg9 v15 k0_h1 v102 v152 v154 v155
    let ⟨v200, v209, v215, v224⟩ : Σ' (v200 : FVec F S128x512 .bf16) (v209 : FVec F S1x256 .f32) (v215 : FVec F S512x256 .f32), FVec F S1x1x256 .f32 ← k0_part86 i arg2 harg2 arg3 harg3 arg4 harg4 arg5 harg5 arg6 harg6 arg7 harg7 arg8 harg8 arg9 harg9 v14 k0_h1 v189 v190
    let ⟨v243, v249, v255⟩ : Σ' (v243 : FVec F S1x256 .f32) (v249 : FVec F S512x256 .f32), FVec F S1x256 .f32 ← k0_part87 i arg2 harg2 arg3 harg3 arg4 harg4 arg5 harg5 arg6 harg6 arg7 harg7 arg8 harg8 arg9 harg9 v200 v209 v215 v224
    let ⟨v284, v286, v288⟩ : Σ' (v284 : FVec F S128x512 .bf16) (v286 : FVec F S512x256 .f32), FVec F S1x256 .f32 ← k0_part88 i arg2 harg2 arg3 harg3 arg4 harg4 arg5 harg5 arg6 harg6 arg7 harg7 arg8 harg8 arg9 harg9 v15 v16 k0_h1 v200 v243 v249 v255
    let ⟨v320, v322⟩ : Σ' (v320 : FVec F S512x256 .f32), FVec F S1x256 .f32 ← k0_part89 i arg2 harg2 arg3 harg3 arg4 harg4 arg5 harg5 arg6 harg6 arg7 harg7 arg8 harg8 arg9 harg9 v284 v286 v288
    let v357 : FVec F S512x256 .bf16 ← k0_part90 i arg2 harg2 arg3 harg3 arg4 harg4 arg5 harg5 arg6 harg6 arg7 harg7 arg8 harg8 arg9 harg9 v17 k0_h1 v284 v320 v322
    let ⟨v368, v377, v383, v389, v390⟩ : Σ' (v368 : FVec F S128x512 .bf16) (v377 : FVec F S1x256 .f32) (v383 : FVec F S512x256 .f32) (v389 : FVec F S1x256 .f32), Vec F S1x1x256 .f32 ← k0_part91 i arg2 harg2 arg3 harg3 arg4 harg4 arg5 harg5 arg6 harg6 arg7 harg7 arg8 harg8 arg9 harg9 v16 k0_h1 v357
    let ⟨v411, v417, v423⟩ : Σ' (v411 : FVec F S1x256 .f32) (v417 : FVec F S512x256 .f32), FVec F S1x256 .f32 ← k0_part92 i arg2 harg2 arg3 harg3 arg4 harg4 arg5 harg5 arg6 harg6 arg7 harg7 arg8 harg8 arg9 harg9 v368 v377 v383 v389 v390
    let ⟨v452, v454, v455, v456, v457⟩ : Σ' (v452 : FVec F S128x512 .bf16) (v454 : FVec F S512x256 .f32) (v455 : IVec S512x256 32) (v456 : IVec S512x256 32), IVec S512x256 32 ← k0_part93 i arg2 harg2 arg3 harg3 arg4 harg4 arg5 harg5 arg6 harg6 arg7 harg7 arg8 harg8 arg9 harg9 v17 v18 k0_h1 v368 v411 v417 v423
    let v493 : FVec F S1x128x256 .f32 ← k0_part94 i arg2 harg2 arg3 harg3 arg4 harg4 arg5 harg5 arg6 harg6 arg7 harg7 arg8 harg8 arg9 harg9 v452 v454 v455 v456 v457
    let ⟨v515, v528⟩ : Σ' (v515 : FVec F S512x256 .f32), FVec F S128x256 .f32 ← k0_part95 i arg2 harg2 arg3 harg3 arg4 harg4 arg5 harg5 arg6 harg6 arg7 harg7 arg8 harg8 arg9 harg9 v493
    let ⟨v550, v552, v557, v559, v560⟩ : Σ' (v550 : FVec F S128x512 .bf16) (v552 : FVec F S512x256 .f32) (v557 : FVec F S1x256 .f32) (v559 : FVec F S1x256 .f32), Vec F S1x1x256 .f32 ← k0_part96 i arg2 harg2 arg3 harg3 arg4 harg4 arg5 harg5 arg6 harg6 arg7 harg7 arg8 harg8 arg9 harg9 v18 v19 k0_h1 v452 v515 v528
    let ⟨v586, v591, v593⟩ : Σ' (v586 : FVec F S512x256 .f32) (v591 : FVec F S1x256 .f32), FVec F S1x256 .f32 ← k0_part97 i arg2 harg2 arg3 harg3 arg4 harg4 arg5 harg5 arg6 harg6 arg7 harg7 arg8 harg8 arg9 harg9 v550 v552 v557 v559 v560
    let ⟨v626, v627⟩ : Σ' (v626 : FVec F S512x512 .f32), Vec F S1x512x512 .f32 ← k0_part98 i arg2 harg2 arg3 harg3 arg4 harg4 arg5 harg5 arg6 harg6 arg7 harg7 arg8 harg8 arg9 harg9 v20 k0_h1 v550 v586 v591 v593
    let ⟨v634, v649, v660, v661⟩ : Σ' (v634 : FVec F S128x512 .bf16) (v649 : FVec F S512x256 .f32) (v660 : FVec F S128x256 .f32), FVec F S128x256 .f32 ← k0_part99 i arg2 harg2 arg3 harg3 arg4 harg4 arg5 harg5 arg6 harg6 arg7 harg7 arg8 harg8 arg9 harg9 v19 k0_h1 v626 v627
    let ⟨v677, v683, v694⟩ : Σ' (v677 : FVec F S1x256 .f32) (v683 : FVec F S512x256 .f32), FVec F S128x256 .f32 ← k0_part100 i arg2 harg2 arg3 harg3 arg4 harg4 arg5 harg5 arg6 harg6 arg7 harg7 arg8 harg8 arg9 harg9 v634 v649 v660 v661
    let ⟨v718, v727, v728⟩ : Σ' (v718 : FVec F S128x512 .bf16) (v727 : FVec F S512x256 .f32), Vec F S1x1x256 .f32 ← k0_part101 i arg2 harg2 arg3 harg3 arg4 harg4 arg5 harg5 arg6 harg6 arg7 harg7 arg8 harg8 arg9 harg9 v20 v21 k0_h1 v634 v677 v683 v694
    let ⟨v761, v762, v763, c256_i32_530⟩ : Σ' (v761 : FVec F S512x256 .f32) (v762 : IVec S512x256 32) (v763 : IVec S512x256 32), BitVec 32 ← k0_part102 i arg2 harg2 arg3 harg3 arg4 harg4 arg5 harg5 arg6 harg6 arg7 harg7 arg8 harg8 arg9 harg9 v718 v727 v728
    let v797 : FVec F S128x256 .f32 ← k0_part103 i arg2 harg2 arg3 harg3 arg4 harg4 arg5 harg5 arg6 harg6 arg7 harg7 arg8 harg8 arg9 harg9 v718 v761 v762 v763 c256_i32_530
    let ⟨v816, v825, v831⟩ : Σ' (v816 : FVec F S128x512 .bf16) (v825 : FVec F S1x256 .f32), FVec F S512x256 .f32 ← k0_part104 i arg2 harg2 arg3 harg3 arg4 harg4 arg5 harg5 arg6 harg6 arg7 harg7 arg8 harg8 arg9 harg9 v21 v22 k0_h1 v797
    let ⟨v859, v865⟩ : Σ' (v859 : FVec F S1x256 .f32), FVec F S512x256 .f32 ← k0_part105 i arg2 harg2 arg3 harg3 arg4 harg4 arg5 harg5 arg6 harg6 arg7 harg7 arg8 harg8 arg9 harg9 v816 v825 v831
    let ⟨v889, v898, v900⟩ : Σ' (v889 : FVec F S128x512 .bf16) (v898 : FVec F S512x256 .f32), FVec F S1x256 .f32 ← k0_part106 i arg2 harg2 arg3 harg3 arg4 harg4 arg5 harg5 arg6 harg6 arg7 harg7 arg8 harg8 arg9 harg9 v22 k0_h1 v816 v859 v865
    let ⟨v932, v933, v934, v935⟩ : Σ' (v932 : FVec F S512x256 .f32) (v933 : IVec S512x256 32) (v934 : IVec S512x256 32), IVec S512x256 32 ← k0_part107 i arg2 harg2 arg3 harg3 arg4 harg4 arg5 harg5 arg6 harg6 arg7 harg7 arg8 harg8 arg9 harg9 v889 v898 v900
    let v971 : FVec F S1x128x256 .f32 ← k0_part108 i arg2 harg2 arg3 harg3 arg4 harg4 arg5 harg5 arg6 harg6 arg7 harg7 arg8 harg8 arg9 harg9 v889 v932 v933 v934 v935
    Prog.lift (.store arg8 (Rect.unit (s := S4x128x512) ![3, 0, 256] S1x128x256.size inb_S4x128x512_S1x128x256_3_0_256) v971 Finset.univ (View.stores_vmem_bits_univ h_S1x128x256 rfl) (.inl rfl))
    pure ⟨⟩

theorem t1b_eq (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) (t : Fin (k0_t1_loop i).trips) : t1b (F := F) i arg2 harg2 arg3 harg3 arg4 harg4 arg5 harg5 arg6 harg6 arg7 harg7 arg8 harg8 arg9 harg9 t ⟨⟩ =
   Cert.Attn.trip arg2 arg3 arg4 arg6 arg7 arg8 arg9 (fun b => k0_off1 i t (BitVec.ofNat 32 b)) (fun b => k0_off1_inb i t b) (fun b => k0_off2 i t (BitVec.ofNat 32 b)) (fun b => k0_off2_inb i t b) := by
  rfl
theorem last_eq (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) (k0_h1 : k0_cond1 i = 1#1) : lastb (F := F) i arg2 harg2 arg3 harg3 arg4 harg4 arg5 harg5 arg6 harg6 arg7 harg7 arg8 harg8 arg9 harg9 k0_h1 =
   Cert.Attn.tail arg2 arg3 arg4 arg6 arg7 arg8 arg9 (Named.named κ "mask" 0xF149F2CA#32) (fun b => k0_off5 i (BitVec.ofNat 32 b)) (fun b => k0_off5_inb i k0_h1 b) (fun b => k0_off6 i (BitVec.ofNat 32 b)) (fun b => k0_off6_inb i k0_h1 b) := by
  rfl
/-- The middle of the body: the first scores, the loops, the diagonal blocks and the first tile's division. -/
theorem middle_eq  (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) (K : Vec F S512x256 .bf16) : k0_part110 (F := F) i arg2 harg2 arg3 harg3 arg4 harg4 arg5 harg5 arg6 harg6 arg7 harg7 arg8 harg8 arg9 harg9 (Scalar.muli (BitVec.ofNat 32 (i 1).val) 4#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 2#32) (Scalar.addi (Scalar.muli (BitVec.ofNat 32 (i 1).val) 4#32) 2#32) (Scalar.addi (Scalar.muli (BitVec.ofNat 32 (i 1).val) 4#32) 3#32) (shapeCast S512x256 K shapeCasts_S512x256_S512x256) = (do
    let Q : Vec F Attn.T1x256x512 .bf16 ← Prog.lift (.load arg2 (Rect.unit (s := Attn.T1x256x2048) (Attn.qo 0) Attn.T1x256x512.size (Attn.hqo 0)).toLoadRect (View.loadsAt_vmem Attn.pos_T1x256x512))
    let _x : Vec F Attn.T1x512x512 .f32 ← Prog.lift (.load arg9 (Rect.unit (s := Attn.T2x512x512) (Attn.so 0 0) Attn.T1x512x512.size (Attn.hso 0)).toLoadRect (View.loadsAt_vmem Attn.pos_T1x512x512))
    Prog.lift (.store arg9 (Rect.unit (s := Attn.T2x512x512) (Attn.so 0 0) Attn.T1x512x512.size (Attn.hso 0)) (Attn.payScores K Q) Finset.univ (View.stores_vmem_bits_univ Attn.pos_T1x512x512 rfl) (.inl rfl))
    (k0_t1_loop i).for (k0_t1_ok i) ⟨⟩ (t1b i arg2 harg2 arg3 harg3 arg4 harg4 arg5 harg5 arg6 harg6 arg7 harg7 arg8 harg8 arg9 harg9)
    (k0_t2_loop i).for (k0_t2_ok i) ⟨⟩ (t2b i arg2 harg2 arg3 harg3 arg4 harg4 arg5 harg5 arg6 harg6 arg7 harg7 arg8 harg8 arg9 harg9)
    if h : k0_cond1 i = 1#1 then lastb i arg2 harg2 arg3 harg3 arg4 harg4 arg5 harg5 arg6 harg6 arg7 harg7 arg8 harg8 arg9 harg9 h else pure ⟨⟩
    Attn.out arg5 arg7 arg8 harg5 0
    let x : Vec F Attn.T1x128x512 .f32 ← Prog.lift (.load arg8 (Rect.unit (s := Attn.T4x128x512) (Attn.mo 1 0) Attn.T1x128x512.size (Attn.hae 1)).toLoadRect (View.loadsAt_vmem Attn.pos_T1x128x512))
    pure (shapeCast Attn.T128x512 x Attn.cast_v')) := by
  unfold k0_part110
  refine congrArg (Bind.bind _) (funext fun Q => ?_)
  refine congrArg (Bind.bind _) (funext fun x => ?_)
  refine congrArg (Bind.bind _) (funext fun x => ?_)
  refine congrArg (Bind.bind _) (funext fun x => ?_)
  refine congrArg₂ Prog.bind ?_ (funext fun x => ?_)
  · rfl
  refine dite_congr rfl (fun h => ?_) (fun h => ?_)
  · rfl
  · rfl
/-- The printed body is the attention program over the same buffers. -/
theorem body_eq  (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) : cc0_attn_mla (F := F) i arg2 harg2 arg3 harg3 arg4 harg4 arg5 harg5 arg6 harg6 arg7 harg7 arg8 harg8 arg9 harg9 =
   Cert.Attn.attn arg2 arg3 arg5 arg6 arg7 arg8 arg9 harg5 (Named.named κ "mask" 0xF149F2CA#32) (k0_t1_loop i) (k0_t1_ok i) (t1b i arg2 harg2 arg3 harg3 arg4 harg4 arg5 harg5 arg6 harg6 arg7 harg7 arg8 harg8 arg9 harg9) (k0_t2_loop i) (k0_t2_ok i) (t2b i arg2 harg2 arg3 harg3 arg4 harg4 arg5 harg5 arg6 harg6 arg7 harg7 arg8 harg8 arg9 harg9) (k0_cond1 i) (lastb i arg2 harg2 arg3 harg3 arg4 harg4 arg5 harg5 arg6 harg6 arg7 harg7 arg8 harg8 arg9 harg9) := by
  have e : cc0_attn_mla (F := F) i arg2 harg2 arg3 harg3 arg4 harg4 arg5 harg5 arg6 harg6 arg7 harg7 arg8 harg8 arg9 harg9 = (do
      Attn.init arg6 arg7 arg8 (Named.named κ "mask" 0xF149F2CA#32)
      let K : Vec F Attn.T512x256 .bf16 ← Prog.lift (.load arg3 (Rect.unit (s := Attn.T8192x256) ![0, 0] Attn.T512x256.size Attn.in_k0).toLoadRect (View.loadsAt_vmem Attn.pos_T512x256))
      let x : FVec F Attn.T128x512 .f32 ← k0_part110 (F := F) i arg2 harg2 arg3 harg3 arg4 harg4 arg5 harg5 arg6 harg6 arg7 harg7 arg8 harg8 arg9 harg9 (Scalar.muli (BitVec.ofNat 32 (i 1).val) 4#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 2#32) (Scalar.addi (Scalar.muli (BitVec.ofNat 32 (i 1).val) 4#32) 2#32) (Scalar.addi (Scalar.muli (BitVec.ofNat 32 (i 1).val) 4#32) 3#32) (shapeCast S512x256 K shapeCasts_S512x256_S512x256)
      Attn.outOf arg5 arg7 harg5 1 x
      Attn.out arg5 arg7 arg8 harg5 2
      Attn.out arg5 arg7 arg8 harg5 3
      pure ⟨⟩) := by rfl
  rw [e]
  simp only [middle_eq]
  rfl

end Cert.KernelIdeal.Hand

end
-- ==== Proof.BodyI.lean ====
/- What the body leaves in the output block, and the program's run. -/
module

public import proofs.«01_k».proof.Proof.Gen.KernelIdeal
public import proofs.«01_k».proof.Proof.Gen.KernelIdeal.Frame
public import proofs.«01_k».proof.Proof.Gen.KernelIdeal.Points
public import proofs.«01_k».proof.Proof.Gen.KernelIdeal.Launch
public import proofs.«01_k».proof.Proof.Flow
public import proofs.«01_k».proof.Proof.ProgI
public import Idealize.ShloMosaic.Lib.Pipeline.FrameSuffix
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Attn (Held)

/-! ## The loops' trips and the blocks' offsets -/

theorem trips_eq : ∀ i : grid0.Coords, (k0_t1_loop i).trips = (i 1).val := by decide +kernel
theorem trips2_eq : ∀ i : grid0.Coords, (k0_t2_loop i).trips = 0 := by decide +kernel
theorem cond_eq : ∀ i : grid0.Coords, k0_cond1 i = 1#1 := by decide +kernel

theorem off_trip : ∀ (n : Fin 4) (b : Fin 5), (Scalar.indexCast (Scalar.muli (Scalar.addi (Scalar.muli (Scf.iv 0#32 1#32 n.val) 4#32) (BitVec.ofNat 32 b.val)) 512#32) : Index).toNat = 512 * (4 * n.val + b.val) := by decide +kernel
theorem off_tail : ∀ (n b : Fin 4), (Scalar.indexCast (Scalar.muli (Scalar.addi (Scalar.muli (BitVec.ofNat 32 n.val) 4#32) (BitVec.ofNat 32 b.val)) 512#32) : Index).toNat = 512 * (4 * n.val + b.val) := by decide +kernel

theorem lt_trips (i : grid0.Coords) (t : Fin (k0_t1_loop i).trips) : t.val < 4 := by
  have h := lt_of_lt_of_eq t.isLt (trips_eq i)
  have h1 : (i 1).val < 4 := (i 1).isLt
  omega

theorem off1_eq (i : grid0.Coords) (t : Fin (k0_t1_loop i).trips) (b : Fin 5) : k0_off1 i t (BitVec.ofNat 32 b) = ![512 * (4 * t.val + b.val), 0] :=
  congrArg (fun n : ℕ => (![n, 0] : Fin 2 → ℕ)) (off_trip ⟨t.val, lt_trips i t⟩ b)

theorem off2_eq (i : grid0.Coords) (t : Fin (k0_t1_loop i).trips) (b : Fin 4) : k0_off2 i t (BitVec.ofNat 32 b) = ![0, 0, 512 * (4 * t.val + b.val)] :=
  congrArg (fun n : ℕ => (![0, 0, n] : Fin 3 → ℕ)) (off_trip ⟨t.val, lt_trips i t⟩ (b.castLE (by decide)))

theorem off5_eq (i : grid0.Coords) (b : Fin 4) : k0_off5 i (BitVec.ofNat 32 b) = ![512 * (4 * (k0_t1_loop i).trips + b.val), 0] := by
  rw [trips_eq]
  exact congrArg (fun n : ℕ => (![n, 0] : Fin 2 → ℕ)) (off_tail (i 1) b)

theorem off6_eq (i : grid0.Coords) (b : Fin 4) : k0_off6 i (BitVec.ofNat 32 b) = ![0, 0, 512 * (4 * (k0_t1_loop i).trips + b.val)] := by
  rw [trips_eq]
  exact congrArg (fun n : ℕ => (![0, 0, n] : Fin 3 → ℕ)) (off_tail (i 1) b)

variable {F : FTy → Type} [FloatOps F] [Named F]

local notation "𝕄" => MT nD τ sig Unit (Elt F) ℕ (UR sig nD τ) ℕ

/-- What the body leaves in the output block at the grid point `i`, from the blocks of keys, queries and values it reads. -/
def blockOut (i : grid0.Coords) (X : Vec F S1x256x2048 .bf16) (K : Vec F S8192x256 .bf16) (V : Vec F S1x128x8192 .bf16) : Vec F S2048x128 .bf16 :=
  Cert.Attn.outs (Cert.Attn.ends K X V (Named.named κ "mask" 0xF149F2CA#32) (k0_t1_loop i).trips)

/-- The body's triple: from the blocks it reads and its buffers, at anything, to the output block at `blockOut`. -/
theorem kernelRun (i : grid0.Coords) (c : Dev nD)
    (arg2 : Memref sig .tc .vmem S1x256x2048 .bf16) (harg2 : arg2.IsWhole) (arg3 : Memref sig .tc .vmem S8192x256 .bf16) (harg3 : arg3.IsWhole)
    (arg4 : Memref sig .tc .vmem S1x128x8192 .bf16) (harg4 : arg4.IsWhole) (arg5 : Memref sig .tc .vmem S2048x128 .bf16) (harg5 : arg5.IsWhole)
    (arg6 : Memref sig .tc .vmem S4x1x512 .f32) (harg6 : arg6.IsWhole) (arg7 : Memref sig .tc .vmem S4x1x512 .f32) (harg7 : arg7.IsWhole)
    (arg8 : Memref sig .tc .vmem S4x128x512 .f32) (harg8 : arg8.IsWhole) (arg9 : Memref sig .tc .vmem S2x512x512 .f32) (harg9 : arg9.IsWhole)
    (X : Vec F S1x256x2048 .bf16) (K : Vec F S8192x256 .bf16) (V : Vec F S1x128x8192 .bf16) (Ψ : PUnit → sProp 𝕄) :
    iprop(Held (c : Thread nD τ) arg2 X ∗ Held (c : Thread nD τ) arg3 K ∗ Held (c : Thread nD τ) arg4 V ∗ (∃ O, Held (c : Thread nD τ) arg5 O)
        ∗ (∃ x, Held (c : Thread nD τ) arg6 x) ∗ (∃ x, Held (c : Thread nD τ) arg7 x) ∗ (∃ x, Held (c : Thread nD τ) arg8 x) ∗ (∃ x, Held (c : Thread nD τ) arg9 x)
        ∗ (iprop(Held (c : Thread nD τ) arg2 X ∗ Held (c : Thread nD τ) arg3 K ∗ Held (c : Thread nD τ) arg4 V ∗ Held (c : Thread nD τ) arg5 (blockOut i X K V)
            ∗ (∃ x, Held (c : Thread nD τ) arg6 x) ∗ (∃ x, Held (c : Thread nD τ) arg7 x) ∗ (∃ x, Held (c : Thread nD τ) arg8 x) ∗ (∃ x, Held (c : Thread nD τ) arg9 x)) -∗ Ψ ⟨⟩))
      ⊢ wp frame (wpE (defs₀ (F := F)) Variants.none c none) Set.univ
          (cc0_attn_mla i arg2 harg2 arg3 harg3 arg4 harg4 arg5 harg5 arg6 harg6 arg7 harg7 arg8 harg8 arg9 harg9) Ψ := by
  rw [body_eq]
  iintro ⟨HX, HK, HV, ⟨%O, HO⟩, ⟨%xm, H6⟩, ⟨%xl, H7⟩, ⟨%xa, H8⟩, ⟨%xs, H9⟩, Hk⟩
  iapply (Cert.Attn.wp_attn (σ := ⟨xm, xl, xa, xs⟩) (fun t => t1b_eq i arg2 harg2 arg3 harg3 arg4 harg4 arg5 harg5 arg6 harg6 arg7 harg7 arg8 harg8 arg9 harg9 t)
    (trips2_eq i) (cond_eq i) (last_eq i arg2 harg2 arg3 harg3 arg4 harg4 arg5 harg5 arg6 harg6 arg7 harg7 arg8 harg8 arg9 harg9 (cond_eq i))) $$ [HX HK HV HO H6 H7 H8 H9]
  · unfold Cert.Attn.HeldAll Cert.Attn.HeldSt
    iframe
  iintro ⟨HA, HO⟩
  rw [Cert.Attn.effOuts_eq]
  iapply Hk
  unfold Cert.Attn.HeldAll Cert.Attn.HeldSt
  icases HA with ⟨HK, HX, HV, H6, H7, H8, H9⟩
  isplitl [HX]; · iexact HX
  isplitl [HK]; · iexact HK
  isplitl [HV]; · iexact HV
  isplitl [HO]
  · unfold blockOut
    rw [show Cert.Attn.ends K X V (Named.named κ "mask" 0xF149F2CA#32) (k0_t1_loop i).trips = Cert.Attn.col _ from
      (funext fun st => funext fun h => (Cert.Attn.col_attn K X V _ _ _ _ _ _ _ _ _ _ ⟨xm, xl, xa, xs⟩ (off1_eq i) (off2_eq i) (off5_eq i) (off6_eq i) st h).symm)]
    iexact HO
  isplitl [H6]; · iexists _; iexact H6
  isplitl [H7]; · iexists _; iexact H7
  isplitl [H8]; · iexists _; iexact H8
  iexists _; iexact H9

/-! ## The proof data and the body obligation -/

variable (m : (ℓ : Loc nD τ sig) → Buf (Elt F) ℓ) (ρ : Dev nD → PrngReg)

/-- The proof data: the arrays as the region finds them, the inputs' blocks left alone, the output's block at `blockOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (grid0.coords t) (iblk m c 0 t) (iblk m c 1 t) (iblk m c 2 t)
    | ⟨_ + 4, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t))

theorem held_eq (c : Thread nD τ) {cs : CoreSpace} {s : Shape} {e : EltTy} (M : Memref sig c.2.kind cs s e) (x : s.Idx → Elt F e) :
    (Held c M x : sProp 𝕄) = owns c M fullShare x := (owns_eq_rep _ _ _ _).symm

theorem phi_eq (c : Dev nD) : (Pipeline.ΦA spec0 c : sProp 𝕄) = iprop(iprop((∃ x, Held (c : Thread nD τ) (Memref.whole cc0_scratch0) x) ∗ (∃ x, Held (c : Thread nD τ) (Memref.whole cc0_scratch1) x)
      ∗ (∃ x, Held (c : Thread nD τ) (Memref.whole cc0_scratch2) x) ∗ (∃ x, Held (c : Thread nD τ) (Memref.whole cc0_scratch3) x)) ∗ ∃ r, prngReg c r) := by
  unfold Pipeline.ΦA
  rw [scopedRest0_eq]
  simp only [held_eq, owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  simp only [before0_0_of m (dats m 0 c) rfl (fun _ => rfl), before0_1_of m (dats m 0 c) rfl (fun _ => rfl), before0_2_of m (dats m 0 c) rfl (fun _ => rfl)]
  iintro ⟨⟨⟨H6, H7, H8, H9⟩, Hg⟩, Ho, ⟨%d0, H0⟩, ⟨%d1, H1⟩, ⟨%d2, H2⟩, ⟨%d3, H3⟩⟩
  iapply (kernelRun (grid0.coords t) c (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (Memref.whole cc0_scratch0) (Memref.isWhole_whole _) (Memref.whole cc0_scratch1) (Memref.isWhole_whole _)
    (Memref.whole cc0_scratch2) (Memref.isWhole_whole _) (Memref.whole cc0_scratch3) (Memref.isWhole_whole _) (iblk m c 0 t) (iblk m c 1 t) (iblk m c 2 t))
  isplitl [H0]
  · rw [held_eq]; iexact H0
  isplitl [H1]
  · rw [held_eq]; iexact H1
  isplitl [H2]
  · rw [held_eq]; iexact H2
  isplitl [H3]
  · iexists _; rw [held_eq]; iexact H3
  isplitl [H6]; · iexact H6
  isplitl [H7]; · iexact H7
  isplitl [H8]; · iexact H8
  isplitl [H9]; · iexact H9
  iintro ⟨H0, H1, H2, H3, H6, H7, H8, H9⟩
  isplitl [H6 H7 H8 H9 Hg]
  · isplitl [H6 H7 H8 H9]
    · isplitl [H6]; · iexact H6
      isplitl [H7]; · iexact H7
      isplitl [H8]; · iexact H8
      iexact H9
    iexact Hg
  isplitl [Ho]; · iexact Ho
  isplitl [H0]; · iapply (Entails.of_eq (held_eq _ _ _)) $$ H0
  isplitl [H1]; · iapply (Entails.of_eq (held_eq _ _ _)) $$ H1
  isplitl [H2]; · iapply (Entails.of_eq (held_eq _ _ _)) $$ H2
  iapply (Entails.of_eq (held_eq _ _ _)) $$ H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every weakly fair execution terminates, faults nowhere, leaves the arrays at what the proof data say, and ends with every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (fun c => (body_obligation m c).loose) (fun c => (dats m 0 c).share_full fun _ => rfl) (fun _ _ => rfl) (V0 m) [hostOps1] sfx_sub sfx_fresh sfx_keeps
    (hmain m Variants.none) (fun _ _ => rfl) (fun _ _ => rfl) _ (fun _ h => h)

/-- The frame: the argument arrays end unchanged, the counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c))⟩, h.2⟩) (run_main m ρ)

end Cert.KernelIdeal.Hand

end
-- ==== Proof.Soft.lean ====
/- A softmax taken block by block: the running maximum, sum and weighted values of one query over the extended reals, and the quotient they end in. -/
module

public import Idealize.ShloMosaic.Lib.Pointwise
public import Idealize.ShloMosaic.PureOps.Ideal.Laws

@[expose] public section

noncomputable section

namespace Cert.Attn

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum of extended reals. -/
theorem mul_sum_coe {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A sum over `n + 1` blocks of 512 is the sum over `n` of them and the last. -/
theorem sum_block {M : Type} [AddCommMonoid M] (f : ℕ → M) (n : ℕ) :
    ∑ k ∈ Finset.range (512 * (n + 1)), f k = ∑ k ∈ Finset.range (512 * n), f k + ∑ k : Fin 512, f (512 * n + k.val) := by
  rw [show 512 * (n + 1) = 512 * n + 512 by ring, Finset.sum_range_add, Finset.sum_range (fun x => f (512 * n + x))]

section
variable (x : ℕ → ℝ) (p : ℕ → Prop) [DecidablePred p]

/-- The score of key `k`: minus infinity where the mask hides it. -/
def score (k : ℕ) : EReal := if p k then (x k : EReal) else ⊥

/-- The weight of key `k` under the maximum `μ`. -/
def wt (μ : ℝ) (k : ℕ) : ℝ := if p k then Real.rpow 2 (x k - μ) else 0

theorem wt_nonneg (μ : ℝ) (k : ℕ) : 0 ≤ wt x p μ k := by
  unfold wt; split_ifs
  · exact Real.rpow_nonneg (by norm_num) _
  · exact le_rfl

theorem wt_eq (μ : ℝ) (k : ℕ) : Ideal.exp2 (score x p k - (μ : EReal)) = (wt x p μ k : EReal) := by
  unfold score wt; split_ifs
  · rw [← EReal.coe_sub]; rfl
  · rw [EReal.bot_sub]; rfl

theorem wt_mul (μ μ' : ℝ) (k : ℕ) : Real.rpow 2 (μ - μ') * wt x p μ k = wt x p μ' k := by
  unfold wt; split_ifs
  · have h2 : (0 : ℝ) < 2 := by norm_num
    have h := Real.rpow_add h2 (μ - μ') (x k - μ)
    rw [show μ - μ' + (x k - μ) = x k - μ' by ring] at h
    exact h.symm
  · exact mul_zero _

/-- What the running values are after the first `n` blocks. -/
def Inv (v : ℕ → EReal) (n : ℕ) (m l a : EReal) : Prop :=
  (n = 0 ∧ m = ⊥ ∧ l = 0 ∧ a = 0) ∨ ∃ μ : ℝ, m = (μ : EReal)
    ∧ l = ((∑ k ∈ Finset.range (512 * n), wt x p μ k : ℝ) : EReal) ∧ a = ∑ k ∈ Finset.range (512 * n), v k * (wt x p μ k : EReal)

theorem fold_max_real (n : ℕ) (h : ∃ k : Fin 512, p (512 * n + k.val)) :
    ∃ μ : ℝ, Finset.univ.fold max ⊥ (fun k : Fin 512 => score x p (512 * n + k.val)) = (μ : EReal) := by
  have hb : Finset.univ.fold max ⊥ (fun k : Fin 512 => score x p (512 * n + k.val)) ≠ ⊥ := by
    intro e
    obtain ⟨k, hk⟩ := h
    have h1 := (Finset.fold_max_le (b := (⊥ : EReal)) (f := fun k : Fin 512 => score x p (512 * n + k.val)) (s := Finset.univ) ⊥).mp (le_of_eq e)
    have h2 := h1.2 k (Finset.mem_univ k)
    rw [score, if_pos hk] at h2
    exact EReal.coe_ne_bot _ (le_bot_iff.mp h2)
  have ht : Finset.univ.fold max ⊥ (fun k : Fin 512 => score x p (512 * n + k.val)) < ⊤ := by
    refine (Finset.fold_max_lt _).mpr ⟨bot_lt_top (α := EReal), fun k _ => ?_⟩
    unfold score; split_ifs
    · exact EReal.coe_lt_top _
    · exact bot_lt_top
  exact ⟨_, (EReal.coe_toReal ht.ne hb).symm⟩

/-- One more block keeps the running values what they should be. -/
theorem Inv.step (v : ℕ → EReal) (n : ℕ) (m l a : EReal) (h : ∃ k : Fin 512, p (512 * n + k.val)) (hi : Inv x p v n m l a) (m' : EReal)
    (hm : m' = max m (Finset.univ.fold max ⊥ (fun k : Fin 512 => score x p (512 * n + k.val)))) :
    (∃ μ : ℝ, m' = (μ : EReal)) ∧ Inv x p v (n + 1) m'
      (Ideal.exp2 (m - m') * l + ∑ k : Fin 512, Ideal.exp2 (score x p (512 * n + k.val) - m'))
      (a * Ideal.exp2 (m - m') + ∑ k : Fin 512, v (512 * n + k.val) * Ideal.exp2 (score x p (512 * n + k.val) - m')) := by
  obtain ⟨M, hM⟩ := fold_max_real x p n h
  rw [hM] at hm
  rcases hi with ⟨rfl, rfl, rfl, rfl⟩ | ⟨μ, rfl, rfl, rfl⟩
  · rw [max_eq_right bot_le] at hm
    subst hm
    refine ⟨⟨M, rfl⟩, .inr ⟨M, rfl, ?_, ?_⟩⟩
    · rw [sum_block]
      simp only [wt_eq, mul_zero, zero_add, Finset.range_zero, Finset.sum_empty, coe_sum]
    · rw [sum_block]
      simp only [wt_eq, zero_mul, zero_add, mul_zero, Finset.range_zero, Finset.sum_empty]
  · rw [show max (μ : EReal) (M : EReal) = ((max μ M : ℝ) : EReal) from (EReal.coe_strictMono.monotone.map_max).symm] at hm
    subst hm
    generalize max μ M = μ'
    have he : Ideal.exp2 ((μ : EReal) - (μ' : EReal)) = ((Real.rpow 2 (μ - μ') : ℝ) : EReal) := by rw [← EReal.coe_sub]; rfl
    have hpos : 0 ≤ Real.rpow 2 (μ - μ') := Real.rpow_nonneg (by norm_num) _
    refine ⟨⟨μ', rfl⟩, .inr ⟨μ', rfl, ?_, ?_⟩⟩
    · rw [sum_block, he, ← EReal.coe_mul, Finset.mul_sum]
      simp only [wt_mul, wt_eq, EReal.coe_add, coe_sum]
    · rw [sum_block, he, mul_comm, mul_sum_coe _ _ hpos]
      simp only [wt_eq]
      congr 1
      refine Finset.sum_congr rfl fun k _ => ?_
      rw [mul_left_comm, ← EReal.coe_mul, wt_mul]

end

/-- The quotient the blocks end in is the softmax's: under any real in the maximum's place, and with the scores in another base. -/
theorem quotient (x : ℕ → ℝ) (p : ℕ → Prop) [DecidablePred p] (y : ℕ → ℝ) (L : ℝ) (hy : ∀ k, x k * Real.log 2 = y k) (v : ℕ → EReal) (n N : ℕ) (hn : n ≤ N) (hp : ∀ k, p k → k < n) (k₀ : ℕ) (h0 : p k₀)
    (μ : ℝ) :
    (∑ k ∈ Finset.range n, v k * (wt x p μ k : EReal)) * Ideal.div 1 ((∑ k ∈ Finset.range n, wt x p μ k : ℝ) : EReal)
      = ∑ k ∈ Finset.range N, v k * Ideal.div ((if p k then Real.exp (y k - L) else 0 : ℝ) : EReal)
          ((∑ j ∈ Finset.range N, (if p j then Real.exp (y j - L) else 0) : ℝ) : EReal) := by
  have hsub : Finset.range n ⊆ Finset.range N := Finset.range_subset_range.mpr hn
  have hz : ∀ k, k ∉ Finset.range n → ¬ p k := fun k hk hpk => hk (Finset.mem_range.mpr (hp k hpk))
  have hw : 0 < ∑ k ∈ Finset.range n, wt x p μ k := by
    refine Finset.sum_pos' (fun k _ => wt_nonneg x p μ k) ⟨k₀, Finset.mem_range.mpr (hp _ h0), ?_⟩
    unfold wt; rw [if_pos h0]
    exact Real.rpow_pos_of_pos (by norm_num) _
  set C : ℝ := Real.exp (μ * Real.log 2 - L) with hC
  have hCpos : 0 < C := Real.exp_pos _
  have hterm : ∀ k, (if p k then Real.exp (y k - L) else 0) = C * wt x p μ k := by
    intro k
    unfold wt
    split_ifs
    · have h2 : (0 : ℝ) < 2 := by norm_num
      show _ = C * (2 : ℝ) ^ (x k - μ)
      rw [Real.rpow_def_of_pos h2, hC, ← Real.exp_add, ← hy k]
      congr 1; ring
    · rw [mul_zero]
  have hsum : ∑ j ∈ Finset.range N, (if p j then Real.exp (y j - L) else 0) = C * ∑ k ∈ Finset.range n, wt x p μ k := by
    rw [Finset.mul_sum]
    refine (Finset.sum_subset hsub fun k _ hk => ?_).symm.trans ?_
    · rw [if_neg (hz k hk)]
    · exact Finset.sum_congr rfl fun k _ => hterm k
  rw [hsum]
  set W := ∑ k ∈ Finset.range n, wt x p μ k with hW
  have hCW : 0 < C * W := mul_pos hCpos hw
  have hd1 : Ideal.div 1 ((W : ℝ) : EReal) = ((W⁻¹ : ℝ) : EReal) := by
    unfold Ideal.div
    rw [if_neg (by exact_mod_cast hw.ne'), one_mul, EReal.coe_inv]
  have hd : ∀ r : ℝ, Ideal.div (r : EReal) ((C * W : ℝ) : EReal) = ((r * (C * W)⁻¹ : ℝ) : EReal) := by
    intro r
    unfold Ideal.div
    rw [if_neg (by exact_mod_cast hCW.ne'), EReal.coe_mul r, EReal.coe_inv]
  rw [hd1, mul_comm, mul_sum_coe _ _ (inv_nonneg.mpr hw.le)]
  refine (Finset.sum_congr rfl fun k _ => ?_).trans (Finset.sum_subset hsub fun k _ hk => ?_)
  · rw [hd, hterm k, mul_left_comm, ← EReal.coe_mul]
    congr 2
    field_simp
  · rw [hd, if_neg (hz k hk), zero_mul, EReal.coe_zero, mul_zero]

end Cert.Attn

end
-- ==== Proof.ColI.lean ====
/- The running values of one query over the extended reals: the vectors of the body read at one column. -/
module

public import proofs.«01_k».proof.Proof.Flow
public import proofs.«01_k».proof.Proof.Soft
public import Idealize.ShloMosaic.Lib.Pointwise

@[expose] public section

set_option maxRecDepth 65536

noncomputable section

namespace Cert.Attn

open Idealize.ShloMosaic

theorem neg_inf : Ideal.ofBits .f32 0xFF800000#32 = (⊥ : EReal) := by
  simp [Ideal.ofBits, Ideal.ieee]

/-- The new maximum of a column. -/
def colMax (s : FVec Ideal T512x256 .f32) (x : EReal) (c : Fin 256) : EReal :=
  max x (Finset.univ.fold max ⊥ (fun k : Fin 512 => (s (ix2 k c) : EReal)))

theorem newMax_apply (s : FVec Ideal T512x256 .f32) (x : Vec Ideal T1x1x256 .f32) (c : Fin 256) :
    newMax s x (ix2 (0 : Fin 1) c) = colMax s (x (ix3 (0 : Fin 1) (0 : Fin 1) c)) c := by
  pointwise [newMax, colMax, neg_inf]

theorem payM_apply (s : FVec Ideal T512x256 .f32) (x : Vec Ideal T1x1x256 .f32) (c : Fin 256) :
    payM s x (ix3 (0 : Fin 1) (0 : Fin 1) c) = colMax s (x (ix3 (0 : Fin 1) (0 : Fin 1) c)) c := by
  pointwise [payM, newMax_apply]

theorem payL_apply (s : FVec Ideal T512x256 .f32) (x l : Vec Ideal T1x1x256 .f32) (c : Fin 256) :
    payL s x l (ix3 (0 : Fin 1) (0 : Fin 1) c)
      = Ideal.exp2 (x (ix3 (0 : Fin 1) (0 : Fin 1) c) - colMax s (x (ix3 (0 : Fin 1) (0 : Fin 1) c)) c) * l (ix3 (0 : Fin 1) (0 : Fin 1) c)
        + ∑ k : Fin 512, Ideal.exp2 (s (ix2 k c) - colMax s (x (ix3 (0 : Fin 1) (0 : Fin 1) c)) c) := by
  pointwise [payL, rescale, weights, newMax_apply]
  rfl

theorem payA_apply (s : FVec Ideal T512x256 .f32) (x : Vec Ideal T1x1x256 .f32) (vb : FVec Ideal T128x512 .bf16) (a : Vec Ideal T1x128x256 .f32) (d : Fin 128) (c : Fin 256) :
    payA s x vb a (ix3 (0 : Fin 1) d c)
      = a (ix3 (0 : Fin 1) d c) * Ideal.exp2 (x (ix3 (0 : Fin 1) (0 : Fin 1) c) - colMax s (x (ix3 (0 : Fin 1) (0 : Fin 1) c)) c)
        + ∑ k : Fin 512, vb (ix2 d k) * Ideal.exp2 (s (ix2 k c) - colMax s (x (ix3 (0 : Fin 1) (0 : Fin 1) c)) c) := by
  pointwise [payA, rescale, weights, newMax_apply, dotVP]
  rfl

theorem mask_word : ∀ h : Fin 2, ∀ k : Fin 512, ∀ c : Fin 256,
    IntOp.cmpi CmpIPredicate.sle (BitVec.ofNat 32 k.val) (IntOp.addi (BitVec.ofNat 32 c.val) (BitVec.ofNat 32 (256 * h.val))) = if k.val ≤ 256 * h.val + c.val then 1#1 else 0#1 := by
  intro h k c
  have hk := k.isLt; have hc := c.isLt; have hh := h.isLt
  have e : (BitVec.ofNat 32 k.val).sle (BitVec.ofNat 32 c.val + BitVec.ofNat 32 (256 * h.val)) = decide (k.val ≤ 256 * h.val + c.val) := by
    rw [← BitVec.ofNat_add, BitVec.sle_eq_decide]
    have h1 : (BitVec.ofNat 32 k.val).toInt = (k.val : ℤ) := by rw [BitVec.toInt_eq_toNat_of_lt] <;> simp <;> omega
    have h2 : (BitVec.ofNat 32 (c.val + 256 * h.val)).toInt = ((c.val + 256 * h.val : ℕ) : ℤ) := by rw [BitVec.toInt_eq_toNat_of_lt] <;> simp <;> omega
    rw [h1, h2]
    congr 1
    apply propext
    omega
  show BitVec.ofBool ((BitVec.ofNat 32 k.val).sle (BitVec.ofNat 32 c.val + BitVec.ofNat 32 (256 * h.val))) = _
  rw [e]
  by_cases hle : k.val ≤ 256 * h.val + c.val <;> simp [hle]

theorem maskAt_apply (nb : EReal) (h : Fin 2) (s : FVec Ideal T512x256 .f32) (k : Fin 512) (c : Fin 256) :
    maskAt (F := Ideal) nb (BitVec.ofNat 32 (256 * h.val)) s (ix2 k c) = if k.val ≤ 256 * h.val + c.val then (s (ix2 k c) : EReal) else nb := by
  pointwise [maskAt]
  rw [mask_word]
  split_ifs <;> rfl

theorem payScores_apply (x : Vec Ideal T512x256 .bf16) (y : Vec Ideal T1x256x512 .bf16) (k q : Fin 512) :
    payScores x y (ix3 (0 : Fin 1) k q) = ∑ e : Fin 256, x (ix2 k e) * y (ix3 (0 : Fin 1) e q) := by
  pointwise [payScores, dotKQ]

theorem payOut_apply (a : FVec Ideal T128x512 .f32) (l : Vec Ideal T1x1x512 .f32) (q : Fin 512) (d : Fin 128) :
    payOut a l (ix2 q d) = a (ix2 d q) * Ideal.div 1 (l (ix3 (0 : Fin 1) (0 : Fin 1) q)) := by
  pointwise [payOut]

section
variable (K : Vec Ideal T8192x256 .bf16) (X : Vec Ideal T1x256x2048 .bf16) (V : Vec Ideal T1x128x8192 .bf16)

/-- The query of column `c` of half `h` of tile `st`, within its block. -/
abbrev qat (st : Fin 4) (h : Fin 2) (c : Fin 256) : Fin 2048 := ⟨512 * st.val + 256 * h.val + c.val, by have := st.isLt; have := h.isLt; have := c.isLt; omega⟩

/-- Key number `k`, read round the end. -/
abbrev kat (k : ℕ) : Fin 8192 := ⟨k % 8192, Nat.mod_lt _ (by decide)⟩

theorem cast_half (w : Vec Ideal T1x512x256 .f32) (k : Fin 512) (c : Fin 256) : (shapeCast T512x256 w cast_s : FVec Ideal T512x256 .f32) (ix2 k c) = w (ix3 (0 : Fin 1) k c) := by
  pointwise []

theorem half_apply (S : FVec Ideal T1x512x512 .f32) (h : Fin 2) (k : Fin 512) (c : Fin 256) :
    half S h (ix2 k c) = S (ix3 (0 : Fin 1) k (⟨256 * h.val + c.val, by have := h.isLt; have := c.isLt; omega⟩ : Fin 512)) := by
  unfold half
  rw [cast_half]
  unfold VecWindow.window
  refine congrArg S (funext fun a => Fin.ext ?_)
  match a with
  | 0 => rfl
  | 1 => show 0 + 1 * k.val = k.val; omega
  | 2 => show 256 * h.val + 1 * c.val = 256 * h.val + c.val; omega

theorem scN_apply (n : ℕ) (st : Fin 4) (h : Fin 2) (k : Fin 512) (c : Fin 256) :
    scN K X n st h (ix2 k c) = ∑ e : Fin 256, K (ix2 (kat (512 * n + k.val)) e) * X (ix3 (0 : Fin 1) e (qat st h c)) := by
  unfold scN
  rw [half_apply, payScores_apply]
  refine Finset.sum_congr rfl fun e _ => ?_
  congr 1
  unfold VecWindow.window
  refine congrArg X (funext fun a => Fin.ext ?_)
  match a with
  | 0 => rfl
  | 1 => show 0 + 1 * e.val = e.val; omega
  | 2 => show 512 * st.val + 1 * (256 * h.val + c.val) = 512 * st.val + 256 * h.val + c.val; omega

theorem vals_apply (n : ℕ) (d : Fin 128) (k : Fin 512) : vals V n (ix2 d k) = V (ix3 (0 : Fin 1) d (kat (512 * n + k.val))) := by
  unfold vals
  pointwise []

variable (st : Fin 4) (h : Fin 2) (c : Fin 256) (x : ℕ → ℝ)
  (hx : ∀ k, ∑ e : Fin 256, K (ix2 (kat k) e) * X (ix3 (0 : Fin 1) e (qat st h c)) = (x k : EReal))
include hx

theorem step_inv (p : ℕ → Prop) [DecidablePred p] (d : Fin 128) (n : ℕ) (s : FVec Ideal T512x256 .f32) (u : Col Ideal)
    (hs : ∀ k : Fin 512, s (ix2 k c) = score x p (512 * n + k.val)) (hp : ∃ k : Fin 512, p (512 * n + k.val))
    (hi : Inv x p (fun k => V (ix3 (0 : Fin 1) d (kat k))) n (u.m (ix3 (0 : Fin 1) (0 : Fin 1) c)) (u.l (ix3 (0 : Fin 1) (0 : Fin 1) c)) (u.a (ix3 (0 : Fin 1) d c))) :
    (∃ μ : ℝ, (Col.step s (vals V n) u).m (ix3 (0 : Fin 1) (0 : Fin 1) c) = (μ : EReal)) ∧
    Inv x p (fun k => V (ix3 (0 : Fin 1) d (kat k))) (n + 1) ((Col.step s (vals V n) u).m (ix3 (0 : Fin 1) (0 : Fin 1) c))
      ((Col.step s (vals V n) u).l (ix3 (0 : Fin 1) (0 : Fin 1) c)) ((Col.step s (vals V n) u).a (ix3 (0 : Fin 1) d c)) := by
  unfold Col.step
  simp only [payM_apply, payL_apply, payA_apply, vals_apply, hs]
  refine Inv.step x p _ n _ _ _ hp hi _ ?_
  unfold colMax
  simp only [hs]

theorem run_inv (p : ℕ) (d : Fin 128) : ∀ n, n ≤ 4 * p + st.val →
    Inv x (fun k => k ≤ 2048 * p + (qat st h c).val) (fun k => V (ix3 (0 : Fin 1) d (kat k))) n ((run K X V (⊥ : EReal) st h n).m (ix3 (0 : Fin 1) (0 : Fin 1) c))
      ((run K X V (⊥ : EReal) st h n).l (ix3 (0 : Fin 1) (0 : Fin 1) c)) ((run K X V (⊥ : EReal) st h n).a (ix3 (0 : Fin 1) d c)) := by
  intro n
  induction n with
  | zero =>
    intro _
    refine .inl ⟨rfl, rfl, ?_, ?_⟩ <;> exact Ideal.ofBits_zero_f32
  | succ n ih =>
    intro hn
    have hle : ∀ k : Fin 512, 512 * n + k.val ≤ 2048 * p + (qat st h c).val := fun k => by have := k.isLt; show _ ≤ 2048 * p + (512 * st.val + 256 * h.val + c.val); omega
    refine (step_inv K X V st h c x hx _ d n _ _ (fun k => ?_) ⟨0, hle 0⟩ (ih (by omega))).2
    rw [scN_apply, hx, score, if_pos (hle k)]

theorem ends_inv (p : ℕ) (d : Fin 128) :
    ∃ μ : ℝ, (ends K X V (⊥ : EReal) p st h).l (ix3 (0 : Fin 1) (0 : Fin 1) c)
        = ((∑ k ∈ Finset.range (512 * (4 * p + st.val + 1)), wt x (fun k => k ≤ 2048 * p + (qat st h c).val) μ k : ℝ) : EReal)
      ∧ (ends K X V (⊥ : EReal) p st h).a (ix3 (0 : Fin 1) d c)
        = ∑ k ∈ Finset.range (512 * (4 * p + st.val + 1)), V (ix3 (0 : Fin 1) d (kat k)) * (wt x (fun k => k ≤ 2048 * p + (qat st h c).val) μ k : EReal) := by
  have hq : (qat st h c).val = 512 * st.val + 256 * h.val + c.val := rfl
  have hi := (step_inv K X V st h c x hx (fun k => k ≤ 2048 * p + (qat st h c).val) d (4 * p + st.val) (maskAt (F := Ideal) (⊥ : EReal) (BitVec.ofNat 32 (256 * h.val)) (scN K X (4 * p + st.val) st h)) _
    (fun k => ?_) ⟨0, ?_⟩ (run_inv K X V st h c x hx p d (4 * p + st.val) le_rfl)).2
  · rcases hi with ⟨h0, _⟩ | ⟨μ, _, hl, ha⟩
    · omega
    · exact ⟨μ, hl, ha⟩
  · rw [maskAt_apply, scN_apply, hx, score]
    by_cases hk : k.val ≤ 256 * h.val + c.val
    · rw [if_pos hk, if_pos (by omega)]
    · rw [if_neg hk, if_neg (by omega)]
  · show 512 * (4 * p + st.val) + 0 ≤ 2048 * p + (qat st h c).val
    omega

end

theorem outs_apply (u : Fin 4 → Fin 2 → Col Ideal) (st : Fin 4) (h : Fin 2) (c : Fin 256) (d : Fin 128) :
    outs u (ix2 (qat st h c) d) = (u st h).a (ix3 (0 : Fin 1) d c) * Ideal.div 1 ((u st h).l (ix3 (0 : Fin 1) (0 : Fin 1) c)) := by
  have hc := c.isLt
  have hh := h.isLt
  have hst := st.isLt
  have e1 : (⟨(qat st h c).val / 512, by have := (qat st h c).isLt; omega⟩ : Fin 4) = st := Fin.ext (by show (512 * st.val + 256 * h.val + c.val) / 512 = st.val; omega)
  have e2 : (⟨((qat st h c).val % 512) / 256, by omega⟩ : Fin 2) = h := Fin.ext (by show ((512 * st.val + 256 * h.val + c.val) % 512) / 256 = h.val; omega)
  have e3 : (⟨((qat st h c).val % 512) % 256, Nat.mod_lt _ (by decide)⟩ : Fin 256) = c := Fin.ext (by show ((512 * st.val + 256 * h.val + c.val) % 512) % 256 = c.val; omega)
  show payOut (shapeCast T128x512 (wideA (u ⟨(qat st h c).val / 512, _⟩)) cast_v') (wideL (u ⟨(qat st h c).val / 512, _⟩)) (ix2 (⟨(qat st h c).val % 512, _⟩ : Fin 512) d) = _
  rw [payOut_apply, e1]
  have ea : shapeCast T128x512 (wideA (u st)) cast_v' (ix2 d (⟨(qat st h c).val % 512, Nat.mod_lt _ (by decide)⟩ : Fin 512)) = (u st h).a (ix3 (0 : Fin 1) d c) := by
    pointwise []
    show (u st ⟨((qat st h c).val % 512) / 256, _⟩).a (ix3 (0 : Fin 1) d (⟨((qat st h c).val % 512) % 256, _⟩ : Fin 256)) = _
    rw [e2, e3]
  have el : wideL (u st) (ix3 (0 : Fin 1) (0 : Fin 1) (⟨(qat st h c).val % 512, Nat.mod_lt _ (by decide)⟩ : Fin 512)) = (u st h).l (ix3 (0 : Fin 1) (0 : Fin 1) c) := by
    show (u st ⟨((qat st h c).val % 512) / 256, _⟩).l (ix3 (0 : Fin 1) (0 : Fin 1) (⟨((qat st h c).val % 512) % 256, _⟩ : Fin 256)) = _
    rw [e2, e3]
  exact congrArg₂ (fun a b => a * Ideal.div 1 b) ea el

/-- One element of the block the body leaves: the softmax of the scores up to the query, against the values. -/
theorem ends_out (K : Vec Ideal T8192x256 .bf16) (X : Vec Ideal T1x256x2048 .bf16) (V : Vec Ideal T1x128x8192 .bf16) (p : ℕ) (hp : p < 4) (q : Fin 2048) (d : Fin 128) (x y : ℕ → ℝ)
    (hx : ∀ k, ∑ e : Fin 256, K (ix2 (kat k) e) * X (ix3 (0 : Fin 1) e q) = (x k : EReal)) (hy : ∀ k, x k * Real.log 2 = y k) (L : ℝ) :
    outs (ends K X V (⊥ : EReal) p) (ix2 q d)
      = ∑ k ∈ Finset.range 8192, V (ix3 (0 : Fin 1) d (kat k)) * Ideal.div ((if k ≤ 2048 * p + q.val then Real.exp (y k - L) else 0 : ℝ) : EReal)
          ((∑ j ∈ Finset.range 8192, (if j ≤ 2048 * p + q.val then Real.exp (y j - L) else 0) : ℝ) : EReal) := by
  have hq := q.isLt
  obtain ⟨st, h, c, rfl⟩ : ∃ st h c, q = qat st h c :=
    ⟨⟨q.val / 512, by omega⟩, ⟨q.val % 512 / 256, by omega⟩, ⟨q.val % 256, by omega⟩, Fin.ext (by show q.val = 512 * (q.val / 512) + 256 * (q.val % 512 / 256) + q.val % 256; omega)⟩
  obtain ⟨μ, hl, ha⟩ := ends_inv K X V st h c x hx p d
  have hst := st.isLt
  have hh := h.isLt
  have hc := c.isLt
  rw [outs_apply, hl, ha]
  have hqv : (qat st h c).val = 512 * st.val + 256 * h.val + c.val := rfl
  exact quotient x (fun k => k ≤ 2048 * p + (qat st h c).val) y L hy (fun k => V (ix3 (0 : Fin 1) d (kat k))) (512 * (4 * p + st.val + 1)) 8192 (by omega)
    (fun k hk => by omega) 0 (Nat.zero_le _) μ

end Cert.Attn

end
-- ==== Proof.Scores.lean ====
/- Facts about the scores both programs start from: finite queries and keys, the literals, and the padded sums. -/
module

public import proofs.«01_k».proof.Proof.ColI

@[expose] public section

noncomputable section

namespace Cert.Attn

open Idealize.ShloMosaic

/-- An extended real of absolute value below infinity is a real. -/
theorem real_of_abs_lt (x : EReal) (h : max x (-x) < ⊤) : ((x.toReal : ℝ) : EReal) = x := by
  apply EReal.coe_toReal
  · rintro rfl; simp at h
  · rintro rfl; simp at h

theorem two_bits : Ideal.ofBits .f32 0x40000000#32 = ((2 : ℝ) : EReal) := by
  simp [Ideal.ofBits, Ideal.ieee, -EReal.coe_mul]; norm_num

theorem inf_bits : Ideal.ofBits .f32 0x7F800000#32 = (⊤ : EReal) := by
  simp [Ideal.ofBits, Ideal.ieee]

/-- The scale of the logits. -/
def scale : ℝ := (Ideal.ofBits .f32 0x3D93CD3A#32 : EReal).toReal

theorem scale_bits : Ideal.ofBits .f32 0x3D93CD3A#32 = ((scale : ℝ) : EReal) := by
  unfold scale
  refine (EReal.coe_toReal ?_ ?_).symm <;> simp [Ideal.ofBits, Ideal.ieee, -EReal.coe_mul]

/-- The factor the kernel takes the queries times: the scale over the logarithm of two. -/
theorem factor_real : Ideal.div (Ideal.ofBits .f32 0x3D93CD3A#32) (Ideal.log (Ideal.ofBits .f32 0x40000000#32)) = ((scale / Real.log 2 : ℝ) : EReal) := by
  have hl : Real.log 2 ≠ 0 := (Real.log_pos (by norm_num)).ne'
  rw [scale_bits, two_bits]
  have h2 : Ideal.log ((2 : ℝ) : EReal) = ((Real.log 2 : ℝ) : EReal) := by
    have : ¬ ((2 : ℝ) ≤ 0) := by norm_num
    show (if (2 : ℝ) ≤ 0 then (⊥ : EReal) else ((Real.log 2 : ℝ) : EReal)) = _
    rw [if_neg this]
  rw [h2]
  unfold Ideal.div
  rw [if_neg (by simpa using hl)]
  rw [← EReal.coe_inv, ← EReal.coe_mul, div_eq_mul_inv]

/-- The padded columns' sum is the sum over the columns. -/
theorem sum_padded (A : ℕ → EReal) :
    ∑ e : Fin 256, (if e.val < 128 then A (64 + e.val) else if e.val - 128 < 64 then A (e.val - 128) else 0) = ∑ j : Fin 192, A j.val := by
  rw [← Finset.sum_range (fun n => if n < 128 then A (64 + n) else if n - 128 < 64 then A (n - 128) else 0), ← Finset.sum_range (fun n => A n),
    show (256 : ℕ) = 128 + 64 + 64 by norm_num, Finset.sum_range_add, Finset.sum_range_add, show (192 : ℕ) = 64 + 128 by norm_num, Finset.sum_range_add A 64 128]
  have e1 : ∑ x ∈ Finset.range 128, (if x < 128 then A (64 + x) else if x - 128 < 64 then A (x - 128) else 0) = ∑ x ∈ Finset.range 128, A (64 + x) :=
    Finset.sum_congr rfl fun x hx => if_pos (Finset.mem_range.mp hx)
  have e2 : ∑ x ∈ Finset.range 64, (if 128 + x < 128 then A (64 + (128 + x)) else if 128 + x - 128 < 64 then A (128 + x - 128) else 0) = ∑ x ∈ Finset.range 64, A x :=
    Finset.sum_congr rfl fun x hx => by
      rw [if_neg (by omega), if_pos (by have := Finset.mem_range.mp hx; omega), show 128 + x - 128 = x by omega]
  have e3 : ∑ x ∈ Finset.range 64, (if 128 + 64 + x < 128 then A (64 + (128 + 64 + x)) else if 128 + 64 + x - 128 < 64 then A (128 + 64 + x - 128) else 0) = 0 :=
    Finset.sum_eq_zero fun x hx => by rw [if_neg (by omega), if_neg (by omega)]
  rw [e1, e2, e3, add_zero, add_comm]

/-- The product of a padded key and a padded, scaled query. -/
theorem dot_padded (a b : Fin 192 → EReal) (a' b' : Fin 192 → ℝ) (ha : ∀ j, a j = (a' j : EReal)) (hb : ∀ j, b j = (b' j : EReal)) (c : ℝ) :
    ∑ e : Fin 256, (if h : e.val < 128 then b ⟨64 + e.val, by omega⟩ else if h : e.val - 128 < 64 then b ⟨e.val - 128, by omega⟩ else 0)
        * (if h : e.val < 128 then a ⟨64 + e.val, by omega⟩ * (c : EReal) else if h : e.val - 128 < 64 then a ⟨e.val - 128, by omega⟩ * (c : EReal) else 0)
      = (((∑ j, a' j * b' j) * c : ℝ) : EReal) := by
  rw [show (∑ j, a' j * b' j) * c = ∑ j, b' j * (a' j * c) by rw [Finset.sum_mul]; exact Finset.sum_congr rfl fun j _ => by ring]
  rw [coe_sum]
  refine Eq.trans ?_ ((sum_padded (fun n => if h : n < 192 then b ⟨n, h⟩ * (a ⟨n, h⟩ * (c : EReal)) else 0)).trans ?_)
  · refine Finset.sum_congr rfl fun e _ => ?_
    by_cases h1 : e.val < 128
    · rw [dif_pos h1, dif_pos h1, if_pos h1, dif_pos (by omega)]
    · by_cases h2 : e.val - 128 < 64
      · rw [dif_neg h1, dif_neg h1, if_neg h1, dif_pos h2, dif_pos h2, if_pos h2, dif_pos (by omega)]
      · rw [dif_neg h1, dif_neg h1, if_neg h1, dif_neg h2, dif_neg h2, if_neg h2, mul_zero]
  · refine Finset.sum_congr rfl fun j _ => ?_
    rw [dif_pos j.isLt, ha, hb, EReal.coe_mul, EReal.coe_mul]

/-- The score of key `j` for query `s` of head `h`: the scaled product of the two rows. -/
def logit (q k : FVec Ideal ⟨4, ![1, 8192, 6, 192]⟩ .f32) (h : Fin 6) (s j : Fin 8192) : ℝ :=
  (∑ e : Fin 192, (q (ix4 (0 : Fin 1) s h e) : EReal).toReal * (k (ix4 (0 : Fin 1) j h e) : EReal).toReal) * scale

/-- One entry of the attention: the values weighed by the exponentials of the scores `y` of the keys up to `s`. -/
def att (y : ℕ → ℝ) (V : ℕ → EReal) (L : ℝ) (s : ℕ) : EReal :=
  ∑ k ∈ Finset.range 8192, V k * Ideal.div ((if k ≤ s then Real.exp (y k - L) else 0 : ℝ) : EReal)
    ((∑ j ∈ Finset.range 8192, (if j ≤ s then Real.exp (y j - L) else 0) : ℝ) : EReal)

/-- The softmax of a masked row whose greatest score is subtracted first, as the reference takes it. -/
theorem softmax_row (l : Fin 8192 → EReal) (y : ℕ → ℝ) (s : ℕ) (hs : s < 8192) (hl : ∀ k : Fin 8192, l k = if k.val ≤ s then (y k.val : EReal) else ⊥) :
    ∃ L : ℝ, ∀ V : ℕ → EReal, (∑ k : Fin 8192, V k.val * Ideal.div (Ideal.exp (l k - max ⊥ (Finset.univ.fold max ⊥ l)))
        (∑ j : Fin 8192, Ideal.exp (l j - max ⊥ (Finset.univ.fold max ⊥ l)))) = att y V L s := by
  have hb : Finset.univ.fold max ⊥ l ≠ ⊥ := by
    intro e
    have h1 := (Finset.fold_max_le (b := (⊥ : EReal)) (f := l) (s := Finset.univ) ⊥).mp (le_of_eq e)
    have h2 := h1.2 ⟨s, hs⟩ (Finset.mem_univ _)
    rw [hl, if_pos le_rfl] at h2
    exact absurd (le_bot_iff.mp h2) (EReal.coe_ne_bot _)
  have ht : Finset.univ.fold max ⊥ l < ⊤ := by
    refine (Finset.fold_max_lt _).mpr ⟨bot_lt_top (α := EReal), fun k _ => ?_⟩
    rw [hl]; split_ifs
    · exact EReal.coe_lt_top _
    · exact bot_lt_top (α := EReal)
  obtain ⟨L, hL⟩ : ∃ L : ℝ, (L : EReal) = Finset.univ.fold max ⊥ l := ⟨_, EReal.coe_toReal ht.ne hb⟩
  refine ⟨L, fun V => ?_⟩
  rw [max_eq_right bot_le, ← hL]
  have he : ∀ k : Fin 8192, Ideal.exp (l k - (L : EReal)) = ((if k.val ≤ s then Real.exp (y k.val - L) else 0 : ℝ) : EReal) := fun k => by
    rw [hl]; split_ifs
    · rw [← EReal.coe_sub]; rfl
    · rw [EReal.bot_sub]; rfl
  simp only [he]
  rw [← coe_sum]
  unfold att
  rw [Finset.sum_range (fun k => V k * Ideal.div ((if k ≤ s then Real.exp (y k - L) else 0 : ℝ) : EReal)
    ((∑ j ∈ Finset.range 8192, (if j ≤ s then Real.exp (y j - L) else 0) : ℝ) : EReal)), Finset.sum_range (fun j => if j ≤ s then Real.exp (y j - L) else 0)]

/-- What the loop over the blocks leaves for a query, in terms of the queries and keys the padded blocks are made of. -/
theorem outs_entry (K : Vec Ideal T8192x256 .bf16) (X : Vec Ideal T1x256x2048 .bf16) (V : Vec Ideal T1x128x8192 .bf16) (p : ℕ) (hp : p < 4) (q : Fin 2048) (d : Fin 128)
    (qa ka : FVec Ideal ⟨4, ![1, 8192, 6, 192]⟩ .f32) (h : Fin 6) (s : Fin 8192) (hs : s.val = 2048 * p + q.val)
    (hqa : ∀ i, max (qa i : EReal) (-(qa i : EReal)) < ⊤) (hka : ∀ i, max (ka i : EReal) (-(ka i : EReal)) < ⊤)
    (hK : ∀ (j : Fin 8192) (e : Fin 256), K (ix2 j e) = (if h_1 : e.val < 128 then ka (ix4 (0 : Fin 1) j h ⟨64 + e.val, by omega⟩)
      else if h_2 : e.val - 128 < 64 then ka (ix4 (0 : Fin 1) j h ⟨e.val - 128, by omega⟩) else 0))
    (hX : ∀ e : Fin 256, X (ix3 (0 : Fin 1) e q) = (if h_1 : e.val < 128 then qa (ix4 (0 : Fin 1) s h ⟨64 + e.val, by omega⟩) * ((scale / Real.log 2 : ℝ) : EReal)
      else if h_2 : e.val - 128 < 64 then qa (ix4 (0 : Fin 1) s h ⟨e.val - 128, by omega⟩) * ((scale / Real.log 2 : ℝ) : EReal) else 0)) (L : ℝ) :
    outs (ends K X V (⊥ : EReal) p) (ix2 q d) = att (fun j => logit qa ka h s (kat j)) (fun j => V (ix3 (0 : Fin 1) d (kat j))) L s.val := by
  have hl : Real.log 2 ≠ 0 := (Real.log_pos (by norm_num)).ne'
  rw [hs]
  refine ends_out K X V p hp q d (fun j => logit qa ka h s (kat j) / Real.log 2) (fun j => logit qa ka h s (kat j)) ?_ ?_ L
  · intro j
    have hd := dot_padded (fun e => qa (ix4 (0 : Fin 1) s h e)) (fun e => ka (ix4 (0 : Fin 1) (kat j) h e)) (fun e => (qa (ix4 (0 : Fin 1) s h e) : EReal).toReal)
      (fun e => (ka (ix4 (0 : Fin 1) (kat j) h e) : EReal).toReal) (fun e => (real_of_abs_lt _ (hqa _)).symm) (fun e => (real_of_abs_lt _ (hka _)).symm) (scale / Real.log 2)
    refine Eq.trans (Finset.sum_congr rfl fun e _ => ?_) (hd.trans ?_)
    · rw [hK, hX]
    · unfold logit
      rw [mul_div_assoc]
  · intro j
    exact div_mul_cancel₀ _ hl

end Cert.Attn

end
-- ==== Proof.HostI.lean ====
/- The arrays the call is given, as functions of the arguments, and the result as the blocks the body leaves. -/
module

public import proofs.«01_k».proof.Proof.BodyI
public import proofs.«01_k».proof.Proof.Scores
public import Idealize.ShloMosaic.Lib.Pipeline.ValueKit.Geometry
public import Idealize.ShloMosaic.Lib.Pointwise
public import Idealize.ShloMosaic.Lib.StableHlo.Run

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.Sem Cert.Attn

/-- A head's columns in the order of the call: the part without positions, the rotary part, zeros. -/
def padded (x : FVec Ideal S1x8192x6x192 .f32) : FVec Ideal S1x8192x6x256 .f32 :=
  concatenate S1x8192x6x256 3 [⟨S1x8192x6x128, extractStridedSlice S1x8192x6x128 ![0, 0, 0, 64] x slices_S1x8192x6x192_S1x8192x6x128_0_0_0_64⟩,
    ⟨S1x8192x6x64, extractStridedSlice S1x8192x6x64 ![0, 0, 0, 0] x slices_S1x8192x6x192_S1x8192x6x64_0_0_0_0⟩,
    ⟨S1x8192x6x64, broadcastInDim S1x8192x6x64 ![] bcast_S_S1x8192x6x64 (constant S_ .f32 0x00000000#32)⟩] concatenates_S1x8192x6x128_S1x8192x6x64_S1x8192x6x64_S1x8192x6x256_d3

/-- The factor of the queries. -/
def factor : FVec Ideal S_ .f32 := Host.divf (constant S_ .f32 0x3D93CD3A#32) (Host.log (constant S_ .f32 0x40000000#32))

def qArr (q : FVec Ideal S1x8192x6x192 .f32) : FVec Ideal S6x256x8192 .bf16 :=
  truncf .bf16 (transpose S6x256x8192 [1, 2, 0] (shapeCast S8192x6x256 (padded (mulf q (broadcastInDim S1x8192x6x192 ![] bcast_S_S1x8192x6x192 factor))) shapeCasts_S1x8192x6x256_S8192x6x256)
    transposes_S8192x6x256_S6x256x8192_1_2_0) bitsLt_bf16_f32

def kArr (k : FVec Ideal S1x8192x6x192 .f32) : FVec Ideal S8192x1536 .bf16 :=
  truncf .bf16 (shapeCast S8192x1536 (shapeCast S8192x6x256 (padded k) shapeCasts_S1x8192x6x256_S8192x6x256) shapeCasts_S8192x6x256_S8192x1536) bitsLt_bf16_f32

def vArr (v : FVec Ideal S1x8192x6x128 .f32) : FVec Ideal S6x128x8192 .bf16 :=
  truncf .bf16 (transpose S6x128x8192 [1, 2, 0] (shapeCast S8192x6x128 v shapeCasts_S1x8192x6x128_S8192x6x128) transposes_S8192x6x128_S6x128x8192_1_2_0) bitsLt_bf16_f32

variable (m : (ℓ : Loc nD τ sig) → Buf (Elt Ideal) ℓ) (c : Dev nD)

theorem V_q : V m c main_v10 = qArr (m ((c : Thread nD τ).loc main_arg0)) := by
  simp only [V, V0, hostOps0, List.flatten_cons, List.flatten_nil, List.append_nil]
  after_results_simp <;> rfl

theorem V_k : V m c main_v17 = kArr (m ((c : Thread nD τ).loc main_arg1)) := by
  simp only [V, V0, hostOps0, List.flatten_cons, List.flatten_nil, List.append_nil]
  after_results_simp <;> rfl

theorem V_v : V m c main_v20 = vArr (m ((c : Thread nD τ).loc main_arg2)) := by
  simp only [V, V0, hostOps0, List.flatten_cons, List.flatten_nil, List.append_nil]
  after_results_simp <;> rfl

/-! ## At an index -/

theorem qArr_apply (q : FVec Ideal S1x8192x6x192 .f32) (h : Fin 6) (e : Fin 256) (s : Fin 8192) :
    qArr q (ix3 h e s) = (if h_1 : e.val < 128 then q (ix4 (0 : Fin 1) s h ⟨64 + e.val, by omega⟩) * ((scale / Real.log 2 : ℝ) : EReal)
      else if h_2 : e.val - 128 < 64 then q (ix4 (0 : Fin 1) s h ⟨e.val - 128, by omega⟩) * ((scale / Real.log 2 : ℝ) : EReal) else 0) := by
  rw [← factor_real]
  pointwise [qArr, padded, factor]

theorem kArr_apply (k : FVec Ideal S1x8192x6x192 .f32) (h : Fin 6) (e : Fin 256) (s : Fin 8192) :
    kArr k (ix2 s ⟨256 * h.val + e.val, by omega⟩) = (if h_1 : e.val < 128 then k (ix4 (0 : Fin 1) s h ⟨64 + e.val, by omega⟩)
      else if h_2 : e.val - 128 < 64 then k (ix4 (0 : Fin 1) s h ⟨e.val - 128, by omega⟩) else 0) := by
  pointwise [kArr, padded, factor]

theorem vArr_apply (v : FVec Ideal S1x8192x6x128 .f32) (h : Fin 6) (e : Fin 128) (s : Fin 8192) :
    vArr v (ix3 h e s) = v (ix4 (0 : Fin 1) s h e) := by
  pointwise [vArr]

/-! ## The blocks -/

theorem index0 : ∀ t : Fin cfg0.N, win0_0.index t = ![(grid0.coords t 0).val, 0, (grid0.coords t 1).val] :=
  (by decide +kernel : ∀ t : Fin grid0.N, win0_0.index t = ![(grid0.coords t 0).val, 0, (grid0.coords t 1).val])

theorem index1 : ∀ t : Fin cfg0.N, win0_1.index t = ![0, (grid0.coords t 0).val] :=
  (by decide +kernel : ∀ t : Fin grid0.N, win0_1.index t = ![0, (grid0.coords t 0).val])

theorem index2 : ∀ t : Fin cfg0.N, win0_2.index t = ![(grid0.coords t 0).val, 0, 0] :=
  (by decide +kernel : ∀ t : Fin grid0.N, win0_2.index t = ![(grid0.coords t 0).val, 0, 0])

theorem index3 : ∀ t : Fin cfg0.N, win0_3.index t = ![(grid0.coords t 1).val, (grid0.coords t 0).val] :=
  (by decide +kernel : ∀ t : Fin grid0.N, win0_3.index t = ![(grid0.coords t 1).val, (grid0.coords t 0).val])

theorem head_lt (t : Fin cfg0.N) : (grid0.coords t 0).val < 6 := (grid0.coords t 0).isLt
theorem step_lt (t : Fin cfg0.N) : (grid0.coords t 1).val < 4 := (grid0.coords t 1).isLt

theorem blk_q (t : Fin cfg0.N) (e : Fin 256) (q : Fin 2048) :
    iblk m c 0 t (ix3 (0 : Fin 1) e q) = qArr (m ((c : Thread nD τ).loc main_arg0))
      (ix3 (⟨(grid0.coords t 0).val, head_lt t⟩ : Fin 6) e (⟨2048 * (grid0.coords t 1).val + q.val, by have := step_lt t; omega⟩ : Fin 8192)) := by
  rw [← V_q]
  blk_simp [iblk]
  congr 1
  blk_ext [index0]

theorem blk_k (t : Fin cfg0.N) (e : Fin 256) (s : Fin 8192) :
    iblk m c 1 t (ix2 s e) = kArr (m ((c : Thread nD τ).loc main_arg1))
      (ix2 s (⟨256 * (grid0.coords t 0).val + e.val, by have := head_lt t; omega⟩ : Fin 1536)) := by
  rw [← V_k]
  blk_simp [iblk]
  congr 1
  blk_ext [index1]

theorem blk_v (t : Fin cfg0.N) (d : Fin 128) (s : Fin 8192) :
    iblk m c 2 t (ix3 (0 : Fin 1) d s) = vArr (m ((c : Thread nD τ).loc main_arg2))
      (ix3 (⟨(grid0.coords t 0).val, head_lt t⟩ : Fin 6) d s) := by
  rw [← V_v]
  blk_simp [iblk]
  congr 1
  blk_ext [index2]

/-! ## The result -/

/-- What both programs compute: query `s`'s row of head `h` at column `d`, the greatest score taken to be `L`. -/
def entry (q k : FVec Ideal S1x8192x6x192 .f32) (v : FVec Ideal S1x8192x6x128 .f32) (L : ℝ) (s : Fin 8192) (h : Fin 6) (d : Fin 128) : EReal :=
  att (fun j => logit q k h s (kat j)) (fun j => v (ix4 (0 : Fin 1) (kat j) h d)) L s.val

/-- The result array over the rows' greatest scores. -/
def result (q k : FVec Ideal S1x8192x6x192 .f32) (v : FVec Ideal S1x8192x6x128 .f32) (L : Fin 6 → Fin 8192 → ℝ) : FVec Ideal S8192x768 .bf16 := fun i =>
  entry q k v (L ⟨(i 1).val / 128, by have : (i 1).val < 768 := (i 1).isLt; omega⟩ ⟨(i 0).val, (i 0).isLt⟩) ⟨(i 0).val, (i 0).isLt⟩
    ⟨(i 1).val / 128, by have : (i 1).val < 768 := (i 1).isLt; omega⟩ ⟨(i 1).val % 128, by omega⟩

theorem result_apply (q k : FVec Ideal S1x8192x6x192 .f32) (v : FVec Ideal S1x8192x6x128 .f32) (L : Fin 6 → Fin 8192 → ℝ) (s : Fin 8192) (h : Fin 6) (d : Fin 128)
    (i : S8192x768.Idx) (h0 : (i 0).val = s.val) (h1 : (i 1).val = 128 * h.val + d.val) :
    result q k v L i = entry q k v (L h s) s h d := by
  have e0 : (⟨(i 0).val, (i 0).isLt⟩ : Fin 8192) = s := Fin.ext h0
  have e1 : (⟨(i 1).val / 128, by have : (i 1).val < 768 := (i 1).isLt; omega⟩ : Fin 6) = h := Fin.ext (by show (i 1).val / 128 = h.val; omega)
  have e2 : (⟨(i 1).val % 128, by omega⟩ : Fin 128) = d := Fin.ext (by show (i 1).val % 128 = d.val; omega)
  show entry q k v _ _ _ _ = _
  rw [e0, e1, e2]

section
variable {c} (q k : FVec Ideal S1x8192x6x192 .f32) (v : FVec Ideal S1x8192x6x128 .f32)
  (eq : m ((c : Thread nD τ).loc main_arg0) = q) (ek : m ((c : Thread nD τ).loc main_arg1) = k) (ev : m ((c : Thread nD τ).loc main_arg2) = v)
  (hq : ∀ i, max (q i : EReal) (-(q i : EReal)) < ⊤) (hk : ∀ i, max (k i : EReal) (-(k i : EReal)) < ⊤)

include eq ek ev hq hk in
theorem block_apply (L : ℝ) (t : Fin cfg0.N) (i : Fin 2048) (d : Fin 128) :
    blockOut (grid0.coords t) (iblk m c 0 t) (iblk m c 1 t) (iblk m c 2 t) (ix2 i d)
      = entry q k v L (⟨2048 * (grid0.coords t 1).val + i.val, by have := step_lt t; omega⟩ : Fin 8192) ⟨(grid0.coords t 0).val, head_lt t⟩ d := by
  unfold blockOut
  rw [trips_eq, IdealRules.named_const.ideal_named_scalar κ "mask" _ ⊥ (by simp [κ])]
  have hv : (fun j : ℕ => (v (ix4 (0 : Fin 1) (kat j) (⟨(grid0.coords t 0).val, head_lt t⟩ : Fin 6) d) : EReal))
      = fun j => iblk m c 2 t (ix3 (0 : Fin 1) d (kat j)) := funext fun j => by rw [blk_v, ev, vArr_apply]
  unfold entry
  rw [hv]
  exact outs_entry (iblk m c 1 t) (iblk m c 0 t) (iblk m c 2 t) _ (step_lt t) i d q k
    ⟨(grid0.coords t 0).val, head_lt t⟩ _ rfl hq hk (fun j e => by rw [blk_k, ek]; exact kArr_apply k ⟨_, head_lt t⟩ e j) (fun e => by rw [blk_q, eq]; exact qArr_apply q ⟨_, head_lt t⟩ e _) L

include eq ek ev hq hk in
theorem arr_eq (L : Fin 6 → Fin 8192 → ℝ) : (dats m 0 c).arrAt 3 cfg0.N = result q k v L := by
  refine (dats m 0 c).arrAt_eq_of_covers 3 _ (by decide +kernel) fun t hf y => ?_
  blk_simp
  have h0 : (y 0).val < 2048 := (y 0).isLt
  have h1 : (y 1).val < 128 := (y 1).isLt
  have hy : (y : S2048x128.Idx) = ix2 (⟨(y 0).val, h0⟩ : Fin 2048) (⟨(y 1).val, h1⟩ : Fin 128) := by
    funext a; fin_cases a <;> rfl
  refine Eq.trans ?_ ((block_apply m q k v eq ek ev hq hk (L ⟨(grid0.coords t 0).val, head_lt t⟩ ⟨2048 * (grid0.coords t 1).val + (y 0).val, by have := step_lt t; omega⟩)
    t ⟨(y 0).val, h0⟩ ⟨(y 1).val, h1⟩).trans (result_apply q k v L _ _ _ _ ?_ ?_).symm)
  · exact congrArg (blockOut (grid0.coords t) (iblk m c 0 t) (iblk m c 1 t) (iblk m c 2 t)) hy
  · blk_simp [index3]
    ring
  · blk_simp [index3]
    ring

end

end Cert.KernelIdeal.Hand

end
-- ==== Proof.RefI.lean ====
/- The reference's result at an index. -/
module

public import proofs.«01_k».proof.Proof.Gen.ReferenceIdeal.Run
public import proofs.«01_k».proof.Proof.Scores
public import Idealize.ShloMosaic.Lib.Tactic.CleanTypes

@[expose] public section

set_option maxRecDepth 65536

noncomputable section

namespace Cert.ReferenceIdeal.Hand

open Cert.ReferenceIdeal Cert.ReferenceIdeal.Gen Idealize.ShloMosaic Idealize.ShloMosaic.TcCoe Idealize.SL.Sem Cert.Attn

/-- The mask: the comparison of two positions as 32-bit numbers, used to select. -/
theorem mask_bit (j s : ℕ) (hj : j < 8192) (hs : s < 8192) {α : Type} (x y : α) :
    Scalar.select (IntOp.cmpi .sle (BitVec.ofNat 32 j) (BitVec.ofNat 32 s)) x y = if j ≤ s then x else y := by
  have e : (BitVec.ofNat 32 j).sle (BitVec.ofNat 32 s) = decide (j ≤ s) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases h : j ≤ s
  · simp [IntOp.cmpi, Scalar.select, e, h]
  · simp [IntOp.cmpi, Scalar.select, e, h]

/-- The masked logits. -/
def logits (q k : FVec Ideal S1x8192x6x192 .f32) : FVec Ideal S1x6x8192x8192 .f32 :=
  select (broadcastInDim S1x6x8192x8192 ![2, 3] bcast_S8192x8192_S1x6x8192x8192_2_3 (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))
    (mulf (Host.dotGeneral dot_S1x8192x6x192_S1x8192x6x192_S1x6x8192x8192_3_3_1_1_02_02 none q k) (broadcastInDim S1x6x8192x8192 ![] bcast_S_S1x6x8192x8192 (constant S_ .f32 0x3D93CD3A#32)))
    (broadcastInDim S1x6x8192x8192 ![] bcast_S_S1x6x8192x8192 (id (constant S_ .f32 0xFF800000#32)))

/-- The greatest logits of the rows. -/
def rowMax (l : FVec Ideal S1x6x8192x8192 .f32) : FVec Ideal S1x6x8192 .f32 :=
  maximumf (broadcastInDim S1x6x8192 ![] bcast_S_S1x6x8192 (constant S_ .f32 0xFF800000#32)) (Host.reduce FloatOps.maximumf l (constant S_ .f32 0xFF800000#32) reducesTo_S1x6x8192x8192_S1x6x8192_d3 h_S_)

/-- A row statistic, along every key. -/
def along (x : FVec Ideal S1x6x8192 .f32) : FVec Ideal S1x6x8192x8192 .f32 :=
  broadcastInDim S1x6x8192x8192 ![0, 1, 2, 3] bcast_S1x6x8192x1_S1x6x8192x8192_0_1_2_3 (broadcastInDim S1x6x8192x1 ![0, 1, 2] bcast_S1x6x8192_S1x6x8192x1_0_1_2 x)

/-- The exponentials. -/
def exps (l : FVec Ideal S1x6x8192x8192 .f32) : FVec Ideal S1x6x8192x8192 .f32 := Host.exp (subf l (along (rowMax l)))

/-- The softmax. -/
def probs (p : FVec Ideal S1x6x8192x8192 .f32) : FVec Ideal S1x6x8192x8192 .f32 :=
  Host.divf p (along (Host.reduceAdd p (constant S_ .f32 0x00000000#32) reducesTo_S1x6x8192x8192_S1x6x8192_d3 h_S_))

/-- The weighed values, a row per query. -/
def weighed (v : FVec Ideal S1x8192x6x128 .f32) (p : FVec Ideal S1x6x8192x8192 .f32) : FVec Ideal S8192x768 .f32 :=
  shapeCast S8192x768 (transpose S1x8192x6x128 [0, 3, 1, 2] (Host.dotGeneral dot_S1x8192x6x128_S1x6x8192x8192_S1x6x128x8192_1_3_3_2_02_01 none v p) transposes_S1x6x128x8192_S1x8192x6x128_0_3_1_2) shapeCasts_S1x8192x6x128_S8192x768

theorem res_eq (m : (ℓ : Loc nD τ sig) → Buf (Elt Ideal) ℓ) (c : Dev nD) :
    Value.res_main_v23 m c = weighed (m ((c.tc : Thread nD τ).loc main_arg2)) (probs (exps (logits (m ((c.tc : Thread nD τ).loc main_arg0)) (m ((c.tc : Thread nD τ).loc main_arg1))))) := rfl

theorem logits_apply (q k : FVec Ideal S1x8192x6x192 .f32) (h : Fin 6) (s j : Fin 8192) :
    logits q k (ix4 (0 : Fin 1) h s j) = if j.val ≤ s.val then (∑ e : Fin 192, (q (ix4 (0 : Fin 1) s h e) : EReal) * (k (ix4 (0 : Fin 1) j h e) : EReal)) * ((scale : ℝ) : EReal) else ⊥ := by
  pointwise [logits, id, neg_inf, scale_bits]
  exact mask_bit j.val s.val j.isLt s.isLt _ _

/-- The greatest entry along the last axis, whatever the sizes. -/
theorem fold_last {a b n k : ℕ} (x : FVec Ideal ⟨4, ![a, b, n, k]⟩ .f32) (init : FVec Ideal ⟨0, ![]⟩ .f32) (h : (⟨4, ![a, b, n, k]⟩ : Shape).ReducesTo [3] ⟨3, ![a, b, n]⟩)
    (hu : 0 < (⟨0, ![]⟩ : Shape).numel) (i : Fin a) (j : Fin b) (s : Fin n) :
    Host.reduce FloatOps.maximumf x init h hu (ix3 i j s) = Finset.univ.fold max (init (Shape.Idx.first hu)) (fun e : Fin k => x (ix4 i j s e)) := by
  pointwise

theorem max_at {t : Shape} (x y : FVec Ideal t .f32) (i : t.Idx) : maximumf x y i = max (x i : EReal) (y i) := rfl

theorem rowMax_apply (l : FVec Ideal S1x6x8192x8192 .f32) (h : Fin 6) (s : Fin 8192) :
    rowMax l (ix3 (0 : Fin 1) h s) = max ⊥ (Finset.univ.fold max ⊥ (fun k : Fin 8192 => (l (ix4 (0 : Fin 1) h s k) : EReal))) := by
  have h1 := fold_last l (constant S_ .f32 0xFF800000#32) reducesTo_S1x6x8192x8192_S1x6x8192_d3 h_S_ (0 : Fin 1) h s
  have h2 : ∀ i, (constant S_ .f32 0xFF800000#32 : FVec Ideal S_ .f32) i = (⊥ : EReal) := fun _ => neg_inf
  have h3 : ∀ i, (broadcastInDim S1x6x8192 ![] bcast_S_S1x6x8192 (constant S_ .f32 0xFF800000#32) : FVec Ideal S1x6x8192 .f32) i = (⊥ : EReal) := fun _ => neg_inf
  unfold rowMax
  rw [max_at, h3, h1, h2]

theorem along_apply (x : FVec Ideal S1x6x8192 .f32) (h : Fin 6) (s j : Fin 8192) : along x (ix4 (0 : Fin 1) h s j) = x (ix3 (0 : Fin 1) h s) := by
  pointwise [along]

theorem exps_apply (l : FVec Ideal S1x6x8192x8192 .f32) (h : Fin 6) (s j : Fin 8192) :
    exps l (ix4 (0 : Fin 1) h s j) = Ideal.exp (l (ix4 (0 : Fin 1) h s j) - rowMax l (ix3 (0 : Fin 1) h s)) := by
  pointwise [exps, along_apply]

theorem probs_apply (p : FVec Ideal S1x6x8192x8192 .f32) (h : Fin 6) (s j : Fin 8192) :
    probs p (ix4 (0 : Fin 1) h s j) = Ideal.div (p (ix4 (0 : Fin 1) h s j)) (∑ k : Fin 8192, p (ix4 (0 : Fin 1) h s k)) := by
  pointwise [probs, along_apply]

theorem weighed_apply (v : FVec Ideal S1x8192x6x128 .f32) (p : FVec Ideal S1x6x8192x8192 .f32) (h : Fin 6) (s : Fin 8192) (d : Fin 128) :
    weighed v p (ix2 s ⟨128 * h.val + d.val, by omega⟩) = ∑ k : Fin 8192, v (ix4 (0 : Fin 1) k h d) * p (ix4 (0 : Fin 1) h s k) := by
  pointwise [weighed]

/-- Over finite queries and keys the reference's result is the attention of the logits. -/
theorem res_entry (q k : FVec Ideal S1x8192x6x192 .f32)
    (hq : ∀ i, max (q i : EReal) (-(q i : EReal)) < ⊤) (hk : ∀ i, max (k i : EReal) (-(k i : EReal)) < ⊤) :
    ∃ L : Fin 6 → Fin 8192 → ℝ, ∀ (v : FVec Ideal S1x8192x6x128 .f32) (h : Fin 6) (s : Fin 8192) (d : Fin 128),
      weighed v (probs (exps (logits q k))) (ix2 s ⟨128 * h.val + d.val, by omega⟩)
        = att (fun j => logit q k h s (kat j)) (fun j => v (ix4 (0 : Fin 1) (kat j) h d)) (L h s) s.val := by
  have hkat : ∀ k : Fin 8192, kat k.val = k := fun k => Fin.ext (Nat.mod_eq_of_lt k.isLt)
  have hl : ∀ (h : Fin 6) (s : Fin 8192) (j : Fin 8192), (logits q k (ix4 (0 : Fin 1) h s j) : EReal)
      = if j.val ≤ s.val then ((logit q k h s (kat j.val) : ℝ) : EReal) else ⊥ := fun h s j => by
    rw [logits_apply, hkat]
    unfold logit
    rw [EReal.coe_mul, coe_sum]
    simp only [EReal.coe_mul, real_of_abs_lt _ (hq _), real_of_abs_lt _ (hk _)]
  have hL : ∀ (h : Fin 6) (s : Fin 8192), _ := fun h s =>
    softmax_row (fun j => logits q k (ix4 (0 : Fin 1) h s j)) (fun j => logit q k h s (kat j)) s.val s.isLt (hl h s)
  choose L hL using hL
  refine ⟨L, fun v h s d => ?_⟩
  rw [← hL h s, weighed_apply]
  refine Finset.sum_congr rfl fun j _ => ?_
  rw [probs_apply, hkat]
  simp only [exps_apply, rowMax_apply]

end Cert.ReferenceIdeal.Hand

end
-- ==== Proof.Join.lean ====
/- The kernel's result array is the reference's, over finite queries and keys. -/
module

public import proofs.«01_k».proof.Defs
public import proofs.«01_k».proof.Proof.HostI
public import proofs.«01_k».proof.Proof.RefI

@[expose] public section

set_option maxRecDepth 65536

noncomputable section

namespace Cert.Join

open Idealize.ShloMosaic Idealize.ShloMosaic.TcCoe Idealize.ShloMosaic.Tactic Idealize.SL Idealize.SL.Sem
open Cert.KernelIdeal Cert.KernelIdeal.Gen Cert.KernelIdeal.Hand Cert.Attn

/-- The side condition of the precondition. -/
theorem preFacts : Cert.Pre_finite.Facts := ⟨by decide⟩

theorem both_one (p q : Bool) (h : IntOp.andi (BitVec.ofBool p) (BitVec.ofBool q) = 1#1) : p = true ∧ q = true := by
  revert h; cases p <;> cases q <;> decide

/-- The precondition says that the queries and the keys are finite. -/
theorem finite_iff [Cert.Pre_finite.Facts] (q k : FVec Ideal S1x8192x6x192 .f32) (v : FVec Ideal S1x8192x6x128 .f32)
    (h : (Cert.Pre_finite.fn  (F := Ideal) q k v) = fun _ => 1#1) (i : S1x8192x6x192.Idx) :
    max (q i : EReal) (-(q i : EReal)) < ⊤ ∧ max (k i : EReal) (-(k i : EReal)) < ⊤ := by
  have h2 : Cert.Pre_finite.fn (F := Ideal) q k v i
      = IntOp.andi (BitVec.ofBool (decide (FloatOps.absf (q i) < Ideal.ofBits FTy.f32 0x7F800000#32))) (BitVec.ofBool (decide (FloatOps.absf (k i) < Ideal.ofBits FTy.f32 0x7F800000#32))) := by
    pointwise [Cert.Pre_finite.fn]
  have h3 := both_one _ _ (h2.symm.trans (congrFun h i))
  rw [inf_bits] at h3
  exact ⟨of_decide_eq_true h3.1, of_decide_eq_true h3.2⟩

variable (m : (ℓ : Loc nD τ sig) → Buf (Elt Ideal) ℓ) {c : Dev nD}

/-- The program's result is the call's result array. -/
theorem W_out : Pipeline.afterTail₀ cfgs (dats m) 0 (V0 m) [hostOps1] c main_v22
    = (extf .f32 · bitsLt_bf16_f32 : FVec Ideal S8192x768 .bf16 → FVec Ideal S8192x768 .f32) ((dats m 0 c).arrAt 3 cfg0.N) := by
  unfold Pipeline.afterTail₀
  simp only [hostOps1, List.flatten_cons, List.flatten_nil, List.append_nil]
  after_results_simp
  exact congrArg (extf .f32 · bitsLt_bf16_f32 : FVec Ideal S8192x768 .bf16 → FVec Ideal S8192x768 .f32)
    (Pipeline.withArrays_arr (cfgs 0).spec (by decide) c (V0 m c) (fun w => (dats m 0 c).arrAt w (cfgs 0).N) 3)

/-- The two programs' results are one array. -/
theorem out_eq (q k : FVec Ideal S1x8192x6x192 .f32) (v : FVec Ideal S1x8192x6x128 .f32)
    (eq : m ((c : Thread nD τ).loc main_arg0) = q) (ek : m ((c : Thread nD τ).loc main_arg1) = k) (ev : m ((c : Thread nD τ).loc main_arg2) = v)
    (hq : ∀ i, max (q i : EReal) (-(q i : EReal)) < ⊤) (hk : ∀ i, max (k i : EReal) (-(k i : EReal)) < ⊤) :
    Pipeline.afterTail₀ cfgs (dats m) 0 (V0 m) [hostOps1] c main_v22
      = Cert.ReferenceIdeal.Hand.weighed v (Cert.ReferenceIdeal.Hand.probs (Cert.ReferenceIdeal.Hand.exps (Cert.ReferenceIdeal.Hand.logits q k))) := by
  obtain ⟨L, hL⟩ := Cert.ReferenceIdeal.Hand.res_entry q k hq hk
  rw [W_out, arr_eq m q k v eq ek ev hq hk L]
  funext i
  have h0 : (i 0).val < 8192 := (i 0).isLt
  have h1 : (i 1).val < 768 := (i 1).isLt
  have hi : (i : S8192x768.Idx) = ix2 (⟨(i 0).val, h0⟩ : Fin 8192)
      (⟨128 * (⟨(i 1).val / 128, by omega⟩ : Fin 6).val + (⟨(i 1).val % 128, by omega⟩ : Fin 128).val, by show 128 * ((i 1).val / 128) + (i 1).val % 128 < 768; omega⟩ : Fin 768) := by
    funext a
    fin_cases a
    · rfl
    · exact Fin.ext (by show (i 1).val = 128 * ((i 1).val / 128) + (i 1).val % 128; omega)
  have hl := hL v ⟨(i 1).val / 128, by omega⟩ ⟨(i 0).val, h0⟩ ⟨(i 1).val % 128, by omega⟩
  rw [← hi] at hl
  exact (result_apply q k v L ⟨(i 0).val, h0⟩ ⟨(i 1).val / 128, by omega⟩ ⟨(i 1).val % 128, by omega⟩ i rfl
    (by show (i 1).val = 128 * ((i 1).val / 128) + (i 1).val % 128; omega)).trans hl.symm

/-- The same with the reference's own arguments, equal to the kernel's; the precondition as it is stated. -/
theorem out_eq_of_pre [Cert.Pre_finite.Facts] (q k q' k' : FVec Ideal S1x8192x6x192 .f32) (v v' : FVec Ideal S1x8192x6x128 .f32)
    (eq : m ((c : Thread nD τ).loc main_arg0) = q) (ek : m ((c : Thread nD τ).loc main_arg1) = k) (ev : m ((c : Thread nD τ).loc main_arg2) = v)
    (hpre : (Cert.Pre_finite.fn (F := Ideal) q k v) = fun _ => 1#1) (e0 : q' = q) (e1 : k' = k) (e2 : v' = v) :
    Pipeline.afterTail₀ cfgs (dats m) 0 (V0 m) [hostOps1] c main_v22
      = Cert.ReferenceIdeal.Hand.weighed v' (Cert.ReferenceIdeal.Hand.probs (Cert.ReferenceIdeal.Hand.exps (Cert.ReferenceIdeal.Hand.logits q' k'))) := by
  rw [e0, e1, e2]
  exact out_eq m q k v eq ek ev (fun i => (finite_iff q k v hpre i).1) (fun i => (finite_iff q k v hpre i).2)

end Cert.Join

end
-- ==== Proof.OutProj.lean ====
/- The output projection: the call's three products, over the columns of the three groups of heads, are the reference's one. -/
module

public import proofs.«01_k».proof.Proof.Gen.Kernel3Ideal.Value
public import proofs.«01_k».proof.Proof.Gen.Reference3Ideal.Run
public import Idealize.ShloMosaic.Lib.Pipeline.ValueKit.Geometry
public import Idealize.ShloMosaic.Lib.StableHlo.Run
public import Idealize.ShloMosaic.Lib.Pointwise

@[expose] public section

set_option maxRecDepth 65536

noncomputable section

namespace Cert.OutProj

open Idealize.ShloMosaic

/-- A sum over all columns, group by group. -/
theorem sum_groups {M : Type} [AddCommMonoid M] (f : Fin 2048 → M) :
    ∑ j, f j = (∑ j : Fin 512, f ⟨j.val, by omega⟩) + (∑ j : Fin 768, f ⟨512 + j.val, by omega⟩) + ∑ j : Fin 768, f ⟨1280 + j.val, by omega⟩ := by
  have h1 := Fin.sum_univ_add (a := 1280) (b := 768) f
  have h2 := Fin.sum_univ_add (a := 512) (b := 768) (fun j : Fin 1280 => f (Fin.castAdd 768 j))
  exact h1.trans (congrArg (· + _) h2)

/-- One entry of the projection added to the activations. -/
def entry (x : EReal) (a : Fin 512 → EReal) (b c : Fin 768 → EReal) (w : Fin 2048 → EReal) : EReal :=
  x + (∑ j : Fin 512, a j * w ⟨j.val, by omega⟩) + (∑ j : Fin 768, b j * w ⟨512 + j.val, by omega⟩) + ∑ j : Fin 768, c j * w ⟨1280 + j.val, by omega⟩

end Cert.OutProj

namespace Cert.Reference3Ideal.Hand

open Cert.Reference3Ideal Cert.Reference3Ideal.Gen Cert.OutProj
open Idealize.ShloMosaic Idealize.ShloMosaic.TcCoe

variable (X : FVec Ideal S1x8192x2048 .f32) (A : FVec Ideal S1x8192x512 .f32) (B C : FVec Ideal S1x8192x768 .f32) (W : FVec Ideal S2048x2048 .f32)

/-- The three groups' outputs side by side. -/
def mixed : FVec Ideal S1x8192x2048 .f32 :=
  concatenate S1x8192x2048 2 [⟨S1x8192x512, A⟩, ⟨S1x8192x768, B⟩, ⟨S1x8192x768, C⟩] concatenates_S1x8192x512_S1x8192x768_S1x8192x768_S1x8192x2048_d2

/-- The reference's result. -/
def res : FVec Ideal S8192x2048 .f32 :=
  shapeCast S8192x2048 (addf X (Host.dotGeneral dot_S1x8192x2048_S2048x2048_S1x8192x2048_2_0_01_1_n_n none (mixed A B C) W)) shapeCasts_S1x8192x2048_S8192x2048

theorem mixed_apply (s : Fin 8192) (j : Fin 2048) :
    mixed A B C (ix3 (0 : Fin 1) s j) = if h_1 : j.val < 512 then A (ix3 (0 : Fin 1) s ⟨j.val, h_1⟩)
      else if h_2 : j.val - 512 < 768 then B (ix3 (0 : Fin 1) s ⟨j.val - 512, h_2⟩) else C (ix3 (0 : Fin 1) s ⟨j.val - 512 - 768, by omega⟩) := by
  pointwise [mixed]

theorem dot_apply (R : FVec Ideal S1x8192x2048 .f32) (s : Fin 8192) (e : Fin 2048) :
    shapeCast S8192x2048 (addf X (Host.dotGeneral dot_S1x8192x2048_S2048x2048_S1x8192x2048_2_0_01_1_n_n none R W)) shapeCasts_S1x8192x2048_S8192x2048 (ix2 s e)
      = (X (ix3 (0 : Fin 1) s e) : EReal) + ∑ j : Fin 2048, (R (ix3 (0 : Fin 1) s j) : EReal) * W (ix2 j e) := by
  pointwise

theorem res_apply (s : Fin 8192) (e : Fin 2048) :
    res X A B C W (ix2 s e) = entry (X (ix3 (0 : Fin 1) s e)) (fun j => A (ix3 (0 : Fin 1) s j)) (fun j => B (ix3 (0 : Fin 1) s j)) (fun j => C (ix3 (0 : Fin 1) s j)) (fun j => W (ix2 j e)) := by
  unfold res
  rw [dot_apply, sum_groups]
  unfold entry
  rw [← add_assoc, ← add_assoc]
  congr 1
  · congr 1
    · congr 1
      refine Finset.sum_congr rfl fun j _ => ?_
      rw [mixed_apply, dif_pos j.isLt]
    · refine Finset.sum_congr rfl fun j _ => ?_
      rw [mixed_apply, dif_neg (by simp), dif_pos (by simp)]
      simp
  · refine Finset.sum_congr rfl fun j _ => ?_
    rw [mixed_apply, dif_neg (by show ¬ 1280 + j.val < 512; omega), dif_neg (by show ¬ 1280 + j.val - 512 < 768; omega)]
    congr 3
    exact Fin.ext (by show 1280 + j.val - 512 - 768 = j.val; omega)

end Cert.Reference3Ideal.Hand

namespace Cert.Kernel3Ideal.Hand

open Cert.Kernel3Ideal Cert.Kernel3Ideal.Gen Cert.OutProj
open Idealize.ShloMosaic Idealize.ShloMosaic.TcCoe Idealize.ShloMosaic.Tactic

theorem hz2 : (![0, 0] : Fin 2 → Nat) = fun _ => 0 := funext fun a => by fin_cases a <;> rfl

theorem pay_apply (x : FVec Ideal S512x2048 .f32) (a : FVec Ideal S512x512 .bf16) (wa : FVec Ideal S1x512x2048 .bf16) (b : FVec Ideal S512x768 .bf16) (wb : FVec Ideal S1x768x2048 .bf16)
    (d : FVec Ideal S512x768 .bf16) (wd : FVec Ideal S1x768x2048 .bf16) (i : Fin 512) (e : Fin 2048) :
    k0_pay1 (F := Ideal) x a wa b wb d wd (ix2 i e) = (x (ix2 i e) : EReal) + (∑ j : Fin 512, (a (ix2 i j) : EReal) * wa (ix3 (0 : Fin 1) j e))
      + (∑ j : Fin 768, (b (ix2 i j) : EReal) * wb (ix3 (0 : Fin 1) j e)) + ∑ j : Fin 768, (d (ix2 i j) : EReal) * wd (ix3 (0 : Fin 1) j e) := by
  pointwise [k0_pay1]

/-- Some rows of the weights, read at an index. -/
theorem emb_rows (o n : ℕ) (ho : o + n ≤ 2048) (inb) (j : Fin n) (e : Fin 2048) :
    (Rect.unit (s := S1x2048x2048) ![0, o, 0] ![1, n, 2048] inb).emb (ix3 (0 : Fin 1) j e) = ix3 (0 : Fin 1) (⟨o + j.val, by omega⟩ : Fin 2048) e := by
  funext a
  apply Fin.ext
  rw [Rect.emb_apply]
  fin_cases a <;> simp [ix3]

theorem ld_rows (w : FVec Ideal S1x2048x2048 .bf16) (o n : ℕ) (ho : o + n ≤ 2048) (inb) (j : Fin n) (e : Fin 2048) :
    View.ld (Val := Elt Ideal) (e' := .bf16) w (Rect.unit (s := S1x2048x2048) ![0, o, 0] ![1, n, 2048] inb) (ix3 (0 : Fin 1) j e) = w (ix3 (0 : Fin 1) (⟨o + j.val, by omega⟩ : Fin 2048) e) :=
  congrArg w (emb_rows o n ho inb j e)

theorem out_apply (x : FVec Ideal S512x2048 .f32) (a : FVec Ideal S512x512 .bf16) (b d : FVec Ideal S512x768 .bf16) (w : FVec Ideal S1x2048x2048 .bf16) (i : Fin 512) (e : Fin 2048) :
    out0_5 (F := Ideal) x a b d w (ix2 i e) = entry (x (ix2 i e)) (fun j => a (ix2 i j)) (fun j => b (ix2 i j)) (fun j => d (ix2 i j)) (fun j => w (ix3 (0 : Fin 1) j e)) := by
  unfold out0_5
  rw [View.canon_unit_zero hz2]
  simp only [View.ld_unit_zero (S := S512x2048) hz2, View.ld_unit_zero (S := S512x512) hz2, View.ld_unit_zero (S := S512x768) hz2]
  refine (pay_apply _ _ _ _ _ _ _ i e).trans ?_
  unfold entry
  congr 1
  · congr 1
    · congr 1
      refine Finset.sum_congr rfl fun j _ => ?_
      refine congrArg (_ * ·) ((ld_rows w 0 512 (by decide) _ j e).trans (congrArg (fun k => w (ix3 (0 : Fin 1) k e)) (Fin.ext ?_)))
      exact Nat.zero_add _
    · exact Finset.sum_congr rfl fun j _ => congrArg (_ * ·) (ld_rows w 512 768 (by decide) _ j e)
  · exact Finset.sum_congr rfl fun j _ => congrArg (_ * ·) (ld_rows w 1280 768 (by decide) _ j e)

variable (m : (ℓ : Loc nD τ sig) → Buf (Elt Ideal) ℓ) (c : Dev nD)

theorem V_x : V m c main_v0 = shapeCast S8192x2048 (m ((c : Thread nD τ).loc main_arg0) : FVec Ideal S1x8192x2048 .f32) shapeCasts_S1x8192x2048_S8192x2048 := by
  simp only [V, hostOps0, List.flatten_cons, List.flatten_nil, List.append_nil]
  after_results_simp <;> rfl

theorem V_a : V m c main_v2 = (truncf .bf16 (shapeCast S8192x512 (m ((c : Thread nD τ).loc main_arg1) : FVec Ideal S1x8192x512 .f32) shapeCasts_S1x8192x512_S8192x512) bitsLt_bf16_f32 : FVec Ideal S8192x512 .bf16) := by
  simp only [V, hostOps0, List.flatten_cons, List.flatten_nil, List.append_nil]
  after_results_simp <;> rfl

theorem V_b : V m c main_v4 = (truncf .bf16 (shapeCast S8192x768 (m ((c : Thread nD τ).loc main_arg2) : FVec Ideal S1x8192x768 .f32) shapeCasts_S1x8192x768_S8192x768) bitsLt_bf16_f32 : FVec Ideal S8192x768 .bf16) := by
  simp only [V, hostOps0, List.flatten_cons, List.flatten_nil, List.append_nil]
  after_results_simp <;> rfl

theorem V_d : V m c main_v6 = (truncf .bf16 (shapeCast S8192x768 (m ((c : Thread nD τ).loc main_arg3) : FVec Ideal S1x8192x768 .f32) shapeCasts_S1x8192x768_S8192x768) bitsLt_bf16_f32 : FVec Ideal S8192x768 .bf16) := by
  simp only [V, hostOps0, List.flatten_cons, List.flatten_nil, List.append_nil]
  after_results_simp <;> rfl

theorem V_w : V m c main_v8 = (broadcastInDim S1x2048x2048 ![1, 2] bcast_S2048x2048_S1x2048x2048_1_2
    (truncf .bf16 (m ((c : Thread nD τ).loc main_arg4) : FVec Ideal S2048x2048 .f32) bitsLt_bf16_f32) : FVec Ideal S1x2048x2048 .bf16) := by
  simp only [V, hostOps0, List.flatten_cons, List.flatten_nil, List.append_nil]
  after_results_simp <;> rfl

theorem cast_x (X : FVec Ideal S1x8192x2048 .f32) (s : Fin 8192) (e : Fin 2048) :
    shapeCast S8192x2048 X shapeCasts_S1x8192x2048_S8192x2048 (ix2 s e) = X (ix3 (0 : Fin 1) s e) := by
  pointwise

theorem cast_a (A : FVec Ideal S1x8192x512 .f32) (s : Fin 8192) (e : Fin 512) :
    (truncf .bf16 (shapeCast S8192x512 A shapeCasts_S1x8192x512_S8192x512) bitsLt_bf16_f32 : FVec Ideal S8192x512 .bf16) (ix2 s e) = A (ix3 (0 : Fin 1) s e) := by
  pointwise

theorem cast_b (B : FVec Ideal S1x8192x768 .f32) (s : Fin 8192) (e : Fin 768) :
    (truncf .bf16 (shapeCast S8192x768 B shapeCasts_S1x8192x768_S8192x768) bitsLt_bf16_f32 : FVec Ideal S8192x768 .bf16) (ix2 s e) = B (ix3 (0 : Fin 1) s e) := by
  pointwise

theorem cast_w (W : FVec Ideal S2048x2048 .f32) (k : Fin 2048) (e : Fin 2048) :
    (broadcastInDim S1x2048x2048 ![1, 2] bcast_S2048x2048_S1x2048x2048_1_2 (truncf .bf16 W bitsLt_bf16_f32) : FVec Ideal S1x2048x2048 .bf16) (ix3 (0 : Fin 1) k e) = W (ix2 k e) := by
  pointwise

theorem index0 : ∀ t : Fin cfg0.N, win0_0.index t = ![t.val, 0] :=
  (by decide +kernel : ∀ t : Fin grid0.N, win0_0.index t = ![t.val, 0])

theorem index1 : ∀ t : Fin cfg0.N, win0_1.index t = ![t.val, 0] :=
  (by decide +kernel : ∀ t : Fin grid0.N, win0_1.index t = ![t.val, 0])

theorem index2 : ∀ t : Fin cfg0.N, win0_2.index t = ![t.val, 0] :=
  (by decide +kernel : ∀ t : Fin grid0.N, win0_2.index t = ![t.val, 0])

theorem index3 : ∀ t : Fin cfg0.N, win0_3.index t = ![t.val, 0] :=
  (by decide +kernel : ∀ t : Fin grid0.N, win0_3.index t = ![t.val, 0])

theorem index4 : ∀ t : Fin cfg0.N, win0_4.index t = ![0, 0, 0] :=
  (by decide +kernel : ∀ t : Fin grid0.N, win0_4.index t = ![0, 0, 0])

theorem index5 : ∀ t : Fin cfg0.N, win0_5.index t = ![t.val, 0] :=
  (by decide +kernel : ∀ t : Fin grid0.N, win0_5.index t = ![t.val, 0])

theorem pt_lt (t : Fin cfg0.N) : t.val < 16 := t.isLt

section
variable {c} (X : FVec Ideal S1x8192x2048 .f32) (A : FVec Ideal S1x8192x512 .f32) (B C : FVec Ideal S1x8192x768 .f32) (W : FVec Ideal S2048x2048 .f32)

theorem blk_x (eX : m ((c : Thread nD τ).loc main_arg0) = X) (t : Fin cfg0.N) (i : Fin 512) (e : Fin 2048) :
    iblk m c 0 t (ix2 i e) = X (ix3 (0 : Fin 1) (⟨512 * t.val + i.val, by have := pt_lt t; omega⟩ : Fin 8192) e) := by
  rw [← cast_x X, ← eX, ← V_x]
  blk_simp [iblk]
  congr 1
  blk_ext [index0]

theorem blk_a (eA : m ((c : Thread nD τ).loc main_arg1) = A) (t : Fin cfg0.N) (i : Fin 512) (e : Fin 512) :
    iblk m c 1 t (ix2 i e) = A (ix3 (0 : Fin 1) (⟨512 * t.val + i.val, by have := pt_lt t; omega⟩ : Fin 8192) e) := by
  rw [← cast_a A, ← eA, ← V_a]
  blk_simp [iblk]
  congr 1
  blk_ext [index1]

theorem blk_b (eB : m ((c : Thread nD τ).loc main_arg2) = B) (t : Fin cfg0.N) (i : Fin 512) (e : Fin 768) :
    iblk m c 2 t (ix2 i e) = B (ix3 (0 : Fin 1) (⟨512 * t.val + i.val, by have := pt_lt t; omega⟩ : Fin 8192) e) := by
  rw [← cast_b B, ← eB, ← V_b]
  blk_simp [iblk]
  congr 1
  blk_ext [index2]

theorem blk_d (eC : m ((c : Thread nD τ).loc main_arg3) = C) (t : Fin cfg0.N) (i : Fin 512) (e : Fin 768) :
    iblk m c 3 t (ix2 i e) = C (ix3 (0 : Fin 1) (⟨512 * t.val + i.val, by have := pt_lt t; omega⟩ : Fin 8192) e) := by
  rw [← cast_b C, ← eC, ← V_d]
  blk_simp [iblk]
  congr 1
  blk_ext [index3]

theorem blk_w (eW : m ((c : Thread nD τ).loc main_arg4) = W) (t : Fin cfg0.N) (k e : Fin 2048) :
    iblk m c 4 t (ix3 (0 : Fin 1) k e) = W (ix2 k e) := by
  rw [← cast_w W, ← eW, ← V_w]
  blk_simp [iblk]
  congr 1
  blk_ext [index4]

/-- What a point leaves in its rows is the reference's. -/
theorem point_apply (eX : m ((c : Thread nD τ).loc main_arg0) = X) (eA : m ((c : Thread nD τ).loc main_arg1) = A) (eB : m ((c : Thread nD τ).loc main_arg2) = B)
    (eC : m ((c : Thread nD τ).loc main_arg3) = C) (eW : m ((c : Thread nD τ).loc main_arg4) = W) (t : Fin cfg0.N) (i : Fin 512) (e : Fin 2048) :
    out0_5 (F := Ideal) (iblk m c 0 t) (iblk m c 1 t) (iblk m c 2 t) (iblk m c 3 t) (iblk m c 4 t) (ix2 i e)
      = Cert.Reference3Ideal.Hand.res X A B C W (ix2 (⟨512 * t.val + i.val, by have := pt_lt t; omega⟩ : Fin 8192) e) := by
  refine (out_apply _ _ _ _ _ i e).trans ?_
  rw [Cert.Reference3Ideal.Hand.res_apply]
  simp only [blk_x m X eX, blk_a m A eA, blk_b m B eB, blk_d m C eC, blk_w m W eW]

/-- The call's result array is the reference's result. -/
theorem arr_eq (X' : FVec Ideal S1x8192x2048 .f32) (A' : FVec Ideal S1x8192x512 .f32) (B' C' : FVec Ideal S1x8192x768 .f32) (W' : FVec Ideal S2048x2048 .f32)
    (eX : m ((c : Thread nD τ).loc main_arg0) = X) (eA : m ((c : Thread nD τ).loc main_arg1) = A) (eB : m ((c : Thread nD τ).loc main_arg2) = B)
    (eC : m ((c : Thread nD τ).loc main_arg3) = C) (eW : m ((c : Thread nD τ).loc main_arg4) = W) (h0 : X' = X) (h1 : A' = A) (h2 : B' = B) (h3 : C' = C) (h4 : W' = W) :
    Cert.Reference3Ideal.Hand.res X' A' B' C' W' = (dats m 0 c).arrAt 5 cfg0.N := by
  subst h0 h1 h2 h3 h4
  refine ((dats m 0 c).arrAt_eq_of_covers 5 _ (by decide +kernel) fun t hf y => ?_).symm
  have hy : (y : S512x2048.Idx) = ix2 (⟨(y 0).val, (y 0).isLt⟩ : Fin 512) (⟨(y 1).val, (y 1).isLt⟩ : Fin 2048) := by
    funext a; fin_cases a <;> rfl
  blk_simp [after0_5]
  refine Eq.trans ?_ ((point_apply m X' A' B' C' W' eX eA eB eC eW t ⟨(y 0).val, (y 0).isLt⟩ ⟨(y 1).val, (y 1).isLt⟩).trans (congrArg (Cert.Reference3Ideal.Hand.res X' A' B' C' W') ?_))
  · exact congrArg (out0_5 (F := Ideal) (iblk m c 0 t) (iblk m c 1 t) (iblk m c 2 t) (iblk m c 3 t) (iblk m c 4 t)) hy
  · blk_ext [index5]

end

end Cert.Kernel3Ideal.Hand

end
-- ==== Proof.FoxProgI.lean ====
/- The forgetting attention's printed body as the attention program of Units.lean. -/
module

public import proofs.«01_k».proof.Kernel4Ideal
public import proofs.«01_k».proof.Proof.Gen.Kernel4Ideal
public import proofs.«01_k».proof.Proof.Units

@[expose] public section

set_option maxRecDepth 65536

noncomputable section

namespace Cert.Kernel4Ideal.Hand

open Cert.Kernel4Ideal
open Idealize.ShloMosaic Idealize.SL.Sem

variable {F : FTy → Type} [FloatOps F] [Named F] [Facts]

open Facts₀ Facts

/-- One trip of the loop over whole blocks. -/
def t1b (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) : Fin (k0_t1_loop i).trips → PUnit → Prog (TpuEff nD τ sig (Elt F) Λ₀ .tc) PUnit :=
  have c0_i32_27 : BitVec 32 := 0#32
  have c1_i32_29 : BitVec 32 := 1#32
  fun k0_t1 _ => do
    let ⟨v1368, v1430, v1431, cst_1024⟩ : Σ' (v1368 : FVec F S128x512 .bf16) (v1430 : FVec F S128x256 .f32) (v1431 : FVec F S512x256 .bf16), FVec F S128x256 .f32 ← k0_part41 i arg2 harg2 arg3 harg3 arg4 harg4 arg5 harg5 arg6 harg6 arg7 harg7 arg8 harg8 arg9 harg9 c0_i32_27 c1_i32_29 k0_t1
    have v1432 : FVec F S128x256 .f32 := matmul dot_S128x512_S512x256_S128x256_1_0_0_1_n_n none v1368 v1431 cst_1024
    have v1433 : FVec F S128x256 .f32 := addf v1430 v1432
    let c3_1025 : Index := 3#32
    let c0_1026 : Index := 0#32
    let c256_1027 : Index := 256#32
    let v1434 : Vec F S1x128x256 .f32 ← Prog.lift (.load arg8 (Rect.unit (s := S4x128x512) ![3, 0, 256] S1x128x256.size inb_S4x128x512_S1x128x256_3_0_256).toLoadRect (View.loadsAt_vmem h_S1x128x256))
    have v1435 : FVec F S128x256 .f32 := shapeCast S128x256 v1434 shapeCasts_S1x128x256_S128x256
    have v1436 : FVec F S1x128x256 .f32 := shapeCast S1x128x256 v1433 shapeCasts_S128x256_S1x128x256
    Prog.lift (.store arg8 (Rect.unit (s := S4x128x512) ![3, 0, 256] S1x128x256.size inb_S4x128x512_S1x128x256_3_0_256) v1436 Finset.univ (View.stores_vmem_bits_univ h_S1x128x256 rfl) (.inl rfl))
    pure ⟨⟩

/-- The second loop of the printed body, which makes no trip. -/
def t2b (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) : Fin (k0_t2_loop i).trips → PUnit → Prog (TpuEff nD τ sig (Elt F) Λ₀ .tc) PUnit :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32_25 : BitVec 32 := 2#32
  let v33 : BitVec 32 := Scalar.shrui v0 c2_i32_25
  let c0_i32_26 : BitVec 32 := 0#32
  let c0_i32_27 : BitVec 32 := 0#32
  let v34 : BitVec 32 := Scalar.subi v33 c0_i32_27
  let v35 : BitVec 32 := Scalar.addi c0_i32_27 v34
  let c1_i32_28 : BitVec 32 := 1#32
  let v36 : BitVec 32 := Scalar.divsi v34 c1_i32_28
  let v37 : BitVec 32 := Scalar.muli v36 c1_i32_28
  let v38 : BitVec 32 := Scalar.addi c0_i32_27 v37
  have c1_i32_30 : BitVec 32 := 1#32
  fun k0_t2 _ => do
    let ⟨v1368, v1430, v1431, cst_1024⟩ : Σ' (v1368 : FVec F S128x512 .bf16) (v1430 : FVec F S128x256 .f32) (v1431 : FVec F S512x256 .bf16), FVec F S128x256 .f32 ← k0_part82 i arg2 harg2 arg3 harg3 arg4 harg4 arg5 harg5 arg6 harg6 arg7 harg7 arg8 harg8 arg9 harg9 v38 c1_i32_30 k0_t2
    have v1432 : FVec F S128x256 .f32 := matmul dot_S128x512_S512x256_S128x256_1_0_0_1_n_n none v1368 v1431 cst_1024
    have v1433 : FVec F S128x256 .f32 := addf v1430 v1432
    let c3_1025 : Index := 3#32
    let c0_1026 : Index := 0#32
    let c256_1027 : Index := 256#32
    let v1434 : Vec F S1x128x256 .f32 ← Prog.lift (.load arg8 (Rect.unit (s := S4x128x512) ![3, 0, 256] S1x128x256.size inb_S4x128x512_S1x128x256_3_0_256).toLoadRect (View.loadsAt_vmem h_S1x128x256))
    have v1435 : FVec F S128x256 .f32 := shapeCast S128x256 v1434 shapeCasts_S1x128x256_S128x256
    have v1436 : FVec F S1x128x256 .f32 := shapeCast S1x128x256 v1433 shapeCasts_S128x256_S1x128x256
    Prog.lift (.store arg8 (Rect.unit (s := S4x128x512) ![3, 0, 256] S1x128x256.size inb_S4x128x512_S1x128x256_3_0_256) v1436 Finset.univ (View.stores_vmem_bits_univ h_S1x128x256 rfl) (.inl rfl))
    pure ⟨⟩

/-- The diagonal blocks. -/
def lastb (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) (k0_h1 : k0_cond1 i = 1#1) : Prog (TpuEff nD τ sig (Elt F) Λ₀ .tc) PUnit :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  have v13 : BitVec 32 := Scalar.addi v0 0#32
  have v14 : BitVec 32 := Scalar.addi v0 0#32
  have v15 : BitVec 32 := Scalar.addi v0 0#32
  have v16 : BitVec 32 := Scalar.addi v0 0#32
  have v17 : BitVec 32 := Scalar.addi v0 1#32
  have v18 : BitVec 32 := Scalar.addi v0 1#32
  have v19 : BitVec 32 := Scalar.addi v0 1#32
  have v20 : BitVec 32 := Scalar.addi v0 2#32
  have v21 : BitVec 32 := Scalar.addi v0 2#32
  have v22 : BitVec 32 := Scalar.addi v0 3#32
  do
    let ⟨v102, v111, v116, v118, v121⟩ : Σ' (v102 : FVec F S128x512 .bf16) (v111 : FVec F S512x256 .f32) (v116 : FVec F S1x256 .f32) (v118 : FVec F S1x256 .f32), FVec F S1x1x256 .f32 ← k0_part83 i arg2 harg2 arg3 harg3 arg4 harg4 arg5 harg5 arg6 harg6 arg7 harg7 arg8 harg8 arg9 harg9 v13 v14 k0_h1
    let ⟨v152, v154, v155⟩ : Σ' (v152 : FVec F S512x256 .f32) (v154 : FVec F S1x256 .f32), FVec F S256 .f32 ← k0_part84 i arg2 harg2 arg3 harg3 arg4 harg4 arg5 harg5 arg6 harg6 arg7 harg7 arg8 harg8 arg9 harg9 v102 v111 v116 v118 v121
    let ⟨v189, v190⟩ : Σ' (v189 : FVec F S512x256 .bf16), Vec F S1x256x512 .bf16 ← k0_part85 i arg2 harg2 arg3 harg3 arg4 harg4 arg5 harg5 arg6 harg6 arg7 harg7 arg8 harg8 arg9 harg9 v15 k0_h1 v102 v152 v154 v155
    let ⟨v200, v209, v215, v224⟩ : Σ' (v200 : FVec F S128x512 .bf16) (v209 : FVec F S1x256 .f32) (v215 : FVec F S512x256 .f32), FVec F S1x1x256 .f32 ← k0_part86 i arg2 harg2 arg3 harg3 arg4 harg4 arg5 harg5 arg6 harg6 arg7 harg7 arg8 harg8 arg9 harg9 v14 k0_h1 v189 v190
    let ⟨v243, v249, v255⟩ : Σ' (v243 : FVec F S1x256 .f32) (v249 : FVec F S512x256 .f32), FVec F S1x256 .f32 ← k0_part87 i arg2 harg2 arg3 harg3 arg4 harg4 arg5 harg5 arg6 harg6 arg7 harg7 arg8 harg8 arg9 harg9 v200 v209 v215 v224
    let ⟨v284, v286, v288⟩ : Σ' (v284 : FVec F S128x512 .bf16) (v286 : FVec F S512x256 .f32), FVec F S1x256 .f32 ← k0_part88 i arg2 harg2 arg3 harg3 arg4 harg4 arg5 harg5 arg6 harg6 arg7 harg7 arg8 harg8 arg9 harg9 v15 v16 k0_h1 v200 v243 v249 v255
    let ⟨v320, v322⟩ : Σ' (v320 : FVec F S512x256 .f32), FVec F S1x256 .f32 ← k0_part89 i arg2 harg2 arg3 harg3 arg4 harg4 arg5 harg5 arg6 harg6 arg7 harg7 arg8 harg8 arg9 harg9 v284 v286 v288
    let v357 : FVec F S512x256 .bf16 ← k0_part90 i arg2 harg2 arg3 harg3 arg4 harg4 arg5 harg5 arg6 harg6 arg7 harg7 arg8 harg8 arg9 harg9 v17 k0_h1 v284 v320 v322
    let ⟨v368, v377, v383, v389, v390⟩ : Σ' (v368 : FVec F S128x512 .bf16) (v377 : FVec F S1x256 .f32) (v383 : FVec F S512x256 .f32) (v389 : FVec F S1x256 .f32), Vec F S1x1x256 .f32 ← k0_part91 i arg2 harg2 arg3 harg3 arg4 harg4 arg5 harg5 arg6 harg6 arg7 harg7 arg8 harg8 arg9 harg9 v16 k0_h1 v357
    let ⟨v411, v417, v423⟩ : Σ' (v411 : FVec F S1x256 .f32) (v417 : FVec F S512x256 .f32), FVec F S1x256 .f32 ← k0_part92 i arg2 harg2 arg3 harg3 arg4 harg4 arg5 harg5 arg6 harg6 arg7 harg7 arg8 harg8 arg9 harg9 v368 v377 v383 v389 v390
    let ⟨v452, v454, v455, v456, v457⟩ : Σ' (v452 : FVec F S128x512 .bf16) (v454 : FVec F S512x256 .f32) (v455 : IVec S512x256 32) (v456 : IVec S512x256 32), IVec S512x256 32 ← k0_part93 i arg2 harg2 arg3 harg3 arg4 harg4 arg5 harg5 arg6 harg6 arg7 harg7 arg8 harg8 arg9 harg9 v17 v18 k0_h1 v368 v411 v417 v423
    let v493 : FVec F S1x128x256 .f32 ← k0_part94 i arg2 harg2 arg3 harg3 arg4 harg4 arg5 harg5 arg6 harg6 arg7 harg7 arg8 harg8 arg9 harg9 v452 v454 v455 v456 v457
    let ⟨v515, v528⟩ : Σ' (v515 : FVec F S512x256 .f32), FVec F S128x256 .f32 ← k0_part95 i arg2 harg2 arg3 harg3 arg4 harg4 arg5 harg5 arg6 harg6 arg7 harg7 arg8 harg8 arg9 harg9 v493
    let ⟨v550, v552, v557, v559, v560⟩ : Σ' (v550 : FVec F S128x512 .bf16) (v552 : FVec F S512x256 .f32) (v557 : FVec F S1x256 .f32) (v559 : FVec F S1x256 .f32), Vec F S1x1x256 .f32 ← k0_part96 i arg2 harg2 arg3 harg3 arg4 harg4 arg5 harg5 arg6 harg6 arg7 harg7 arg8 harg8 arg9 harg9 v18 v19 k0_h1 v452 v515 v528
    let ⟨v586, v591, v593⟩ : Σ' (v586 : FVec F S512x256 .f32) (v591 : FVec F S1x256 .f32), FVec F S1x256 .f32 ← k0_part97 i arg2 harg2 arg3 harg3 arg4 harg4 arg5 harg5 arg6 harg6 arg7 harg7 arg8 harg8 arg9 harg9 v550 v552 v557 v559 v560
    let ⟨v626, v627⟩ : Σ' (v626 : FVec F S512x512 .f32), Vec F S1x512x512 .f32 ← k0_part98 i arg2 harg2 arg3 harg3 arg4 harg4 arg5 harg5 arg6 harg6 arg7 harg7 arg8 harg8 arg9 harg9 v20 k0_h1 v550 v586 v591 v593
    let ⟨v634, v649, v660, v661⟩ : Σ' (v634 : FVec F S128x512 .bf16) (v649 : FVec F S512x256 .f32) (v660 : FVec F S128x256 .f32), FVec F S128x256 .f32 ← k0_part99 i arg2 harg2 arg3 harg3 arg4 harg4 arg5 harg5 arg6 harg6 arg7 harg7 arg8 harg8 arg9 harg9 v19 k0_h1 v626 v627
    let ⟨v677, v683, v694⟩ : Σ' (v677 : FVec F S1x256 .f32) (v683 : FVec F S512x256 .f32), FVec F S128x256 .f32 ← k0_part100 i arg2 harg2 arg3 harg3 arg4 harg4 arg5 harg5 arg6 harg6 arg7 harg7 arg8 harg8 arg9 harg9 v634 v649 v660 v661
    let ⟨v718, v727, v728⟩ : Σ' (v718 : FVec F S128x512 .bf16) (v727 : FVec F S512x256 .f32), Vec F S1x1x256 .f32 ← k0_part101 i arg2 harg2 arg3 harg3 arg4 harg4 arg5 harg5 arg6 harg6 arg7 harg7 arg8 harg8 arg9 harg9 v20 v21 k0_h1 v634 v677 v683 v694
    let ⟨v761, v762, v763, c256_i32_530⟩ : Σ' (v761 : FVec F S512x256 .f32) (v762 : IVec S512x256 32) (v763 : IVec S512x256 32), BitVec 32 ← k0_part102 i arg2 harg2 arg3 harg3 arg4 harg4 arg5 harg5 arg6 harg6 arg7 harg7 arg8 harg8 arg9 harg9 v718 v727 v728
    let v797 : FVec F S128x256 .f32 ← k0_part103 i arg2 harg2 arg3 harg3 arg4 harg4 arg5 harg5 arg6 harg6 arg7 harg7 arg8 harg8 arg9 harg9 v718 v761 v762 v763 c256_i32_530
    let ⟨v816, v825, v831⟩ : Σ' (v816 : FVec F S128x512 .bf16) (v825 : FVec F S1x256 .f32), FVec F S512x256 .f32 ← k0_part104 i arg2 harg2 arg3 harg3 arg4 harg4 arg5 harg5 arg6 harg6 arg7 harg7 arg8 harg8 arg9 harg9 v21 v22 k0_h1 v797
    let ⟨v859, v865⟩ : Σ' (v859 : FVec F S1x256 .f32), FVec F S512x256 .f32 ← k0_part105 i arg2 harg2 arg3 harg3 arg4 harg4 arg5 harg5 arg6 harg6 arg7 harg7 arg8 harg8 arg9 harg9 v816 v825 v831
    let ⟨v889, v898, v900⟩ : Σ' (v889 : FVec F S128x512 .bf16) (v898 : FVec F S512x256 .f32), FVec F S1x256 .f32 ← k0_part106 i arg2 harg2 arg3 harg3 arg4 harg4 arg5 harg5 arg6 harg6 arg7 harg7 arg8 harg8 arg9 harg9 v22 k0_h1 v816 v859 v865
    let ⟨v932, v933, v934, v935⟩ : Σ' (v932 : FVec F S512x256 .f32) (v933 : IVec S512x256 32) (v934 : IVec S512x256 32), IVec S512x256 32 ← k0_part107 i arg2 harg2 arg3 harg3 arg4 harg4 arg5 harg5 arg6 harg6 arg7 harg7 arg8 harg8 arg9 harg9 v889 v898 v900
    let v971 : FVec F S1x128x256 .f32 ← k0_part108 i arg2 harg2 arg3 harg3 arg4 harg4 arg5 harg5 arg6 harg6 arg7 harg7 arg8 harg8 arg9 harg9 v889 v932 v933 v934 v935
    Prog.lift (.store arg8 (Rect.unit (s := S4x128x512) ![3, 0, 256] S1x128x256.size inb_S4x128x512_S1x128x256_3_0_256) v971 Finset.univ (View.stores_vmem_bits_univ h_S1x128x256 rfl) (.inl rfl))
    pure ⟨⟩

theorem t1b_eq (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) (t : Fin (k0_t1_loop i).trips) : t1b (F := F) i arg2 harg2 arg3 harg3 arg4 harg4 arg5 harg5 arg6 harg6 arg7 harg7 arg8 harg8 arg9 harg9 t ⟨⟩ =
   Cert.Attn.trip arg2 arg3 arg4 arg6 arg7 arg8 arg9 (fun b => k0_off1 i t (BitVec.ofNat 32 b)) (fun b => k0_off1_inb i t b) (fun b => k0_off2 i t (BitVec.ofNat 32 b)) (fun b => k0_off2_inb i t b) := by
  rfl
theorem last_eq (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) (k0_h1 : k0_cond1 i = 1#1) : lastb (F := F) i arg2 harg2 arg3 harg3 arg4 harg4 arg5 harg5 arg6 harg6 arg7 harg7 arg8 harg8 arg9 harg9 k0_h1 =
   Cert.Attn.tail arg2 arg3 arg4 arg6 arg7 arg8 arg9 (Named.named κ "mask" 0xF149F2CA#32) (fun b => k0_off5 i (BitVec.ofNat 32 b)) (fun b => k0_off5_inb i k0_h1 b) (fun b => k0_off6 i (BitVec.ofNat 32 b)) (fun b => k0_off6_inb i k0_h1 b) := by
  rfl
/-- The middle of the body: the first scores, the loops, the diagonal blocks and the first tile's division. -/
theorem middle_eq  (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) (K : Vec F S512x256 .bf16) : k0_part110 (F := F) i arg2 harg2 arg3 harg3 arg4 harg4 arg5 harg5 arg6 harg6 arg7 harg7 arg8 harg8 arg9 harg9 (Scalar.muli (BitVec.ofNat 32 (i 1).val) 4#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 2#32) (Scalar.addi (Scalar.muli (BitVec.ofNat 32 (i 1).val) 4#32) 2#32) (Scalar.addi (Scalar.muli (BitVec.ofNat 32 (i 1).val) 4#32) 3#32) (shapeCast S512x256 K shapeCasts_S512x256_S512x256) = (do
    let Q : Vec F Attn.T1x256x512 .bf16 ← Prog.lift (.load arg2 (Rect.unit (s := Attn.T1x256x2048) (Attn.qo 0) Attn.T1x256x512.size (Attn.hqo 0)).toLoadRect (View.loadsAt_vmem Attn.pos_T1x256x512))
    let _x : Vec F Attn.T1x512x512 .f32 ← Prog.lift (.load arg9 (Rect.unit (s := Attn.T2x512x512) (Attn.so 0 0) Attn.T1x512x512.size (Attn.hso 0)).toLoadRect (View.loadsAt_vmem Attn.pos_T1x512x512))
    Prog.lift (.store arg9 (Rect.unit (s := Attn.T2x512x512) (Attn.so 0 0) Attn.T1x512x512.size (Attn.hso 0)) (Attn.payScores K Q) Finset.univ (View.stores_vmem_bits_univ Attn.pos_T1x512x512 rfl) (.inl rfl))
    (k0_t1_loop i).for (k0_t1_ok i) ⟨⟩ (t1b i arg2 harg2 arg3 harg3 arg4 harg4 arg5 harg5 arg6 harg6 arg7 harg7 arg8 harg8 arg9 harg9)
    (k0_t2_loop i).for (k0_t2_ok i) ⟨⟩ (t2b i arg2 harg2 arg3 harg3 arg4 harg4 arg5 harg5 arg6 harg6 arg7 harg7 arg8 harg8 arg9 harg9)
    if h : k0_cond1 i = 1#1 then lastb i arg2 harg2 arg3 harg3 arg4 harg4 arg5 harg5 arg6 harg6 arg7 harg7 arg8 harg8 arg9 harg9 h else pure ⟨⟩
    Attn.out arg5 arg7 arg8 harg5 0
    let x : Vec F Attn.T1x128x512 .f32 ← Prog.lift (.load arg8 (Rect.unit (s := Attn.T4x128x512) (Attn.mo 1 0) Attn.T1x128x512.size (Attn.hae 1)).toLoadRect (View.loadsAt_vmem Attn.pos_T1x128x512))
    pure (shapeCast Attn.T128x512 x Attn.cast_v')) := by
  unfold k0_part110
  refine congrArg (Bind.bind _) (funext fun Q => ?_)
  refine congrArg (Bind.bind _) (funext fun x => ?_)
  refine congrArg (Bind.bind _) (funext fun x => ?_)
  refine congrArg (Bind.bind _) (funext fun x => ?_)
  refine congrArg₂ Prog.bind ?_ (funext fun x => ?_)
  · rfl
  refine dite_congr rfl (fun h => ?_) (fun h => ?_)
  · rfl
  · rfl
/-- The printed body is the attention program over the same buffers. -/
theorem body_eq  (i : grid0.Coords) (arg2 : Memref sig .tc .vmem S1x256x2048 .bf16) (harg2 : arg2.IsWhole) (arg3 : Memref sig .tc .vmem S8192x256 .bf16) (harg3 : arg3.IsWhole) (arg4 : Memref sig .tc .vmem S1x128x8192 .bf16) (harg4 : arg4.IsWhole) (arg5 : Memref sig .tc .vmem S2048x128 .bf16) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x128x512 .f32) (harg8 : arg8.IsWhole) (arg9 : Memref sig .tc .vmem S2x512x512 .f32) (harg9 : arg9.IsWhole) : cc0_attn_fox (F := F) i arg2 harg2 arg3 harg3 arg4 harg4 arg5 harg5 arg6 harg6 arg7 harg7 arg8 harg8 arg9 harg9 =
   Cert.Attn.attn arg2 arg3 arg5 arg6 arg7 arg8 arg9 harg5 (Named.named κ "mask" 0xF149F2CA#32) (k0_t1_loop i) (k0_t1_ok i) (t1b i arg2 harg2 arg3 harg3 arg4 harg4 arg5 harg5 arg6 harg6 arg7 harg7 arg8 harg8 arg9 harg9) (k0_t2_loop i) (k0_t2_ok i) (t2b i arg2 harg2 arg3 harg3 arg4 harg4 arg5 harg5 arg6 harg6 arg7 harg7 arg8 harg8 arg9 harg9) (k0_cond1 i) (lastb i arg2 harg2 arg3 harg3 arg4 harg4 arg5 harg5 arg6 harg6 arg7 harg7 arg8 harg8 arg9 harg9) := by
  have e : cc0_attn_fox (F := F) i arg2 harg2 arg3 harg3 arg4 harg4 arg5 harg5 arg6 harg6 arg7 harg7 arg8 harg8 arg9 harg9 = (do
      Attn.init arg6 arg7 arg8 (Named.named κ "mask" 0xF149F2CA#32)
      let K : Vec F Attn.T512x256 .bf16 ← Prog.lift (.load arg3 (Rect.unit (s := Attn.T8192x256) ![0, 0] Attn.T512x256.size Attn.in_k0).toLoadRect (View.loadsAt_vmem Attn.pos_T512x256))
      let x : FVec F Attn.T128x512 .f32 ← k0_part110 (F := F) i arg2 harg2 arg3 harg3 arg4 harg4 arg5 harg5 arg6 harg6 arg7 harg7 arg8 harg8 arg9 harg9 (Scalar.muli (BitVec.ofNat 32 (i 1).val) 4#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 2#32) (Scalar.addi (Scalar.muli (BitVec.ofNat 32 (i 1).val) 4#32) 2#32) (Scalar.addi (Scalar.muli (BitVec.ofNat 32 (i 1).val) 4#32) 3#32) (shapeCast S512x256 K shapeCasts_S512x256_S512x256)
      Attn.outOf arg5 arg7 harg5 1 x
      Attn.out arg5 arg7 arg8 harg5 2
      Attn.out arg5 arg7 arg8 harg5 3
      pure ⟨⟩) := by rfl
  rw [e]
  simp only [middle_eq]
  rfl

end Cert.Kernel4Ideal.Hand

end
-- ==== Proof.FoxBodyI.lean ====
/- The forgetting attention: what the body leaves in the output block, and the program's run. -/
module

public import proofs.«01_k».proof.Proof.Gen.Kernel4Ideal
public import proofs.«01_k».proof.Proof.Gen.Kernel4Ideal.Frame
public import proofs.«01_k».proof.Proof.Gen.Kernel4Ideal.Points
public import proofs.«01_k».proof.Proof.Gen.Kernel4Ideal.Launch
public import proofs.«01_k».proof.Proof.Flow
public import proofs.«01_k».proof.Proof.FoxProgI
public import Idealize.ShloMosaic.Lib.Pipeline.FrameSuffix
public import Idealize.ShloMosaic.Lib.Tactic

@[expose] public section

set_option maxRecDepth 65536

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Attn (Held)

/-! ## The loops' trips and the blocks' offsets -/

theorem trips_eq : ∀ i : grid0.Coords, (k0_t1_loop i).trips = (i 1).val := by decide +kernel
theorem trips2_eq : ∀ i : grid0.Coords, (k0_t2_loop i).trips = 0 := by decide +kernel
theorem cond_eq : ∀ i : grid0.Coords, k0_cond1 i = 1#1 := by decide +kernel

theorem off_trip : ∀ (n : Fin 4) (b : Fin 5), (Scalar.indexCast (Scalar.muli (Scalar.addi (Scalar.muli (Scf.iv 0#32 1#32 n.val) 4#32) (BitVec.ofNat 32 b.val)) 512#32) : Index).toNat = 512 * (4 * n.val + b.val) := by decide +kernel
theorem off_tail : ∀ (n b : Fin 4), (Scalar.indexCast (Scalar.muli (Scalar.addi (Scalar.muli (BitVec.ofNat 32 n.val) 4#32) (BitVec.ofNat 32 b.val)) 512#32) : Index).toNat = 512 * (4 * n.val + b.val) := by decide +kernel

theorem lt_trips (i : grid0.Coords) (t : Fin (k0_t1_loop i).trips) : t.val < 4 := by
  have h := lt_of_lt_of_eq t.isLt (trips_eq i)
  have h1 : (i 1).val < 4 := (i 1).isLt
  omega

theorem off1_eq (i : grid0.Coords) (t : Fin (k0_t1_loop i).trips) (b : Fin 5) : k0_off1 i t (BitVec.ofNat 32 b) = ![512 * (4 * t.val + b.val), 0] :=
  congrArg (fun n : ℕ => (![n, 0] : Fin 2 → ℕ)) (off_trip ⟨t.val, lt_trips i t⟩ b)

theorem off2_eq (i : grid0.Coords) (t : Fin (k0_t1_loop i).trips) (b : Fin 4) : k0_off2 i t (BitVec.ofNat 32 b) = ![0, 0, 512 * (4 * t.val + b.val)] :=
  congrArg (fun n : ℕ => (![0, 0, n] : Fin 3 → ℕ)) (off_trip ⟨t.val, lt_trips i t⟩ (b.castLE (by decide)))

theorem off5_eq (i : grid0.Coords) (b : Fin 4) : k0_off5 i (BitVec.ofNat 32 b) = ![512 * (4 * (k0_t1_loop i).trips + b.val), 0] := by
  rw [trips_eq]
  exact congrArg (fun n : ℕ => (![n, 0] : Fin 2 → ℕ)) (off_tail (i 1) b)

theorem off6_eq (i : grid0.Coords) (b : Fin 4) : k0_off6 i (BitVec.ofNat 32 b) = ![0, 0, 512 * (4 * (k0_t1_loop i).trips + b.val)] := by
  rw [trips_eq]
  exact congrArg (fun n : ℕ => (![0, 0, n] : Fin 3 → ℕ)) (off_tail (i 1) b)

variable {F : FTy → Type} [FloatOps F] [Named F]

local notation "𝕄" => MT nD τ sig Unit (Elt F) ℕ (UR sig nD τ) ℕ

/-- What the body leaves in the output block at the grid point `i`, from the blocks of keys, queries and values it reads. -/
def blockOut (i : grid0.Coords) (X : Vec F S1x256x2048 .bf16) (K : Vec F S8192x256 .bf16) (V : Vec F S1x128x8192 .bf16) : Vec F S2048x128 .bf16 :=
  Cert.Attn.outs (Cert.Attn.ends K X V (Named.named κ "mask" 0xF149F2CA#32) (k0_t1_loop i).trips)

/-- The body's triple: from the blocks it reads and its buffers, at anything, to the output block at `blockOut`. -/
theorem kernelRun (i : grid0.Coords) (c : Dev nD)
    (arg2 : Memref sig .tc .vmem S1x256x2048 .bf16) (harg2 : arg2.IsWhole) (arg3 : Memref sig .tc .vmem S8192x256 .bf16) (harg3 : arg3.IsWhole)
    (arg4 : Memref sig .tc .vmem S1x128x8192 .bf16) (harg4 : arg4.IsWhole) (arg5 : Memref sig .tc .vmem S2048x128 .bf16) (harg5 : arg5.IsWhole)
    (arg6 : Memref sig .tc .vmem S4x1x512 .f32) (harg6 : arg6.IsWhole) (arg7 : Memref sig .tc .vmem S4x1x512 .f32) (harg7 : arg7.IsWhole)
    (arg8 : Memref sig .tc .vmem S4x128x512 .f32) (harg8 : arg8.IsWhole) (arg9 : Memref sig .tc .vmem S2x512x512 .f32) (harg9 : arg9.IsWhole)
    (X : Vec F S1x256x2048 .bf16) (K : Vec F S8192x256 .bf16) (V : Vec F S1x128x8192 .bf16) (Ψ : PUnit → sProp 𝕄) :
    iprop(Held (c : Thread nD τ) arg2 X ∗ Held (c : Thread nD τ) arg3 K ∗ Held (c : Thread nD τ) arg4 V ∗ (∃ O, Held (c : Thread nD τ) arg5 O)
        ∗ (∃ x, Held (c : Thread nD τ) arg6 x) ∗ (∃ x, Held (c : Thread nD τ) arg7 x) ∗ (∃ x, Held (c : Thread nD τ) arg8 x) ∗ (∃ x, Held (c : Thread nD τ) arg9 x)
        ∗ (iprop(Held (c : Thread nD τ) arg2 X ∗ Held (c : Thread nD τ) arg3 K ∗ Held (c : Thread nD τ) arg4 V ∗ Held (c : Thread nD τ) arg5 (blockOut i X K V)
            ∗ (∃ x, Held (c : Thread nD τ) arg6 x) ∗ (∃ x, Held (c : Thread nD τ) arg7 x) ∗ (∃ x, Held (c : Thread nD τ) arg8 x) ∗ (∃ x, Held (c : Thread nD τ) arg9 x)) -∗ Ψ ⟨⟩))
      ⊢ wp frame (wpE (defs₀ (F := F)) Variants.none c none) Set.univ
          (cc0_attn_fox i arg2 harg2 arg3 harg3 arg4 harg4 arg5 harg5 arg6 harg6 arg7 harg7 arg8 harg8 arg9 harg9) Ψ := by
  rw [body_eq]
  iintro ⟨HX, HK, HV, ⟨%O, HO⟩, ⟨%xm, H6⟩, ⟨%xl, H7⟩, ⟨%xa, H8⟩, ⟨%xs, H9⟩, Hk⟩
  iapply (Cert.Attn.wp_attn (σ := ⟨xm, xl, xa, xs⟩) (fun t => t1b_eq i arg2 harg2 arg3 harg3 arg4 harg4 arg5 harg5 arg6 harg6 arg7 harg7 arg8 harg8 arg9 harg9 t)
    (trips2_eq i) (cond_eq i) (last_eq i arg2 harg2 arg3 harg3 arg4 harg4 arg5 harg5 arg6 harg6 arg7 harg7 arg8 harg8 arg9 harg9 (cond_eq i))) $$ [HX HK HV HO H6 H7 H8 H9]
  · unfold Cert.Attn.HeldAll Cert.Attn.HeldSt
    iframe
  iintro ⟨HA, HO⟩
  rw [Cert.Attn.effOuts_eq]
  iapply Hk
  unfold Cert.Attn.HeldAll Cert.Attn.HeldSt
  icases HA with ⟨HK, HX, HV, H6, H7, H8, H9⟩
  isplitl [HX]; · iexact HX
  isplitl [HK]; · iexact HK
  isplitl [HV]; · iexact HV
  isplitl [HO]
  · unfold blockOut
    rw [show Cert.Attn.ends K X V (Named.named κ "mask" 0xF149F2CA#32) (k0_t1_loop i).trips = Cert.Attn.col _ from
      (funext fun st => funext fun h => (Cert.Attn.col_attn K X V _ _ _ _ _ _ _ _ _ _ ⟨xm, xl, xa, xs⟩ (off1_eq i) (off2_eq i) (off5_eq i) (off6_eq i) st h).symm)]
    iexact HO
  isplitl [H6]; · iexists _; iexact H6
  isplitl [H7]; · iexists _; iexact H7
  isplitl [H8]; · iexists _; iexact H8
  iexists _; iexact H9

/-! ## The proof data and the body obligation -/

variable (m : (ℓ : Loc nD τ sig) → Buf (Elt F) ℓ) (ρ : Dev nD → PrngReg)

/-- The proof data: the arrays as the region finds them, the inputs' blocks left alone, the output's block at `blockOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (grid0.coords t) (iblk m c 0 t) (iblk m c 1 t) (iblk m c 2 t)
    | ⟨_ + 4, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t))

theorem held_eq (c : Thread nD τ) {cs : CoreSpace} {s : Shape} {e : EltTy} (M : Memref sig c.2.kind cs s e) (x : s.Idx → Elt F e) :
    (Held c M x : sProp 𝕄) = owns c M fullShare x := (owns_eq_rep _ _ _ _).symm

theorem phi_eq (c : Dev nD) : (Pipeline.ΦA spec0 c : sProp 𝕄) = iprop(iprop((∃ x, Held (c : Thread nD τ) (Memref.whole cc0_scratch0) x) ∗ (∃ x, Held (c : Thread nD τ) (Memref.whole cc0_scratch1) x)
      ∗ (∃ x, Held (c : Thread nD τ) (Memref.whole cc0_scratch2) x) ∗ (∃ x, Held (c : Thread nD τ) (Memref.whole cc0_scratch3) x)) ∗ ∃ r, prngReg c r) := by
  unfold Pipeline.ΦA
  rw [scopedRest0_eq]
  simp only [held_eq, owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  simp only [before0_0_of m (dats m 0 c) (A_eq m c 0) (fun _ => by dsimp only [dats]), before0_1_of m (dats m 0 c) (A_eq m c 1) (fun _ => by dsimp only [dats]), before0_2_of m (dats m 0 c) (A_eq m c 2) (fun _ => by dsimp only [dats])]
  iintro ⟨⟨⟨H6, H7, H8, H9⟩, Hg⟩, Ho, ⟨%d0, H0⟩, ⟨%d1, H1⟩, ⟨%d2, H2⟩, ⟨%d3, H3⟩⟩
  iapply (kernelRun (grid0.coords t) c (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (Memref.whole cc0_scratch0) (Memref.isWhole_whole _) (Memref.whole cc0_scratch1) (Memref.isWhole_whole _)
    (Memref.whole cc0_scratch2) (Memref.isWhole_whole _) (Memref.whole cc0_scratch3) (Memref.isWhole_whole _) (iblk m c 0 t) (iblk m c 1 t) (iblk m c 2 t))
  isplitl [H0]
  · rw [held_eq]; iexact H0
  isplitl [H1]
  · rw [held_eq]; iexact H1
  isplitl [H2]
  · rw [held_eq]; iexact H2
  isplitl [H3]
  · iexists _; rw [held_eq]; iexact H3
  isplitl [H6]; · iexact H6
  isplitl [H7]; · iexact H7
  isplitl [H8]; · iexact H8
  isplitl [H9]; · iexact H9
  iintro ⟨H0, H1, H2, H3, H6, H7, H8, H9⟩
  isplitl [H6 H7 H8 H9 Hg]
  · isplitl [H6 H7 H8 H9]
    · isplitl [H6]; · iexact H6
      isplitl [H7]; · iexact H7
      isplitl [H8]; · iexact H8
      iexact H9
    iexact Hg
  isplitl [Ho]; · iexact Ho
  isplitl [H0]; · iapply (Entails.of_eq (held_eq _ _ _)) $$ H0
  isplitl [H1]; · iapply (Entails.of_eq (held_eq _ _ _)) $$ H1
  isplitl [H2]; · iapply (Entails.of_eq (held_eq _ _ _)) $$ H2
  iapply (Entails.of_eq (held_eq _ _ _)) $$ H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every weakly fair execution terminates, faults nowhere, leaves the arrays at what the proof data say, and ends with every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (fun c => (body_obligation m c).loose) (fun c => (dats m 0 c).share_full fun _ => rfl) (fun _ _ => rfl) (V0 m) [hostOps1] sfx_sub sfx_fresh sfx_keeps
    (hmain m Variants.none) (fun _ _ => rfl) (fun _ _ => rfl) _ (fun _ h => h)

/-- The frame: the argument arrays end unchanged, the counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c))⟩, h.2⟩) (run_main m ρ)

end Cert.Kernel4Ideal.Hand

end
-- ==== Proof.FoxHost.lean ====
/- The forgetting attention: the arrays the call is given, as functions of the arguments, and the result as the blocks the body leaves. -/
module

public import proofs.«01_k».proof.Proof.FoxBodyI
public import proofs.«01_k».proof.Proof.Scores
public import Idealize.ShloMosaic.Lib.Pipeline.ValueKit.Geometry
public import Idealize.ShloMosaic.Lib.Pointwise
public import Idealize.ShloMosaic.Lib.StableHlo.Run

@[expose] public section

set_option maxRecDepth 65536

noncomputable section

namespace Cert.Attn

open Idealize.ShloMosaic

/-- The scale of the forgetting attention's logits. -/
def foxScale : ℝ := (Ideal.ofBits .f32 0x3DB504F3#32 : EReal).toReal

theorem foxScale_bits : Ideal.ofBits .f32 0x3DB504F3#32 = ((foxScale : ℝ) : EReal) := by
  unfold foxScale
  refine (EReal.coe_toReal ?_ ?_).symm <;> simp [Ideal.ofBits, Ideal.ieee, -EReal.coe_mul]

/-- A real over the logarithm of two. -/
theorem over_log_two (x : ℝ) : Ideal.div (x : EReal) (Ideal.log (Ideal.ofBits .f32 0x40000000#32)) = ((x / Real.log 2 : ℝ) : EReal) := by
  have hl : Real.log 2 ≠ 0 := (Real.log_pos (by norm_num)).ne'
  have h2 : Ideal.log ((2 : ℝ) : EReal) = ((Real.log 2 : ℝ) : EReal) := by
    have : ¬ ((2 : ℝ) ≤ 0) := by norm_num
    show (if (2 : ℝ) ≤ 0 then (⊥ : EReal) else ((Real.log 2 : ℝ) : EReal)) = _
    rw [if_neg this]
  rw [two_bits, h2]
  unfold Ideal.div
  rw [if_neg (by simpa using hl), ← EReal.coe_inv, ← EReal.coe_mul, div_eq_mul_inv]

/-- The product of a key with its decay's pieces behind it and a scaled query with ones behind it. -/
theorem dot_decay (a b : Fin 128 → ℝ) (c D : ℝ) (K X : Fin 256 → EReal)
    (hK : ∀ e : Fin 256, K e = if h : e.val < 128 then ((b ⟨e.val, h⟩ : ℝ) : EReal) else if e.val - 128 < 1 then (D : EReal) else if e.val - 128 - 1 < 1 then (D : EReal) - D
      else if e.val - 128 - 1 - 1 < 1 then (D : EReal) - D - ((D : EReal) - D) else 0)
    (hX : ∀ e : Fin 256, X e = if h : e.val < 128 then ((a ⟨e.val, h⟩ : ℝ) : EReal) * (c : EReal) else if e.val - 128 < 3 then 1 else 0) :
    ∑ e : Fin 256, K e * X e = (((∑ j, a j * b j) * c + D : ℝ) : EReal) := by
  have hz : (D : EReal) - D = 0 := by rw [← EReal.coe_sub, sub_self]; rfl
  rw [show ∑ e : Fin 256, K e * X e = ∑ e : Fin (128 + 128), K e * X e from rfl, Fin.sum_univ_add, EReal.coe_add]
  congr 1
  · rw [show (∑ j, a j * b j) * c = ∑ j, b j * (a j * c) by rw [Finset.sum_mul]; exact Finset.sum_congr rfl fun j _ => by ring, coe_sum]
    refine Finset.sum_congr rfl fun j _ => ?_
    have hj : (Fin.castAdd 128 j : Fin (128 + 128)).val < 128 := j.isLt
    rw [hK, hX, dif_pos hj, dif_pos hj, EReal.coe_mul, EReal.coe_mul]
    rfl
  · rw [Finset.sum_eq_single (0 : Fin 128)]
    · rw [hK, hX, dif_neg (by simp), dif_neg (by simp), if_pos (by simp), if_pos (by simp), mul_one]
    · intro j _ hj
      have h0 : j.val ≠ 0 := fun e => hj (Fin.ext e)
      have hv : (Fin.natAdd 128 j : Fin (128 + 128)).val = 128 + j.val := rfl
      rw [hK, dif_neg (by rw [hv]; omega), if_neg (by rw [hv]; omega), hz, sub_zero]
      simp
    · intro h; exact absurd (Finset.mem_univ _) h

/-- The score of key `j` for query `s` of head `h`, without the query's own decay: the scaled product of the two rows less the key's decay. -/
def foxLogit (q k : FVec Ideal ⟨4, ![1, 8192, 6, 128]⟩ .f32) (u : FVec Ideal ⟨3, ![1, 8192, 6]⟩ .f32) (h : Fin 6) (s j : Fin 8192) : ℝ :=
  (∑ e : Fin 128, (q (ix4 (0 : Fin 1) s h e) : EReal).toReal * (k (ix4 (0 : Fin 1) j h e) : EReal).toReal) * foxScale - (u (ix3 (0 : Fin 1) j h) : EReal).toReal

/-- A number added to every score of a row changes nothing. -/
theorem att_shift (y : ℕ → ℝ) (r : ℝ) (V : ℕ → EReal) (L : ℝ) (s : ℕ) : att (fun k => y k + r) V L s = att y V (L - r) s := by
  have e : ∀ k, y k + r - L = y k - (L - r) := fun k => by ring
  unfold att
  simp only [e]

/-- What the loop over the blocks leaves for a query, in terms of the queries, keys and decays the padded blocks are made of. -/
theorem foxOuts_entry (K : Vec Ideal T8192x256 .bf16) (X : Vec Ideal T1x256x2048 .bf16) (V : Vec Ideal T1x128x8192 .bf16) (p : ℕ) (hp : p < 4) (q : Fin 2048) (d : Fin 128)
    (qa ka : FVec Ideal ⟨4, ![1, 8192, 6, 128]⟩ .f32) (u : FVec Ideal ⟨3, ![1, 8192, 6]⟩ .f32) (h : Fin 6) (s : Fin 8192) (hs : s.val = 2048 * p + q.val)
    (hqa : ∀ i, max (qa i : EReal) (-(qa i : EReal)) < ⊤) (hka : ∀ i, max (ka i : EReal) (-(ka i : EReal)) < ⊤) (hu : ∀ i, max (u i : EReal) (-(u i : EReal)) < ⊤)
    (hK : ∀ (j : Fin 8192) (e : Fin 256), K (ix2 j e) = (if h_1 : e.val < 128 then ka (ix4 (0 : Fin 1) j h ⟨e.val, h_1⟩)
      else let D : EReal := -(Ideal.div (u (ix3 (0 : Fin 1) j h)) (Ideal.log (Ideal.ofBits .f32 0x40000000#32)))
        if e.val - 128 < 1 then D else if e.val - 128 - 1 < 1 then D - D else if e.val - 128 - 1 - 1 < 1 then D - D - (D - D) else 0))
    (hX : ∀ e : Fin 256, X (ix3 (0 : Fin 1) e q) = (if h_1 : e.val < 128 then qa (ix4 (0 : Fin 1) s h ⟨e.val, h_1⟩) * ((foxScale / Real.log 2 : ℝ) : EReal)
      else if e.val - 128 < 3 then 1 else 0)) (L : ℝ) :
    outs (ends K X V (⊥ : EReal) p) (ix2 q d) = att (fun j => foxLogit qa ka u h s (kat j)) (fun j => V (ix3 (0 : Fin 1) d (kat j))) L s.val := by
  have hl : Real.log 2 ≠ 0 := (Real.log_pos (by norm_num)).ne'
  rw [hs]
  refine ends_out K X V p hp q d (fun j => foxLogit qa ka u h s (kat j) / Real.log 2) (fun j => foxLogit qa ka u h s (kat j)) ?_ ?_ L
  · intro j
    refine (dot_decay (fun e => (qa (ix4 (0 : Fin 1) s h e) : EReal).toReal) (fun e => (ka (ix4 (0 : Fin 1) (kat j) h e) : EReal).toReal) (foxScale / Real.log 2)
      (-((u (ix3 (0 : Fin 1) (kat j) h) : EReal).toReal / Real.log 2)) (fun e => K (ix2 (kat j) e)) (fun e => X (ix3 (0 : Fin 1) e q)) (fun e => ?_) (fun e => ?_)).trans ?_
    · rw [hK, EReal.coe_neg, ← over_log_two, real_of_abs_lt _ (hu _)]
      split_ifs <;> first | rfl | exact (real_of_abs_lt _ (hka _)).symm
    · rw [hX]
      split_ifs <;> first | rfl | rw [real_of_abs_lt _ (hqa _)]
    · unfold foxLogit
      congr 1
      field_simp
      ring
  · intro j
    exact div_mul_cancel₀ _ hl

end Cert.Attn

namespace Cert.Kernel4Ideal.Hand

open Cert.Kernel4Ideal Cert.Kernel4Ideal.Gen
open Idealize.ShloMosaic Idealize.ShloMosaic.TcCoe Idealize.ShloMosaic.Tactic
open Idealize.SL Idealize.SL.Sem Cert.Attn

/-- The logarithm of two. -/
def logTwo : FVec Ideal S_ .f32 := Host.log (constant S_ .f32 0x40000000#32)

def zeros : FVec Ideal S1x8192x6x125 .f32 := broadcastInDim S1x8192x6x125 ![] bcast_S_S1x8192x6x125 (constant S_ .f32 0x00000000#32)

/-- The scaled queries, three columns of ones behind them, zeros. -/
def qCols (q : FVec Ideal S1x8192x6x128 .f32) : FVec Ideal S1x8192x6x256 .f32 :=
  concatenate S1x8192x6x256 3 [⟨S1x8192x6x128, mulf q (broadcastInDim S1x8192x6x128 ![] bcast_S_S1x8192x6x128 (Host.divf (constant S_ .f32 0x3DB504F3#32) logTwo))⟩,
    ⟨S1x8192x6x3, broadcastInDim S1x8192x6x3 ![] bcast_S_S1x8192x6x3 (constant S_ .f32 0x3F800000#32)⟩, ⟨S1x8192x6x125, zeros⟩]
    concatenates_S1x8192x6x128_S1x8192x6x3_S1x8192x6x125_S1x8192x6x256_d3

def qArr (q : FVec Ideal S1x8192x6x128 .f32) : FVec Ideal S6x256x8192 .bf16 :=
  truncf .bf16 (transpose S6x256x8192 [1, 2, 0] (shapeCast S8192x6x256 (qCols q) shapeCasts_S1x8192x6x256_S8192x6x256) transposes_S8192x6x256_S6x256x8192_1_2_0) bitsLt_bf16_f32

/-- A column rounded and widened again. -/
def rounded (x : FVec Ideal S1x8192x6x1 .f32) : FVec Ideal S1x8192x6x1 .f32 := extf .f32 (truncf .bf16 x bitsLt_bf16_f32) bitsLt_bf16_f32

/-- What the rounding drops. -/
def rest (x : FVec Ideal S1x8192x6x1 .f32) : FVec Ideal S1x8192x6x1 .f32 := subf x (rounded x)

/-- The decay of the keys, negated, over the logarithm of two. -/
def decay (u : FVec Ideal S1x8192x6 .f32) : FVec Ideal S1x8192x6x1 .f32 :=
  Host.negf (broadcastInDim S1x8192x6x1 ![0, 1, 2] bcast_S1x8192x6_S1x8192x6x1_0_1_2 (Host.divf u (broadcastInDim S1x8192x6 ![] bcast_S_S1x8192x6 logTwo)))

/-- The keys, the decay in three pieces behind them, zeros. -/
def kCols (k : FVec Ideal S1x8192x6x128 .f32) (x : FVec Ideal S1x8192x6x1 .f32) : FVec Ideal S1x8192x6x256 .f32 :=
  concatenate S1x8192x6x256 3 [⟨S1x8192x6x128, k⟩, ⟨S1x8192x6x1, rounded x⟩, ⟨S1x8192x6x1, rounded (rest x)⟩, ⟨S1x8192x6x1, rounded (rest (rest x))⟩, ⟨S1x8192x6x125, zeros⟩]
    concatenates_S1x8192x6x128_S1x8192x6x1_S1x8192x6x1_S1x8192x6x1_S1x8192x6x125_S1x8192x6x256_d3

def kArr (k : FVec Ideal S1x8192x6x128 .f32) (u : FVec Ideal S1x8192x6 .f32) : FVec Ideal S8192x1536 .bf16 :=
  truncf .bf16 (shapeCast S8192x1536 (shapeCast S8192x6x256 (kCols k (decay u)) shapeCasts_S1x8192x6x256_S8192x6x256) shapeCasts_S8192x6x256_S8192x1536) bitsLt_bf16_f32

def vArr (v : FVec Ideal S1x8192x6x128 .f32) : FVec Ideal S6x128x8192 .bf16 :=
  truncf .bf16 (transpose S6x128x8192 [1, 2, 0] (shapeCast S8192x6x128 v shapeCasts_S1x8192x6x128_S8192x6x128) transposes_S8192x6x128_S6x128x8192_1_2_0) bitsLt_bf16_f32

variable (m : (ℓ : Loc nD τ sig) → Buf (Elt Ideal) ℓ) (c : Dev nD)

theorem V_q : V m c main_v9 = qArr (m ((c : Thread nD τ).loc main_arg0)) := by
  simp only [V, V0, hostOps0, List.flatten_cons, List.flatten_nil, List.append_nil]
  after_results_simp <;> rfl

theorem V_k : V m c main_v27 = kArr (m ((c : Thread nD τ).loc main_arg1)) (m ((c : Thread nD τ).loc main_arg3)) := by
  simp only [V, V0, hostOps0, List.flatten_cons, List.flatten_nil, List.append_nil]
  after_results_simp <;> rfl

theorem V_v : V m c main_v30 = vArr (m ((c : Thread nD τ).loc main_arg2)) := by
  simp only [V, V0, hostOps0, List.flatten_cons, List.flatten_nil, List.append_nil]
  after_results_simp <;> rfl

/-! ## At an index -/

theorem decay_apply (u : FVec Ideal S1x8192x6 .f32) (s : Fin 8192) (h : Fin 6) :
    decay u (ix4 (0 : Fin 1) s h (0 : Fin 1)) = -(Ideal.div (u (ix3 (0 : Fin 1) s h)) (Ideal.log (Ideal.ofBits .f32 0x40000000#32))) := by
  pointwise [decay, logTwo]

theorem one_bits : Ideal.ofBits .f32 0x3F800000#32 = (1 : EReal) := by
  rw [show (1 : EReal) = ((1 : ℝ) : EReal) from rfl]
  simp [Ideal.ofBits, Ideal.ieee, -EReal.coe_mul]; norm_num

theorem qArr_apply (q : FVec Ideal S1x8192x6x128 .f32) (h : Fin 6) (e : Fin 256) (s : Fin 8192) :
    qArr q (ix3 h e s) = (if h_1 : e.val < 128 then q (ix4 (0 : Fin 1) s h ⟨e.val, h_1⟩) * ((foxScale / Real.log 2 : ℝ) : EReal)
      else if e.val - 128 < 3 then 1 else 0) := by
  rw [← over_log_two, ← foxScale_bits, ← one_bits]
  pointwise [qArr, qCols, zeros, logTwo]
  rfl

theorem kCols_apply (k : FVec Ideal S1x8192x6x128 .f32) (x : FVec Ideal S1x8192x6x1 .f32) (h : Fin 6) (e : Fin 256) (s : Fin 8192) :
    kCols k x (ix4 (0 : Fin 1) s h e) = (if h_1 : e.val < 128 then k (ix4 (0 : Fin 1) s h ⟨e.val, h_1⟩)
      else let D : EReal := x (ix4 (0 : Fin 1) s h (0 : Fin 1))
        if e.val - 128 < 1 then D else if e.val - 128 - 1 < 1 then D - D else if e.val - 128 - 1 - 1 < 1 then D - D - (D - D) else 0) := by
  have hx : ∀ (n : ℕ) (hn : n < 1), x (ix4 (0 : Fin 1) s h (⟨n, hn⟩ : Fin 1)) = x (ix4 (0 : Fin 1) s h (0 : Fin 1)) := fun n hn =>
    congrArg (fun z : Fin 1 => x (ix4 (0 : Fin 1) s h z)) (Subsingleton.elim _ _)
  pointwise [kCols, rounded, rest, zeros]
  simp only [hx]
  rfl

theorem kArr_cols (k : FVec Ideal S1x8192x6x128 .f32) (u : FVec Ideal S1x8192x6 .f32) (h : Fin 6) (e : Fin 256) (s : Fin 8192) :
    kArr k u (ix2 s ⟨256 * h.val + e.val, by omega⟩) = kCols k (decay u) (ix4 (0 : Fin 1) s h e) := by
  pointwise [kArr]

theorem kArr_apply (k : FVec Ideal S1x8192x6x128 .f32) (u : FVec Ideal S1x8192x6 .f32) (h : Fin 6) (e : Fin 256) (s : Fin 8192) :
    kArr k u (ix2 s ⟨256 * h.val + e.val, by omega⟩) = (if h_1 : e.val < 128 then k (ix4 (0 : Fin 1) s h ⟨e.val, h_1⟩)
      else let D : EReal := -(Ideal.div (u (ix3 (0 : Fin 1) s h)) (Ideal.log (Ideal.ofBits .f32 0x40000000#32)))
        if e.val - 128 < 1 then D else if e.val - 128 - 1 < 1 then D - D else if e.val - 128 - 1 - 1 < 1 then D - D - (D - D) else 0) := by
  rw [kArr_cols, kCols_apply, decay_apply]

theorem vArr_apply (v : FVec Ideal S1x8192x6x128 .f32) (h : Fin 6) (e : Fin 128) (s : Fin 8192) :
    vArr v (ix3 h e s) = v (ix4 (0 : Fin 1) s h e) := by
  pointwise [vArr]

/-! ## The blocks -/

theorem index0 : ∀ t : Fin cfg0.N, win0_0.index t = ![(grid0.coords t 0).val, 0, (grid0.coords t 1).val] :=
  (by decide +kernel : ∀ t : Fin grid0.N, win0_0.index t = ![(grid0.coords t 0).val, 0, (grid0.coords t 1).val])

theorem index1 : ∀ t : Fin cfg0.N, win0_1.index t = ![0, (grid0.coords t 0).val] :=
  (by decide +kernel : ∀ t : Fin grid0.N, win0_1.index t = ![0, (grid0.coords t 0).val])

theorem index2 : ∀ t : Fin cfg0.N, win0_2.index t = ![(grid0.coords t 0).val, 0, 0] :=
  (by decide +kernel : ∀ t : Fin grid0.N, win0_2.index t = ![(grid0.coords t 0).val, 0, 0])

theorem index3 : ∀ t : Fin cfg0.N, win0_3.index t = ![(grid0.coords t 1).val, (grid0.coords t 0).val] :=
  (by decide +kernel : ∀ t : Fin grid0.N, win0_3.index t = ![(grid0.coords t 1).val, (grid0.coords t 0).val])

theorem head_lt (t : Fin cfg0.N) : (grid0.coords t 0).val < 6 := (grid0.coords t 0).isLt
theorem step_lt (t : Fin cfg0.N) : (grid0.coords t 1).val < 4 := (grid0.coords t 1).isLt

theorem blk_q (t : Fin cfg0.N) (e : Fin 256) (q : Fin 2048) :
    iblk m c 0 t (ix3 (0 : Fin 1) e q) = qArr (m ((c : Thread nD τ).loc main_arg0))
      (ix3 (⟨(grid0.coords t 0).val, head_lt t⟩ : Fin 6) e (⟨2048 * (grid0.coords t 1).val + q.val, by have := step_lt t; omega⟩ : Fin 8192)) := by
  rw [← V_q]
  blk_simp [iblk]
  congr 1
  blk_ext [index0]

theorem blk_k (t : Fin cfg0.N) (e : Fin 256) (s : Fin 8192) :
    iblk m c 1 t (ix2 s e) = kArr (m ((c : Thread nD τ).loc main_arg1)) (m ((c : Thread nD τ).loc main_arg3))
      (ix2 s (⟨256 * (grid0.coords t 0).val + e.val, by have := head_lt t; omega⟩ : Fin 1536)) := by
  rw [← V_k]
  blk_simp [iblk]
  congr 1
  blk_ext [index1]

theorem blk_v (t : Fin cfg0.N) (d : Fin 128) (s : Fin 8192) :
    iblk m c 2 t (ix3 (0 : Fin 1) d s) = vArr (m ((c : Thread nD τ).loc main_arg2))
      (ix3 (⟨(grid0.coords t 0).val, head_lt t⟩ : Fin 6) d s) := by
  rw [← V_v]
  blk_simp [iblk]
  congr 1
  blk_ext [index2]

/-! ## The result -/

/-- What both programs compute: query `s`'s row of head `h` at column `d`, the greatest score taken to be `L`. -/
def entry (q k v : FVec Ideal S1x8192x6x128 .f32) (u : FVec Ideal S1x8192x6 .f32) (L : ℝ) (s : Fin 8192) (h : Fin 6) (d : Fin 128) : EReal :=
  att (fun j => foxLogit q k u h s (kat j)) (fun j => v (ix4 (0 : Fin 1) (kat j) h d)) L s.val

/-- The result array over the rows' greatest scores. -/
def result (q k v : FVec Ideal S1x8192x6x128 .f32) (u : FVec Ideal S1x8192x6 .f32) (L : Fin 6 → Fin 8192 → ℝ) : FVec Ideal S8192x768 .bf16 := fun i =>
  entry q k v u (L ⟨(i 1).val / 128, by have : (i 1).val < 768 := (i 1).isLt; omega⟩ ⟨(i 0).val, (i 0).isLt⟩) ⟨(i 0).val, (i 0).isLt⟩
    ⟨(i 1).val / 128, by have : (i 1).val < 768 := (i 1).isLt; omega⟩ ⟨(i 1).val % 128, by omega⟩

theorem result_apply (q k v : FVec Ideal S1x8192x6x128 .f32) (u : FVec Ideal S1x8192x6 .f32) (L : Fin 6 → Fin 8192 → ℝ) (s : Fin 8192) (h : Fin 6) (d : Fin 128)
    (i : S8192x768.Idx) (h0 : (i 0).val = s.val) (h1 : (i 1).val = 128 * h.val + d.val) :
    result q k v u L i = entry q k v u (L h s) s h d := by
  have e0 : (⟨(i 0).val, (i 0).isLt⟩ : Fin 8192) = s := Fin.ext h0
  have e1 : (⟨(i 1).val / 128, by have : (i 1).val < 768 := (i 1).isLt; omega⟩ : Fin 6) = h := Fin.ext (by show (i 1).val / 128 = h.val; omega)
  have e2 : (⟨(i 1).val % 128, by omega⟩ : Fin 128) = d := Fin.ext (by show (i 1).val % 128 = d.val; omega)
  show entry q k v u _ _ _ _ = _
  rw [e0, e1, e2]

section
variable {c} (q k v : FVec Ideal S1x8192x6x128 .f32) (u : FVec Ideal S1x8192x6 .f32)
  (eq : m ((c : Thread nD τ).loc main_arg0) = q) (ek : m ((c : Thread nD τ).loc main_arg1) = k) (ev : m ((c : Thread nD τ).loc main_arg2) = v) (eu : m ((c : Thread nD τ).loc main_arg3) = u)
  (hq : ∀ i, max (q i : EReal) (-(q i : EReal)) < ⊤) (hk : ∀ i, max (k i : EReal) (-(k i : EReal)) < ⊤) (hu : ∀ i, max (u i : EReal) (-(u i : EReal)) < ⊤)

include eq ek ev eu hq hk hu in
theorem block_apply (L : ℝ) (t : Fin cfg0.N) (i : Fin 2048) (d : Fin 128) :
    blockOut (grid0.coords t) (iblk m c 0 t) (iblk m c 1 t) (iblk m c 2 t) (ix2 i d)
      = entry q k v u L (⟨2048 * (grid0.coords t 1).val + i.val, by have := step_lt t; omega⟩ : Fin 8192) ⟨(grid0.coords t 0).val, head_lt t⟩ d := by
  unfold blockOut
  rw [trips_eq, IdealRules.named_const.ideal_named_scalar κ "mask" _ ⊥ (by simp [κ])]
  have hv : (fun j : ℕ => (v (ix4 (0 : Fin 1) (kat j) (⟨(grid0.coords t 0).val, head_lt t⟩ : Fin 6) d) : EReal))
      = fun j => iblk m c 2 t (ix3 (0 : Fin 1) d (kat j)) := funext fun j => by rw [blk_v, ev, vArr_apply]
  unfold entry
  rw [hv]
  exact foxOuts_entry (iblk m c 1 t) (iblk m c 0 t) (iblk m c 2 t) _ (step_lt t) i d q k u
    ⟨(grid0.coords t 0).val, head_lt t⟩ _ rfl hq hk hu (fun j e => by rw [blk_k, ek, eu]; exact kArr_apply k u ⟨_, head_lt t⟩ e j) (fun e => by rw [blk_q, eq]; exact qArr_apply q ⟨_, head_lt t⟩ e _) L

include eq ek ev eu hq hk hu in
theorem arr_eq (L : Fin 6 → Fin 8192 → ℝ) : (dats m 0 c).arrAt 3 cfg0.N = result q k v u L := by
  refine (dats m 0 c).arrAt_eq_of_covers 3 _ (by decide +kernel) fun t hf y => ?_
  blk_simp
  have h0 : (y 0).val < 2048 := (y 0).isLt
  have h1 : (y 1).val < 128 := (y 1).isLt
  have hy : (y : S2048x128.Idx) = ix2 (⟨(y 0).val, h0⟩ : Fin 2048) (⟨(y 1).val, h1⟩ : Fin 128) := by
    funext a; fin_cases a <;> rfl
  refine Eq.trans ?_ ((block_apply m q k v u eq ek ev eu hq hk hu (L ⟨(grid0.coords t 0).val, head_lt t⟩ ⟨2048 * (grid0.coords t 1).val + (y 0).val, by have := step_lt t; omega⟩)
    t ⟨(y 0).val, h0⟩ ⟨(y 1).val, h1⟩).trans (result_apply q k v u L _ _ _ _ ?_ ?_).symm)
  · exact congrArg (blockOut (grid0.coords t) (iblk m c 0 t) (iblk m c 1 t) (iblk m c 2 t)) hy
  · blk_simp [index3]
    ring
  · blk_simp [index3]
    ring

end

end Cert.Kernel4Ideal.Hand

end
-- ==== Proof.FoxRef.lean ====
/- The forgetting attention's reference: its result at an index. -/
module

public import proofs.«01_k».proof.Proof.Gen.Reference4Ideal.Run
public import proofs.«01_k».proof.Proof.FoxHost
public import proofs.«01_k».proof.Proof.RefI
public import Idealize.ShloMosaic.Lib.Tactic.CleanTypes

@[expose] public section

set_option maxRecDepth 65536

noncomputable section

namespace Cert.Reference4Ideal.Hand

open Cert.Reference4Ideal Cert.Reference4Ideal.Gen Idealize.ShloMosaic Idealize.ShloMosaic.TcCoe Idealize.SL.Sem Cert.Attn
open Cert.ReferenceIdeal.Hand (weighed probs exps weighed_apply probs_apply exps_apply rowMax_apply mask_bit)

/-- The decay of the queries, along every key. -/
def ofQuery (u : FVec Ideal S1x8192x6 .f32) : FVec Ideal S1x6x8192x8192 .f32 :=
  broadcastInDim S1x6x8192x8192 ![0, 1, 2, 3] bcast_S1x6x8192x1_S1x6x8192x8192_0_1_2_3 (broadcastInDim S1x6x8192x1 ![0, 1, 2] bcast_S1x6x8192_S1x6x8192x1_0_1_2
    (transpose S1x6x8192 [0, 2, 1] u transposes_S1x8192x6_S1x6x8192_0_2_1))

/-- The decay of the keys, along every query. -/
def ofKey (u : FVec Ideal S1x8192x6 .f32) : FVec Ideal S1x6x8192x8192 .f32 :=
  broadcastInDim S1x6x8192x8192 ![0, 1, 2, 3] bcast_S1x6x1x8192_S1x6x8192x8192_0_1_2_3 (broadcastInDim S1x6x1x8192 ![0, 1, 3] bcast_S1x6x8192_S1x6x1x8192_0_1_3
    (transpose S1x6x8192 [0, 2, 1] u transposes_S1x8192x6_S1x6x8192_0_2_1))

/-- The masked logits. -/
def logits (q k : FVec Ideal S1x8192x6x128 .f32) (u : FVec Ideal S1x8192x6 .f32) : FVec Ideal S1x6x8192x8192 .f32 :=
  select (broadcastInDim S1x6x8192x8192 ![2, 3] bcast_S8192x8192_S1x6x8192x8192_2_3 (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))
    (subf (addf (mulf (Host.dotGeneral dot_S1x8192x6x128_S1x8192x6x128_S1x6x8192x8192_3_3_1_1_02_02 none q k) (broadcastInDim S1x6x8192x8192 ![] bcast_S_S1x6x8192x8192 (constant S_ .f32 0x3DB504F3#32)))
      (ofQuery u)) (ofKey u))
    (broadcastInDim S1x6x8192x8192 ![] bcast_S_S1x6x8192x8192 (id (constant S_ .f32 0xFF800000#32)))

theorem res_eq (m : (ℓ : Loc nD τ sig) → Buf (Elt Ideal) ℓ) (c : Dev nD) :
    Value.res_main_v30 m c = weighed (m ((c.tc : Thread nD τ).loc main_arg2)) (probs (exps (logits (m ((c.tc : Thread nD τ).loc main_arg0)) (m ((c.tc : Thread nD τ).loc main_arg1))
      (m ((c.tc : Thread nD τ).loc main_arg3))))) := rfl

theorem ofQuery_apply (u : FVec Ideal S1x8192x6 .f32) (h : Fin 6) (s j : Fin 8192) : ofQuery u (ix4 (0 : Fin 1) h s j) = u (ix3 (0 : Fin 1) s h) := by
  pointwise [ofQuery]

theorem ofKey_apply (u : FVec Ideal S1x8192x6 .f32) (h : Fin 6) (s j : Fin 8192) : ofKey u (ix4 (0 : Fin 1) h s j) = u (ix3 (0 : Fin 1) j h) := by
  pointwise [ofKey]

theorem logits_apply (q k : FVec Ideal S1x8192x6x128 .f32) (u : FVec Ideal S1x8192x6 .f32) (h : Fin 6) (s j : Fin 8192) :
    logits q k u (ix4 (0 : Fin 1) h s j) = if j.val ≤ s.val then (∑ e : Fin 128, (q (ix4 (0 : Fin 1) s h e) : EReal) * (k (ix4 (0 : Fin 1) j h e) : EReal)) * ((foxScale : ℝ) : EReal)
      + u (ix3 (0 : Fin 1) s h) - u (ix3 (0 : Fin 1) j h) else ⊥ := by
  pointwise [logits, id, neg_inf, foxScale_bits, ofQuery_apply, ofKey_apply]
  exact mask_bit j.val s.val j.isLt s.isLt _ _

/-- Over finite queries, keys and decays the reference's result is the attention of the logits; the query's own decay, common to its row, is taken into the greatest logit. -/
theorem res_entry (q k : FVec Ideal S1x8192x6x128 .f32) (u : FVec Ideal S1x8192x6 .f32)
    (hq : ∀ i, max (q i : EReal) (-(q i : EReal)) < ⊤) (hk : ∀ i, max (k i : EReal) (-(k i : EReal)) < ⊤) (hu : ∀ i, max (u i : EReal) (-(u i : EReal)) < ⊤) :
    ∃ L : Fin 6 → Fin 8192 → ℝ, ∀ (v : FVec Ideal S1x8192x6x128 .f32) (h : Fin 6) (s : Fin 8192) (d : Fin 128),
      weighed v (probs (exps (logits q k u))) (ix2 s ⟨128 * h.val + d.val, by omega⟩)
        = att (fun j => foxLogit q k u h s (kat j)) (fun j => v (ix4 (0 : Fin 1) (kat j) h d)) (L h s) s.val := by
  have hkat : ∀ k : Fin 8192, kat k.val = k := fun k => Fin.ext (Nat.mod_eq_of_lt k.isLt)
  have hl : ∀ (h : Fin 6) (s : Fin 8192) (j : Fin 8192), (logits q k u (ix4 (0 : Fin 1) h s j) : EReal)
      = if j.val ≤ s.val then ((foxLogit q k u h s (kat j.val) + (u (ix3 (0 : Fin 1) s h) : EReal).toReal : ℝ) : EReal) else ⊥ := fun h s j => by
    rw [logits_apply, hkat]
    unfold foxLogit
    rw [sub_add_eq_add_sub, EReal.coe_sub, EReal.coe_add, EReal.coe_mul, coe_sum]
    simp only [EReal.coe_mul, real_of_abs_lt _ (hq _), real_of_abs_lt _ (hk _), real_of_abs_lt _ (hu _)]
  have hL : ∀ (h : Fin 6) (s : Fin 8192), _ := fun h s =>
    softmax_row (fun j => logits q k u (ix4 (0 : Fin 1) h s j)) (fun j => foxLogit q k u h s (kat j) + (u (ix3 (0 : Fin 1) s h) : EReal).toReal) s.val s.isLt (hl h s)
  choose L hL using hL
  refine ⟨fun h s => L h s - (u (ix3 (0 : Fin 1) s h) : EReal).toReal, fun v h s d => ?_⟩
  rw [← att_shift, ← hL h s, weighed_apply]
  refine Finset.sum_congr rfl fun j _ => ?_
  rw [probs_apply, hkat]
  simp only [exps_apply, rowMax_apply]

end Cert.Reference4Ideal.Hand

end
-- ==== Proof.FoxJoin.lean ====
/- The forgetting attention's result array is the reference's, over finite queries, keys and decays. -/
module

public import proofs.«01_k».proof.Defs
public import proofs.«01_k».proof.Proof.FoxHost
public import proofs.«01_k».proof.Proof.FoxRef

@[expose] public section

set_option maxRecDepth 65536

noncomputable section

namespace Cert.FoxJoin

open Idealize.ShloMosaic Idealize.ShloMosaic.TcCoe Idealize.ShloMosaic.Tactic Idealize.SL Idealize.SL.Sem
open Cert.Kernel4Ideal Cert.Kernel4Ideal.Gen Cert.Kernel4Ideal.Hand Cert.Attn

/-- The side condition of the precondition. -/
theorem preFacts : Cert.Pre_finite4.Facts := ⟨by decide, by decide, by decide, by decide⟩

theorem all_one (p q r : Bool) (h : IntOp.andi (IntOp.andi (BitVec.ofBool p) (BitVec.ofBool q)) (BitVec.ofBool r) = 1#1) : p = true ∧ q = true ∧ r = true := by
  revert h; cases p <;> cases q <;> cases r <;> decide

/-- The precondition says that the queries, the keys and the decays are finite. -/
theorem finite_iff [Cert.Pre_finite4.Facts] (q k v : FVec Ideal S1x8192x6x128 .f32) (u : FVec Ideal S1x8192x6 .f32)
    (h : (Cert.Pre_finite4.fn (F := Ideal) q k v u) = fun _ => 1#1) (s : Fin 8192) (n : Fin 6) (e : Fin 128) :
    max (q (ix4 (0 : Fin 1) s n e) : EReal) (-(q (ix4 (0 : Fin 1) s n e) : EReal)) < ⊤ ∧ max (k (ix4 (0 : Fin 1) s n e) : EReal) (-(k (ix4 (0 : Fin 1) s n e) : EReal)) < ⊤
      ∧ max (u (ix3 (0 : Fin 1) s n) : EReal) (-(u (ix3 (0 : Fin 1) s n) : EReal)) < ⊤ := by
  have h2 : Cert.Pre_finite4.fn (F := Ideal) q k v u (ix4 (0 : Fin 1) s n e)
      = IntOp.andi (IntOp.andi (BitVec.ofBool (decide (FloatOps.absf (q (ix4 (0 : Fin 1) s n e)) < Ideal.ofBits FTy.f32 0x7F800000#32)))
        (BitVec.ofBool (decide (FloatOps.absf (k (ix4 (0 : Fin 1) s n e)) < Ideal.ofBits FTy.f32 0x7F800000#32))))
        (BitVec.ofBool (decide (FloatOps.absf (u (ix3 (0 : Fin 1) s n)) < Ideal.ofBits FTy.f32 0x7F800000#32))) := by
    pointwise [Cert.Pre_finite4.fn]
  have h3 := all_one _ _ _ (h2.symm.trans (congrFun h _))
  rw [inf_bits] at h3
  exact ⟨of_decide_eq_true h3.1, of_decide_eq_true h3.2.1, of_decide_eq_true h3.2.2⟩

theorem idx4 (i : S1x8192x6x128.Idx) : ∃ (s : Fin 8192) (n : Fin 6) (e : Fin 128), i = ix4 (0 : Fin 1) s n e := by
  refine ⟨⟨(i 1).val, (i 1).isLt⟩, ⟨(i 2).val, (i 2).isLt⟩, ⟨(i 3).val, (i 3).isLt⟩, ?_⟩
  funext a
  fin_cases a
  · exact Fin.ext (by have : (i 0).val < 1 := (i 0).isLt; show (i 0).val = 0; omega)
  · rfl
  · rfl
  · rfl

theorem idx3 (i : S1x8192x6.Idx) : ∃ (s : Fin 8192) (n : Fin 6), i = ix3 (0 : Fin 1) s n := by
  refine ⟨⟨(i 1).val, (i 1).isLt⟩, ⟨(i 2).val, (i 2).isLt⟩, ?_⟩
  funext a
  fin_cases a
  · exact Fin.ext (by have : (i 0).val < 1 := (i 0).isLt; show (i 0).val = 0; omega)
  · rfl
  · rfl

variable (m : (ℓ : Loc nD τ sig) → Buf (Elt Ideal) ℓ) {c : Dev nD}

/-- The program's result is the call's result array. -/
theorem W_out : Pipeline.afterTail₀ cfgs (dats m) 0 (V0 m) [hostOps1] c main_v32
    = (extf .f32 · bitsLt_bf16_f32 : FVec Ideal S8192x768 .bf16 → FVec Ideal S8192x768 .f32) ((dats m 0 c).arrAt 3 cfg0.N) := by
  unfold Pipeline.afterTail₀
  simp only [hostOps1, List.flatten_cons, List.flatten_nil, List.append_nil]
  after_results_simp
  exact congrArg (extf .f32 · bitsLt_bf16_f32 : FVec Ideal S8192x768 .bf16 → FVec Ideal S8192x768 .f32)
    (Pipeline.withArrays_arr (cfgs 0).spec (by decide) c (V0 m c) (fun w => (dats m 0 c).arrAt w (cfgs 0).N) 3)

/-- The two programs' results are one array. -/
theorem out_eq (q k v : FVec Ideal S1x8192x6x128 .f32) (u : FVec Ideal S1x8192x6 .f32)
    (eq : m ((c : Thread nD τ).loc main_arg0) = q) (ek : m ((c : Thread nD τ).loc main_arg1) = k) (ev : m ((c : Thread nD τ).loc main_arg2) = v) (eu : m ((c : Thread nD τ).loc main_arg3) = u)
    (hq : ∀ i, max (q i : EReal) (-(q i : EReal)) < ⊤) (hk : ∀ i, max (k i : EReal) (-(k i : EReal)) < ⊤) (hu : ∀ i, max (u i : EReal) (-(u i : EReal)) < ⊤) :
    Pipeline.afterTail₀ cfgs (dats m) 0 (V0 m) [hostOps1] c main_v32
      = Cert.ReferenceIdeal.Hand.weighed v (Cert.ReferenceIdeal.Hand.probs (Cert.ReferenceIdeal.Hand.exps (Cert.Reference4Ideal.Hand.logits q k u))) := by
  obtain ⟨L, hL⟩ := Cert.Reference4Ideal.Hand.res_entry q k u hq hk hu
  rw [W_out, arr_eq m q k v u eq ek ev eu hq hk hu L]
  funext i
  have h0 : (i 0).val < 8192 := (i 0).isLt
  have h1 : (i 1).val < 768 := (i 1).isLt
  have hi : (i : S8192x768.Idx) = ix2 (⟨(i 0).val, h0⟩ : Fin 8192)
      (⟨128 * (⟨(i 1).val / 128, by omega⟩ : Fin 6).val + (⟨(i 1).val % 128, by omega⟩ : Fin 128).val, by show 128 * ((i 1).val / 128) + (i 1).val % 128 < 768; omega⟩ : Fin 768) := by
    funext a
    fin_cases a
    · rfl
    · exact Fin.ext (by show (i 1).val = 128 * ((i 1).val / 128) + (i 1).val % 128; omega)
  have hl := hL v ⟨(i 1).val / 128, by omega⟩ ⟨(i 0).val, h0⟩ ⟨(i 1).val % 128, by omega⟩
  rw [← hi] at hl
  exact (result_apply q k v u L ⟨(i 0).val, h0⟩ ⟨(i 1).val / 128, by omega⟩ ⟨(i 1).val % 128, by omega⟩ i rfl
    (by show (i 1).val = 128 * ((i 1).val / 128) + (i 1).val % 128; omega)).trans hl.symm

/-- The same with the reference's own arguments, equal to the kernel's; the precondition as it is stated. -/
theorem out_eq_of_pre [Cert.Pre_finite4.Facts] (q k v q' k' v' : FVec Ideal S1x8192x6x128 .f32) (u u' : FVec Ideal S1x8192x6 .f32)
    (eq : m ((c : Thread nD τ).loc main_arg0) = q) (ek : m ((c : Thread nD τ).loc main_arg1) = k) (ev : m ((c : Thread nD τ).loc main_arg2) = v) (eu : m ((c : Thread nD τ).loc main_arg3) = u)
    (hpre : (Cert.Pre_finite4.fn (F := Ideal) q k v u) = fun _ => 1#1) (e0 : q' = q) (e1 : k' = k) (e2 : v' = v) (e3 : u' = u) :
    Pipeline.afterTail₀ cfgs (dats m) 0 (V0 m) [hostOps1] c main_v32
      = Cert.ReferenceIdeal.Hand.weighed v' (Cert.ReferenceIdeal.Hand.probs (Cert.ReferenceIdeal.Hand.exps (Cert.Reference4Ideal.Hand.logits q' k' u'))) := by
  rw [e0, e1, e2, e3]
  refine out_eq m q k v u eq ek ev eu (fun i => ?_) (fun i => ?_) (fun i => ?_)
  · obtain ⟨s, n, e, rfl⟩ := idx4 i
    exact (finite_iff q k v u hpre s n e).1
  · obtain ⟨s, n, e, rfl⟩ := idx4 i
    exact (finite_iff q k v u hpre s n e).2.1
  · obtain ⟨s, n, rfl⟩ := idx3 i
    exact (finite_iff q k v u hpre s n 0).2.2

end Cert.FoxJoin

end
-- ==== Proof.DiffUnits.lean ====
/- The pieces the differential attention's body is made of: two maps for each tile of queries, so eight streams over the same blocks of keys; each piece as a program and as the pure change
   it makes to the scratch buffers. The single updates are those of Units.lean. -/
module

public import proofs.«01_k».proof.Proof.Units

@[expose] public section

noncomputable section

namespace Cert.Diff

open Cert.Attn (Held wp_ld wp_st wp_done T256 T1x256 T1x512 T128x256 T128x512 T512x128 T512x256 T512x512 T2048x128 T1x1x256 T1x1x512 T1x128x256 T1x128x512 T1x512x256 T1x512x512 T2x512x512 T1x128x8192
  cast_s cast_v pos_T1x128x512 pos_T1x512x512 pos_T1x512x256 pos_T1x1x256 pos_T1x128x256 so hso hsc mo oo hoo hpk cast_v' pos_T512x128 pos_T1x1x512 maskAt payM payL payA)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev T1 : Shape := ⟨1, ![1]⟩
abbrev T512 : Shape := ⟨1, ![512]⟩
abbrev T1x1 : Shape := ⟨2, ![1, 1]⟩
abbrev T1x64 : Shape := ⟨2, ![1, 64]⟩
abbrev T4x64 : Shape := ⟨2, ![4, 64]⟩
abbrev T1x128 : Shape := ⟨2, ![1, 128]⟩
abbrev T512x1 : Shape := ⟨2, ![512, 1]⟩
abbrev T8192x128 : Shape := ⟨2, ![8192, 128]⟩
abbrev T1x128x2048 : Shape := ⟨3, ![1, 128, 2048]⟩
abbrev T8x1x512 : Shape := ⟨3, ![8, 1, 512]⟩
abbrev T8x128x512 : Shape := ⟨3, ![8, 128, 512]⟩

/-- Where the tile of stream `st` starts among the queries. -/
abbrev qo (st : ℕ) : Fin 3 → ℕ := ![0, 0, 512 * (st / 2)]
theorem hqo : ∀ st : Fin 8, ∀ a, qo st a + T1x128x512.size a ≤ T1x128x2048.size a := by decide
theorem hmo : ∀ (st : Fin 8) (h : Fin 2), ∀ a, mo st h a + T1x1x256.size a ≤ T8x1x512.size a := by decide
theorem hao : ∀ (st : Fin 8) (h : Fin 2), ∀ a, mo st h a + T1x128x256.size a ≤ T8x128x512.size a := by decide
theorem hae : ∀ st : Fin 8, ∀ a, mo st 0 a + T1x128x512.size a ≤ T8x128x512.size a := by decide
theorem hme : ∀ st : Fin 8, ∀ a, mo st 0 a + T1x1x512.size a ≤ T8x1x512.size a := by decide
theorem pos_T8x1x512 : 0 < T8x1x512.numel := by decide
theorem pos_T8x128x512 : 0 < T8x128x512.numel := by decide
theorem pos_T4x64 : 0 < T4x64.numel := by decide
theorem pos_T1x128 : 0 < T1x128.numel := by decide
theorem in_T8x1x512 : ∀ a, (![0, 0, 0] : Fin 3 → ℕ) a + T8x1x512.size a ≤ T8x1x512.size a := by decide
theorem in_T8x128x512 : ∀ a, (![0, 0, 0] : Fin 3 → ℕ) a + T8x128x512.size a ≤ T8x128x512.size a := by decide
theorem in_k0 : ∀ a, (![0, 0] : Fin 2 → ℕ) a + T512x128.size a ≤ T8192x128.size a := by decide
theorem in_T4x64 : ∀ a, (![0, 0] : Fin 2 → ℕ) a + T4x64.size a ≤ T4x64.size a := by decide
theorem in_T1x128 : ∀ a, (![0, 0] : Fin 2 → ℕ) a + T1x128.size a ≤ T1x128.size a := by decide

/-- Keys by queries, over the channels of both maps. -/
def dotKQ : DotDims T512x128 T128x512 T512x512 where
  lhsContracting := [1]
  rhsContracting := [0]
  lhsNonContracting := [0]
  rhsNonContracting := [1]
  lhsBatch := []
  rhsBatch := []
  wf := by decide

section Pure

variable {F : FTy → Type} [FloatOps F]

/-- The channels of stream `st`'s map, the other map's set to zero: the first half for an even stream, the second for an odd one. -/
def sel (st : ℕ) (y : FVec F T128x512 .bf16) : FVec F T128x512 .bf16 :=
  if st % 2 = 0 then select (cmpi .slt (iota .tc T128x512 32 [0] (by decide)) (broadcast T128x512 64#32)) y (broadcast T128x512 (Scalar.ofBits .bf16 0x0000#16))
  else select (cmpi .slt (iota .tc T128x512 32 [0] (by decide)) (broadcast T128x512 64#32)) (broadcast T128x512 (Scalar.ofBits .bf16 0x0000#16)) y

/-- The scores of a block of keys against a tile of queries, on one map's channels. -/
def payScores (st : ℕ) (x : Vec F T512x128 .bf16) (y : Vec F T1x128x512 .bf16) : FVec F T1x512x512 .f32 :=
  shapeCast T1x512x512 (matmul dotKQ none (shapeCast T512x128 x (by decide)) (sel st (shapeCast T128x512 y (by decide))) (constant T512x512 .f32 0x00000000#32)) (by decide)

/-- The weight of the second map, from the four vectors it is made of. -/
def payLam (p : Vec F T4x64 .f32) : FVec F T1x1 .f32 :=
  addf (subf (exp (shapeCast T1x1 (multiReduction .add [1] T1 (mulf (extractStridedSlice T1x64 ![0, 0] (shapeCast T4x64 p (by decide)) (by decide)) (extractStridedSlice T1x64 ![1, 0] (shapeCast T4x64 p (by decide)) (by decide))) 0x00000000#32 (by decide) (.inl rfl) rfl) (by decide)))
    (exp (shapeCast T1x1 (multiReduction .add [1] T1 (mulf (extractStridedSlice T1x64 ![2, 0] (shapeCast T4x64 p (by decide)) (by decide)) (extractStridedSlice T1x64 ![3, 0] (shapeCast T4x64 p (by decide)) (by decide))) 0x00000000#32 (by decide) (.inl rfl) rfl) (by decide))))
    (broadcast T1x1 (Scalar.ofBits .f32 0x3E4CCCCD#32))

/-- The weighted values of one stream over their sum of weights. -/
def payQuot (a : Vec F T1x128x512 .f32) (l : Vec F T1x1x512 .f32) : FVec F T128x512 .f32 :=
  mulf (shapeCast T128x512 a (by decide)) (broadcastTo T128x512 (divf (broadcast T1x512 (Scalar.ofBits .f32 0x3F800000#32)) (shapeCast T1x512 l (by decide))) (by decide))

/-- The difference of a tile's two maps, a query a row. -/
def payDiff (w : FVec F T1x1 .f32) (x y : FVec F T128x512 .f32) : FVec F T512x128 .f32 :=
  transpose T512x128 [1, 0] (subf x (mulf (broadcastTo T128x512 w (by decide)) y)) (by decide)

/-- A row over its root mean square, by the gain and the constant. -/
def payNorm (o : FVec F T512x128 .f32) (g : Vec F T1x128 .f32) : FVec F T512x128 .bf16 :=
  truncf .bf16 (mulf (mulf (mulf o (broadcastTo T512x128 (rsqrt (addf (divf (shapeCast T512x1 (multiReduction .add [1] T512 (mulf o o) 0x00000000#32 (by decide) (.inl rfl) rfl) (by decide)) (broadcast T512x1 (Scalar.ofBits .f32 0x43000000#32)))
    (broadcast T512x1 (Scalar.ofBits .f32 0x358637BD#32)))) (by decide))) (broadcastTo T512x128 (shapeCast T1x128 g (by decide)) (by decide))) (broadcast T512x128 (Scalar.ofBits .f32 0x3F4CCCCD#32))) (by decide)

/-- What one tile of the output is given. -/
def payOut (p : Vec F T4x64 .f32) (g : Vec F T1x128 .f32) (a : Vec F T1x128x512 .f32) (l : Vec F T1x1x512 .f32) (a' : Vec F T1x128x512 .f32) (l' : Vec F T1x1x512 .f32) : FVec F T512x128 .bf16 :=
  payNorm (payDiff (payLam p) (payQuot a l) (payQuot a' l')) g

/-- The scratch buffers' values: running maximum, running sum, running weighted values, the two score buffers. -/
@[ext] structure St (F : FTy → Type) where
  m : Vec F T8x1x512 .f32
  l : Vec F T8x1x512 .f32
  a : Vec F T8x128x512 .f32
  s : Vec F T2x512x512 .f32

/-- What a block of scores does to the scratch. -/
def effScores (K : Vec F T8192x128 .bf16) (Q : Vec F T1x128x2048 .bf16) (ko : Fin 2 → ℕ) (hk : ∀ a, ko a + T512x128.size a ≤ T8192x128.size a)
    (qo : Fin 3 → ℕ) (hq : ∀ a, qo a + T1x128x512.size a ≤ T1x128x2048.size a) (so : Fin 3 → ℕ) (st : ℕ) (σ : St F) : St F :=
  { σ with s := VecWindow.put σ.s so T1x512x512.size (payScores st (VecWindow.window K ko T512x128.size hk) (VecWindow.window Q qo T1x128x512.size hq)) }

/-- What one update of 256 columns does to the scratch. -/
def effChunk (f : FVec F T512x256 .f32 → FVec F T512x256 .f32) (vb : FVec F T128x512 .bf16)
    (so : Fin 3 → ℕ) (hs : ∀ a, so a + T1x512x256.size a ≤ T2x512x512.size a) (mo : Fin 3 → ℕ) (hm : ∀ a, mo a + T1x1x256.size a ≤ T8x1x512.size a)
    (ha : ∀ a, mo a + T1x128x256.size a ≤ T8x128x512.size a) (σ : St F) : St F :=
  let s2 := f (shapeCast T512x256 (VecWindow.window σ.s so T1x512x256.size hs : Vec F T1x512x256 .f32) cast_s)
  let x := VecWindow.window σ.m mo T1x1x256.size hm
  { σ with
    m := VecWindow.put σ.m mo T1x1x256.size (payM s2 x)
    l := VecWindow.put σ.l mo T1x1x256.size (payL s2 x (VecWindow.window σ.l mo T1x1x256.size hm))
    a := VecWindow.put σ.a mo T1x128x256.size (payA s2 x vb (VecWindow.window σ.a mo T1x128x256.size ha)) }

/-- What one block of keys against one tile of queries does to the scratch. -/
def effUnit (V : Vec F T1x128x8192 .bf16) (f0 f1 : FVec F T512x256 .f32 → FVec F T512x256 .f32) (vo : Fin 3 → ℕ) (hv : ∀ a, vo a + T1x128x512.size a ≤ T1x128x8192.size a)
    (so so' : Fin 3 → ℕ) (hs : ∀ a, so a + T1x512x256.size a ≤ T2x512x512.size a) (hs' : ∀ a, so' a + T1x512x256.size a ≤ T2x512x512.size a)
    (mo mo' : Fin 3 → ℕ) (hm : ∀ a, mo a + T1x1x256.size a ≤ T8x1x512.size a) (ha : ∀ a, mo a + T1x128x256.size a ≤ T8x128x512.size a)
    (hm' : ∀ a, mo' a + T1x1x256.size a ≤ T8x1x512.size a) (ha' : ∀ a, mo' a + T1x128x256.size a ≤ T8x128x512.size a) (σ : St F) : St F :=
  effChunk f1 (shapeCast T128x512 (VecWindow.window V vo T1x128x512.size hv : Vec F T1x128x512 .bf16) cast_v) so' hs' mo' hm' ha'
    (effChunk f0 (shapeCast T128x512 (VecWindow.window V vo T1x128x512.size hv : Vec F T1x128x512 .bf16) cast_v) so hs mo hm ha σ)

/-- What the scores of a block against stream `st`, into buffer `u`, do to the scratch. -/
def effScoresAt (K : Vec F T8192x128 .bf16) (X : Vec F T1x128x2048 .bf16) (ko : Fin 2 → ℕ) (hk : ∀ a, ko a + T512x128.size a ≤ T8192x128.size a) (st : Fin 8) (u : Fin 2) (σ : St F) : St F :=
  effScores K X ko hk (qo st) (hqo st) (so u 0) st.val σ

/-- What a block against stream `st` does to the scratch. -/
def effUnitAt (V : Vec F T1x128x8192 .bf16) (f : ℕ → FVec F T512x256 .f32 → FVec F T512x256 .f32) (vo : Fin 3 → ℕ) (hv : ∀ a, vo a + T1x128x512.size a ≤ T1x128x8192.size a)
    (st : Fin 8) (u : Fin 2) (σ : St F) : St F :=
  effUnit V (f 0) (f 1) vo hv (so u 0) (so u 1) (hsc u 0) (hsc u 1) (mo st 0) (mo st 1) (hmo st 0) (hao st 0) (hmo st 1) (hao st 1) σ

/-- What two whole blocks do to the scratch. -/
def effTrip (K : Vec F T8192x128 .bf16) (X : Vec F T1x128x2048 .bf16) (V : Vec F T1x128x8192 .bf16) (ko : Fin 3 → Fin 2 → ℕ) (hk : ∀ b, ∀ a, ko b a + T512x128.size a ≤ T8192x128.size a)
    (vo : Fin 2 → Fin 3 → ℕ) (hv : ∀ b, ∀ a, vo b a + T1x128x512.size a ≤ T1x128x8192.size a) (σ : St F) : St F :=
  let σ := effScoresAt K X (ko 0) (hk 0) 1 1 σ
  let σ := effUnitAt V (fun _ x => x) (vo 0) (hv 0) 0 0 σ
  let σ := effScoresAt K X (ko 0) (hk 0) 2 0 σ
  let σ := effUnitAt V (fun _ x => x) (vo 0) (hv 0) 1 1 σ
  let σ := effScoresAt K X (ko 0) (hk 0) 3 1 σ
  let σ := effUnitAt V (fun _ x => x) (vo 0) (hv 0) 2 0 σ
  let σ := effScoresAt K X (ko 0) (hk 0) 4 0 σ
  let σ := effUnitAt V (fun _ x => x) (vo 0) (hv 0) 3 1 σ
  let σ := effScoresAt K X (ko 0) (hk 0) 5 1 σ
  let σ := effUnitAt V (fun _ x => x) (vo 0) (hv 0) 4 0 σ
  let σ := effScoresAt K X (ko 0) (hk 0) 6 0 σ
  let σ := effUnitAt V (fun _ x => x) (vo 0) (hv 0) 5 1 σ
  let σ := effScoresAt K X (ko 0) (hk 0) 7 1 σ
  let σ := effUnitAt V (fun _ x => x) (vo 0) (hv 0) 6 0 σ
  let σ := effScoresAt K X (ko 1) (hk 1) 0 0 σ
  let σ := effUnitAt V (fun _ x => x) (vo 0) (hv 0) 7 1 σ
  let σ := effScoresAt K X (ko 1) (hk 1) 1 1 σ
  let σ := effUnitAt V (fun _ x => x) (vo 1) (hv 1) 0 0 σ
  let σ := effScoresAt K X (ko 1) (hk 1) 2 0 σ
  let σ := effUnitAt V (fun _ x => x) (vo 1) (hv 1) 1 1 σ
  let σ := effScoresAt K X (ko 1) (hk 1) 3 1 σ
  let σ := effUnitAt V (fun _ x => x) (vo 1) (hv 1) 2 0 σ
  let σ := effScoresAt K X (ko 1) (hk 1) 4 0 σ
  let σ := effUnitAt V (fun _ x => x) (vo 1) (hv 1) 3 1 σ
  let σ := effScoresAt K X (ko 1) (hk 1) 5 1 σ
  let σ := effUnitAt V (fun _ x => x) (vo 1) (hv 1) 4 0 σ
  let σ := effScoresAt K X (ko 1) (hk 1) 6 0 σ
  let σ := effUnitAt V (fun _ x => x) (vo 1) (hv 1) 5 1 σ
  let σ := effScoresAt K X (ko 1) (hk 1) 7 1 σ
  let σ := effUnitAt V (fun _ x => x) (vo 1) (hv 1) 6 0 σ
  let σ := effScoresAt K X (ko 2) (hk 2) 0 0 σ
  let σ := effUnitAt V (fun _ x => x) (vo 1) (hv 1) 7 1 σ
  σ

/-- What the four diagonal blocks do to the scratch. -/
def effTail (nb : F .f32) (K : Vec F T8192x128 .bf16) (X : Vec F T1x128x2048 .bf16) (V : Vec F T1x128x8192 .bf16) (ko : Fin 4 → Fin 2 → ℕ) (hk : ∀ b, ∀ a, ko b a + T512x128.size a ≤ T8192x128.size a)
    (vo : Fin 4 → Fin 3 → ℕ) (hv : ∀ b, ∀ a, vo b a + T1x128x512.size a ≤ T1x128x8192.size a) (σ : St F) : St F :=
  let σ := effScoresAt K X (ko 0) (hk 0) 1 1 σ
  let σ := effUnitAt V (fun h => maskAt nb (BitVec.ofNat 32 (256 * h))) (vo 0) (hv 0) 0 0 σ
  let σ := effScoresAt K X (ko 0) (hk 0) 2 0 σ
  let σ := effUnitAt V (fun h => maskAt nb (BitVec.ofNat 32 (256 * h))) (vo 0) (hv 0) 1 1 σ
  let σ := effScoresAt K X (ko 0) (hk 0) 3 1 σ
  let σ := effUnitAt V (fun _ x => x) (vo 0) (hv 0) 2 0 σ
  let σ := effScoresAt K X (ko 0) (hk 0) 4 0 σ
  let σ := effUnitAt V (fun _ x => x) (vo 0) (hv 0) 3 1 σ
  let σ := effScoresAt K X (ko 0) (hk 0) 5 1 σ
  let σ := effUnitAt V (fun _ x => x) (vo 0) (hv 0) 4 0 σ
  let σ := effScoresAt K X (ko 0) (hk 0) 6 0 σ
  let σ := effUnitAt V (fun _ x => x) (vo 0) (hv 0) 5 1 σ
  let σ := effScoresAt K X (ko 0) (hk 0) 7 1 σ
  let σ := effUnitAt V (fun _ x => x) (vo 0) (hv 0) 6 0 σ
  let σ := effScoresAt K X (ko 1) (hk 1) 2 0 σ
  let σ := effUnitAt V (fun _ x => x) (vo 0) (hv 0) 7 1 σ
  let σ := effScoresAt K X (ko 1) (hk 1) 3 1 σ
  let σ := effUnitAt V (fun h => maskAt nb (BitVec.ofNat 32 (256 * h))) (vo 1) (hv 1) 2 0 σ
  let σ := effScoresAt K X (ko 1) (hk 1) 4 0 σ
  let σ := effUnitAt V (fun h => maskAt nb (BitVec.ofNat 32 (256 * h))) (vo 1) (hv 1) 3 1 σ
  let σ := effScoresAt K X (ko 1) (hk 1) 5 1 σ
  let σ := effUnitAt V (fun _ x => x) (vo 1) (hv 1) 4 0 σ
  let σ := effScoresAt K X (ko 1) (hk 1) 6 0 σ
  let σ := effUnitAt V (fun _ x => x) (vo 1) (hv 1) 5 1 σ
  let σ := effScoresAt K X (ko 1) (hk 1) 7 1 σ
  let σ := effUnitAt V (fun _ x => x) (vo 1) (hv 1) 6 0 σ
  let σ := effScoresAt K X (ko 2) (hk 2) 4 0 σ
  let σ := effUnitAt V (fun _ x => x) (vo 1) (hv 1) 7 1 σ
  let σ := effScoresAt K X (ko 2) (hk 2) 5 1 σ
  let σ := effUnitAt V (fun h => maskAt nb (BitVec.ofNat 32 (256 * h))) (vo 2) (hv 2) 4 0 σ
  let σ := effScoresAt K X (ko 2) (hk 2) 6 0 σ
  let σ := effUnitAt V (fun h => maskAt nb (BitVec.ofNat 32 (256 * h))) (vo 2) (hv 2) 5 1 σ
  let σ := effScoresAt K X (ko 2) (hk 2) 7 1 σ
  let σ := effUnitAt V (fun _ x => x) (vo 2) (hv 2) 6 0 σ
  let σ := effScoresAt K X (ko 3) (hk 3) 6 0 σ
  let σ := effUnitAt V (fun _ x => x) (vo 2) (hv 2) 7 1 σ
  let σ := effScoresAt K X (ko 3) (hk 3) 7 1 σ
  let σ := effUnitAt V (fun h => maskAt nb (BitVec.ofNat 32 (256 * h))) (vo 3) (hv 3) 6 0 σ
  let σ := effUnitAt V (fun h => maskAt nb (BitVec.ofNat 32 (256 * h))) (vo 3) (hv 3) 7 1 σ
  σ

/-- The scratch as the body sets it first. -/
def effInit (nb : F .f32) (σ : St F) : St F :=
  { m := VecWindow.put σ.m ![0, 0, 0] T8x1x512.size (shapeCast T8x1x512 (broadcast T8x1x512 nb) (by decide))
    l := VecWindow.put σ.l ![0, 0, 0] T8x1x512.size (shapeCast T8x1x512 (broadcast T8x1x512 (Scalar.ofBits .f32 0x00000000#32)) (by decide))
    a := VecWindow.put σ.a ![0, 0, 0] T8x128x512.size (shapeCast T8x128x512 (broadcast T8x128x512 (Scalar.ofBits .f32 0x00000000#32)) (by decide))
    s := σ.s }

/-- The scratch after `n` trips. -/
def effLoop {N : ℕ} (e : Fin N → St F → St F) (σ : St F) : ℕ → St F
  | 0 => σ
  | n + 1 => if h : n < N then e ⟨n, h⟩ (effLoop e σ n) else effLoop e σ n

/-- What the closing of tile `t` does to the output block. -/
def effOut (p : Vec F T4x64 .f32) (g : Vec F T1x128 .f32) (σ : St F) (t : Fin 4) (s0 s1 : Fin 8) (O : Vec F T2048x128 .bf16) : Vec F T2048x128 .bf16 :=
  VecWindow.put O (oo t) T512x128.size (payOut p g (VecWindow.window σ.a (mo s0 0) T1x128x512.size (hae s0)) (VecWindow.window σ.l (mo s0 0) T1x1x512.size (hme s0))
    (VecWindow.window σ.a (mo s1 0) T1x128x512.size (hae s1)) (VecWindow.window σ.l (mo s1 0) T1x1x512.size (hme s1)))

/-- What the closings of the four tiles leave in the output block. -/
def effOuts (p : Vec F T4x64 .f32) (g : Vec F T1x128 .f32) (σ : St F) (O : Vec F T2048x128 .bf16) : Vec F T2048x128 .bf16 :=
  effOut p g σ 3 6 7 (effOut p g σ 2 4 5 (effOut p g σ 1 2 3 (effOut p g σ 0 0 1 O)))

theorem window_all {α : Type} {n : ℕ} {k : ℕ} (x : (⟨2, ![n, k]⟩ : Shape).Idx → α) (h : ∀ a, (![0, 0] : Fin 2 → ℕ) a + (⟨2, ![n, k]⟩ : Shape).size a ≤ (⟨2, ![n, k]⟩ : Shape).size a) :
    VecWindow.window (s := ⟨2, ![n, k]⟩) x ![0, 0] (⟨2, ![n, k]⟩ : Shape).size h = x := by
  funext i
  unfold VecWindow.window
  refine congrArg x (funext fun a => Fin.ext ?_)
  match a with
  | 0 => show 0 + 1 * (i 0).val = (i 0).val; omega
  | 1 => show 0 + 1 * (i 1).val = (i 1).val; omega

end Pure

section Programs

variable {F : FTy → Type} [FloatOps F] {nD : Nat} {τ : Topo} {sig : RefSig} {Λ : Labels}
variable (q : Memref sig .tc .vmem T1x128x2048 .bf16) (k : Memref sig .tc .vmem T8192x128 .bf16) (v : Memref sig .tc .vmem T1x128x8192 .bf16)
variable (lm : Memref sig .tc .vmem T4x64 .f32) (sb : Memref sig .tc .vmem T1x128 .f32) (o : Memref sig .tc .vmem T2048x128 .bf16)
variable (m : Memref sig .tc .vmem T8x1x512 .f32) (l : Memref sig .tc .vmem T8x1x512 .f32) (a : Memref sig .tc .vmem T8x128x512 .f32) (s : Memref sig .tc .vmem T2x512x512 .f32)

/-- The scores of one block, into a score buffer. -/
def scores (ko : Fin 2 → ℕ) (hk : ∀ a, ko a + T512x128.size a ≤ T8192x128.size a) (qo : Fin 3 → ℕ) (hq : ∀ a, qo a + T1x128x512.size a ≤ T1x128x2048.size a)
    (so : Fin 3 → ℕ) (hs : ∀ a, so a + T1x512x512.size a ≤ T2x512x512.size a) (st : ℕ) : Prog (TpuEff nD τ sig (Elt F) Λ .tc) PUnit := do
  let x : Vec F T512x128 .bf16 ← Prog.lift (.load k (Rect.unit (s := T8192x128) ko T512x128.size hk).toLoadRect (View.loadsAt_vmem pos_T512x128))
  let y : Vec F T1x128x512 .bf16 ← Prog.lift (.load q (Rect.unit (s := T1x128x2048) qo T1x128x512.size hq).toLoadRect (View.loadsAt_vmem pos_T1x128x512))
  let _z : Vec F T1x512x512 .f32 ← Prog.lift (.load s (Rect.unit (s := T2x512x512) so T1x512x512.size hs).toLoadRect (View.loadsAt_vmem pos_T1x512x512))
  Prog.lift (.store s (Rect.unit (s := T2x512x512) so T1x512x512.size hs) (payScores st x y) Finset.univ (View.stores_vmem_bits_univ pos_T1x512x512 rfl) (.inl rfl))

/-- One online-softmax update of 256 columns. -/
def chunk (f : FVec F T512x256 .f32 → FVec F T512x256 .f32) (vb : FVec F T128x512 .bf16)
    (so : Fin 3 → ℕ) (hs : ∀ a, so a + T1x512x256.size a ≤ T2x512x512.size a) (mo : Fin 3 → ℕ) (hm : ∀ a, mo a + T1x1x256.size a ≤ T8x1x512.size a)
    (ha : ∀ a, mo a + T1x128x256.size a ≤ T8x128x512.size a) : Prog (TpuEff nD τ sig (Elt F) Λ .tc) PUnit := do
  let x : Vec F T1x512x256 .f32 ← Prog.lift (.load s (Rect.unit (s := T2x512x512) so T1x512x256.size hs).toLoadRect (View.loadsAt_vmem pos_T1x512x256))
  let y : Vec F T1x1x256 .f32 ← Prog.lift (.load m (Rect.unit (s := T8x1x512) mo T1x1x256.size hm).toLoadRect (View.loadsAt_vmem pos_T1x1x256))
  let _y' : Vec F T1x1x256 .f32 ← Prog.lift (.load m (Rect.unit (s := T8x1x512) mo T1x1x256.size hm).toLoadRect (View.loadsAt_vmem pos_T1x1x256))
  Prog.lift (.store m (Rect.unit (s := T8x1x512) mo T1x1x256.size hm) (payM (f (shapeCast T512x256 x cast_s)) y) Finset.univ (View.stores_vmem_bits_univ pos_T1x1x256 rfl) (.inl rfl))
  let z : Vec F T1x1x256 .f32 ← Prog.lift (.load l (Rect.unit (s := T8x1x512) mo T1x1x256.size hm).toLoadRect (View.loadsAt_vmem pos_T1x1x256))
  let _z' : Vec F T1x1x256 .f32 ← Prog.lift (.load l (Rect.unit (s := T8x1x512) mo T1x1x256.size hm).toLoadRect (View.loadsAt_vmem pos_T1x1x256))
  Prog.lift (.store l (Rect.unit (s := T8x1x512) mo T1x1x256.size hm) (payL (f (shapeCast T512x256 x cast_s)) y z) Finset.univ (View.stores_vmem_bits_univ pos_T1x1x256 rfl) (.inl rfl))
  let w : Vec F T1x128x256 .f32 ← Prog.lift (.load a (Rect.unit (s := T8x128x512) mo T1x128x256.size ha).toLoadRect (View.loadsAt_vmem pos_T1x128x256))
  let _w' : Vec F T1x128x256 .f32 ← Prog.lift (.load a (Rect.unit (s := T8x128x512) mo T1x128x256.size ha).toLoadRect (View.loadsAt_vmem pos_T1x128x256))
  Prog.lift (.store a (Rect.unit (s := T8x128x512) mo T1x128x256.size ha) (payA (f (shapeCast T512x256 x cast_s)) y vb w) Finset.univ (View.stores_vmem_bits_univ pos_T1x128x256 rfl) (.inl rfl))

/-- One block of keys against one tile of queries: the values, then two updates of 256 columns. -/
def unit (f0 f1 : FVec F T512x256 .f32 → FVec F T512x256 .f32) (vo : Fin 3 → ℕ) (hv : ∀ a, vo a + T1x128x512.size a ≤ T1x128x8192.size a)
    (so so' : Fin 3 → ℕ) (hs : ∀ a, so a + T1x512x256.size a ≤ T2x512x512.size a) (hs' : ∀ a, so' a + T1x512x256.size a ≤ T2x512x512.size a)
    (mo mo' : Fin 3 → ℕ) (hm : ∀ a, mo a + T1x1x256.size a ≤ T8x1x512.size a) (ha : ∀ a, mo a + T1x128x256.size a ≤ T8x128x512.size a)
    (hm' : ∀ a, mo' a + T1x1x256.size a ≤ T8x1x512.size a) (ha' : ∀ a, mo' a + T1x128x256.size a ≤ T8x128x512.size a) :
    Prog (TpuEff nD τ sig (Elt F) Λ .tc) PUnit := do
  let x : Vec F T1x128x512 .bf16 ← Prog.lift (.load v (Rect.unit (s := T1x128x8192) vo T1x128x512.size hv).toLoadRect (View.loadsAt_vmem pos_T1x128x512))
  chunk m l a s f0 (shapeCast T128x512 x cast_v) so hs mo hm ha
  chunk m l a s f1 (shapeCast T128x512 x cast_v) so' hs' mo' hm' ha'

/-- The scores of a block against stream `st`, into buffer `u`. -/
def scoresAt (ko : Fin 2 → ℕ) (hk : ∀ a, ko a + T512x128.size a ≤ T8192x128.size a) (st : Fin 8) (u : Fin 2) : Prog (TpuEff nD τ sig (Elt F) Λ .tc) PUnit :=
  scores q k s ko hk (qo st) (hqo st) (so u 0) (hso u) st.val

/-- A block against stream `st`, its scores in buffer `u`; `f h` is done to the scores of half `h` first. -/
def unitAt (f : ℕ → FVec F T512x256 .f32 → FVec F T512x256 .f32) (vo : Fin 3 → ℕ) (hv : ∀ a, vo a + T1x128x512.size a ≤ T1x128x8192.size a) (st : Fin 8) (u : Fin 2) :
    Prog (TpuEff nD τ sig (Elt F) Λ .tc) PUnit :=
  unit v m l a s (f 0) (f 1) vo hv (so u 0) (so u 1) (hsc u 0) (hsc u 1) (mo st 0) (mo st 1) (hmo st 0) (hao st 0) (hmo st 1) (hao st 1)

/-- Two whole blocks of keys against the eight streams: the scores run one unit ahead. -/
def trip (ko : Fin 3 → Fin 2 → ℕ) (hk : ∀ b, ∀ a, ko b a + T512x128.size a ≤ T8192x128.size a) (vo : Fin 2 → Fin 3 → ℕ) (hv : ∀ b, ∀ a, vo b a + T1x128x512.size a ≤ T1x128x8192.size a) :
    Prog (TpuEff nD τ sig (Elt F) Λ .tc) PUnit := do
  scoresAt q k s (ko 0) (hk 0) 1 1
  unitAt v m l a s (fun _ x => x) (vo 0) (hv 0) 0 0
  scoresAt q k s (ko 0) (hk 0) 2 0
  unitAt v m l a s (fun _ x => x) (vo 0) (hv 0) 1 1
  scoresAt q k s (ko 0) (hk 0) 3 1
  unitAt v m l a s (fun _ x => x) (vo 0) (hv 0) 2 0
  scoresAt q k s (ko 0) (hk 0) 4 0
  unitAt v m l a s (fun _ x => x) (vo 0) (hv 0) 3 1
  scoresAt q k s (ko 0) (hk 0) 5 1
  unitAt v m l a s (fun _ x => x) (vo 0) (hv 0) 4 0
  scoresAt q k s (ko 0) (hk 0) 6 0
  unitAt v m l a s (fun _ x => x) (vo 0) (hv 0) 5 1
  scoresAt q k s (ko 0) (hk 0) 7 1
  unitAt v m l a s (fun _ x => x) (vo 0) (hv 0) 6 0
  scoresAt q k s (ko 1) (hk 1) 0 0
  unitAt v m l a s (fun _ x => x) (vo 0) (hv 0) 7 1
  scoresAt q k s (ko 1) (hk 1) 1 1
  unitAt v m l a s (fun _ x => x) (vo 1) (hv 1) 0 0
  scoresAt q k s (ko 1) (hk 1) 2 0
  unitAt v m l a s (fun _ x => x) (vo 1) (hv 1) 1 1
  scoresAt q k s (ko 1) (hk 1) 3 1
  unitAt v m l a s (fun _ x => x) (vo 1) (hv 1) 2 0
  scoresAt q k s (ko 1) (hk 1) 4 0
  unitAt v m l a s (fun _ x => x) (vo 1) (hv 1) 3 1
  scoresAt q k s (ko 1) (hk 1) 5 1
  unitAt v m l a s (fun _ x => x) (vo 1) (hv 1) 4 0
  scoresAt q k s (ko 1) (hk 1) 6 0
  unitAt v m l a s (fun _ x => x) (vo 1) (hv 1) 5 1
  scoresAt q k s (ko 1) (hk 1) 7 1
  unitAt v m l a s (fun _ x => x) (vo 1) (hv 1) 6 0
  scoresAt q k s (ko 2) (hk 2) 0 0
  unitAt v m l a s (fun _ x => x) (vo 1) (hv 1) 7 1
  pure ⟨⟩

/-- The four blocks on the diagonal: a block is met by its own tile's streams, masked, and by the later ones. -/
def tail (nb : F .f32) (ko : Fin 4 → Fin 2 → ℕ) (hk : ∀ b, ∀ a, ko b a + T512x128.size a ≤ T8192x128.size a) (vo : Fin 4 → Fin 3 → ℕ)
    (hv : ∀ b, ∀ a, vo b a + T1x128x512.size a ≤ T1x128x8192.size a) : Prog (TpuEff nD τ sig (Elt F) Λ .tc) PUnit := do
  scoresAt q k s (ko 0) (hk 0) 1 1
  unitAt v m l a s (fun h => maskAt nb (BitVec.ofNat 32 (256 * h))) (vo 0) (hv 0) 0 0
  scoresAt q k s (ko 0) (hk 0) 2 0
  unitAt v m l a s (fun h => maskAt nb (BitVec.ofNat 32 (256 * h))) (vo 0) (hv 0) 1 1
  scoresAt q k s (ko 0) (hk 0) 3 1
  unitAt v m l a s (fun _ x => x) (vo 0) (hv 0) 2 0
  scoresAt q k s (ko 0) (hk 0) 4 0
  unitAt v m l a s (fun _ x => x) (vo 0) (hv 0) 3 1
  scoresAt q k s (ko 0) (hk 0) 5 1
  unitAt v m l a s (fun _ x => x) (vo 0) (hv 0) 4 0
  scoresAt q k s (ko 0) (hk 0) 6 0
  unitAt v m l a s (fun _ x => x) (vo 0) (hv 0) 5 1
  scoresAt q k s (ko 0) (hk 0) 7 1
  unitAt v m l a s (fun _ x => x) (vo 0) (hv 0) 6 0
  scoresAt q k s (ko 1) (hk 1) 2 0
  unitAt v m l a s (fun _ x => x) (vo 0) (hv 0) 7 1
  scoresAt q k s (ko 1) (hk 1) 3 1
  unitAt v m l a s (fun h => maskAt nb (BitVec.ofNat 32 (256 * h))) (vo 1) (hv 1) 2 0
  scoresAt q k s (ko 1) (hk 1) 4 0
  unitAt v m l a s (fun h => maskAt nb (BitVec.ofNat 32 (256 * h))) (vo 1) (hv 1) 3 1
  scoresAt q k s (ko 1) (hk 1) 5 1
  unitAt v m l a s (fun _ x => x) (vo 1) (hv 1) 4 0
  scoresAt q k s (ko 1) (hk 1) 6 0
  unitAt v m l a s (fun _ x => x) (vo 1) (hv 1) 5 1
  scoresAt q k s (ko 1) (hk 1) 7 1
  unitAt v m l a s (fun _ x => x) (vo 1) (hv 1) 6 0
  scoresAt q k s (ko 2) (hk 2) 4 0
  unitAt v m l a s (fun _ x => x) (vo 1) (hv 1) 7 1
  scoresAt q k s (ko 2) (hk 2) 5 1
  unitAt v m l a s (fun h => maskAt nb (BitVec.ofNat 32 (256 * h))) (vo 2) (hv 2) 4 0
  scoresAt q k s (ko 2) (hk 2) 6 0
  unitAt v m l a s (fun h => maskAt nb (BitVec.ofNat 32 (256 * h))) (vo 2) (hv 2) 5 1
  scoresAt q k s (ko 2) (hk 2) 7 1
  unitAt v m l a s (fun _ x => x) (vo 2) (hv 2) 6 0
  scoresAt q k s (ko 3) (hk 3) 6 0
  unitAt v m l a s (fun _ x => x) (vo 2) (hv 2) 7 1
  scoresAt q k s (ko 3) (hk 3) 7 1
  unitAt v m l a s (fun h => maskAt nb (BitVec.ofNat 32 (256 * h))) (vo 3) (hv 3) 6 0
  unitAt v m l a s (fun h => maskAt nb (BitVec.ofNat 32 (256 * h))) (vo 3) (hv 3) 7 1
  pure ⟨⟩

/-- The scratch set first: the maximum at the mask constant, the sums at zero. -/
def init (nb : F .f32) : Prog (TpuEff nD τ sig (Elt F) Λ .tc) PUnit := do
  let _x : Vec F T8x1x512 .f32 ← Prog.lift (.load m (Rect.unit (s := T8x1x512) ![0, 0, 0] T8x1x512.size in_T8x1x512).toLoadRect (View.loadsAt_vmem pos_T8x1x512))
  Prog.lift (.store m (Rect.unit (s := T8x1x512) ![0, 0, 0] T8x1x512.size in_T8x1x512) (shapeCast T8x1x512 (broadcast T8x1x512 nb) (by decide)) Finset.univ (View.stores_vmem_bits_univ pos_T8x1x512 rfl) (.inl rfl))
  let _y : Vec F T8x1x512 .f32 ← Prog.lift (.load l (Rect.unit (s := T8x1x512) ![0, 0, 0] T8x1x512.size in_T8x1x512).toLoadRect (View.loadsAt_vmem pos_T8x1x512))
  Prog.lift (.store l (Rect.unit (s := T8x1x512) ![0, 0, 0] T8x1x512.size in_T8x1x512) (shapeCast T8x1x512 (broadcast T8x1x512 (Scalar.ofBits .f32 0x00000000#32)) (by decide)) Finset.univ (View.stores_vmem_bits_univ pos_T8x1x512 rfl) (.inl rfl))
  let _z : Vec F T8x128x512 .f32 ← Prog.lift (.load a (Rect.unit (s := T8x128x512) ![0, 0, 0] T8x128x512.size in_T8x128x512).toLoadRect (View.loadsAt_vmem pos_T8x128x512))
  Prog.lift (.store a (Rect.unit (s := T8x128x512) ![0, 0, 0] T8x128x512.size in_T8x128x512) (shapeCast T8x128x512 (broadcast T8x128x512 (Scalar.ofBits .f32 0x00000000#32)) (by decide)) Finset.univ (View.stores_vmem_bits_univ pos_T8x128x512 rfl) (.inl rfl))

/-- The closing of tile `t`, whose maps are streams `s0` and `s1`: the difference, its norm, the gain and the constant. -/
def out (ho : o.IsWhole) (w : FVec F T1x1 .f32) (t : Fin 4) (s0 s1 : Fin 8) : Prog (TpuEff nD τ sig (Elt F) Λ .tc) PUnit := do
  let x : Vec F T1x128x512 .f32 ← Prog.lift (.load a (Rect.unit (s := T8x128x512) (mo s0 0) T1x128x512.size (hae s0)).toLoadRect (View.loadsAt_vmem pos_T1x128x512))
  let y : Vec F T1x1x512 .f32 ← Prog.lift (.load l (Rect.unit (s := T8x1x512) (mo s0 0) T1x1x512.size (hme s0)).toLoadRect (View.loadsAt_vmem pos_T1x1x512))
  let x' : Vec F T1x128x512 .f32 ← Prog.lift (.load a (Rect.unit (s := T8x128x512) (mo s1 0) T1x128x512.size (hae s1)).toLoadRect (View.loadsAt_vmem pos_T1x128x512))
  let y' : Vec F T1x1x512 .f32 ← Prog.lift (.load l (Rect.unit (s := T8x1x512) (mo s1 0) T1x1x512.size (hme s1)).toLoadRect (View.loadsAt_vmem pos_T1x1x512))
  let g : Vec F T1x128 .f32 ← Prog.lift (.load sb (Rect.unit (s := T1x128) ![0, 0] T1x128.size in_T1x128).toLoadRect (View.loadsAt_vmem pos_T1x128))
  let _z : Vec F T512x128 .bf16 ← Prog.lift (.load o (Rect.unit (s := T2048x128) (oo t) T512x128.size (hoo t)).toLoadRect (View.loadsAt_vmem pos_T512x128))
  Prog.lift (.store o (Rect.unit (s := T2048x128) (oo t) T512x128.size (hoo t)) (payNorm (payDiff w (payQuot x y) (payQuot x' y')) g) Finset.univ (View.stores_vmem pos_T512x128 (ho.storeExact_slice rfl _ (hpk t)) (fun _ => rfl)) (.inl rfl))

/-- The closings of the four tiles, the second map's weight made first. -/
def fin (ho : o.IsWhole) : Prog (TpuEff nD τ sig (Elt F) Λ .tc) PUnit := do
  let p : Vec F T4x64 .f32 ← Prog.lift (.load lm (Rect.unit (s := T4x64) ![0, 0] T4x64.size in_T4x64).toLoadRect (View.loadsAt_vmem pos_T4x64))
  out sb o l a ho (payLam p) 0 0 1
  out sb o l a ho (payLam p) 1 2 3
  out sb o l a ho (payLam p) 2 4 5
  out sb o l a ho (payLam p) 3 6 7
  pure ⟨⟩

/-- The middle of the body: the first scores, the loops and the diagonal blocks. -/
def mid (lp : Scf.Loop 32) (ok : lp.OK) (body : Fin lp.trips → PUnit → Prog (TpuEff nD τ sig (Elt F) Λ .tc) PUnit)
    (lp2 : Scf.Loop 32) (ok2 : lp2.OK) (body2 : Fin lp2.trips → PUnit → Prog (TpuEff nD τ sig (Elt F) Λ .tc) PUnit)
    (cond : BitVec 1) (last : cond = 1#1 → Prog (TpuEff nD τ sig (Elt F) Λ .tc) PUnit) : Prog (TpuEff nD τ sig (Elt F) Λ .tc) PUnit := do
  scoresAt q k s ![0, 0] in_k0 0 0
  lp.for ok ⟨⟩ body
  lp2.for ok2 ⟨⟩ body2
  if h : cond = 1#1 then last h else pure ⟨⟩
  pure ⟨⟩

/-- The whole body at one grid point. -/
def attn (ho : o.IsWhole) (nb : F .f32) (lp : Scf.Loop 32) (ok : lp.OK) (body : Fin lp.trips → PUnit → Prog (TpuEff nD τ sig (Elt F) Λ .tc) PUnit)
    (lp2 : Scf.Loop 32) (ok2 : lp2.OK) (body2 : Fin lp2.trips → PUnit → Prog (TpuEff nD τ sig (Elt F) Λ .tc) PUnit)
    (cond : BitVec 1) (last : cond = 1#1 → Prog (TpuEff nD τ sig (Elt F) Λ .tc) PUnit) : Prog (TpuEff nD τ sig (Elt F) Λ .tc) PUnit := do
  init m l a nb
  mid q k s lp ok body lp2 ok2 body2 cond last
  fin lm sb o l a ho

end Programs

section Specs

variable {F : FTy → Type} [FloatOps F] {nD : Nat} {τ : Topo} {sig : RefSig} {Λ : Labels}
variable {q : Memref sig .tc .vmem T1x128x2048 .bf16} {k : Memref sig .tc .vmem T8192x128 .bf16} {v : Memref sig .tc .vmem T1x128x8192 .bf16}
variable {lm : Memref sig .tc .vmem T4x64 .f32} {sb : Memref sig .tc .vmem T1x128 .f32} {o : Memref sig .tc .vmem T2048x128 .bf16}
variable {m : Memref sig .tc .vmem T8x1x512 .f32} {l : Memref sig .tc .vmem T8x1x512 .f32} {a : Memref sig .tc .vmem T8x128x512 .f32} {s : Memref sig .tc .vmem T2x512x512 .f32}
variable {Ix : Type} [DecidableEq Ix] {Name : Type} [DecidableEq Name] {U : Type} [URA U] {Lvl : Type} [Preorder Lvl]
variable {defs : Defs nD τ sig (Elt F) Λ} {𝒱 : Variants} {c : Dev nD} {bd : Option 𝒱.V} {E : Set Name}
variable {α : Type} {Φ : α → sProp (MT nD τ sig Ix (Elt F) Name U Lvl)}

local notation "𝕄" => MT nD τ sig Ix (Elt F) Name U Lvl

/-- The scratch buffers held at their values. -/
def HeldSt (c : Dev nD) (m l : Memref sig .tc .vmem T8x1x512 .f32) (a : Memref sig .tc .vmem T8x128x512 .f32) (s : Memref sig .tc .vmem T2x512x512 .f32) (σ : St F) : sProp 𝕄 :=
  iprop(Held (c : Thread nD τ) m σ.m ∗ Held (c : Thread nD τ) l σ.l ∗ Held (c : Thread nD τ) a σ.a ∗ Held (c : Thread nD τ) s σ.s)

theorem wp_scores {K : Vec F T8192x128 .bf16} {X : Vec F T1x128x2048 .bf16} {σ : St F} {ko : Fin 2 → ℕ} {hk : ∀ a, ko a + T512x128.size a ≤ T8192x128.size a}
    {qo : Fin 3 → ℕ} {hq : ∀ a, qo a + T1x128x512.size a ≤ T1x128x2048.size a} {so : Fin 3 → ℕ} {hs : ∀ a, so a + T1x512x512.size a ≤ T2x512x512.size a} {st : ℕ}
    {κ : PUnit → Prog (TpuEff nD τ sig (Elt F) Λ .tc) α} :
    iprop(Held (c : Thread nD τ) k K ∗ Held (c : Thread nD τ) q X ∗ HeldSt c m l a s σ)
      ⊢ iprop(((Held (c : Thread nD τ) k K ∗ Held (c : Thread nD τ) q X ∗ HeldSt c m l a s (effScores K X ko hk qo hq so st σ)) -∗ wp frame (wpE defs 𝒱 (c : Thread nD τ) bd) E (κ ⟨⟩) Φ)
        -∗ wp frame (wpE defs 𝒱 (c : Thread nD τ) bd) E (scores q k s ko hk qo hq so hs st >>= κ) Φ : sProp 𝕄) := by
  unfold HeldSt
  iintro ⟨Hk, Hq, Hm, Hl, Ha, Hs⟩ HW
  unfold scores
  iapply wp_ld $$ Hk
  iintro Hk
  iapply wp_ld $$ Hq
  iintro Hq
  iapply wp_ld $$ Hs
  iintro Hs
  iapply wp_st $$ Hs
  iintro Hs
  iapply HW
  dsimp only [effScores]
  iframe

theorem wp_chunk {σ : St F} {f : FVec F T512x256 .f32 → FVec F T512x256 .f32} {vb : FVec F T128x512 .bf16}
    {so : Fin 3 → ℕ} {hs : ∀ a, so a + T1x512x256.size a ≤ T2x512x512.size a} {mo : Fin 3 → ℕ} {hm : ∀ a, mo a + T1x1x256.size a ≤ T8x1x512.size a}
    {ha : ∀ a, mo a + T1x128x256.size a ≤ T8x128x512.size a}
    {κ : PUnit → Prog (TpuEff nD τ sig (Elt F) Λ .tc) α} :
    HeldSt c m l a s σ
      ⊢ iprop((HeldSt c m l a s (effChunk f vb so hs mo hm ha σ) -∗ wp frame (wpE defs 𝒱 (c : Thread nD τ) bd) E (κ ⟨⟩) Φ)
        -∗ wp frame (wpE defs 𝒱 (c : Thread nD τ) bd) E (chunk m l a s f vb so hs mo hm ha >>= κ) Φ : sProp 𝕄) := by
  unfold HeldSt
  iintro ⟨Hm, Hl, Ha, Hs⟩ HW
  unfold chunk
  iapply wp_ld $$ Hs
  iintro Hs
  iapply wp_ld $$ Hm
  iintro Hm
  iapply wp_ld $$ Hm
  iintro Hm
  iapply wp_st $$ Hm
  iintro Hm
  iapply wp_ld $$ Hl
  iintro Hl
  iapply wp_ld $$ Hl
  iintro Hl
  iapply wp_st $$ Hl
  iintro Hl
  iapply wp_ld $$ Ha
  iintro Ha
  iapply wp_ld $$ Ha
  iintro Ha
  iapply wp_st $$ Ha
  iintro Ha
  iapply HW
  dsimp only [effChunk]
  iframe

theorem wp_unit {V : Vec F T1x128x8192 .bf16} {σ : St F} {f0 f1 : FVec F T512x256 .f32 → FVec F T512x256 .f32} {vo : Fin 3 → ℕ} {hv : ∀ a, vo a + T1x128x512.size a ≤ T1x128x8192.size a}
    {so so' : Fin 3 → ℕ} {hs : ∀ a, so a + T1x512x256.size a ≤ T2x512x512.size a} {hs' : ∀ a, so' a + T1x512x256.size a ≤ T2x512x512.size a}
    {mo mo' : Fin 3 → ℕ} {hm : ∀ a, mo a + T1x1x256.size a ≤ T8x1x512.size a} {ha : ∀ a, mo a + T1x128x256.size a ≤ T8x128x512.size a}
    {hm' : ∀ a, mo' a + T1x1x256.size a ≤ T8x1x512.size a} {ha' : ∀ a, mo' a + T1x128x256.size a ≤ T8x128x512.size a}
    {κ : PUnit → Prog (TpuEff nD τ sig (Elt F) Λ .tc) α} :
    iprop(Held (c : Thread nD τ) v V ∗ HeldSt c m l a s σ)
      ⊢ iprop(((Held (c : Thread nD τ) v V ∗ HeldSt c m l a s (effUnit V f0 f1 vo hv so so' hs hs' mo mo' hm ha hm' ha' σ)) -∗ wp frame (wpE defs 𝒱 (c : Thread nD τ) bd) E (κ ⟨⟩) Φ)
        -∗ wp frame (wpE defs 𝒱 (c : Thread nD τ) bd) E (unit v m l a s f0 f1 vo hv so so' hs hs' mo mo' hm ha hm' ha' >>= κ) Φ : sProp 𝕄) := by
  iintro ⟨Hv, HS⟩ HW
  unfold unit
  iapply wp_ld $$ Hv
  iintro Hv
  iapply wp_chunk $$ HS
  iintro HS
  iapply wp_chunk $$ HS
  iintro HS
  iapply HW
  unfold effUnit
  iframe

theorem wp_scoresAt {K : Vec F T8192x128 .bf16} {X : Vec F T1x128x2048 .bf16} {σ : St F} {ko : Fin 2 → ℕ} {hk : ∀ a, ko a + T512x128.size a ≤ T8192x128.size a}
    {st : Fin 8} {u : Fin 2} {κ : PUnit → Prog (TpuEff nD τ sig (Elt F) Λ .tc) α} :
    iprop(Held (c : Thread nD τ) k K ∗ Held (c : Thread nD τ) q X ∗ HeldSt c m l a s σ)
      ⊢ iprop(((Held (c : Thread nD τ) k K ∗ Held (c : Thread nD τ) q X ∗ HeldSt c m l a s (effScoresAt K X ko hk st u σ)) -∗ wp frame (wpE defs 𝒱 (c : Thread nD τ) bd) E (κ ⟨⟩) Φ)
        -∗ wp frame (wpE defs 𝒱 (c : Thread nD τ) bd) E (scoresAt q k s ko hk st u >>= κ) Φ : sProp 𝕄) := wp_scores

theorem wp_unitAt {V : Vec F T1x128x8192 .bf16} {σ : St F} {f : ℕ → FVec F T512x256 .f32 → FVec F T512x256 .f32} {vo : Fin 3 → ℕ} {hv : ∀ a, vo a + T1x128x512.size a ≤ T1x128x8192.size a}
    {st : Fin 8} {u : Fin 2} {κ : PUnit → Prog (TpuEff nD τ sig (Elt F) Λ .tc) α} :
    iprop(Held (c : Thread nD τ) v V ∗ HeldSt c m l a s σ)
      ⊢ iprop(((Held (c : Thread nD τ) v V ∗ HeldSt c m l a s (effUnitAt V f vo hv st u σ)) -∗ wp frame (wpE defs 𝒱 (c : Thread nD τ) bd) E (κ ⟨⟩) Φ)
        -∗ wp frame (wpE defs 𝒱 (c : Thread nD τ) bd) E (unitAt v m l a s f vo hv st u >>= κ) Φ : sProp 𝕄) := wp_unit

/-- The three inputs and the scratch held at their values. -/
def HeldAll (c : Dev nD) (q : Memref sig .tc .vmem T1x128x2048 .bf16) (k : Memref sig .tc .vmem T8192x128 .bf16) (v : Memref sig .tc .vmem T1x128x8192 .bf16)
    (m l : Memref sig .tc .vmem T8x1x512 .f32) (a : Memref sig .tc .vmem T8x128x512 .f32) (s : Memref sig .tc .vmem T2x512x512 .f32)
    (X : Vec F T1x128x2048 .bf16) (K : Vec F T8192x128 .bf16) (V : Vec F T1x128x8192 .bf16) (σ : St F) : sProp 𝕄 :=
  iprop(Held (c : Thread nD τ) k K ∗ Held (c : Thread nD τ) q X ∗ Held (c : Thread nD τ) v V ∗ HeldSt c m l a s σ)

theorem wp_trip {K : Vec F T8192x128 .bf16} {X : Vec F T1x128x2048 .bf16} {V : Vec F T1x128x8192 .bf16} {σ : St F} {ko : Fin 3 → Fin 2 → ℕ}
    {hk : ∀ b, ∀ a, ko b a + T512x128.size a ≤ T8192x128.size a} {vo : Fin 2 → Fin 3 → ℕ} {hv : ∀ b, ∀ a, vo b a + T1x128x512.size a ≤ T1x128x8192.size a} {Ψ : PUnit → sProp 𝕄} :
    HeldAll c q k v m l a s X K V σ
      ⊢ iprop((HeldAll c q k v m l a s X K V (effTrip K X V ko hk vo hv σ) -∗ Ψ ⟨⟩)
        -∗ wp frame (wpE defs 𝒱 (c : Thread nD τ) bd) E (trip q k v m l a s ko hk vo hv) Ψ : sProp 𝕄) := by
  unfold HeldAll
  iintro ⟨HK, HX, HV, HS⟩ HW
  unfold trip
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_done
  iapply HW
  unfold effTrip
  iframe

theorem wp_tail {nb : F .f32} {K : Vec F T8192x128 .bf16} {X : Vec F T1x128x2048 .bf16} {V : Vec F T1x128x8192 .bf16} {σ : St F} {ko : Fin 4 → Fin 2 → ℕ}
    {hk : ∀ b, ∀ a, ko b a + T512x128.size a ≤ T8192x128.size a} {vo : Fin 4 → Fin 3 → ℕ} {hv : ∀ b, ∀ a, vo b a + T1x128x512.size a ≤ T1x128x8192.size a} {Ψ : PUnit → sProp 𝕄} :
    HeldAll c q k v m l a s X K V σ
      ⊢ iprop((HeldAll c q k v m l a s X K V (effTail nb K X V ko hk vo hv σ) -∗ Ψ ⟨⟩)
        -∗ wp frame (wpE defs 𝒱 (c : Thread nD τ) bd) E (tail q k v m l a s nb ko hk vo hv) Ψ : sProp 𝕄) := by
  unfold HeldAll
  iintro ⟨HK, HX, HV, HS⟩ HW
  unfold tail
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_scoresAt $$ [$HK $HX $HS]
  iintro ⟨HK, HX, HS⟩
  iapply wp_unitAt $$ [$HV $HS]
  iintro ⟨HV, HS⟩
  iapply wp_unitAt $$ [$HV $HS]
  iintro ⟨HV, HS⟩
  iapply wp_done
  iapply HW
  unfold effTail
  iframe

theorem wp_init {nb : F .f32} {σ : St F} {κ : PUnit → Prog (TpuEff nD τ sig (Elt F) Λ .tc) α} :
    HeldSt c m l a s σ
      ⊢ iprop((HeldSt c m l a s (effInit nb σ) -∗ wp frame (wpE defs 𝒱 (c : Thread nD τ) bd) E (κ ⟨⟩) Φ)
        -∗ wp frame (wpE defs 𝒱 (c : Thread nD τ) bd) E (init m l a nb >>= κ) Φ : sProp 𝕄) := by
  unfold HeldSt
  iintro ⟨Hm, Hl, Ha, Hs⟩ HW
  unfold init
  iapply wp_ld $$ Hm
  iintro Hm
  iapply wp_st $$ Hm
  iintro Hm
  iapply wp_ld $$ Hl
  iintro Hl
  iapply wp_st $$ Hl
  iintro Hl
  iapply wp_ld $$ Ha
  iintro Ha
  iapply wp_st $$ Ha
  iintro Ha
  iapply HW
  dsimp only [effInit]
  iframe

theorem wp_out {ho : o.IsWhole} {p : Vec F T4x64 .f32} {g : Vec F T1x128 .f32} {t : Fin 4} {s0 s1 : Fin 8} {σ : St F} {O : Vec F T2048x128 .bf16} {κ : PUnit → Prog (TpuEff nD τ sig (Elt F) Λ .tc) α} :
    iprop(HeldSt c m l a s σ ∗ Held (c : Thread nD τ) sb g ∗ Held (c : Thread nD τ) o O)
      ⊢ iprop((HeldSt c m l a s σ ∗ Held (c : Thread nD τ) sb g ∗ Held (c : Thread nD τ) o (effOut p g σ t s0 s1 O) -∗ wp frame (wpE defs 𝒱 (c : Thread nD τ) bd) E (κ ⟨⟩) Φ)
        -∗ wp frame (wpE defs 𝒱 (c : Thread nD τ) bd) E (out sb o l a ho (payLam p) t s0 s1 >>= κ) Φ : sProp 𝕄) := by
  unfold HeldSt
  iintro ⟨⟨Hm, Hl, Ha, Hs⟩, Hg, Ho⟩ HW
  unfold out
  iapply wp_ld $$ Ha
  iintro Ha
  iapply wp_ld $$ Hl
  iintro Hl
  iapply wp_ld $$ Ha
  iintro Ha
  iapply wp_ld $$ Hl
  iintro Hl
  iapply wp_ld $$ Hg
  iintro Hg
  iapply wp_ld $$ Ho
  iintro Ho
  iapply wp_st $$ Ho
  iintro Ho
  rw [show VecWindow.window (s := T1x128) g ![0, 0] T1x128.size in_T1x128 = g from window_all g _]
  iapply HW
  unfold effOut payOut
  iframe

/-- What the whole body leaves in the scratch. -/
def effAttn (nb : F .f32) (K : Vec F T8192x128 .bf16) (X : Vec F T1x128x2048 .bf16) (V : Vec F T1x128x8192 .bf16) (N : ℕ)
    (ko : Fin N → Fin 3 → Fin 2 → ℕ) (hk : ∀ t b, ∀ a, ko t b a + T512x128.size a ≤ T8192x128.size a)
    (vo : Fin N → Fin 2 → Fin 3 → ℕ) (hv : ∀ t b, ∀ a, vo t b a + T1x128x512.size a ≤ T1x128x8192.size a)
    (ke : Fin 4 → Fin 2 → ℕ) (hke : ∀ b, ∀ a, ke b a + T512x128.size a ≤ T8192x128.size a)
    (ve : Fin 4 → Fin 3 → ℕ) (hve : ∀ b, ∀ a, ve b a + T1x128x512.size a ≤ T1x128x8192.size a) (σ : St F) : St F :=
  effTail nb K X V ke hke ve hve
    (effLoop (fun t => effTrip K X V (ko t) (hk t) (vo t) (hv t)) (effScoresAt K X ![0, 0] in_k0 0 0 (effInit nb σ)) N)

theorem wp_attn {ho : o.IsWhole} {nb : F .f32} {p : Vec F T4x64 .f32} {g : Vec F T1x128 .f32} {K : Vec F T8192x128 .bf16} {X : Vec F T1x128x2048 .bf16} {V : Vec F T1x128x8192 .bf16} {σ : St F} {O : Vec F T2048x128 .bf16}
    {lp : Scf.Loop 32} {ok : lp.OK} {body : Fin lp.trips → PUnit → Prog (TpuEff nD τ sig (Elt F) Λ .tc) PUnit}
    {lp2 : Scf.Loop 32} {ok2 : lp2.OK} {body2 : Fin lp2.trips → PUnit → Prog (TpuEff nD τ sig (Elt F) Λ .tc) PUnit}
    {cond : BitVec 1} {last : cond = 1#1 → Prog (TpuEff nD τ sig (Elt F) Λ .tc) PUnit}
    {ko : Fin lp.trips → Fin 3 → Fin 2 → ℕ} {hk : ∀ t b, ∀ a, ko t b a + T512x128.size a ≤ T8192x128.size a}
    {vo : Fin lp.trips → Fin 2 → Fin 3 → ℕ} {hv : ∀ t b, ∀ a, vo t b a + T1x128x512.size a ≤ T1x128x8192.size a}
    {ke : Fin 4 → Fin 2 → ℕ} {hke : ∀ b, ∀ a, ke b a + T512x128.size a ≤ T8192x128.size a}
    {ve : Fin 4 → Fin 3 → ℕ} {hve : ∀ b, ∀ a, ve b a + T1x128x512.size a ≤ T1x128x8192.size a} {Ψ : PUnit → sProp 𝕄}
    (hb : ∀ t, body t ⟨⟩ = trip q k v m l a s (ko t) (hk t) (vo t) (hv t)) (h2 : lp2.trips = 0)
    (hc : cond = 1#1) (hl : last hc = tail q k v m l a s nb ke hke ve hve) :
    iprop(HeldAll c q k v m l a s X K V σ ∗ Held (c : Thread nD τ) lm p ∗ Held (c : Thread nD τ) sb g ∗ Held (c : Thread nD τ) o O)
      ⊢ iprop((HeldAll c q k v m l a s X K V (effAttn nb K X V lp.trips ko hk vo hv ke hke ve hve σ)
          ∗ Held (c : Thread nD τ) lm p ∗ Held (c : Thread nD τ) sb g ∗ Held (c : Thread nD τ) o (effOuts p g (effAttn nb K X V lp.trips ko hk vo hv ke hke ve hve σ) O) -∗ Ψ ⟨⟩)
        -∗ wp frame (wpE defs 𝒱 (c : Thread nD τ) bd) E (attn q k lm sb o m l a s ho nb lp ok body lp2 ok2 body2 cond last) Ψ : sProp 𝕄) := by
  iintro ⟨HA, HP, HG, HO⟩ HW
  unfold HeldAll
  icases HA with ⟨HK, HX, HV, HS⟩
  unfold attn
  iapply wp_init $$ HS
  iintro HS
  rw [wp_bind]
  unfold mid
  iapply wp_scoresAt $$ [$HK $HX $HS]
  iintro ⟨HK, HX, HS⟩
  iapply Scf.wp_for_bind (I := fun n _ => HeldAll c q k v m l a s X K V
    (effLoop (fun t => effTrip K X V (ko t) (hk t) (vo t) (hv t)) (effScoresAt K X ![0, 0] in_k0 0 0 (effInit nb σ)) n))
    (hbody := fun t _ => by
      rw [show body t _ = _ from hb t]
      iintro HA
      iapply wp_trip $$ HA
      iintro HA
      have e : effLoop (fun t => effTrip K X V (ko t) (hk t) (vo t) (hv t)) (effScoresAt K X ![0, 0] in_k0 0 0 (effInit nb σ)) (t.val + 1)
        = effTrip K X V (ko t) (hk t) (vo t) (hv t) (effLoop (fun t => effTrip K X V (ko t) (hk t) (vo t) (hv t)) (effScoresAt K X ![0, 0] in_k0 0 0 (effInit nb σ)) t.val) := by
        show (if h : t.val < lp.trips then _ else _) = _
        rw [dif_pos t.isLt]
      rw [e]
      iexact HA) $$ [HK HX HV HS]
  · unfold HeldAll
    dsimp only [effLoop]
    iframe
  iintro %u HA
  rw [Scf.for_trips0_bind lp2 ok2 h2, dif_pos hc, hl, wp_bind]
  iapply wp_tail $$ HA
  iintro HA
  iapply wp_done
  unfold HeldAll fin
  icases HA with ⟨HK, HX, HV, HS⟩
  iapply wp_ld $$ HP
  iintro HP
  dsimp only [Prog.bind]
  iapply wp_out $$ [$HS $HG $HO]
  iintro ⟨HS, HG, HO⟩
  iapply wp_out $$ [$HS $HG $HO]
  iintro ⟨HS, HG, HO⟩
  iapply wp_out $$ [$HS $HG $HO]
  iintro ⟨HS, HG, HO⟩
  iapply wp_out $$ [$HS $HG $HO]
  iintro ⟨HS, HG, HO⟩
  iapply wp_done
  rw [show VecWindow.window (s := T4x64) p ![0, 0] T4x64.size in_T4x64 = p from window_all p _]
  iapply HW
  unfold effOuts effAttn
  iframe

end Specs

end Cert.Diff

end

end
-- ==== Proof.DiffFlow.lean ====
/- The differential attention: what the body leaves in the output block, as a function of the blocks it reads alone: for each stream and each half of its tile, the running maximum, sum and weighted values
   after the blocks of keys taken one after the other, and the closing of each tile. -/
module

public import proofs.«01_k».proof.Proof.DiffUnits
public import proofs.«01_k».proof.Proof.Flow

@[expose] public section

noncomputable section

namespace Cert.Diff

open Cert.Attn (T256 T1x256 T1x512 T128x256 T128x512 T512x128 T512x256 T512x512 T2048x128 T1x1x256 T1x1x512 T1x128x256 T1x128x512 T1x512x256 T1x512x512 T2x512x512 T1x128x8192
  cast_s cast_v so hso hsc mo oo hoo hpk cast_v' maskAt payM payL payA Col Col.step Col.start half in_half window_off in_so so_sub vblk vals wideA wideL vblk_eq)
open Idealize.ShloMosaic

variable {F : FTy → Type} [FloatOps F]

/-- Half `h` of stream `st`, read off the scratch. -/
def col (σ : St F) (st : Fin 8) (h : Fin 2) : Col F :=
  ⟨VecWindow.window σ.m (mo st h) T1x1x256.size (hmo st h), VecWindow.window σ.l (mo st h) T1x1x256.size (hmo st h),
    VecWindow.window σ.a (mo st h) T1x128x256.size (hao st h)⟩

/-- Half `h` of the score buffer `u`. -/
def buf (σ : St F) (u h : Fin 2) : FVec F T512x256 .f32 := shapeCast T512x256 (VecWindow.window σ.s (so u h) T1x512x256.size (hsc u h) : Vec F T1x512x256 .f32) cast_s

/-- Half `h` of the scores of the block at `ko` against stream `st`. -/
def sc (K : Vec F T8192x128 .bf16) (X : Vec F T1x128x2048 .bf16) (ko : Fin 2 → ℕ) (hk : ∀ a, ko a + T512x128.size a ≤ T8192x128.size a) (st : Fin 8) (h : Fin 2) : FVec F T512x256 .f32 :=
  half (payScores st.val (VecWindow.window K ko T512x128.size hk) (VecWindow.window X (qo st) T1x128x512.size (hqo st))) h

section
variable (K : Vec F T8192x128 .bf16) (X : Vec F T1x128x2048 .bf16) (ko : Fin 2 → ℕ) (hk : ∀ a, ko a + T512x128.size a ≤ T8192x128.size a)

theorem col_scores (st : Fin 8) (u : Fin 2) (σ : St F) (st' : Fin 8) (h : Fin 2) : col (effScoresAt K X ko hk st u σ) st' h = col σ st' h := rfl

theorem buf_scores_same (st : Fin 8) (u : Fin 2) (σ : St F) (h : Fin 2) : buf (effScoresAt K X ko hk st u σ) u h = sc K X ko hk st h := by
  unfold buf sc half
  refine congrArg (fun w => shapeCast T512x256 w cast_s) ?_
  refine (VecWindow.window_put_of_inside (s := T2x512x512) _ (so u 0) T1x512x512.size (so u h) T1x512x256.size _ _ (in_so u h)).trans ?_
  exact window_off _ _ _ _ _ _ (funext (so_sub u h))

theorem buf_scores_ne (st : Fin 8) (u : Fin 2) (σ : St F) (u' h : Fin 2) (hu : u' ≠ u) : buf (effScoresAt K X ko hk st u σ) u' h = buf σ u' h := by
  unfold buf
  refine congrArg (fun w => shapeCast T512x256 w cast_s) ?_
  refine VecWindow.window_put_of_disjoint (s := T2x512x512) _ (so u 0) T1x512x512.size (so u' h) T1x512x256.size _ _ 0 ?_
  have hu' : u'.val ≠ u.val := fun e => hu (Fin.ext e)
  show u'.val + 1 ≤ u.val ∨ u.val + 1 ≤ u'.val
  omega

end

section
variable (f : FVec F T512x256 .f32 → FVec F T512x256 .f32) (vb : FVec F T128x512 .bf16)

theorem col_chunk_same (u : Fin 2) (st : Fin 8) (h : Fin 2) (σ : St F) :
    col (effChunk f vb (so u h) (hsc u h) (mo st h) (hmo st h) (hao st h) σ) st h = Col.step (f (buf σ u h)) vb (col σ st h) := by
  unfold col effChunk Col.step buf
  simp only [VecWindow.window_put_same]

theorem apart {st st' : Fin 8} {h h' : Fin 2} (hne : ¬ (st' = st ∧ h' = h)) (n : ℕ) :
    ∃ a : Fin 3, (mo st' h' a + (![1, n, 256] : Fin 3 → ℕ) a ≤ mo st h a ∨ mo st h a + (![1, n, 256] : Fin 3 → ℕ) a ≤ mo st' h' a) := by
  by_cases e : st' = st
  · have e2 : h'.val ≠ h.val := fun e2 => hne ⟨e, Fin.ext e2⟩
    refine ⟨2, ?_⟩
    show 256 * h'.val + 256 ≤ 256 * h.val ∨ 256 * h.val + 256 ≤ 256 * h'.val
    omega
  · have e2 : st'.val ≠ st.val := fun e2 => e (Fin.ext e2)
    refine ⟨0, ?_⟩
    show st'.val + 1 ≤ st.val ∨ st.val + 1 ≤ st'.val
    omega

theorem col_chunk_ne (u : Fin 2) (st : Fin 8) (h : Fin 2) (σ : St F) (st' : Fin 8) (h' : Fin 2) (hne : ¬ (st' = st ∧ h' = h)) :
    col (effChunk f vb (so u h) (hsc u h) (mo st h) (hmo st h) (hao st h) σ) st' h' = col σ st' h' := by
  obtain ⟨a1, h1⟩ := apart hne 1
  obtain ⟨a2, h2⟩ := apart hne 128
  unfold col effChunk
  refine Col.ext ?_ ?_ ?_
  · exact VecWindow.window_put_of_disjoint (s := T8x1x512) _ (mo st h) T1x1x256.size (mo st' h') T1x1x256.size _ _ a1 h1
  · exact VecWindow.window_put_of_disjoint (s := T8x1x512) _ (mo st h) T1x1x256.size (mo st' h') T1x1x256.size _ _ a1 h1
  · exact VecWindow.window_put_of_disjoint (s := T8x128x512) _ (mo st h) T1x128x256.size (mo st' h') T1x128x256.size _ _ a2 h2

end

section
variable (V : Vec F T1x128x8192 .bf16) (f : ℕ → FVec F T512x256 .f32 → FVec F T512x256 .f32) (vo : Fin 3 → ℕ) (hv : ∀ a, vo a + T1x128x512.size a ≤ T1x128x8192.size a)

theorem buf_unit (st : Fin 8) (u : Fin 2) (σ : St F) (u' h : Fin 2) : buf (effUnitAt V f vo hv st u σ) u' h = buf σ u' h := rfl

theorem col_unit_same (st : Fin 8) (u : Fin 2) (σ : St F) (h : Fin 2) : col (effUnitAt V f vo hv st u σ) st h = Col.step (f h.val (buf σ u h)) (vblk V vo hv) (col σ st h) := by
  unfold effUnitAt effUnit
  match h with
  | 0 =>
    refine (col_chunk_ne (f 1) _ u st 1 _ st 0 (by simp)).trans ?_
    exact col_chunk_same (f 0) _ u st 0 σ
  | 1 =>
    refine (col_chunk_same (f 1) _ u st 1 _).trans ?_
    exact congrArg (Col.step (f 1 (buf σ u 1)) (vblk V vo hv)) (col_chunk_ne (f 0) _ u st 0 σ st 1 (by simp))

theorem col_unit_ne (st : Fin 8) (u : Fin 2) (σ : St F) (st' : Fin 8) (h : Fin 2) (hne : st' ≠ st) : col (effUnitAt V f vo hv st u σ) st' h = col σ st' h := by
  unfold effUnitAt effUnit
  refine (col_chunk_ne (f 1) _ u st 1 _ st' h (fun e => hne e.1)).trans ?_
  exact col_chunk_ne (f 0) _ u st 0 σ st' h (fun e => hne e.1)

end

section
variable (K : Vec F T8192x128 .bf16) (X : Vec F T1x128x2048 .bf16) (V : Vec F T1x128x8192 .bf16)

theorem buf_trip (ko : Fin 3 → Fin 2 → ℕ) (hk : ∀ b, ∀ a, ko b a + T512x128.size a ≤ T8192x128.size a)
    (vo : Fin 2 → Fin 3 → ℕ) (hv : ∀ b, ∀ a, vo b a + T1x128x512.size a ≤ T1x128x8192.size a) (σ : St F) (h : Fin 2) :
    buf (effTrip K X V ko hk vo hv σ) 0 h = sc K X (ko 2) (hk 2) 0 h := by
  unfold effTrip
  simp only [buf_unit, buf_scores_same]

theorem col_trip (ko : Fin 3 → Fin 2 → ℕ) (hk : ∀ b, ∀ a, ko b a + T512x128.size a ≤ T8192x128.size a)
    (vo : Fin 2 → Fin 3 → ℕ) (hv : ∀ b, ∀ a, vo b a + T1x128x512.size a ≤ T1x128x8192.size a) (σ : St F) (st : Fin 8) (h : Fin 2)
    (hb : buf σ 0 h = sc K X (ko 0) (hk 0) 0 h) :
    col (effTrip K X V ko hk vo hv σ) st h = Col.step (sc K X (ko 1) (hk 1) st h) (vblk V (vo 1) (hv 1)) (Col.step (sc K X (ko 0) (hk 0) st h) (vblk V (vo 0) (hv 0)) (col σ st h)) := by
  unfold effTrip
  match st with
  | 0 => simp (disch := decide) only [col_scores, col_unit_same, col_unit_ne, buf_unit, buf_scores_same, buf_scores_ne, hb]
  | 1 => simp (disch := decide) only [col_scores, col_unit_same, col_unit_ne, buf_unit, buf_scores_same, buf_scores_ne, hb]
  | 2 => simp (disch := decide) only [col_scores, col_unit_same, col_unit_ne, buf_unit, buf_scores_same, buf_scores_ne, hb]
  | 3 => simp (disch := decide) only [col_scores, col_unit_same, col_unit_ne, buf_unit, buf_scores_same, buf_scores_ne, hb]
  | 4 => simp (disch := decide) only [col_scores, col_unit_same, col_unit_ne, buf_unit, buf_scores_same, buf_scores_ne, hb]
  | 5 => simp (disch := decide) only [col_scores, col_unit_same, col_unit_ne, buf_unit, buf_scores_same, buf_scores_ne, hb]
  | 6 => simp (disch := decide) only [col_scores, col_unit_same, col_unit_ne, buf_unit, buf_scores_same, buf_scores_ne, hb]
  | 7 => simp (disch := decide) only [col_scores, col_unit_same, col_unit_ne, buf_unit, buf_scores_same, buf_scores_ne, hb]

/-- The key block number `n` (of sixteen). -/
def keys (n : ℕ) : Vec F T512x128 .bf16 := fun i => K (ix2 (⟨(512 * n + (i 0).val) % 8192, Nat.mod_lt _ (by decide)⟩ : Fin 8192) (i 1 : Fin 128))

/-- Half `h` of the scores of the key block `n` against stream `st`. -/
def scN (n : ℕ) (st : Fin 8) (h : Fin 2) : FVec F T512x256 .f32 :=
  half (payScores st.val (keys K n) (VecWindow.window X (qo st) T1x128x512.size (hqo st))) h

theorem sc_eq (ko : Fin 2 → ℕ) (hk : ∀ a, ko a + T512x128.size a ≤ T8192x128.size a) (n : ℕ) (e : ko = ![512 * n, 0]) (st : Fin 8) (h : Fin 2) :
    sc K X ko hk st h = scN K X n st h := by
  subst e
  unfold sc scN
  refine congrArg (fun w => half (payScores st.val w _) h) ?_
  funext i
  unfold keys VecWindow.window
  have hn : 512 * n + 512 ≤ 8192 := hk 0
  have hi : (i 0).val < 512 := (i 0).isLt
  refine congrArg K (funext fun a => Fin.ext ?_)
  match a with
  | 0 =>
    show 512 * n + 1 * (i 0).val = (512 * n + (i 0).val) % 8192
    omega
  | 1 =>
    show 0 + 1 * (i 1).val = (i 1).val
    omega

/-- The running values of half `h` of stream `st` after the first `n` blocks, each taken whole. -/
def run (nb : F .f32) (st : Fin 8) (h : Fin 2) : ℕ → Col F
  | 0 => Col.start nb
  | n + 1 => Col.step (scN K X n st h) (vals V n) (run nb st h n)

/-- The running values after the `p`-th step's diagonal block too, masked inside it. -/
def ends (nb : F .f32) (p : ℕ) (st : Fin 8) (h : Fin 2) : Col F :=
  Col.step (maskAt nb (BitVec.ofNat 32 (256 * h.val)) (scN K X (4 * p + st.val / 2) st h)) (vals V (4 * p + st.val / 2)) (run K X V nb st h (4 * p + st.val / 2))

theorem col_tail (nb : F .f32) (ko : Fin 4 → Fin 2 → ℕ) (hk : ∀ b, ∀ a, ko b a + T512x128.size a ≤ T8192x128.size a)
    (vo : Fin 4 → Fin 3 → ℕ) (hv : ∀ b, ∀ a, vo b a + T1x128x512.size a ≤ T1x128x8192.size a) (σ : St F) (p : ℕ)
    (ek : ∀ b, ko b = ![512 * (4 * p + b.val), 0]) (ev : ∀ b, vo b = ![0, 0, 512 * (4 * p + b.val)]) (st : Fin 8) (h : Fin 2)
    (hb : buf σ 0 h = scN K X (4 * p) 0 h) (hc : col σ st h = run K X V nb st h (4 * p)) :
    col (effTail nb K X V ko hk vo hv σ) st h = ends K X V nb p st h := by
  have s0 : ∀ st, sc K X (ko 0) (hk 0) st h = scN K X (4 * p) st h := fun st => sc_eq K X _ _ _ (ek 0) st h
  have s1 : ∀ st, sc K X (ko 1) (hk 1) st h = scN K X (4 * p + 1) st h := fun st => sc_eq K X _ _ _ (ek 1) st h
  have s2 : ∀ st, sc K X (ko 2) (hk 2) st h = scN K X (4 * p + 2) st h := fun st => sc_eq K X _ _ _ (ek 2) st h
  have s3 : ∀ st, sc K X (ko 3) (hk 3) st h = scN K X (4 * p + 3) st h := fun st => sc_eq K X _ _ _ (ek 3) st h
  have v0 : vblk V (vo 0) (hv 0) = vals V (4 * p) := vblk_eq V _ _ _ (ev 0)
  have v1 : vblk V (vo 1) (hv 1) = vals V (4 * p + 1) := vblk_eq V _ _ _ (ev 1)
  have v2 : vblk V (vo 2) (hv 2) = vals V (4 * p + 2) := vblk_eq V _ _ _ (ev 2)
  have v3 : vblk V (vo 3) (hv 3) = vals V (4 * p + 3) := vblk_eq V _ _ _ (ev 3)
  unfold effTail
  match st, hc with
  | 0, hc => simp (disch := decide) only [col_scores, col_unit_same, col_unit_ne, buf_unit, buf_scores_same, buf_scores_ne, hb, hc, s0, s1, s2, s3, v0, v1, v2, v3]; rfl
  | 1, hc => simp (disch := decide) only [col_scores, col_unit_same, col_unit_ne, buf_unit, buf_scores_same, buf_scores_ne, hb, hc, s0, s1, s2, s3, v0, v1, v2, v3]; rfl
  | 2, hc => simp (disch := decide) only [col_scores, col_unit_same, col_unit_ne, buf_unit, buf_scores_same, buf_scores_ne, hb, hc, s0, s1, s2, s3, v0, v1, v2, v3]; rfl
  | 3, hc => simp (disch := decide) only [col_scores, col_unit_same, col_unit_ne, buf_unit, buf_scores_same, buf_scores_ne, hb, hc, s0, s1, s2, s3, v0, v1, v2, v3]; rfl
  | 4, hc => simp (disch := decide) only [col_scores, col_unit_same, col_unit_ne, buf_unit, buf_scores_same, buf_scores_ne, hb, hc, s0, s1, s2, s3, v0, v1, v2, v3]; rfl
  | 5, hc => simp (disch := decide) only [col_scores, col_unit_same, col_unit_ne, buf_unit, buf_scores_same, buf_scores_ne, hb, hc, s0, s1, s2, s3, v0, v1, v2, v3]; rfl
  | 6, hc => simp (disch := decide) only [col_scores, col_unit_same, col_unit_ne, buf_unit, buf_scores_same, buf_scores_ne, hb, hc, s0, s1, s2, s3, v0, v1, v2, v3]; rfl
  | 7, hc => simp (disch := decide) only [col_scores, col_unit_same, col_unit_ne, buf_unit, buf_scores_same, buf_scores_ne, hb, hc, s0, s1, s2, s3, v0, v1, v2, v3]; rfl

theorem in_mo : ∀ (st : Fin 8) (h : Fin 2) (a : Fin 3), (![0, 0, 0] : Fin 3 → ℕ) a ≤ mo st h a ∧ mo st h a + T1x1x256.size a ≤ (![0, 0, 0] : Fin 3 → ℕ) a + T8x1x512.size a := by decide
theorem in_ao : ∀ (st : Fin 8) (h : Fin 2) (a : Fin 3), (![0, 0, 0] : Fin 3 → ℕ) a ≤ mo st h a ∧ mo st h a + T1x128x256.size a ≤ (![0, 0, 0] : Fin 3 → ℕ) a + T8x128x512.size a := by decide

theorem col_init (nb : F .f32) (σ : St F) (st : Fin 8) (h : Fin 2) : col (effInit nb σ) st h = Col.start nb := by
  unfold effInit col
  refine Col.ext ?_ ?_ ?_
  · exact (VecWindow.window_put_of_inside (s := T8x1x512) _ ![0, 0, 0] T8x1x512.size (mo st h) T1x1x256.size _ _ (in_mo st h)).trans rfl
  · exact (VecWindow.window_put_of_inside (s := T8x1x512) _ ![0, 0, 0] T8x1x512.size (mo st h) T1x1x256.size _ _ (in_mo st h)).trans rfl
  · exact (VecWindow.window_put_of_inside (s := T8x128x512) _ ![0, 0, 0] T8x128x512.size (mo st h) T1x128x256.size _ _ (in_ao st h)).trans rfl

theorem col_attn (nb : F .f32) (N : ℕ)
    (ko : Fin N → Fin 3 → Fin 2 → ℕ) (hk : ∀ t b, ∀ a, ko t b a + T512x128.size a ≤ T8192x128.size a)
    (vo : Fin N → Fin 2 → Fin 3 → ℕ) (hv : ∀ t b, ∀ a, vo t b a + T1x128x512.size a ≤ T1x128x8192.size a)
    (ke : Fin 4 → Fin 2 → ℕ) (hke : ∀ b, ∀ a, ke b a + T512x128.size a ≤ T8192x128.size a)
    (ve : Fin 4 → Fin 3 → ℕ) (hve : ∀ b, ∀ a, ve b a + T1x128x512.size a ≤ T1x128x8192.size a) (σ : St F)
    (eko : ∀ t b, ko t b = ![512 * (2 * t.val + b.val), 0]) (evo : ∀ t b, vo t b = ![0, 0, 512 * (2 * t.val + b.val)])
    (p : ℕ) (hp : 2 * N = 4 * p) (eke : ∀ b, ke b = ![512 * (4 * p + b.val), 0]) (eve : ∀ b, ve b = ![0, 0, 512 * (4 * p + b.val)]) (st : Fin 8) (h : Fin 2) :
    col (effAttn nb K X V N ko hk vo hv ke hke ve hve σ) st h = ends K X V nb p st h := by
  have key : ∀ n, n ≤ N → (∀ h, buf (effLoop (fun t => effTrip K X V (ko t) (hk t) (vo t) (hv t)) (effScoresAt K X ![0, 0] in_k0 0 0 (effInit nb σ)) n) 0 h = scN K X (2 * n) 0 h)
      ∧ ∀ st h, col (effLoop (fun t => effTrip K X V (ko t) (hk t) (vo t) (hv t)) (effScoresAt K X ![0, 0] in_k0 0 0 (effInit nb σ)) n) st h = run K X V nb st h (2 * n) := by
    intro n
    induction n with
    | zero =>
      intro _
      refine ⟨fun h => ?_, fun st h => ?_⟩
      · exact (buf_scores_same K X _ _ 0 0 _ h).trans (sc_eq K X _ _ 0 rfl 0 h)
      · exact (col_scores K X _ _ 0 0 _ st h).trans (col_init nb σ st h)
    | succ n ih =>
      intro hn
      obtain ⟨ib, ic⟩ := ih (by omega)
      have hlt : n < N := by omega
      have e : effLoop (fun t => effTrip K X V (ko t) (hk t) (vo t) (hv t)) (effScoresAt K X ![0, 0] in_k0 0 0 (effInit nb σ)) (n + 1)
          = effTrip K X V (ko ⟨n, hlt⟩) (hk ⟨n, hlt⟩) (vo ⟨n, hlt⟩) (hv ⟨n, hlt⟩) (effLoop (fun t => effTrip K X V (ko t) (hk t) (vo t) (hv t)) (effScoresAt K X ![0, 0] in_k0 0 0 (effInit nb σ)) n) := by
        simp only [effLoop, dif_pos hlt]
      rw [e]
      refine ⟨fun h => ?_, fun st h => ?_⟩
      · rw [buf_trip]
        exact sc_eq K X _ _ _ (eko ⟨n, hlt⟩ 2) 0 h
      · rw [col_trip K X V _ _ _ _ _ st h ((ib h).trans (sc_eq K X _ _ _ (eko ⟨n, hlt⟩ 0) 0 h).symm), ic st h]
        rw [sc_eq K X _ _ _ (eko ⟨n, hlt⟩ 0) st h, sc_eq K X _ _ _ (eko ⟨n, hlt⟩ 1) st h, vblk_eq V _ _ _ (evo ⟨n, hlt⟩ 0), vblk_eq V _ _ _ (evo ⟨n, hlt⟩ 1)]
        rfl
  obtain ⟨ib, ic⟩ := key N le_rfl
  rw [hp] at ib ic
  exact col_tail K X V nb ke hke ve hve _ p eke eve st h (ib h) (ic st h)

end

/-- The output block, from the halves of the eight streams. -/
def outs (P : Vec F T4x64 .f32) (G : Vec F T1x128 .f32) (c : Fin 8 → Fin 2 → Col F) : Vec F T2048x128 .bf16 := fun j =>
  payOut P G (wideA (c ⟨2 * ((j 0).val / 512), (by have : (j 0).val < 2048 := (j 0).isLt; omega : 2 * ((j 0).val / 512) < 8)⟩))
    (wideL (c ⟨2 * ((j 0).val / 512), (by have : (j 0).val < 2048 := (j 0).isLt; omega : 2 * ((j 0).val / 512) < 8)⟩))
    (wideA (c ⟨2 * ((j 0).val / 512) + 1, (by have : (j 0).val < 2048 := (j 0).isLt; omega : 2 * ((j 0).val / 512) + 1 < 8)⟩))
    (wideL (c ⟨2 * ((j 0).val / 512) + 1, (by have : (j 0).val < 2048 := (j 0).isLt; omega : 2 * ((j 0).val / 512) + 1 < 8)⟩))
    (ix2 (⟨(j 0).val % 512, Nat.mod_lt _ (by decide)⟩ : Fin 512) (j 1 : Fin 128))

theorem wideA_col (σ : St F) (st : Fin 8) : VecWindow.window σ.a (mo st 0) T1x128x512.size (hae st) = wideA (col σ st) := by
  funext i
  unfold wideA col VecWindow.window
  have hi : (i 2).val < 512 := (i 2).isLt
  have h0 : (i 0).val < 1 := (i 0).isLt
  refine congrArg σ.a (funext fun a => Fin.ext ?_)
  match a with
  | 0 =>
    show st.val + 1 * (i 0).val = st.val + 1 * 0
    omega
  | 1 => rfl
  | 2 =>
    show 256 * 0 + 1 * (i 2).val = 256 * ((i 2).val / 256) + 1 * ((i 2).val % 256)
    omega

theorem wideL_col (σ : St F) (st : Fin 8) : VecWindow.window σ.l (mo st 0) T1x1x512.size (hme st) = wideL (col σ st) := by
  funext i
  unfold wideL col VecWindow.window
  have hi : (i 2).val < 512 := (i 2).isLt
  have h0 : (i 0).val < 1 := (i 0).isLt
  have h1 : (i 1).val < 1 := (i 1).isLt
  refine congrArg σ.l (funext fun a => Fin.ext ?_)
  match a with
  | 0 =>
    show st.val + 1 * (i 0).val = st.val + 1 * 0
    omega
  | 1 =>
    show 0 + 1 * (i 1).val = 0 + 1 * 0
    omega
  | 2 =>
    show 256 * 0 + 1 * (i 2).val = 256 * ((i 2).val / 256) + 1 * ((i 2).val % 256)
    omega

section
variable (P : Vec F T4x64 .f32) (G : Vec F T1x128 .f32)

theorem effOut_hit (σ : St F) (t : Fin 4) (s0 s1 : Fin 8) (h0 : s0.val = 2 * t.val) (h1 : s1.val = 2 * t.val + 1) (O : Vec F T2048x128 .bf16) (j : T2048x128.Idx) (h : (j 0).val / 512 = t.val) :
    effOut P G σ t s0 s1 O j = outs P G (col σ) j := by
  have hj : (j 0).val < 2048 := (j 0).isLt
  have hj1 : (j 1).val < 128 := (j 1).isLt
  have e0 : (⟨2 * ((j 0).val / 512), (by omega : 2 * ((j 0).val / 512) < 8)⟩ : Fin 8) = s0 := Fin.ext (by show 2 * ((j 0).val / 512) = s0.val; omega)
  have e1 : (⟨2 * ((j 0).val / 512) + 1, (by omega : 2 * ((j 0).val / 512) + 1 < 8)⟩ : Fin 8) = s1 := Fin.ext (by show 2 * ((j 0).val / 512) + 1 = s1.val; omega)
  have hin : ∀ a, oo t a ≤ (j a).val ∧ (j a).val < oo t a + T512x128.size a := by
    intro a
    match a with
    | 0 => show 512 * t.val ≤ (j 0).val ∧ (j 0).val < 512 * t.val + 512; omega
    | 1 => show 0 ≤ (j 1).val ∧ (j 1).val < 0 + 128; omega
  unfold effOut outs
  rw [wideA_col, wideL_col, wideA_col, wideL_col, e0, e1]
  refine (dif_pos hin).trans ?_
  refine congrArg _ (funext fun a => Fin.ext ?_)
  match a with
  | 0 => show (j 0).val - 512 * t.val = (j 0).val % 512; omega
  | 1 => show (j 1).val - 0 = (j 1).val; omega

theorem effOut_miss (σ : St F) (t : Fin 4) (s0 s1 : Fin 8) (O : Vec F T2048x128 .bf16) (j : T2048x128.Idx) (h : (j 0).val / 512 ≠ t.val) : effOut P G σ t s0 s1 O j = O j := by
  unfold effOut
  refine dif_neg fun hin => ?_
  have h0 : 512 * t.val ≤ (j 0).val ∧ (j 0).val < 512 * t.val + 512 := hin 0
  omega

/-- The output block does not depend on what the output buffer held, nor on the scratch beyond the halves of its streams. -/
theorem effOuts_eq (σ : St F) (O : Vec F T2048x128 .bf16) : effOuts P G σ O = outs P G (col σ) := by
  funext j
  have hj : (j 0).val < 2048 := (j 0).isLt
  unfold effOuts
  by_cases h3 : (j 0).val / 512 = 3
  · exact effOut_hit P G σ 3 6 7 rfl rfl _ j h3
  rw [effOut_miss P G σ 3 6 7 _ j h3]
  by_cases h2 : (j 0).val / 512 = 2
  · exact effOut_hit P G σ 2 4 5 rfl rfl _ j h2
  rw [effOut_miss P G σ 2 4 5 _ j h2]
  by_cases h1 : (j 0).val / 512 = 1
  · exact effOut_hit P G σ 1 2 3 rfl rfl _ j h1
  rw [effOut_miss P G σ 1 2 3 _ j h1]
  exact effOut_hit P G σ 0 0 1 rfl rfl _ j (by show _ = 0; omega)

end

end Cert.Diff

end
-- ==== Proof.DiffProgI.lean ====
/- The differential attention's printed body as the attention program of DiffUnits.lean. -/
module

public import proofs.«01_k».proof.Kernel5Ideal
public import proofs.«01_k».proof.Proof.Gen.Kernel5Ideal
public import proofs.«01_k».proof.Proof.DiffUnits

@[expose] public section

set_option maxRecDepth 65536

noncomputable section

namespace Cert.Kernel5Ideal.Hand

open Cert.Kernel5Ideal
open Idealize.ShloMosaic Idealize.SL.Sem

variable {F : FTy → Type} [FloatOps F] [Named F] [Facts]

open Facts₀ Facts

/-- One trip of the loop over whole blocks. -/
def t1b (i : grid0.Coords) (arg2 : Memref sig .tc .vmem S1x128x2048 .bf16) (harg2 : arg2.IsWhole) (arg3 : Memref sig .tc .vmem S8192x128 .bf16) (harg3 : arg3.IsWhole) (arg4 : Memref sig .tc .vmem S1x128x8192 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x128x512 .f32) (harg10 : arg10.IsWhole) (arg11 : Memref sig .tc .vmem S2x512x512 .f32) (harg11 : arg11.IsWhole) : Fin (k0_t1_loop i).trips → PUnit → Prog (TpuEff nD τ sig (Elt F) Λ₀ .tc) PUnit :=
  have c0_i32_38 : BitVec 32 := 0#32
  have c1_i32_40 : BitVec 32 := 1#32
  fun k0_t1 _ => do
    let ⟨v228, v229, v230, v251, v253, v258, v259⟩ : Σ' (v228 : BitVec 32) (v229 : BitVec 32) (v230 : BitVec 32) (v251 : FVec F S128x512 .bf16) (v253 : FVec F S512x256 .f32) (v258 : FVec F S1x256 .f32), FVec F S1x256 .f32 ← k0_part1 i arg2 harg2 arg3 harg3 arg4 harg4 arg5 harg5 arg6 harg6 arg7 harg7 arg8 harg8 arg9 harg9 arg10 harg10 arg11 harg11 c0_i32_38 c1_i32_40 k0_t1
    let ⟨v287, v289, v292⟩ : Σ' (v287 : FVec F S512x256 .f32) (v289 : FVec F S1x256 .f32), FVec F S1x256 .f32 ← k0_part2 i arg2 harg2 arg3 harg3 arg4 harg4 arg5 harg5 arg6 harg6 arg7 harg7 arg8 harg8 arg9 harg9 arg10 harg10 arg11 harg11 v251 v253 v258 v259
    let ⟨v324, v326, v327⟩ : Σ' (v324 : FVec F S512x128 .bf16) (v326 : FVec F S128x512 .bf16), IVec S128x512 32 ← k0_part3 i arg2 harg2 arg3 harg3 arg4 harg4 arg5 harg5 arg6 harg6 arg7 harg7 arg8 harg8 arg9 harg9 arg10 harg10 arg11 harg11 k0_t1 v228 v251 v287 v289 v292
    let ⟨v340, v349, v355, v361⟩ : Σ' (v340 : FVec F S128x512 .bf16) (v349 : FVec F S1x256 .f32) (v355 : FVec F S512x256 .f32), FVec F S1x256 .f32 ← k0_part4 i arg2 harg2 arg3 harg3 arg4 harg4 arg5 harg5 arg6 harg6 arg7 harg7 arg8 harg8 arg9 harg9 arg10 harg10 arg11 harg11 k0_t1 v228 v324 v326 v327
    let ⟨v383, v389, v395⟩ : Σ' (v383 : FVec F S1x256 .f32) (v389 : FVec F S512x256 .f32), FVec F S1x256 .f32 ← k0_part5 i arg2 harg2 arg3 harg3 arg4 harg4 arg5 harg5 arg6 harg6 arg7 harg7 arg8 harg8 arg9 harg9 arg10 harg10 arg11 harg11 v340 v349 v355 v361
    let v428 : Vec F S1x128x512 .bf16 ← k0_part6 i arg2 harg2 arg3 harg3 arg4 harg4 arg5 harg5 arg6 harg6 arg7 harg7 arg8 harg8 arg9 harg9 arg10 harg10 arg11 harg11 k0_t1 v228 v340 v383 v389 v395
    let ⟨v429, v460⟩ : Σ' (v429 : FVec F S128x512 .bf16), FVec F S128x256 .f32 ← k0_part7 i arg2 harg2 arg3 harg3 arg4 harg4 arg5 harg5 arg6 harg6 arg7 harg7 arg8 harg8 arg9 harg9 arg10 harg10 arg11 harg11 v428
    let ⟨v494, v495⟩ : Σ' (v494 : FVec F S128x256 .f32), Vec F S1x128x256 .f32 ← k0_part8 i arg2 harg2 arg3 harg3 arg4 harg4 arg5 harg5 arg6 harg6 arg7 harg7 arg8 harg8 arg9 harg9 arg10 harg10 arg11 harg11 v429 v460
    let ⟨v518, v520, v525, v527⟩ : Σ' (v518 : FVec F S128x512 .bf16) (v520 : FVec F S512x256 .f32) (v525 : FVec F S1x256 .f32), FVec F S1x256 .f32 ← k0_part9 i arg2 harg2 arg3 harg3 arg4 harg4 arg5 harg5 arg6 harg6 arg7 harg7 arg8 harg8 arg9 harg9 arg10 harg10 arg11 harg11 k0_t1 v228 v494 v495
    let ⟨v554, v559, v561, v562⟩ : Σ' (v554 : FVec F S512x256 .f32) (v559 : FVec F S1x256 .f32) (v561 : FVec F S1x256 .f32), Vec F S1x1x256 .f32 ← k0_part10 i arg2 harg2 arg3 harg3 arg4 harg4 arg5 harg5 arg6 harg6 arg7 harg7 arg8 harg8 arg9 harg9 arg10 harg10 arg11 harg11 v518 v520 v525 v527
    let ⟨v591, v598⟩ : Σ' (v591 : FVec F S512x128 .bf16), FVec F S128x512 .bf16 ← k0_part11 i arg2 harg2 arg3 harg3 arg4 harg4 arg5 harg5 arg6 harg6 arg7 harg7 arg8 harg8 arg9 harg9 arg10 harg10 arg11 harg11 k0_t1 v228 v518 v554 v559 v561 v562
    let ⟨v607, v616, v622⟩ : Σ' (v607 : FVec F S128x512 .bf16) (v616 : FVec F S1x256 .f32), FVec F S512x256 .f32 ← k0_part12 i arg2 harg2 arg3 harg3 arg4 harg4 arg5 harg5 arg6 harg6 arg7 harg7 arg8 harg8 arg9 harg9 arg10 harg10 arg11 harg11 k0_t1 v228 v591 v598
    let ⟨v650, v656, v665⟩ : Σ' (v650 : FVec F S1x256 .f32) (v656 : FVec F S512x256 .f32), FVec F S1x1x256 .f32 ← k0_part13 i arg2 harg2 arg3 harg3 arg4 harg4 arg5 harg5 arg6 harg6 arg7 harg7 arg8 harg8 arg9 harg9 arg10 harg10 arg11 harg11 v607 v616 v622
    let ⟨v696, v698⟩ : Σ' (v696 : FVec F S128x512 .bf16), FVec F S512x256 .f32 ← k0_part14 i arg2 harg2 arg3 harg3 arg4 harg4 arg5 harg5 arg6 harg6 arg7 harg7 arg8 harg8 arg9 harg9 arg10 harg10 arg11 harg11 k0_t1 v228 v607 v650 v656 v665
    let v731 : Vec F S1x512x256 .f32 ← k0_part15 i arg2 harg2 arg3 harg3 arg4 harg4 arg5 harg5 arg6 harg6 arg7 harg7 arg8 harg8 arg9 harg9 arg10 harg10 arg11 harg11 v696 v698
    let v766 : BitVec 32 ← k0_part16 i arg2 harg2 arg3 harg3 arg4 harg4 arg5 harg5 arg6 harg6 arg7 harg7 arg8 harg8 arg9 harg9 arg10 harg10 arg11 harg11 v228 v696 v731
    let ⟨v785, v794, v800⟩ : Σ' (v785 : FVec F S128x512 .bf16) (v794 : FVec F S1x256 .f32), FVec F S512x256 .f32 ← k0_part17 i arg2 harg2 arg3 harg3 arg4 harg4 arg5 harg5 arg6 harg6 arg7 harg7 arg8 harg8 arg9 harg9 arg10 harg10 arg11 harg11 k0_t1 v228 v766
    let ⟨v828, v834⟩ : Σ' (v828 : FVec F S1x256 .f32), FVec F S512x256 .f32 ← k0_part18 i arg2 harg2 arg3 harg3 arg4 harg4 arg5 harg5 arg6 harg6 arg7 harg7 arg8 harg8 arg9 harg9 arg10 harg10 arg11 harg11 v785 v794 v800
    let ⟨v866, v867⟩ : Σ' (v866 : FVec F S512x512 .f32), Vec F S1x512x512 .f32 ← k0_part19 i arg2 harg2 arg3 harg3 arg4 harg4 arg5 harg5 arg6 harg6 arg7 harg7 arg8 harg8 arg9 harg9 arg10 harg10 arg11 harg11 k0_t1 v229 v785 v828 v834
    let ⟨v874, v889, v900, v901⟩ : Σ' (v874 : FVec F S128x512 .bf16) (v889 : FVec F S512x256 .f32) (v900 : FVec F S128x256 .f32), FVec F S128x256 .f32 ← k0_part20 i arg2 harg2 arg3 harg3 arg4 harg4 arg5 harg5 arg6 harg6 arg7 harg7 arg8 harg8 arg9 harg9 arg10 harg10 arg11 harg11 k0_t1 v228 v866 v867
    let ⟨v917, v923, v934⟩ : Σ' (v917 : FVec F S1x256 .f32) (v923 : FVec F S512x256 .f32), FVec F S128x256 .f32 ← k0_part21 i arg2 harg2 arg3 harg3 arg4 harg4 arg5 harg5 arg6 harg6 arg7 harg7 arg8 harg8 arg9 harg9 arg10 harg10 arg11 harg11 v874 v889 v900 v901
    let ⟨v963, v965, v967⟩ : Σ' (v963 : FVec F S128x512 .bf16) (v965 : FVec F S512x256 .f32), FVec F S1x256 .f32 ← k0_part22 i arg2 harg2 arg3 harg3 arg4 harg4 arg5 harg5 arg6 harg6 arg7 harg7 arg8 harg8 arg9 harg9 arg10 harg10 arg11 harg11 k0_t1 v229 v874 v917 v923 v934
    let ⟨v999, v1001⟩ : Σ' (v999 : FVec F S512x256 .f32), FVec F S1x256 .f32 ← k0_part23 i arg2 harg2 arg3 harg3 arg4 harg4 arg5 harg5 arg6 harg6 arg7 harg7 arg8 harg8 arg9 harg9 arg10 harg10 arg11 harg11 v963 v965 v967
    let v1036 : FVec F S512x128 .bf16 ← k0_part24 i arg2 harg2 arg3 harg3 arg4 harg4 arg5 harg5 arg6 harg6 arg7 harg7 arg8 harg8 arg9 harg9 arg10 harg10 arg11 harg11 k0_t1 v229 v963 v999 v1001
    let ⟨v1052, v1061, v1067, v1070⟩ : Σ' (v1052 : FVec F S128x512 .bf16) (v1061 : FVec F S1x256 .f32) (v1067 : FVec F S512x256 .f32), FVec F S1x256 .f32 ← k0_part25 i arg2 harg2 arg3 harg3 arg4 harg4 arg5 harg5 arg6 harg6 arg7 harg7 arg8 harg8 arg9 harg9 arg10 harg10 arg11 harg11 k0_t1 v229 v1036
    let ⟨v1095, v1101, v1104⟩ : Σ' (v1095 : FVec F S1x256 .f32) (v1101 : FVec F S512x256 .f32), FVec F S1x256 .f32 ← k0_part26 i arg2 harg2 arg3 harg3 arg4 harg4 arg5 harg5 arg6 harg6 arg7 harg7 arg8 harg8 arg9 harg9 arg10 harg10 arg11 harg11 v1052 v1061 v1067 v1070
    let v1138 : BitVec 32 ← k0_part27 i arg2 harg2 arg3 harg3 arg4 harg4 arg5 harg5 arg6 harg6 arg7 harg7 arg8 harg8 arg9 harg9 arg10 harg10 arg11 harg11 k0_t1 v229 v1052 v1095 v1101 v1104
    let ⟨v1141, v1172⟩ : Σ' (v1141 : FVec F S128x512 .bf16), FVec F S128x256 .f32 ← k0_part28 i arg2 harg2 arg3 harg3 arg4 harg4 arg5 harg5 arg6 harg6 arg7 harg7 arg8 harg8 arg9 harg9 arg10 harg10 arg11 harg11 k0_t1 v1138
    let v1206 : FVec F S128x256 .f32 ← k0_part29 i arg2 harg2 arg3 harg3 arg4 harg4 arg5 harg5 arg6 harg6 arg7 harg7 arg8 harg8 arg9 harg9 arg10 harg10 arg11 harg11 v1141 v1172
    let ⟨v1230, v1232, v1237, v1239⟩ : Σ' (v1230 : FVec F S128x512 .bf16) (v1232 : FVec F S512x256 .f32) (v1237 : FVec F S1x256 .f32), FVec F S1x256 .f32 ← k0_part30 i arg2 harg2 arg3 harg3 arg4 harg4 arg5 harg5 arg6 harg6 arg7 harg7 arg8 harg8 arg9 harg9 arg10 harg10 arg11 harg11 k0_t1 v229 v1206
    let ⟨v1266, v1271, v1273⟩ : Σ' (v1266 : FVec F S512x256 .f32) (v1271 : FVec F S1x256 .f32), FVec F S1x256 .f32 ← k0_part31 i arg2 harg2 arg3 harg3 arg4 harg4 arg5 harg5 arg6 harg6 arg7 harg7 arg8 harg8 arg9 harg9 arg10 harg10 arg11 harg11 v1230 v1232 v1237 v1239
    let ⟨v1303, v1305, v1306, v1307⟩ : Σ' (v1303 : FVec F S512x128 .bf16) (v1305 : FVec F S128x512 .bf16) (v1306 : IVec S128x512 32), IVec S128x512 32 ← k0_part32 i arg2 harg2 arg3 harg3 arg4 harg4 arg5 harg5 arg6 harg6 arg7 harg7 arg8 harg8 arg9 harg9 arg10 harg10 arg11 harg11 k0_t1 v229 v1230 v1266 v1271 v1273
    let ⟨v1319, v1328, v1334, v1340⟩ : Σ' (v1319 : FVec F S128x512 .bf16) (v1328 : FVec F S1x256 .f32) (v1334 : FVec F S512x256 .f32), FVec F S1x256 .f32 ← k0_part33 i arg2 harg2 arg3 harg3 arg4 harg4 arg5 harg5 arg6 harg6 arg7 harg7 arg8 harg8 arg9 harg9 arg10 harg10 arg11 harg11 k0_t1 v229 v1303 v1305 v1306 v1307
    let ⟨v1362, v1368, v1374⟩ : Σ' (v1362 : FVec F S1x256 .f32) (v1368 : FVec F S512x256 .f32), FVec F S1x256 .f32 ← k0_part34 i arg2 harg2 arg3 harg3 arg4 harg4 arg5 harg5 arg6 harg6 arg7 harg7 arg8 harg8 arg9 harg9 arg10 harg10 arg11 harg11 v1319 v1328 v1334 v1340
    let v1408 : FVec F S128x512 .bf16 ← k0_part35 i arg2 harg2 arg3 harg3 arg4 harg4 arg5 harg5 arg6 harg6 arg7 harg7 arg8 harg8 arg9 harg9 arg10 harg10 arg11 harg11 k0_t1 v229 v1319 v1362 v1368 v1374
    k0_part36 i arg2 harg2 arg3 harg3 arg4 harg4 arg5 harg5 arg6 harg6 arg7 harg7 arg8 harg8 arg9 harg9 arg10 harg10 arg11 harg11 v1408
    let v1476 : FVec F S1x128x256 .f32 ← k0_part37 i arg2 harg2 arg3 harg3 arg4 harg4 arg5 harg5 arg6 harg6 arg7 harg7 arg8 harg8 arg9 harg9 arg10 harg10 arg11 harg11 v1408
    let ⟨v1497, v1499, v1504, v1506⟩ : Σ' (v1497 : FVec F S128x512 .bf16) (v1499 : FVec F S512x256 .f32) (v1504 : FVec F S1x256 .f32), FVec F S1x256 .f32 ← k0_part38 i arg2 harg2 arg3 harg3 arg4 harg4 arg5 harg5 arg6 harg6 arg7 harg7 arg8 harg8 arg9 harg9 arg10 harg10 arg11 harg11 k0_t1 v229 v1476
    let ⟨v1533, v1538, v1540, v1543⟩ : Σ' (v1533 : FVec F S512x256 .f32) (v1538 : FVec F S1x256 .f32) (v1540 : FVec F S1x256 .f32), FVec F S1x1x256 .f32 ← k0_part39 i arg2 harg2 arg3 harg3 arg4 harg4 arg5 harg5 arg6 harg6 arg7 harg7 arg8 harg8 arg9 harg9 arg10 harg10 arg11 harg11 v1497 v1499 v1504 v1506
    let v1578 : FVec F S512x512 .f32 ← k0_part40 i arg2 harg2 arg3 harg3 arg4 harg4 arg5 harg5 arg6 harg6 arg7 harg7 arg8 harg8 arg9 harg9 arg10 harg10 arg11 harg11 k0_t1 v230 v1497 v1533 v1538 v1540 v1543
    let ⟨v1586, v1595, v1601⟩ : Σ' (v1586 : FVec F S128x512 .bf16) (v1595 : FVec F S1x256 .f32), FVec F S512x256 .f32 ← k0_part41 i arg2 harg2 arg3 harg3 arg4 harg4 arg5 harg5 arg6 harg6 arg7 harg7 arg8 harg8 arg9 harg9 arg10 harg10 arg11 harg11 k0_t1 v229 v1578
    let ⟨v1629, v1635⟩ : Σ' (v1629 : FVec F S1x256 .f32), FVec F S512x256 .f32 ← k0_part42 i arg2 harg2 arg3 harg3 arg4 harg4 arg5 harg5 arg6 harg6 arg7 harg7 arg8 harg8 arg9 harg9 arg10 harg10 arg11 harg11 v1586 v1595 v1601
    let v1645 : Vec F S1x128x256 .f32 ← Prog.lift (.load arg10 (Rect.unit (s := S8x128x512) ![7, 0, 256] S1x128x256.size inb_S8x128x512_S1x128x256_7_0_256).toLoadRect (View.loadsAt_vmem h_S1x128x256))
    have v1646 : FVec F S128x256 .f32 := shapeCast S128x256 v1645 shapeCasts_S1x128x256_S128x256
    have v1647 : FVec F S128x256 .f32 := broadcastTo S128x256 v1629 broadcasts_S1x256_S128x256
    have v1648 : FVec F S128x256 .f32 := mulf v1646 v1647
    have v1649 : FVec F S512x256 .bf16 := truncf .bf16 v1635 bitsLt_bf16_f32
    have cst_1118 : FVec F S128x256 .f32 := constant S128x256 .f32 0x00000000#32
    have v1650 : FVec F S128x256 .f32 := matmul dot_S128x512_S512x256_S128x256_1_0_0_1_n_n none v1586 v1649 cst_1118
    have v1651 : FVec F S128x256 .f32 := addf v1648 v1650
    let v1652 : Vec F S1x128x256 .f32 ← Prog.lift (.load arg10 (Rect.unit (s := S8x128x512) ![7, 0, 256] S1x128x256.size inb_S8x128x512_S1x128x256_7_0_256).toLoadRect (View.loadsAt_vmem h_S1x128x256))
    have v1653 : FVec F S128x256 .f32 := shapeCast S128x256 v1652 shapeCasts_S1x128x256_S128x256
    have v1654 : FVec F S1x128x256 .f32 := shapeCast S1x128x256 v1651 shapeCasts_S128x256_S1x128x256
    Prog.lift (.store arg10 (Rect.unit (s := S8x128x512) ![7, 0, 256] S1x128x256.size inb_S8x128x512_S1x128x256_7_0_256) v1654 Finset.univ (View.stores_vmem_bits_univ h_S1x128x256 rfl) (.inl rfl))
    pure ⟨⟩

/-- The second loop of the printed body, which makes no trip. -/
def t2b (i : grid0.Coords) (arg2 : Memref sig .tc .vmem S1x128x2048 .bf16) (harg2 : arg2.IsWhole) (arg3 : Memref sig .tc .vmem S8192x128 .bf16) (harg3 : arg3.IsWhole) (arg4 : Memref sig .tc .vmem S1x128x8192 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x128x512 .f32) (harg10 : arg10.IsWhole) (arg11 : Memref sig .tc .vmem S2x512x512 .f32) (harg11 : arg11.IsWhole) : Fin (k0_t2_loop i).trips → PUnit → Prog (TpuEff nD τ sig (Elt F) Λ₀ .tc) PUnit :=
  let v0 : BitVec 32 := Scalar.muli (BitVec.ofNat 32 (i 1).val) 4#32
  let c1_i32_36 : BitVec 32 := 1#32
  let v48 : BitVec 32 := Scalar.shrui v0 c1_i32_36
  let c0_i32_37 : BitVec 32 := 0#32
  let c0_i32_38 : BitVec 32 := 0#32
  let v49 : BitVec 32 := Scalar.subi v48 c0_i32_38
  let v50 : BitVec 32 := Scalar.addi c0_i32_38 v49
  let c1_i32_39 : BitVec 32 := 1#32
  let v51 : BitVec 32 := Scalar.divsi v49 c1_i32_39
  let v52 : BitVec 32 := Scalar.muli v51 c1_i32_39
  let v53 : BitVec 32 := Scalar.addi c0_i32_38 v52
  let c1_i32_40 : BitVec 32 := 1#32
  have c1_i32_41 : BitVec 32 := 1#32
  fun k0_t2 _ => do
    let ⟨v228, v229, v230, v251, v253, v258, v259⟩ : Σ' (v228 : BitVec 32) (v229 : BitVec 32) (v230 : BitVec 32) (v251 : FVec F S128x512 .bf16) (v253 : FVec F S512x256 .f32) (v258 : FVec F S1x256 .f32), FVec F S1x256 .f32 ← k0_part43 i arg2 harg2 arg3 harg3 arg4 harg4 arg5 harg5 arg6 harg6 arg7 harg7 arg8 harg8 arg9 harg9 arg10 harg10 arg11 harg11 v53 c1_i32_41 k0_t2
    let ⟨v287, v289, v292⟩ : Σ' (v287 : FVec F S512x256 .f32) (v289 : FVec F S1x256 .f32), FVec F S1x256 .f32 ← k0_part44 i arg2 harg2 arg3 harg3 arg4 harg4 arg5 harg5 arg6 harg6 arg7 harg7 arg8 harg8 arg9 harg9 arg10 harg10 arg11 harg11 v251 v253 v258 v259
    let ⟨v324, v326, v327⟩ : Σ' (v324 : FVec F S512x128 .bf16) (v326 : FVec F S128x512 .bf16), IVec S128x512 32 ← k0_part45 i arg2 harg2 arg3 harg3 arg4 harg4 arg5 harg5 arg6 harg6 arg7 harg7 arg8 harg8 arg9 harg9 arg10 harg10 arg11 harg11 k0_t2 v228 v251 v287 v289 v292
    let ⟨v340, v349, v355, v361⟩ : Σ' (v340 : FVec F S128x512 .bf16) (v349 : FVec F S1x256 .f32) (v355 : FVec F S512x256 .f32), FVec F S1x256 .f32 ← k0_part46 i arg2 harg2 arg3 harg3 arg4 harg4 arg5 harg5 arg6 harg6 arg7 harg7 arg8 harg8 arg9 harg9 arg10 harg10 arg11 harg11 k0_t2 v228 v324 v326 v327
    let ⟨v383, v389, v395⟩ : Σ' (v383 : FVec F S1x256 .f32) (v389 : FVec F S512x256 .f32), FVec F S1x256 .f32 ← k0_part47 i arg2 harg2 arg3 harg3 arg4 harg4 arg5 harg5 arg6 harg6 arg7 harg7 arg8 harg8 arg9 harg9 arg10 harg10 arg11 harg11 v340 v349 v355 v361
    let v428 : Vec F S1x128x512 .bf16 ← k0_part48 i arg2 harg2 arg3 harg3 arg4 harg4 arg5 harg5 arg6 harg6 arg7 harg7 arg8 harg8 arg9 harg9 arg10 harg10 arg11 harg11 k0_t2 v228 v340 v383 v389 v395
    let ⟨v429, v460⟩ : Σ' (v429 : FVec F S128x512 .bf16), FVec F S128x256 .f32 ← k0_part49 i arg2 harg2 arg3 harg3 arg4 harg4 arg5 harg5 arg6 harg6 arg7 harg7 arg8 harg8 arg9 harg9 arg10 harg10 arg11 harg11 v428
    let ⟨v494, v495⟩ : Σ' (v494 : FVec F S128x256 .f32), Vec F S1x128x256 .f32 ← k0_part50 i arg2 harg2 arg3 harg3 arg4 harg4 arg5 harg5 arg6 harg6 arg7 harg7 arg8 harg8 arg9 harg9 arg10 harg10 arg11 harg11 v429 v460
    let ⟨v518, v520, v525, v527⟩ : Σ' (v518 : FVec F S128x512 .bf16) (v520 : FVec F S512x256 .f32) (v525 : FVec F S1x256 .f32), FVec F S1x256 .f32 ← k0_part51 i arg2 harg2 arg3 harg3 arg4 harg4 arg5 harg5 arg6 harg6 arg7 harg7 arg8 harg8 arg9 harg9 arg10 harg10 arg11 harg11 k0_t2 v228 v494 v495
    let ⟨v554, v559, v561, v562⟩ : Σ' (v554 : FVec F S512x256 .f32) (v559 : FVec F S1x256 .f32) (v561 : FVec F S1x256 .f32), Vec F S1x1x256 .f32 ← k0_part52 i arg2 harg2 arg3 harg3 arg4 harg4 arg5 harg5 arg6 harg6 arg7 harg7 arg8 harg8 arg9 harg9 arg10 harg10 arg11 harg11 v518 v520 v525 v527
    let ⟨v591, v598⟩ : Σ' (v591 : FVec F S512x128 .bf16), FVec F S128x512 .bf16 ← k0_part53 i arg2 harg2 arg3 harg3 arg4 harg4 arg5 harg5 arg6 harg6 arg7 harg7 arg8 harg8 arg9 harg9 arg10 harg10 arg11 harg11 k0_t2 v228 v518 v554 v559 v561 v562
    let ⟨v607, v616, v622⟩ : Σ' (v607 : FVec F S128x512 .bf16) (v616 : FVec F S1x256 .f32), FVec F S512x256 .f32 ← k0_part54 i arg2 harg2 arg3 harg3 arg4 harg4 arg5 harg5 arg6 harg6 arg7 harg7 arg8 harg8 arg9 harg9 arg10 harg10 arg11 harg11 k0_t2 v228 v591 v598
    let ⟨v650, v656, v665⟩ : Σ' (v650 : FVec F S1x256 .f32) (v656 : FVec F S512x256 .f32), FVec F S1x1x256 .f32 ← k0_part55 i arg2 harg2 arg3 harg3 arg4 harg4 arg5 harg5 arg6 harg6 arg7 harg7 arg8 harg8 arg9 harg9 arg10 harg10 arg11 harg11 v607 v616 v622
    let ⟨v696, v698⟩ : Σ' (v696 : FVec F S128x512 .bf16), FVec F S512x256 .f32 ← k0_part56 i arg2 harg2 arg3 harg3 arg4 harg4 arg5 harg5 arg6 harg6 arg7 harg7 arg8 harg8 arg9 harg9 arg10 harg10 arg11 harg11 k0_t2 v228 v607 v650 v656 v665
    let v731 : Vec F S1x512x256 .f32 ← k0_part57 i arg2 harg2 arg3 harg3 arg4 harg4 arg5 harg5 arg6 harg6 arg7 harg7 arg8 harg8 arg9 harg9 arg10 harg10 arg11 harg11 v696 v698
    let v766 : BitVec 32 ← k0_part58 i arg2 harg2 arg3 harg3 arg4 harg4 arg5 harg5 arg6 harg6 arg7 harg7 arg8 harg8 arg9 harg9 arg10 harg10 arg11 harg11 v228 v696 v731
    let ⟨v785, v794, v800⟩ : Σ' (v785 : FVec F S128x512 .bf16) (v794 : FVec F S1x256 .f32), FVec F S512x256 .f32 ← k0_part59 i arg2 harg2 arg3 harg3 arg4 harg4 arg5 harg5 arg6 harg6 arg7 harg7 arg8 harg8 arg9 harg9 arg10 harg10 arg11 harg11 k0_t2 v228 v766
    let ⟨v828, v834⟩ : Σ' (v828 : FVec F S1x256 .f32), FVec F S512x256 .f32 ← k0_part60 i arg2 harg2 arg3 harg3 arg4 harg4 arg5 harg5 arg6 harg6 arg7 harg7 arg8 harg8 arg9 harg9 arg10 harg10 arg11 harg11 v785 v794 v800
    let ⟨v866, v867⟩ : Σ' (v866 : FVec F S512x512 .f32), Vec F S1x512x512 .f32 ← k0_part61 i arg2 harg2 arg3 harg3 arg4 harg4 arg5 harg5 arg6 harg6 arg7 harg7 arg8 harg8 arg9 harg9 arg10 harg10 arg11 harg11 k0_t2 v229 v785 v828 v834
    let ⟨v874, v889, v900, v901⟩ : Σ' (v874 : FVec F S128x512 .bf16) (v889 : FVec F S512x256 .f32) (v900 : FVec F S128x256 .f32), FVec F S128x256 .f32 ← k0_part62 i arg2 harg2 arg3 harg3 arg4 harg4 arg5 harg5 arg6 harg6 arg7 harg7 arg8 harg8 arg9 harg9 arg10 harg10 arg11 harg11 k0_t2 v228 v866 v867
    let ⟨v917, v923, v934⟩ : Σ' (v917 : FVec F S1x256 .f32) (v923 : FVec F S512x256 .f32), FVec F S128x256 .f32 ← k0_part63 i arg2 harg2 arg3 harg3 arg4 harg4 arg5 harg5 arg6 harg6 arg7 harg7 arg8 harg8 arg9 harg9 arg10 harg10 arg11 harg11 v874 v889 v900 v901
    let ⟨v963, v965, v967⟩ : Σ' (v963 : FVec F S128x512 .bf16) (v965 : FVec F S512x256 .f32), FVec F S1x256 .f32 ← k0_part64 i arg2 harg2 arg3 harg3 arg4 harg4 arg5 harg5 arg6 harg6 arg7 harg7 arg8 harg8 arg9 harg9 arg10 harg10 arg11 harg11 k0_t2 v229 v874 v917 v923 v934
    let ⟨v999, v1001⟩ : Σ' (v999 : FVec F S512x256 .f32), FVec F S1x256 .f32 ← k0_part65 i arg2 harg2 arg3 harg3 arg4 harg4 arg5 harg5 arg6 harg6 arg7 harg7 arg8 harg8 arg9 harg9 arg10 harg10 arg11 harg11 v963 v965 v967
    let v1036 : FVec F S512x128 .bf16 ← k0_part66 i arg2 harg2 arg3 harg3 arg4 harg4 arg5 harg5 arg6 harg6 arg7 harg7 arg8 harg8 arg9 harg9 arg10 harg10 arg11 harg11 k0_t2 v229 v963 v999 v1001
    let ⟨v1052, v1061, v1067, v1070⟩ : Σ' (v1052 : FVec F S128x512 .bf16) (v1061 : FVec F S1x256 .f32) (v1067 : FVec F S512x256 .f32), FVec F S1x256 .f32 ← k0_part67 i arg2 harg2 arg3 harg3 arg4 harg4 arg5 harg5 arg6 harg6 arg7 harg7 arg8 harg8 arg9 harg9 arg10 harg10 arg11 harg11 k0_t2 v229 v1036
    let ⟨v1095, v1101, v1104⟩ : Σ' (v1095 : FVec F S1x256 .f32) (v1101 : FVec F S512x256 .f32), FVec F S1x256 .f32 ← k0_part68 i arg2 harg2 arg3 harg3 arg4 harg4 arg5 harg5 arg6 harg6 arg7 harg7 arg8 harg8 arg9 harg9 arg10 harg10 arg11 harg11 v1052 v1061 v1067 v1070
    let v1138 : BitVec 32 ← k0_part69 i arg2 harg2 arg3 harg3 arg4 harg4 arg5 harg5 arg6 harg6 arg7 harg7 arg8 harg8 arg9 harg9 arg10 harg10 arg11 harg11 k0_t2 v229 v1052 v1095 v1101 v1104
    let ⟨v1141, v1172⟩ : Σ' (v1141 : FVec F S128x512 .bf16), FVec F S128x256 .f32 ← k0_part70 i arg2 harg2 arg3 harg3 arg4 harg4 arg5 harg5 arg6 harg6 arg7 harg7 arg8 harg8 arg9 harg9 arg10 harg10 arg11 harg11 k0_t2 v1138
    let v1206 : FVec F S128x256 .f32 ← k0_part71 i arg2 harg2 arg3 harg3 arg4 harg4 arg5 harg5 arg6 harg6 arg7 harg7 arg8 harg8 arg9 harg9 arg10 harg10 arg11 harg11 v1141 v1172
    let ⟨v1230, v1232, v1237, v1239⟩ : Σ' (v1230 : FVec F S128x512 .bf16) (v1232 : FVec F S512x256 .f32) (v1237 : FVec F S1x256 .f32), FVec F S1x256 .f32 ← k0_part72 i arg2 harg2 arg3 harg3 arg4 harg4 arg5 harg5 arg6 harg6 arg7 harg7 arg8 harg8 arg9 harg9 arg10 harg10 arg11 harg11 k0_t2 v229 v1206
    let ⟨v1266, v1271, v1273⟩ : Σ' (v1266 : FVec F S512x256 .f32) (v1271 : FVec F S1x256 .f32), FVec F S1x256 .f32 ← k0_part73 i arg2 harg2 arg3 harg3 arg4 harg4 arg5 harg5 arg6 harg6 arg7 harg7 arg8 harg8 arg9 harg9 arg10 harg10 arg11 harg11 v1230 v1232 v1237 v1239
    let ⟨v1303, v1305, v1306, v1307⟩ : Σ' (v1303 : FVec F S512x128 .bf16) (v1305 : FVec F S128x512 .bf16) (v1306 : IVec S128x512 32), IVec S128x512 32 ← k0_part74 i arg2 harg2 arg3 harg3 arg4 harg4 arg5 harg5 arg6 harg6 arg7 harg7 arg8 harg8 arg9 harg9 arg10 harg10 arg11 harg11 k0_t2 v229 v1230 v1266 v1271 v1273
    let ⟨v1319, v1328, v1334, v1340⟩ : Σ' (v1319 : FVec F S128x512 .bf16) (v1328 : FVec F S1x256 .f32) (v1334 : FVec F S512x256 .f32), FVec F S1x256 .f32 ← k0_part75 i arg2 harg2 arg3 harg3 arg4 harg4 arg5 harg5 arg6 harg6 arg7 harg7 arg8 harg8 arg9 harg9 arg10 harg10 arg11 harg11 k0_t2 v229 v1303 v1305 v1306 v1307
    let ⟨v1362, v1368, v1374⟩ : Σ' (v1362 : FVec F S1x256 .f32) (v1368 : FVec F S512x256 .f32), FVec F S1x256 .f32 ← k0_part76 i arg2 harg2 arg3 harg3 arg4 harg4 arg5 harg5 arg6 harg6 arg7 harg7 arg8 harg8 arg9 harg9 arg10 harg10 arg11 harg11 v1319 v1328 v1334 v1340
    let v1408 : FVec F S128x512 .bf16 ← k0_part77 i arg2 harg2 arg3 harg3 arg4 harg4 arg5 harg5 arg6 harg6 arg7 harg7 arg8 harg8 arg9 harg9 arg10 harg10 arg11 harg11 k0_t2 v229 v1319 v1362 v1368 v1374
    k0_part78 i arg2 harg2 arg3 harg3 arg4 harg4 arg5 harg5 arg6 harg6 arg7 harg7 arg8 harg8 arg9 harg9 arg10 harg10 arg11 harg11 v1408
    let v1476 : FVec F S1x128x256 .f32 ← k0_part79 i arg2 harg2 arg3 harg3 arg4 harg4 arg5 harg5 arg6 harg6 arg7 harg7 arg8 harg8 arg9 harg9 arg10 harg10 arg11 harg11 v1408
    let ⟨v1497, v1499, v1504, v1506⟩ : Σ' (v1497 : FVec F S128x512 .bf16) (v1499 : FVec F S512x256 .f32) (v1504 : FVec F S1x256 .f32), FVec F S1x256 .f32 ← k0_part80 i arg2 harg2 arg3 harg3 arg4 harg4 arg5 harg5 arg6 harg6 arg7 harg7 arg8 harg8 arg9 harg9 arg10 harg10 arg11 harg11 k0_t2 v229 v1476
    let ⟨v1533, v1538, v1540, v1543⟩ : Σ' (v1533 : FVec F S512x256 .f32) (v1538 : FVec F S1x256 .f32) (v1540 : FVec F S1x256 .f32), FVec F S1x1x256 .f32 ← k0_part81 i arg2 harg2 arg3 harg3 arg4 harg4 arg5 harg5 arg6 harg6 arg7 harg7 arg8 harg8 arg9 harg9 arg10 harg10 arg11 harg11 v1497 v1499 v1504 v1506
    let v1578 : FVec F S512x512 .f32 ← k0_part82 i arg2 harg2 arg3 harg3 arg4 harg4 arg5 harg5 arg6 harg6 arg7 harg7 arg8 harg8 arg9 harg9 arg10 harg10 arg11 harg11 k0_t2 v230 v1497 v1533 v1538 v1540 v1543
    let ⟨v1586, v1595, v1601⟩ : Σ' (v1586 : FVec F S128x512 .bf16) (v1595 : FVec F S1x256 .f32), FVec F S512x256 .f32 ← k0_part83 i arg2 harg2 arg3 harg3 arg4 harg4 arg5 harg5 arg6 harg6 arg7 harg7 arg8 harg8 arg9 harg9 arg10 harg10 arg11 harg11 k0_t2 v229 v1578
    let ⟨v1629, v1635⟩ : Σ' (v1629 : FVec F S1x256 .f32), FVec F S512x256 .f32 ← k0_part84 i arg2 harg2 arg3 harg3 arg4 harg4 arg5 harg5 arg6 harg6 arg7 harg7 arg8 harg8 arg9 harg9 arg10 harg10 arg11 harg11 v1586 v1595 v1601
    let v1645 : Vec F S1x128x256 .f32 ← Prog.lift (.load arg10 (Rect.unit (s := S8x128x512) ![7, 0, 256] S1x128x256.size inb_S8x128x512_S1x128x256_7_0_256).toLoadRect (View.loadsAt_vmem h_S1x128x256))
    have v1646 : FVec F S128x256 .f32 := shapeCast S128x256 v1645 shapeCasts_S1x128x256_S128x256
    have v1647 : FVec F S128x256 .f32 := broadcastTo S128x256 v1629 broadcasts_S1x256_S128x256
    have v1648 : FVec F S128x256 .f32 := mulf v1646 v1647
    have v1649 : FVec F S512x256 .bf16 := truncf .bf16 v1635 bitsLt_bf16_f32
    have cst_1118 : FVec F S128x256 .f32 := constant S128x256 .f32 0x00000000#32
    have v1650 : FVec F S128x256 .f32 := matmul dot_S128x512_S512x256_S128x256_1_0_0_1_n_n none v1586 v1649 cst_1118
    have v1651 : FVec F S128x256 .f32 := addf v1648 v1650
    let v1652 : Vec F S1x128x256 .f32 ← Prog.lift (.load arg10 (Rect.unit (s := S8x128x512) ![7, 0, 256] S1x128x256.size inb_S8x128x512_S1x128x256_7_0_256).toLoadRect (View.loadsAt_vmem h_S1x128x256))
    have v1653 : FVec F S128x256 .f32 := shapeCast S128x256 v1652 shapeCasts_S1x128x256_S128x256
    have v1654 : FVec F S1x128x256 .f32 := shapeCast S1x128x256 v1651 shapeCasts_S128x256_S1x128x256
    Prog.lift (.store arg10 (Rect.unit (s := S8x128x512) ![7, 0, 256] S1x128x256.size inb_S8x128x512_S1x128x256_7_0_256) v1654 Finset.univ (View.stores_vmem_bits_univ h_S1x128x256 rfl) (.inl rfl))
    pure ⟨⟩

/-- The diagonal blocks. -/
def lastb (i : grid0.Coords) (arg2 : Memref sig .tc .vmem S1x128x2048 .bf16) (harg2 : arg2.IsWhole) (arg3 : Memref sig .tc .vmem S8192x128 .bf16) (harg3 : arg3.IsWhole) (arg4 : Memref sig .tc .vmem S1x128x8192 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x128x512 .f32) (harg10 : arg10.IsWhole) (arg11 : Memref sig .tc .vmem S2x512x512 .f32) (harg11 : arg11.IsWhole) (k0_h1 : k0_cond1 i = 1#1) : Prog (TpuEff nD τ sig (Elt F) Λ₀ .tc) PUnit :=
  let v0 : BitVec 32 := Scalar.muli (BitVec.ofNat 32 (i 1).val) 4#32
  have v13 : BitVec 32 := Scalar.addi v0 0#32
  have v14 : BitVec 32 := Scalar.addi v0 0#32
  have v15 : BitVec 32 := Scalar.addi v0 0#32
  have v16 : BitVec 32 := Scalar.addi v0 0#32
  have v17 : BitVec 32 := Scalar.addi v0 0#32
  have v18 : BitVec 32 := Scalar.addi v0 0#32
  have v19 : BitVec 32 := Scalar.addi v0 0#32
  have v20 : BitVec 32 := Scalar.addi v0 0#32
  have v21 : BitVec 32 := Scalar.addi v0 1#32
  have v22 : BitVec 32 := Scalar.addi v0 1#32
  have v23 : BitVec 32 := Scalar.addi v0 1#32
  have v24 : BitVec 32 := Scalar.addi v0 1#32
  have v25 : BitVec 32 := Scalar.addi v0 1#32
  have v26 : BitVec 32 := Scalar.addi v0 1#32
  have v27 : BitVec 32 := Scalar.addi v0 2#32
  have v28 : BitVec 32 := Scalar.addi v0 2#32
  have v29 : BitVec 32 := Scalar.addi v0 2#32
  have v30 : BitVec 32 := Scalar.addi v0 2#32
  have v31 : BitVec 32 := Scalar.addi v0 3#32
  have v32 : BitVec 32 := Scalar.addi v0 3#32
  do
    let ⟨v2020, v2077, v2083, v2085⟩ : Σ' (v2020 : FVec F S128x512 .bf16) (v2077 : FVec F S1x256 .f32) (v2083 : FVec F S512x256 .f32), FVec F S1x256 .f32 ← k0_part139 i arg2 harg2 arg3 harg3 arg4 harg4 arg5 harg5 arg6 harg6 arg7 harg7 arg8 harg8 arg9 harg9 arg10 harg10 arg11 harg11 v13 v14 v15 v16 v17 v18 v19 v20 v21 v22 v23 v24 v25 v26 v27 v28 v29 v30 v31 v32 k0_h1
    have v2086 : FVec F S1x256 .f32 := mulf v2077 v2085
    have cst_1375 : FVec F S256 .f32 := constant S256 .f32 0x00000000#32
    have v2087 : FVec F S256 .f32 := multiReduction .add [0] S256 v2083 0x00000000#32 reduces_S512x256_S256 (.inl rfl) rfl
    have v2088 : FVec F S1x256 .f32 := shapeCast S1x256 v2087 shapeCasts_S256_S1x256
    have v2089 : FVec F S1x256 .f32 := addf v2086 v2088
    let v2090 : Vec F S1x1x256 .f32 ← Prog.lift (.load arg9 (Rect.unit (s := S8x1x512) ![7, 0, 256] S1x1x256.size inb_S8x1x512_S1x1x256_7_0_256).toLoadRect (View.loadsAt_vmem h_S1x1x256))
    have v2091 : FVec F S1x256 .f32 := shapeCast S1x256 v2090 shapeCasts_S1x1x256_S1x256
    have v2092 : FVec F S1x1x256 .f32 := shapeCast S1x1x256 v2089 shapeCasts_S1x256_S1x1x256
    Prog.lift (.store arg9 (Rect.unit (s := S8x1x512) ![7, 0, 256] S1x1x256.size inb_S8x1x512_S1x1x256_7_0_256) v2092 Finset.univ (View.stores_vmem_bits_univ h_S1x1x256 rfl) (.inl rfl))
    let v2093 : Vec F S1x128x256 .f32 ← Prog.lift (.load arg10 (Rect.unit (s := S8x128x512) ![7, 0, 256] S1x128x256.size inb_S8x128x512_S1x128x256_7_0_256).toLoadRect (View.loadsAt_vmem h_S1x128x256))
    have v2094 : FVec F S128x256 .f32 := shapeCast S128x256 v2093 shapeCasts_S1x128x256_S128x256
    have v2095 : FVec F S128x256 .f32 := broadcastTo S128x256 v2077 broadcasts_S1x256_S128x256
    have v2096 : FVec F S128x256 .f32 := mulf v2094 v2095
    have v2097 : FVec F S512x256 .bf16 := truncf .bf16 v2083 bitsLt_bf16_f32
    have cst_1382 : FVec F S128x256 .f32 := constant S128x256 .f32 0x00000000#32
    have v2098 : FVec F S128x256 .f32 := matmul dot_S128x512_S512x256_S128x256_1_0_0_1_n_n none v2020 v2097 cst_1382
    have v2099 : FVec F S128x256 .f32 := addf v2096 v2098
    let v2100 : Vec F S1x128x256 .f32 ← Prog.lift (.load arg10 (Rect.unit (s := S8x128x512) ![7, 0, 256] S1x128x256.size inb_S8x128x512_S1x128x256_7_0_256).toLoadRect (View.loadsAt_vmem h_S1x128x256))
    have v2101 : FVec F S128x256 .f32 := shapeCast S128x256 v2100 shapeCasts_S1x128x256_S128x256
    have v2102 : FVec F S1x128x256 .f32 := shapeCast S1x128x256 v2099 shapeCasts_S128x256_S1x128x256
    Prog.lift (.store arg10 (Rect.unit (s := S8x128x512) ![7, 0, 256] S1x128x256.size inb_S8x128x512_S1x128x256_7_0_256) v2102 Finset.univ (View.stores_vmem_bits_univ h_S1x128x256 rfl) (.inl rfl))
    pure ⟨⟩

theorem t1b_eq (i : grid0.Coords) (arg2 : Memref sig .tc .vmem S1x128x2048 .bf16) (harg2 : arg2.IsWhole) (arg3 : Memref sig .tc .vmem S8192x128 .bf16) (harg3 : arg3.IsWhole) (arg4 : Memref sig .tc .vmem S1x128x8192 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x128x512 .f32) (harg10 : arg10.IsWhole) (arg11 : Memref sig .tc .vmem S2x512x512 .f32) (harg11 : arg11.IsWhole) (t : Fin (k0_t1_loop i).trips) : t1b (F := F) i arg2 harg2 arg3 harg3 arg4 harg4 arg5 harg5 arg6 harg6 arg7 harg7 arg8 harg8 arg9 harg9 arg10 harg10 arg11 harg11 t ⟨⟩ =
   Cert.Diff.trip arg2 arg3 arg4 arg8 arg9 arg10 arg11 (fun b => k0_off1 i t (BitVec.ofNat 32 b)) (fun b => k0_off1_inb i t b) (fun b => k0_off2 i t (BitVec.ofNat 32 b)) (fun b => k0_off2_inb i t b) := by
  rfl

theorem last_eq (i : grid0.Coords) (arg2 : Memref sig .tc .vmem S1x128x2048 .bf16) (harg2 : arg2.IsWhole) (arg3 : Memref sig .tc .vmem S8192x128 .bf16) (harg3 : arg3.IsWhole) (arg4 : Memref sig .tc .vmem S1x128x8192 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x128x512 .f32) (harg10 : arg10.IsWhole) (arg11 : Memref sig .tc .vmem S2x512x512 .f32) (harg11 : arg11.IsWhole) (k0_h1 : k0_cond1 i = 1#1) : lastb (F := F) i arg2 harg2 arg3 harg3 arg4 harg4 arg5 harg5 arg6 harg6 arg7 harg7 arg8 harg8 arg9 harg9 arg10 harg10 arg11 harg11 k0_h1 =
   Cert.Diff.tail arg2 arg3 arg4 arg8 arg9 arg10 arg11 (Named.named κ "mask" 0xF149F2CA#32) (fun b => k0_off5 i (BitVec.ofNat 32 b)) (fun b => k0_off5_inb i k0_h1 b) (fun b => k0_off6 i (BitVec.ofNat 32 b)) (fun b => k0_off6_inb i k0_h1 b) := by
  rfl

/-- The middle of the body: the first scores, the loops and the diagonal blocks. -/
theorem middle_eq (i : grid0.Coords) (arg2 : Memref sig .tc .vmem S1x128x2048 .bf16) (harg2 : arg2.IsWhole) (arg3 : Memref sig .tc .vmem S8192x128 .bf16) (harg3 : arg3.IsWhole) (arg4 : Memref sig .tc .vmem S1x128x8192 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x128x512 .f32) (harg10 : arg10.IsWhole) (arg11 : Memref sig .tc .vmem S2x512x512 .f32) (harg11 : arg11.IsWhole) : k0_part141 (F := F) i arg2 harg2 arg3 harg3 arg4 harg4 arg5 harg5 arg6 harg6 arg7 harg7 arg8 harg8 arg9 harg9 arg10 harg10 arg11 harg11 (Scalar.muli (BitVec.ofNat 32 (i 1).val) 4#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) 2#32 =
   Diff.mid arg2 arg3 arg11 (k0_t1_loop i) (k0_t1_ok i) (t1b i arg2 harg2 arg3 harg3 arg4 harg4 arg5 harg5 arg6 harg6 arg7 harg7 arg8 harg8 arg9 harg9 arg10 harg10 arg11 harg11) (k0_t2_loop i) (k0_t2_ok i) (t2b i arg2 harg2 arg3 harg3 arg4 harg4 arg5 harg5 arg6 harg6 arg7 harg7 arg8 harg8 arg9 harg9 arg10 harg10 arg11 harg11) (k0_cond1 i) (lastb i arg2 harg2 arg3 harg3 arg4 harg4 arg5 harg5 arg6 harg6 arg7 harg7 arg8 harg8 arg9 harg9 arg10 harg10 arg11 harg11) := by
  unfold k0_part141 Diff.mid
  refine congrArg (Bind.bind _) (funext fun K => ?_)
  refine congrArg (Bind.bind _) (funext fun Q => ?_)
  refine congrArg (Bind.bind _) (funext fun x => ?_)
  refine congrArg (Bind.bind _) (funext fun x => ?_)
  refine congrArg₂ Prog.bind ?_ (funext fun x => ?_)
  · rfl
  refine congrArg₂ Prog.bind ?_ (funext fun x => ?_)
  · rfl
  refine dite_congr rfl (fun h => ?_) (fun h => ?_)
  · unfold lastb
    refine Eq.trans ?_ (Prog.bind_assoc _ _ _).symm
    refine congrArg (Prog.bind _) (funext fun x => ?_)
    rfl
  · rfl

/-- The printed body is the attention program over the same buffers. -/
theorem body_eq (i : grid0.Coords) (arg2 : Memref sig .tc .vmem S1x128x2048 .bf16) (harg2 : arg2.IsWhole) (arg3 : Memref sig .tc .vmem S8192x128 .bf16) (harg3 : arg3.IsWhole) (arg4 : Memref sig .tc .vmem S1x128x8192 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x128x512 .f32) (harg10 : arg10.IsWhole) (arg11 : Memref sig .tc .vmem S2x512x512 .f32) (harg11 : arg11.IsWhole) : cc0_attn_diff (F := F) i arg2 harg2 arg3 harg3 arg4 harg4 arg5 harg5 arg6 harg6 arg7 harg7 arg8 harg8 arg9 harg9 arg10 harg10 arg11 harg11 =
   Cert.Diff.attn arg2 arg3 arg5 arg6 arg7 arg8 arg9 arg10 arg11 harg7 (Named.named κ "mask" 0xF149F2CA#32) (k0_t1_loop i) (k0_t1_ok i) (t1b i arg2 harg2 arg3 harg3 arg4 harg4 arg5 harg5 arg6 harg6 arg7 harg7 arg8 harg8 arg9 harg9 arg10 harg10 arg11 harg11) (k0_t2_loop i) (k0_t2_ok i) (t2b i arg2 harg2 arg3 harg3 arg4 harg4 arg5 harg5 arg6 harg6 arg7 harg7 arg8 harg8 arg9 harg9 arg10 harg10 arg11 harg11) (k0_cond1 i) (lastb i arg2 harg2 arg3 harg3 arg4 harg4 arg5 harg5 arg6 harg6 arg7 harg7 arg8 harg8 arg9 harg9 arg10 harg10 arg11 harg11) := by
  have e : cc0_attn_diff (F := F) i arg2 harg2 arg3 harg3 arg4 harg4 arg5 harg5 arg6 harg6 arg7 harg7 arg8 harg8 arg9 harg9 arg10 harg10 arg11 harg11 = (do
      Diff.init arg8 arg9 arg10 (Named.named κ "mask" 0xF149F2CA#32)
      k0_part141 (F := F) i arg2 harg2 arg3 harg3 arg4 harg4 arg5 harg5 arg6 harg6 arg7 harg7 arg8 harg8 arg9 harg9 arg10 harg10 arg11 harg11 (Scalar.muli (BitVec.ofNat 32 (i 1).val) 4#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 0#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) (Scalar.addi (Scalar.muli (BitVec.ofNat 32 (i 1).val) 4#32) 1#32) 2#32
      Diff.fin arg5 arg6 arg7 arg9 arg10 harg7) := by rfl
  rw [e, middle_eq]
  rfl

end Cert.Kernel5Ideal.Hand

end
-- ==== Proof.DiffBodyI.lean ====
/- The differential attention: what the body leaves in the output block, and the program's run. -/
module

public import proofs.«01_k».proof.Proof.Gen.Kernel5Ideal
public import proofs.«01_k».proof.Proof.Gen.Kernel5Ideal.Frame
public import proofs.«01_k».proof.Proof.Gen.Kernel5Ideal.Points
public import proofs.«01_k».proof.Proof.Gen.Kernel5Ideal.Launch
public import proofs.«01_k».proof.Proof.DiffFlow
public import proofs.«01_k».proof.Proof.DiffProgI
public import Idealize.ShloMosaic.Lib.Pipeline.FrameSuffix
public import Idealize.ShloMosaic.Lib.Tactic

@[expose] public section

set_option maxRecDepth 65536

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Attn (Held)

/-! ## The loops' trips and the blocks' offsets -/

theorem trips_eq : ∀ i : grid0.Coords, (k0_t1_loop i).trips = 2 * (i 1).val := by decide +kernel
theorem trips2_eq : ∀ i : grid0.Coords, (k0_t2_loop i).trips = 0 := by decide +kernel
theorem cond_eq : ∀ i : grid0.Coords, k0_cond1 i = 1#1 := by decide +kernel

theorem off_trip : ∀ (n : Fin 8) (b : Fin 3), (Scalar.indexCast (Scalar.muli (Scalar.addi (Scalar.muli (Scf.iv 0#32 1#32 n.val) 2#32) (BitVec.ofNat 32 b.val)) 512#32) : Index).toNat = 512 * (2 * n.val + b.val) := by decide +kernel
theorem off_tail : ∀ (n b : Fin 4), (Scalar.indexCast (Scalar.muli (Scalar.addi (Scalar.muli (BitVec.ofNat 32 n.val) 4#32) (BitVec.ofNat 32 b.val)) 512#32) : Index).toNat = 512 * (4 * n.val + b.val) := by decide +kernel

theorem lt_trips (i : grid0.Coords) (t : Fin (k0_t1_loop i).trips) : t.val < 8 := by
  have h := lt_of_lt_of_eq t.isLt (trips_eq i)
  have h1 : (i 1).val < 4 := (i 1).isLt
  omega

theorem off1_eq (i : grid0.Coords) (t : Fin (k0_t1_loop i).trips) (b : Fin 3) : k0_off1 i t (BitVec.ofNat 32 b) = ![512 * (2 * t.val + b.val), 0] :=
  congrArg (fun n : ℕ => (![n, 0] : Fin 2 → ℕ)) (off_trip ⟨t.val, lt_trips i t⟩ b)

theorem off2_eq (i : grid0.Coords) (t : Fin (k0_t1_loop i).trips) (b : Fin 2) : k0_off2 i t (BitVec.ofNat 32 b) = ![0, 0, 512 * (2 * t.val + b.val)] :=
  congrArg (fun n : ℕ => (![0, 0, n] : Fin 3 → ℕ)) (off_trip ⟨t.val, lt_trips i t⟩ (b.castLE (by decide)))

theorem off5_eq (i : grid0.Coords) (b : Fin 4) : k0_off5 i (BitVec.ofNat 32 b) = ![512 * (4 * (i 1).val + b.val), 0] :=
  congrArg (fun n : ℕ => (![n, 0] : Fin 2 → ℕ)) (off_tail (i 1) b)

theorem off6_eq (i : grid0.Coords) (b : Fin 4) : k0_off6 i (BitVec.ofNat 32 b) = ![0, 0, 512 * (4 * (i 1).val + b.val)] :=
  congrArg (fun n : ℕ => (![0, 0, n] : Fin 3 → ℕ)) (off_tail (i 1) b)

theorem trips_two (i : grid0.Coords) : 2 * (k0_t1_loop i).trips = 4 * (i 1).val := by rw [trips_eq]; omega

variable {F : FTy → Type} [FloatOps F] [Named F]

local notation "𝕄" => MT nD τ sig Unit (Elt F) ℕ (UR sig nD τ) ℕ

/-- What the body leaves in the output block at the grid point `i`, from the blocks it reads. -/
def blockOut (i : grid0.Coords) (X : Vec F S1x128x2048 .bf16) (K : Vec F S8192x128 .bf16) (V : Vec F S1x128x8192 .bf16) (P : Vec F S4x64 .f32) (G : Vec F S1x128 .f32) : Vec F S2048x128 .bf16 :=
  Cert.Diff.outs P G (Cert.Diff.ends K X V (Named.named κ "mask" 0xF149F2CA#32) (i 1).val)

/-- The body's triple: from the blocks it reads and its buffers, at anything, to the output block at `blockOut`. -/
theorem kernelRun (i : grid0.Coords) (c : Dev nD) (arg2 : Memref sig .tc .vmem S1x128x2048 .bf16) (harg2 : arg2.IsWhole) (arg3 : Memref sig .tc .vmem S8192x128 .bf16) (harg3 : arg3.IsWhole) (arg4 : Memref sig .tc .vmem S1x128x8192 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x128x512 .f32) (harg10 : arg10.IsWhole) (arg11 : Memref sig .tc .vmem S2x512x512 .f32) (harg11 : arg11.IsWhole)
    (X : Vec F S1x128x2048 .bf16) (K : Vec F S8192x128 .bf16) (V : Vec F S1x128x8192 .bf16) (P : Vec F S4x64 .f32) (G : Vec F S1x128 .f32) (Ψ : PUnit → sProp 𝕄) :
    iprop(Held (c : Thread nD τ) arg2 X ∗ Held (c : Thread nD τ) arg3 K ∗ Held (c : Thread nD τ) arg4 V ∗ Held (c : Thread nD τ) arg5 P ∗ Held (c : Thread nD τ) arg6 G ∗ (∃ O, Held (c : Thread nD τ) arg7 O) ∗ (∃ x, Held (c : Thread nD τ) arg8 x) ∗ (∃ x, Held (c : Thread nD τ) arg9 x) ∗ (∃ x, Held (c : Thread nD τ) arg10 x) ∗ (∃ x, Held (c : Thread nD τ) arg11 x)
        ∗ (iprop(Held (c : Thread nD τ) arg2 X ∗ Held (c : Thread nD τ) arg3 K ∗ Held (c : Thread nD τ) arg4 V ∗ Held (c : Thread nD τ) arg5 P ∗ Held (c : Thread nD τ) arg6 G ∗ Held (c : Thread nD τ) arg7 (blockOut i X K V P G) ∗ (∃ x, Held (c : Thread nD τ) arg8 x) ∗ (∃ x, Held (c : Thread nD τ) arg9 x) ∗ (∃ x, Held (c : Thread nD τ) arg10 x) ∗ (∃ x, Held (c : Thread nD τ) arg11 x)) -∗ Ψ ⟨⟩))
      ⊢ wp frame (wpE (defs₀ (F := F)) Variants.none c none) Set.univ (cc0_attn_diff i arg2 harg2 arg3 harg3 arg4 harg4 arg5 harg5 arg6 harg6 arg7 harg7 arg8 harg8 arg9 harg9 arg10 harg10 arg11 harg11) Ψ := by
  rw [body_eq]
  iintro ⟨HX, HK, HV, HP, HG, ⟨%O, HO⟩, ⟨%xm, H6⟩, ⟨%xl, H7⟩, ⟨%xa, H8⟩, ⟨%xs, H9⟩, Hk⟩
  iapply (Cert.Diff.wp_attn (σ := ⟨xm, xl, xa, xs⟩) (fun t => t1b_eq i arg2 harg2 arg3 harg3 arg4 harg4 arg5 harg5 arg6 harg6 arg7 harg7 arg8 harg8 arg9 harg9 arg10 harg10 arg11 harg11 t)
    (trips2_eq i) (cond_eq i) (last_eq i arg2 harg2 arg3 harg3 arg4 harg4 arg5 harg5 arg6 harg6 arg7 harg7 arg8 harg8 arg9 harg9 arg10 harg10 arg11 harg11 (cond_eq i))) $$ [HX HK HV HP HG HO H6 H7 H8 H9]
  · unfold Cert.Diff.HeldAll Cert.Diff.HeldSt
    iframe
  iintro ⟨HA, HP, HG, HO⟩
  rw [Cert.Diff.effOuts_eq]
  iapply Hk
  unfold Cert.Diff.HeldAll Cert.Diff.HeldSt
  icases HA with ⟨HK, HX, HV, H6, H7, H8, H9⟩
  isplitl [HX]; · iexact HX
  isplitl [HK]; · iexact HK
  isplitl [HV]; · iexact HV
  isplitl [HP]; · iexact HP
  isplitl [HG]; · iexact HG
  isplitl [HO]
  · unfold blockOut
    rw [show Cert.Diff.ends K X V (Named.named κ "mask" 0xF149F2CA#32) (i 1).val = Cert.Diff.col _ from
      (funext fun st => funext fun h => (Cert.Diff.col_attn K X V _ _ _ _ _ _ _ _ _ _ ⟨xm, xl, xa, xs⟩ (off1_eq i) (off2_eq i) _ (trips_two i) (off5_eq i) (off6_eq i) st h).symm)]
    iexact HO
  isplitl [H6]; · iexists _; iexact H6
  isplitl [H7]; · iexists _; iexact H7
  isplitl [H8]; · iexists _; iexact H8
  iexists _; iexact H9

/-! ## The proof data and the body obligation -/

variable (m : (ℓ : Loc nD τ sig) → Buf (Elt F) ℓ) (ρ : Dev nD → PrngReg)

/-- The proof data: the arrays as the region finds them, the inputs' blocks left alone, the output's block at `blockOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (grid0.coords t) (iblk m c 0 t) (iblk m c 1 t) (iblk m c 2 t) (iblk m c 3 t) (iblk m c 4 t)
    | ⟨_ + 6, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

theorem held_eq (c : Thread nD τ) {cs : CoreSpace} {s : Shape} {e : EltTy} (M : Memref sig c.2.kind cs s e) (x : s.Idx → Elt F e) :
    (Held c M x : sProp 𝕄) = owns c M fullShare x := (owns_eq_rep _ _ _ _).symm

theorem phi_eq (c : Dev nD) : (Pipeline.ΦA spec0 c : sProp 𝕄) = iprop(iprop((∃ x, Held (c : Thread nD τ) (Memref.whole cc0_scratch0) x) ∗ (∃ x, Held (c : Thread nD τ) (Memref.whole cc0_scratch1) x)
      ∗ (∃ x, Held (c : Thread nD τ) (Memref.whole cc0_scratch2) x) ∗ (∃ x, Held (c : Thread nD τ) (Memref.whole cc0_scratch3) x)) ∗ ∃ r, prngReg c r) := by
  unfold Pipeline.ΦA
  rw [scopedRest0_eq]
  simp only [held_eq, owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  simp only [before0_0_of m (dats m 0 c) (A_eq m c 0) (fun _ => by dsimp only [dats]), before0_1_of m (dats m 0 c) (A_eq m c 1) (fun _ => by dsimp only [dats]), before0_2_of m (dats m 0 c) (A_eq m c 2) (fun _ => by dsimp only [dats]), before0_3_of m (dats m 0 c) (A_eq m c 3) (fun _ => by dsimp only [dats]), before0_4_of m (dats m 0 c) (A_eq m c 4) (fun _ => by dsimp only [dats])]
  iintro ⟨⟨⟨H6, H7, H8, H9⟩, Hg⟩, Ho, ⟨%d0, H0⟩, ⟨%d1, H1⟩, ⟨%d2, H2⟩, ⟨%d3, H3⟩, ⟨%d4, H4⟩, ⟨%d5, H5⟩⟩
  iapply (kernelRun (grid0.coords t) c (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _)
    (Memref.whole cc0_scratch2) (Memref.isWhole_whole _) (Memref.whole cc0_scratch3) (Memref.isWhole_whole _) (iblk m c 0 t) (iblk m c 1 t) (iblk m c 2 t) (iblk m c 3 t) (iblk m c 4 t))
  isplitl [H0]
  · rw [held_eq]; iexact H0
  isplitl [H1]
  · rw [held_eq]; iexact H1
  isplitl [H2]
  · rw [held_eq]; iexact H2
  isplitl [H3]
  · rw [held_eq]; iexact H3
  isplitl [H4]
  · rw [held_eq]; iexact H4
  isplitl [H5]
  · iexists _; rw [held_eq]; iexact H5
  isplitl [H6]; · iexact H6
  isplitl [H7]; · iexact H7
  isplitl [H8]; · iexact H8
  isplitl [H9]; · iexact H9
  iintro ⟨H0, H1, H2, H3, H4, H5, H6, H7, H8, H9⟩
  isplitl [H6 H7 H8 H9 Hg]
  · isplitl [H6 H7 H8 H9]
    · isplitl [H6]; · iexact H6
      isplitl [H7]; · iexact H7
      isplitl [H8]; · iexact H8
      iexact H9
    iexact Hg
  isplitl [Ho]; · iexact Ho
  isplitl [H0]; · iapply (Entails.of_eq (held_eq _ _ _)) $$ H0
  isplitl [H1]; · iapply (Entails.of_eq (held_eq _ _ _)) $$ H1
  isplitl [H2]; · iapply (Entails.of_eq (held_eq _ _ _)) $$ H2
  isplitl [H3]; · iapply (Entails.of_eq (held_eq _ _ _)) $$ H3
  isplitl [H4]; · iapply (Entails.of_eq (held_eq _ _ _)) $$ H4
  iapply (Entails.of_eq (held_eq _ _ _)) $$ H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every weakly fair execution terminates, faults nowhere, leaves the arrays at what the proof data say, and ends with every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (fun c => (body_obligation m c).loose) (fun c => (dats m 0 c).share_full fun _ => rfl) (fun _ _ => rfl) (V0 m) [hostOps1] sfx_sub sfx_fresh sfx_keeps
    (hmain m Variants.none) (fun _ _ => rfl) (fun _ _ => rfl) _ (fun _ h => h)

/-- The frame: the argument arrays end unchanged, the counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      (((h.1 c).2 main_arg4 (Pipeline.mem_restRefs_of main_arg4 (by decide) (by decide))).trans (W_main_arg4 m (dats m) c)),
      (((h.1 c).2 main_arg5 (Pipeline.mem_restRefs_of main_arg5 (by decide) (by decide))).trans (W_main_arg5 m (dats m) c)),
      (((h.1 c).2 main_arg6 (Pipeline.mem_restRefs_of main_arg6 (by decide) (by decide))).trans (W_main_arg6 m (dats m) c)),
      (((h.1 c).2 main_arg7 (Pipeline.mem_restRefs_of main_arg7 (by decide) (by decide))).trans (W_main_arg7 m (dats m) c))⟩, h.2⟩) (run_main m ρ)

end Cert.Kernel5Ideal.Hand

end
-- ==== Proof.DiffColI.lean ====
/- The differential attention's running values of one query over the extended reals, and one element of the block its body leaves. -/
module

public import proofs.«01_k».proof.Proof.DiffFlow
public import proofs.«01_k».proof.Proof.ColI

@[expose] public section

set_option maxRecDepth 65536

noncomputable section

namespace Cert.Diff

open Cert.Attn (T256 T1x256 T1x512 T128x256 T128x512 T512x128 T512x256 T512x512 T2048x128 T1x1x256 T1x1x512 T1x128x256 T1x128x512 T1x512x256 T1x512x512 T2x512x512 T1x128x8192
  cast_s maskAt Col Col.step Col.start half vals wideA wideL kat half_apply vals_apply maskAt_apply payM_apply payL_apply payA_apply colMax Inv Inv.step score wt quotient)
open Idealize.ShloMosaic

theorem half_word : ∀ e : Fin 128, IntOp.cmpi CmpIPredicate.slt (BitVec.ofNat 32 e.val) 64#32 = if e.val < 64 then 1#1 else 0#1 := by decide +kernel

theorem zero_bf16 : Ideal.ofBits .bf16 0x0000#16 = (0 : EReal) := by
  simp [Ideal.ofBits, Ideal.ieee]

theorem sel_apply (st : ℕ) (y : FVec Ideal T128x512 .bf16) (e : Fin 128) (q : Fin 512) :
    sel st y (ix2 e q) = if (e.val < 64 ↔ st % 2 = 0) then (y (ix2 e q) : EReal) else 0 := by
  unfold sel
  by_cases hs : st % 2 = 0
  · rw [if_pos hs]
    pointwise [half_word]
    by_cases he : e.val < 64
    · simp [hs, he, Scalar.select]
    · simp [hs, he, zero_bf16, Scalar.select]
  · rw [if_neg hs]
    pointwise [half_word]
    by_cases he : e.val < 64
    · simp [hs, he, zero_bf16, Scalar.select]
    · simp [hs, he, Scalar.select]

theorem cast_q (y : Vec Ideal T1x128x512 .bf16) (h) (e : Fin 128) (q : Fin 512) : (shapeCast T128x512 y h : FVec Ideal T128x512 .bf16) (ix2 e q) = y (ix3 (0 : Fin 1) e q) := by
  pointwise []

theorem payScores_apply (st : ℕ) (x : Vec Ideal T512x128 .bf16) (y : Vec Ideal T1x128x512 .bf16) (k q : Fin 512) :
    payScores st x y (ix3 (0 : Fin 1) k q) = ∑ e : Fin 128, x (ix2 k e) * (if (e.val < 64 ↔ st % 2 = 0) then y (ix3 (0 : Fin 1) e q) else 0) := by
  pointwise [payScores, dotKQ, sel_apply, cast_q]

/-- The second map's weight, from the four vectors. -/
def lamOf (P : Vec Ideal T4x64 .f32) : EReal :=
  Ideal.exp (∑ e : Fin 64, P (ix2 (0 : Fin 4) e) * P (ix2 (1 : Fin 4) e)) - Ideal.exp (∑ e : Fin 64, P (ix2 (2 : Fin 4) e) * P (ix2 (3 : Fin 4) e)) + Ideal.ofBits .f32 0x3E4CCCCD#32

/-- A row over its root mean square, by a gain and the constant. -/
def nrm (o : Fin 128 → EReal) (g : EReal) (d : Fin 128) : EReal :=
  o d * Ideal.rsqrt (Ideal.div (∑ e : Fin 128, o e * o e) (Ideal.ofBits .f32 0x43000000#32) + Ideal.ofBits .f32 0x358637BD#32) * g * Ideal.ofBits .f32 0x3F4CCCCD#32

theorem payLam_apply (P : Vec Ideal T4x64 .f32) : payLam P (ix2 (0 : Fin 1) (0 : Fin 1)) = lamOf P := by
  unfold lamOf
  pointwise [payLam]

theorem payQuot_apply (a : Vec Ideal T1x128x512 .f32) (l : Vec Ideal T1x1x512 .f32) (d : Fin 128) (q : Fin 512) :
    payQuot a l (ix2 d q) = a (ix3 (0 : Fin 1) d q) * Ideal.div 1 (l (ix3 (0 : Fin 1) (0 : Fin 1) q)) := by
  pointwise [payQuot]

theorem payDiff_apply (w : FVec Ideal T1x1 .f32) (x y : FVec Ideal T128x512 .f32) (q : Fin 512) (d : Fin 128) :
    payDiff w x y (ix2 q d) = x (ix2 d q) - w (ix2 (0 : Fin 1) (0 : Fin 1)) * y (ix2 d q) := by
  pointwise [payDiff]

theorem payNorm_apply (o : FVec Ideal T512x128 .f32) (g : Vec Ideal T1x128 .f32) (q : Fin 512) (d : Fin 128) :
    payNorm o g (ix2 q d) = nrm (fun e => o (ix2 q e)) (g (ix2 (0 : Fin 1) d)) d := by
  unfold nrm
  pointwise [payNorm]

section
variable (K : Vec Ideal T8192x128 .bf16) (X : Vec Ideal T1x128x2048 .bf16) (V : Vec Ideal T1x128x8192 .bf16)

/-- The query of column `c` of half `h` of tile `t`, within its block. -/
abbrev qat (t : ℕ) (ht : t < 4) (h : Fin 2) (c : Fin 256) : Fin 2048 := ⟨512 * t + 256 * h.val + c.val, by have := h.isLt; have := c.isLt; omega⟩

theorem lt_tile (st : Fin 8) : st.val / 2 < 4 := by have := st.isLt; omega

theorem scN_apply (n : ℕ) (st : Fin 8) (h : Fin 2) (k : Fin 512) (c : Fin 256) :
    scN K X n st h (ix2 k c) = ∑ e : Fin 128, K (ix2 (kat (512 * n + k.val)) e) * (if (e.val < 64 ↔ st.val % 2 = 0) then X (ix3 (0 : Fin 1) e (qat (st.val / 2) (lt_tile st) h c)) else 0) := by
  unfold scN
  rw [half_apply, payScores_apply]
  refine Finset.sum_congr rfl fun e _ => ?_
  congr 1
  refine if_congr Iff.rfl ?_ rfl
  unfold VecWindow.window
  refine congrArg X (funext fun a => Fin.ext ?_)
  match a with
  | 0 => rfl
  | 1 => show 0 + 1 * e.val = e.val; omega
  | 2 => show 512 * (st.val / 2) + 1 * (256 * h.val + c.val) = 512 * (st.val / 2) + 256 * h.val + c.val; omega

theorem step_inv (c : Fin 256) (x : ℕ → ℝ) (p : ℕ → Prop) [DecidablePred p] (d : Fin 128) (n : ℕ) (s : FVec Ideal T512x256 .f32) (u : Col Ideal)
    (hs : ∀ k : Fin 512, s (ix2 k c) = score x p (512 * n + k.val)) (hp : ∃ k : Fin 512, p (512 * n + k.val))
    (hi : Inv x p (fun k => V (ix3 (0 : Fin 1) d (kat k))) n (u.m (ix3 (0 : Fin 1) (0 : Fin 1) c)) (u.l (ix3 (0 : Fin 1) (0 : Fin 1) c)) (u.a (ix3 (0 : Fin 1) d c))) :
    Inv x p (fun k => V (ix3 (0 : Fin 1) d (kat k))) (n + 1) ((Col.step s (vals V n) u).m (ix3 (0 : Fin 1) (0 : Fin 1) c))
      ((Col.step s (vals V n) u).l (ix3 (0 : Fin 1) (0 : Fin 1) c)) ((Col.step s (vals V n) u).a (ix3 (0 : Fin 1) d c)) := by
  unfold Col.step
  simp only [payM_apply, payL_apply, payA_apply, vals_apply, hs]
  refine (Inv.step x p _ n _ _ _ hp hi _ ?_).2
  unfold colMax
  simp only [hs]

variable (st : Fin 8) (h : Fin 2) (c : Fin 256) (x : ℕ → ℝ)
  (hx : ∀ k, ∑ e : Fin 128, K (ix2 (kat k) e) * (if (e.val < 64 ↔ st.val % 2 = 0) then X (ix3 (0 : Fin 1) e (qat (st.val / 2) (lt_tile st) h c)) else 0) = (x k : EReal))
include hx

theorem run_inv (p : ℕ) (d : Fin 128) : ∀ n, n ≤ 4 * p + st.val / 2 →
    Inv x (fun k => k ≤ 2048 * p + (qat (st.val / 2) (lt_tile st) h c).val) (fun k => V (ix3 (0 : Fin 1) d (kat k))) n ((run K X V (⊥ : EReal) st h n).m (ix3 (0 : Fin 1) (0 : Fin 1) c))
      ((run K X V (⊥ : EReal) st h n).l (ix3 (0 : Fin 1) (0 : Fin 1) c)) ((run K X V (⊥ : EReal) st h n).a (ix3 (0 : Fin 1) d c)) := by
  intro n
  induction n with
  | zero =>
    intro _
    refine .inl ⟨rfl, rfl, ?_, ?_⟩ <;> exact Ideal.ofBits_zero_f32
  | succ n ih =>
    intro hn
    have hle : ∀ k : Fin 512, 512 * n + k.val ≤ 2048 * p + (qat (st.val / 2) (lt_tile st) h c).val := fun k => by have := k.isLt; show _ ≤ 2048 * p + (512 * (st.val / 2) + 256 * h.val + c.val); omega
    refine step_inv V c x _ d n _ _ (fun k => ?_) ⟨0, hle 0⟩ (ih (by omega))
    rw [scN_apply, hx, score, if_pos (hle k)]

/-- One stream's quotient: the softmax of its scores up to the query, against the values. -/
theorem stream_out (p : ℕ) (hp : p < 4) (d : Fin 128) (y : ℕ → ℝ) (hy : ∀ k, x k * Real.log 2 = y k) (L : ℝ) :
    (ends K X V (⊥ : EReal) p st h).a (ix3 (0 : Fin 1) d c) * Ideal.div 1 ((ends K X V (⊥ : EReal) p st h).l (ix3 (0 : Fin 1) (0 : Fin 1) c))
      = ∑ k ∈ Finset.range 8192, V (ix3 (0 : Fin 1) d (kat k)) * Ideal.div ((if k ≤ 2048 * p + (qat (st.val / 2) (lt_tile st) h c).val then Real.exp (y k - L) else 0 : ℝ) : EReal)
          ((∑ j ∈ Finset.range 8192, (if j ≤ 2048 * p + (qat (st.val / 2) (lt_tile st) h c).val then Real.exp (y j - L) else 0) : ℝ) : EReal) := by
  have hq : (qat (st.val / 2) (lt_tile st) h c).val = 512 * (st.val / 2) + 256 * h.val + c.val := rfl
  have hst := st.isLt
  have hh := h.isLt
  have hc := c.isLt
  have hi := step_inv V c x (fun k => k ≤ 2048 * p + (qat (st.val / 2) (lt_tile st) h c).val) d (4 * p + st.val / 2) (maskAt (F := Ideal) (⊥ : EReal) (BitVec.ofNat 32 (256 * h.val)) (scN K X (4 * p + st.val / 2) st h)) _
    (fun k => ?_) ⟨0, ?_⟩ (run_inv K X V st h c x hx p d (4 * p + st.val / 2) le_rfl)
  · rcases hi with ⟨h0, _⟩ | ⟨μ, _, hl, ha⟩
    · omega
    · have e : ∀ a b a' b' : EReal, a = a' → b = b' → a * Ideal.div 1 b = a' * Ideal.div 1 b' := fun _ _ _ _ h1 h2 => by rw [h1, h2]
      refine (e _ _ _ _ ha hl).trans ?_
      exact quotient x (fun k => k ≤ 2048 * p + (qat (st.val / 2) (lt_tile st) h c).val) y L hy (fun k => V (ix3 (0 : Fin 1) d (kat k))) (512 * (4 * p + st.val / 2 + 1)) 8192 (by omega)
        (fun k hk => by omega) 0 (Nat.zero_le _) μ
  · rw [maskAt_apply, scN_apply, hx, score]
    by_cases hk : k.val ≤ 256 * h.val + c.val
    · rw [if_pos hk, if_pos (by omega)]
    · rw [if_neg hk, if_neg (by omega)]
  · show 512 * (4 * p + st.val / 2) + 0 ≤ 2048 * p + (qat (st.val / 2) (lt_tile st) h c).val
    omega

end

theorem outs_apply (P : Vec Ideal T4x64 .f32) (G : Vec Ideal T1x128 .f32) (u : Fin 8 → Fin 2 → Col Ideal) (t : ℕ) (ht : t < 4) (s0 s1 : Fin 8) (e0 : s0.val = 2 * t) (e1 : s1.val = 2 * t + 1)
    (h : Fin 2) (c : Fin 256) (d : Fin 128) :
    outs P G u (ix2 (qat t ht h c) d)
      = nrm (fun e => (u s0 h).a (ix3 (0 : Fin 1) e c) * Ideal.div 1 ((u s0 h).l (ix3 (0 : Fin 1) (0 : Fin 1) c))
          - lamOf P * ((u s1 h).a (ix3 (0 : Fin 1) e c) * Ideal.div 1 ((u s1 h).l (ix3 (0 : Fin 1) (0 : Fin 1) c)))) (G (ix2 (0 : Fin 1) d)) d := by
  have hc := c.isLt
  have hh := h.isLt
  have hq : (qat t ht h c).val = 512 * t + 256 * h.val + c.val := rfl
  have f0 : (⟨2 * ((qat t ht h c).val / 512), by omega⟩ : Fin 8) = s0 := Fin.ext (by show 2 * ((qat t ht h c).val / 512) = s0.val; omega)
  have f1 : (⟨2 * ((qat t ht h c).val / 512) + 1, by omega⟩ : Fin 8) = s1 := Fin.ext (by show 2 * ((qat t ht h c).val / 512) + 1 = s1.val; omega)
  have e2 : (⟨((qat t ht h c).val % 512) / 256, by omega⟩ : Fin 2) = h := Fin.ext (by show ((qat t ht h c).val % 512) / 256 = h.val; omega)
  have e3 : (⟨((qat t ht h c).val % 512) % 256, Nat.mod_lt _ (by decide)⟩ : Fin 256) = c := Fin.ext (by show ((qat t ht h c).val % 512) % 256 = c.val; omega)
  have ea : ∀ (s : Fin 8) (e : Fin 128), wideA (u s) (ix3 (0 : Fin 1) e (⟨(qat t ht h c).val % 512, Nat.mod_lt _ (by decide)⟩ : Fin 512)) = (u s h).a (ix3 (0 : Fin 1) e c) := by
    intro s e
    show (u s ⟨((qat t ht h c).val % 512) / 256, _⟩).a (ix3 (0 : Fin 1) e (⟨((qat t ht h c).val % 512) % 256, _⟩ : Fin 256)) = _
    rw [e2, e3]
  have el : ∀ s : Fin 8, wideL (u s) (ix3 (0 : Fin 1) (0 : Fin 1) (⟨(qat t ht h c).val % 512, Nat.mod_lt _ (by decide)⟩ : Fin 512)) = (u s h).l (ix3 (0 : Fin 1) (0 : Fin 1) c) := by
    intro s
    show (u s ⟨((qat t ht h c).val % 512) / 256, _⟩).l (ix3 (0 : Fin 1) (0 : Fin 1) (⟨((qat t ht h c).val % 512) % 256, _⟩ : Fin 256)) = _
    rw [e2, e3]
  show payOut P G (wideA (u ⟨2 * ((qat t ht h c).val / 512), _⟩)) (wideL (u ⟨2 * ((qat t ht h c).val / 512), _⟩)) (wideA (u ⟨2 * ((qat t ht h c).val / 512) + 1, _⟩)) (wideL (u ⟨2 * ((qat t ht h c).val / 512) + 1, _⟩))
    (ix2 (⟨(qat t ht h c).val % 512, _⟩ : Fin 512) d) = _
  rw [f0, f1]
  unfold payOut
  rw [payNorm_apply]
  refine congrArg (fun o => nrm o (G (ix2 (0 : Fin 1) d)) d) (funext fun e => ?_)
  rw [payDiff_apply, payQuot_apply, payQuot_apply, payLam_apply, ea, ea, el, el]

/-- The softmax of the scores `y` up to key `n`, under any real `L` in the maximum's place, against the values `v`. -/
def soft (v : ℕ → EReal) (n : ℕ) (y : ℕ → ℝ) (L : ℝ) : EReal :=
  ∑ k ∈ Finset.range 8192, v k * Ideal.div ((if k ≤ n then Real.exp (y k - L) else 0 : ℝ) : EReal) ((∑ j ∈ Finset.range 8192, (if j ≤ n then Real.exp (y j - L) else 0) : ℝ) : EReal)

/-- One element of the block the body leaves: the difference of the two maps' softmaxes against the values, over its root mean square, by the gain. -/
theorem ends_out (K : Vec Ideal T8192x128 .bf16) (X : Vec Ideal T1x128x2048 .bf16) (V : Vec Ideal T1x128x8192 .bf16) (P : Vec Ideal T4x64 .f32) (G : Vec Ideal T1x128 .f32)
    (p : ℕ) (hp : p < 4) (q : Fin 2048) (d : Fin 128) (x y : Fin 2 → ℕ → ℝ)
    (hx : ∀ s k, ∑ e : Fin 128, K (ix2 (kat k) e) * (if (e.val < 64 ↔ s.val = 0) then X (ix3 (0 : Fin 1) e q) else 0) = (x s k : EReal)) (hy : ∀ s k, x s k * Real.log 2 = y s k) (L : Fin 2 → ℝ) :
    outs P G (ends K X V (⊥ : EReal) p) (ix2 q d)
      = nrm (fun e => soft (fun k => V (ix3 (0 : Fin 1) e (kat k))) (2048 * p + q.val) (y 0) (L 0)
          - lamOf P * soft (fun k => V (ix3 (0 : Fin 1) e (kat k))) (2048 * p + q.val) (y 1) (L 1)) (G (ix2 (0 : Fin 1) d)) d := by
  have hq := q.isLt
  obtain ⟨t, ht, h, c, rfl⟩ : ∃ t ht h c, q = qat t ht h c :=
    ⟨q.val / 512, by omega, ⟨q.val % 512 / 256, by omega⟩, ⟨q.val % 256, by omega⟩, Fin.ext (by show q.val = 512 * (q.val / 512) + 256 * (q.val % 512 / 256) + q.val % 256; omega)⟩
  rw [outs_apply P G _ t ht ⟨2 * t, by omega⟩ ⟨2 * t + 1, by omega⟩ rfl rfl]
  have key : ∀ (s : Fin 2) (st : Fin 8) (hs : st.val = 2 * t + s.val) (e : Fin 128),
      (ends K X V (⊥ : EReal) p st h).a (ix3 (0 : Fin 1) e c) * Ideal.div 1 ((ends K X V (⊥ : EReal) p st h).l (ix3 (0 : Fin 1) (0 : Fin 1) c))
        = soft (fun k => V (ix3 (0 : Fin 1) e (kat k))) (2048 * p + (qat t ht h c).val) (y s) (L s) := by
    intro s st hs e
    have hs' := s.isLt
    have hm : st.val % 2 = s.val := by omega
    have hq' : qat (st.val / 2) (lt_tile st) h c = qat t ht h c := Fin.ext (by show 512 * (st.val / 2) + 256 * h.val + c.val = 512 * t + 256 * h.val + c.val; omega)
    have r := stream_out K X V st h c (x s) (fun k => by rw [hm, hq']; exact hx s k) p hp e (y s) (hy s) (L s)
    rw [hq'] at r
    exact r
  refine congrArg (fun o => nrm o (G (ix2 (0 : Fin 1) d)) d) (funext fun e => ?_)
  rw [key 0 ⟨2 * t, by omega⟩ rfl e, key 1 ⟨2 * t + 1, by omega⟩ rfl e]

end Cert.Diff

end
-- ==== Proof.DiffHost.lean ====
/- The differential attention: the arrays the call is given, as functions of the arguments, and the result as the blocks the body leaves. -/
module

public import proofs.«01_k».proof.Proof.DiffBodyI
public import proofs.«01_k».proof.Proof.DiffColI
public import proofs.«01_k».proof.Proof.Scores
public import Idealize.ShloMosaic.Lib.Pipeline.ValueKit.Geometry
public import Idealize.ShloMosaic.Lib.Pointwise
public import Idealize.ShloMosaic.Lib.StableHlo.Run

@[expose] public section

set_option maxRecDepth 65536

noncomputable section

namespace Cert.Diff

open Idealize.ShloMosaic Cert.Attn

/-- The scale of the differential attention's logits. -/
def diffScale : ℝ := (Ideal.ofBits .f32 0x3E000000#32 : EReal).toReal

theorem diffScale_bits : Ideal.ofBits .f32 0x3E000000#32 = ((diffScale : ℝ) : EReal) := by
  unfold diffScale
  refine (EReal.coe_toReal ?_ ?_).symm <;> simp [Ideal.ofBits, Ideal.ieee, -EReal.coe_mul]

/-- The scale over the logarithm of two. -/
theorem diffScale_over : Ideal.div (Ideal.ofBits .f32 0x3E000000#32) (Ideal.log (Ideal.ofBits .f32 0x40000000#32)) = ((diffScale / Real.log 2 : ℝ) : EReal) := by
  have hl : Real.log 2 ≠ 0 := (Real.log_pos (by norm_num)).ne'
  have h2 : Ideal.log ((2 : ℝ) : EReal) = ((Real.log 2 : ℝ) : EReal) := by
    have : ¬ ((2 : ℝ) ≤ 0) := by norm_num
    show (if (2 : ℝ) ≤ 0 then (⊥ : EReal) else ((Real.log 2 : ℝ) : EReal)) = _
    rw [if_neg this]
  rw [diffScale_bits, two_bits, h2]
  unfold Ideal.div
  rw [if_neg (by simpa using hl), ← EReal.coe_inv, ← EReal.coe_mul, div_eq_mul_inv]

/-- A key's two rows against a query's, one of them zeroed: the product of the others. -/
theorem dot_half (s : Fin 2) (a b : Fin 2 → Fin 64 → ℝ) (c : ℝ) (K X : Fin 128 → EReal)
    (hK : ∀ (w : Fin 2) (j : Fin 64), K ⟨64 * w.val + j.val, by have := w.isLt; have := j.isLt; omega⟩ = (b w j : ℝ))
    (hX : ∀ (w : Fin 2) (j : Fin 64), X ⟨64 * w.val + j.val, by have := w.isLt; have := j.isLt; omega⟩ = ((a w j : ℝ) : EReal) * (c : EReal)) :
    ∑ e : Fin 128, K e * (if (e.val < 64 ↔ s.val = 0) then X e else 0) = (((∑ j, a s j * b s j) * c : ℝ) : EReal) := by
  have e0 : ∀ j : Fin 64, (Fin.castAdd 64 j : Fin (64 + 64)) = (⟨64 * (0 : Fin 2).val + j.val, by have := j.isLt; simp; omega⟩ : Fin 128) := fun j => Fin.ext (by simp)
  have e1 : ∀ j : Fin 64, (Fin.natAdd 64 j : Fin (64 + 64)) = (⟨64 * (1 : Fin 2).val + j.val, by have := j.isLt; simp; omega⟩ : Fin 128) := fun j => Fin.ext rfl
  have hsum : ∀ w : Fin 2, (((∑ j, a w j * b w j) * c : ℝ) : EReal) = ∑ j : Fin 64, ((b w j : ℝ) : EReal) * (((a w j : ℝ) : EReal) * (c : EReal)) := fun w => by
    rw [show (∑ j, a w j * b w j) * c = ∑ j, b w j * (a w j * c) by rw [Finset.sum_mul]; exact Finset.sum_congr rfl fun j _ => by ring, coe_sum]
    exact Finset.sum_congr rfl fun j _ => by rw [EReal.coe_mul, EReal.coe_mul]
  rw [show ∑ e : Fin 128, K e * (if (e.val < 64 ↔ s.val = 0) then X e else 0) = ∑ e : Fin (64 + 64), K e * (if (e.val < 64 ↔ s.val = 0) then X e else 0) from rfl, Fin.sum_univ_add, hsum]
  rcases (show s = 0 ∨ s = 1 by omega) with rfl | rfl
  · rw [← add_zero (∑ j : Fin 64, ((b 0 j : ℝ) : EReal) * (((a 0 j : ℝ) : EReal) * (c : EReal)))]
    congr 1
    · refine Finset.sum_congr rfl fun j _ => ?_
      rw [if_pos (by have := j.isLt; simp), e0, hK, hX]
    · refine Finset.sum_eq_zero fun j _ => ?_
      rw [if_neg (by simp), mul_zero]
  · rw [← zero_add (∑ j : Fin 64, ((b 1 j : ℝ) : EReal) * (((a 1 j : ℝ) : EReal) * (c : EReal)))]
    congr 1
    · refine Finset.sum_eq_zero fun j _ => ?_
      rw [if_neg (by have := j.isLt; simp), mul_zero]
    · refine Finset.sum_congr rfl fun j _ => ?_
      rw [if_pos (by simp), e1, hK, hX]

/-- The score of key `j` for query `s` of head `h` in the map `w`: the scaled product of the two rows. -/
def logit (q k : FVec Ideal ⟨5, ![1, 8192, 4, 2, 64]⟩ .f32) (h : Fin 4) (w : Fin 2) (s j : Fin 8192) : ℝ :=
  (∑ e : Fin 64, (q (ix5 (0 : Fin 1) s h w e) : EReal).toReal * (k (ix5 (0 : Fin 1) j h w e) : EReal).toReal) * diffScale

/-- The second map's weight, from the four vectors. -/
def weight (a b c d : FVec Ideal ⟨1, ![64]⟩ .f32) : EReal :=
  Ideal.exp (∑ e : Fin 64, a (ix1 e) * b (ix1 e)) - Ideal.exp (∑ e : Fin 64, c (ix1 e) * d (ix1 e)) + Ideal.ofBits .f32 0x3E4CCCCD#32

/-- What both programs compute: query `s`'s row of head `h` at column `d`, the greatest scores of the two maps taken to be `L`. -/
def entry (q k : FVec Ideal ⟨5, ![1, 8192, 4, 2, 64]⟩ .f32) (v : FVec Ideal ⟨4, ![1, 8192, 4, 128]⟩ .f32) (z : EReal) (g : FVec Ideal ⟨1, ![128]⟩ .f32) (L : Fin 2 → ℝ)
    (s : Fin 8192) (h : Fin 4) (d : Fin 128) : EReal :=
  nrm (fun e => soft (fun j => v (ix4 (0 : Fin 1) (kat j) h e)) s.val (fun j => logit q k h 0 s (kat j)) (L 0)
    - z * soft (fun j => v (ix4 (0 : Fin 1) (kat j) h e)) s.val (fun j => logit q k h 1 s (kat j)) (L 1)) (g (ix1 d)) d

/-- What the loop over the blocks leaves for a query, in terms of the queries and keys the blocks are made of. -/
theorem outs_entry (K : Vec Ideal T8192x128 .bf16) (X : Vec Ideal T1x128x2048 .bf16) (V : Vec Ideal T1x128x8192 .bf16) (P : Vec Ideal T4x64 .f32) (G : Vec Ideal T1x128 .f32)
    (p : ℕ) (hp : p < 4) (i : Fin 2048) (d : Fin 128)
    (q k : FVec Ideal ⟨5, ![1, 8192, 4, 2, 64]⟩ .f32) (v : FVec Ideal ⟨4, ![1, 8192, 4, 128]⟩ .f32) (z : EReal) (g : FVec Ideal ⟨1, ![128]⟩ .f32) (h : Fin 4) (s : Fin 8192) (hs : s.val = 2048 * p + i.val)
    (hq : ∀ i, max (q i : EReal) (-(q i : EReal)) < ⊤) (hk : ∀ i, max (k i : EReal) (-(k i : EReal)) < ⊤)
    (hK : ∀ (j : Fin 8192) (w : Fin 2) (e : Fin 64), K (ix2 j ⟨64 * w.val + e.val, by have := w.isLt; have := e.isLt; omega⟩) = k (ix5 (0 : Fin 1) j h w e))
    (hX : ∀ (w : Fin 2) (e : Fin 64), X (ix3 (0 : Fin 1) ⟨64 * w.val + e.val, by have := w.isLt; have := e.isLt; omega⟩ i) = q (ix5 (0 : Fin 1) s h w e) * ((diffScale / Real.log 2 : ℝ) : EReal))
    (hV : ∀ (j : Fin 8192) (e : Fin 128), V (ix3 (0 : Fin 1) e j) = v (ix4 (0 : Fin 1) j h e)) (hP : lamOf P = z) (hG : G (ix2 (0 : Fin 1) d) = g (ix1 d)) (L : Fin 2 → ℝ) :
    outs P G (ends K X V (⊥ : EReal) p) (ix2 i d) = entry q k v z g L s h d := by
  have hl : Real.log 2 ≠ 0 := (Real.log_pos (by norm_num)).ne'
  rw [ends_out K X V P G p hp i d (fun w j => logit q k h w s (kat j) / Real.log 2) (fun w j => logit q k h w s (kat j)) (fun w j => ?_) (fun w j => div_mul_cancel₀ _ hl) L]
  · unfold entry
    rw [hs, hP, hG]
    simp only [hV]
  · refine (dot_half w (fun w e => (q (ix5 (0 : Fin 1) s h w e) : EReal).toReal) (fun w e => (k (ix5 (0 : Fin 1) (kat j) h w e) : EReal).toReal) (diffScale / Real.log 2)
      (fun e => K (ix2 (kat j) e)) (fun e => X (ix3 (0 : Fin 1) e i)) (fun w e => ?_) (fun w e => ?_)).trans ?_
    · exact (hK _ w e).trans (real_of_abs_lt _ (hk _)).symm
    · exact (hX w e).trans (by rw [real_of_abs_lt _ (hq _)])
    · unfold logit
      rw [mul_div_assoc]

end Cert.Diff

namespace Cert.Kernel5Ideal.Hand

open Cert.Kernel5Ideal Cert.Kernel5Ideal.Gen
open Idealize.ShloMosaic Idealize.ShloMosaic.TcCoe Idealize.ShloMosaic.Tactic
open Idealize.SL Idealize.SL.Sem Cert.Attn Cert.Diff

/-- The scaled queries, channels before positions. -/
def qArr (q : FVec Ideal S1x8192x4x2x64 .f32) : FVec Ideal S4x128x8192 .bf16 :=
  truncf .bf16 (transpose S4x128x8192 [1, 2, 0] (shapeCast S8192x4x128 (mulf (shapeCast S1x8192x4x128 q shapeCasts_S1x8192x4x2x64_S1x8192x4x128)
    (broadcastInDim S1x8192x4x128 ![] bcast_S_S1x8192x4x128 (Host.divf (constant S_ .f32 0x3E000000#32) (Host.log (constant S_ .f32 0x40000000#32)))))
    shapeCasts_S1x8192x4x128_S8192x4x128) transposes_S8192x4x128_S4x128x8192_1_2_0) bitsLt_bf16_f32

def kArr (k : FVec Ideal S1x8192x4x2x64 .f32) : FVec Ideal S8192x512 .bf16 :=
  truncf .bf16 (shapeCast S8192x512 (shapeCast S8192x4x2x64 k shapeCasts_S1x8192x4x2x64_S8192x4x2x64) shapeCasts_S8192x4x2x64_S8192x512) bitsLt_bf16_f32

def vArr (v : FVec Ideal S1x8192x4x128 .f32) : FVec Ideal S4x128x8192 .bf16 :=
  truncf .bf16 (transpose S4x128x8192 [1, 2, 0] (shapeCast S8192x4x128 v shapeCasts_S1x8192x4x128_S8192x4x128) transposes_S8192x4x128_S4x128x8192_1_2_0) bitsLt_bf16_f32

def lamArr (a b c d : FVec Ideal S64 .f32) : FVec Ideal S4x64 .f32 :=
  concatenate S4x64 0 [⟨S1x64, broadcastInDim S1x64 ![1] bcast_S64_S1x64_1 a⟩, ⟨S1x64, broadcastInDim S1x64 ![1] bcast_S64_S1x64_1 b⟩,
    ⟨S1x64, broadcastInDim S1x64 ![1] bcast_S64_S1x64_1 c⟩, ⟨S1x64, broadcastInDim S1x64 ![1] bcast_S64_S1x64_1 d⟩] concatenates_S1x64_S1x64_S1x64_S1x64_S4x64_d0

def subArr (g : FVec Ideal S128 .f32) : FVec Ideal S1x128 .f32 := shapeCast S1x128 g shapeCasts_S128_S1x128

variable (m : (ℓ : Loc nD τ sig) → Buf (Elt Ideal) ℓ) (c : Dev nD)

theorem V_q : V m c main_v7 = qArr (m ((c : Thread nD τ).loc main_arg0)) := by
  simp only [V, V0, hostOps0, List.flatten_cons, List.flatten_nil, List.append_nil]
  after_results_simp <;> rfl

theorem V_k : V m c main_v10 = kArr (m ((c : Thread nD τ).loc main_arg1)) := by
  simp only [V, V0, hostOps0, List.flatten_cons, List.flatten_nil, List.append_nil]
  after_results_simp <;> rfl

theorem V_v : V m c main_v13 = vArr (m ((c : Thread nD τ).loc main_arg2)) := by
  simp only [V, V0, hostOps0, List.flatten_cons, List.flatten_nil, List.append_nil]
  after_results_simp <;> rfl

theorem V_lam : V m c main_v18 = lamArr (m ((c : Thread nD τ).loc main_arg3)) (m ((c : Thread nD τ).loc main_arg4)) (m ((c : Thread nD τ).loc main_arg5)) (m ((c : Thread nD τ).loc main_arg6)) := by
  simp only [V, V0, hostOps0, List.flatten_cons, List.flatten_nil, List.append_nil]
  after_results_simp <;> rfl

theorem V_sub : V m c main_v19 = subArr (m ((c : Thread nD τ).loc main_arg7)) := by
  simp only [V, V0, hostOps0, List.flatten_cons, List.flatten_nil, List.append_nil]
  after_results_simp <;> rfl

/-! ## At an index -/

theorem qArr_apply (q : FVec Ideal S1x8192x4x2x64 .f32) (h : Fin 4) (w : Fin 2) (e : Fin 64) (s : Fin 8192) :
    qArr q (ix3 h (⟨64 * w.val + e.val, by have := w.isLt; have := e.isLt; omega⟩ : Fin 128) s) = q (ix5 (0 : Fin 1) s h w e) * ((diffScale / Real.log 2 : ℝ) : EReal) := by
  rw [← diffScale_over]
  pointwise [qArr]

theorem kArr_apply (k : FVec Ideal S1x8192x4x2x64 .f32) (h : Fin 4) (w : Fin 2) (e : Fin 64) (s : Fin 8192) :
    kArr k (ix2 s (⟨128 * h.val + (64 * w.val + e.val), by have := h.isLt; have := w.isLt; have := e.isLt; omega⟩ : Fin 512)) = k (ix5 (0 : Fin 1) s h w e) := by
  pointwise [kArr]

theorem vArr_apply (v : FVec Ideal S1x8192x4x128 .f32) (h : Fin 4) (e : Fin 128) (s : Fin 8192) :
    vArr v (ix3 h e s) = v (ix4 (0 : Fin 1) s h e) := by
  pointwise [vArr]

theorem subArr_apply (g : FVec Ideal S128 .f32) (e : Fin 128) : subArr g (ix2 (0 : Fin 1) e) = g (ix1 e) := by
  pointwise [subArr]

theorem lamArr_0 (a b c d : FVec Ideal S64 .f32) (e : Fin 64) : lamArr a b c d (ix2 (0 : Fin 4) e) = a (ix1 e) := by
  pointwise [lamArr]

theorem lamArr_1 (a b c d : FVec Ideal S64 .f32) (e : Fin 64) : lamArr a b c d (ix2 (1 : Fin 4) e) = b (ix1 e) := by
  pointwise [lamArr]

theorem lamArr_2 (a b c d : FVec Ideal S64 .f32) (e : Fin 64) : lamArr a b c d (ix2 (2 : Fin 4) e) = c (ix1 e) := by
  pointwise [lamArr]

theorem lamArr_3 (a b c d : FVec Ideal S64 .f32) (e : Fin 64) : lamArr a b c d (ix2 (3 : Fin 4) e) = d (ix1 e) := by
  pointwise [lamArr]

theorem lamOf_lamArr (a b c d : FVec Ideal S64 .f32) : lamOf (lamArr a b c d) = weight a b c d := by
  unfold lamOf weight
  simp only [lamArr_0, lamArr_1, lamArr_2, lamArr_3]

/-! ## The blocks -/

theorem index0 : ∀ t : Fin cfg0.N, win0_0.index t = ![(grid0.coords t 0).val, 0, (grid0.coords t 1).val] :=
  (by decide +kernel : ∀ t : Fin grid0.N, win0_0.index t = ![(grid0.coords t 0).val, 0, (grid0.coords t 1).val])

theorem index1 : ∀ t : Fin cfg0.N, win0_1.index t = ![0, (grid0.coords t 0).val] :=
  (by decide +kernel : ∀ t : Fin grid0.N, win0_1.index t = ![0, (grid0.coords t 0).val])

theorem index2 : ∀ t : Fin cfg0.N, win0_2.index t = ![(grid0.coords t 0).val, 0, 0] :=
  (by decide +kernel : ∀ t : Fin grid0.N, win0_2.index t = ![(grid0.coords t 0).val, 0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![(grid0.coords t 1).val, (grid0.coords t 0).val] :=
  (by decide +kernel : ∀ t : Fin grid0.N, win0_5.index t = ![(grid0.coords t 1).val, (grid0.coords t 0).val])

theorem head_lt (t : Fin cfg0.N) : (grid0.coords t 0).val < 4 := (grid0.coords t 0).isLt
theorem step_lt (t : Fin cfg0.N) : (grid0.coords t 1).val < 4 := (grid0.coords t 1).isLt

theorem blk_q (t : Fin cfg0.N) (e : Fin 128) (q : Fin 2048) :
    iblk m c 0 t (ix3 (0 : Fin 1) e q) = qArr (m ((c : Thread nD τ).loc main_arg0))
      (ix3 (⟨(grid0.coords t 0).val, head_lt t⟩ : Fin 4) e (⟨2048 * (grid0.coords t 1).val + q.val, by have := step_lt t; omega⟩ : Fin 8192)) := by
  rw [← V_q]
  blk_simp [iblk]
  congr 1
  blk_ext [index0]

theorem blk_k (t : Fin cfg0.N) (e : Fin 128) (s : Fin 8192) :
    iblk m c 1 t (ix2 s e) = kArr (m ((c : Thread nD τ).loc main_arg1))
      (ix2 s (⟨128 * (grid0.coords t 0).val + e.val, by have := head_lt t; omega⟩ : Fin 512)) := by
  rw [← V_k]
  blk_simp [iblk]
  congr 1
  blk_ext [index1]

theorem blk_v (t : Fin cfg0.N) (d : Fin 128) (s : Fin 8192) :
    iblk m c 2 t (ix3 (0 : Fin 1) d s) = vArr (m ((c : Thread nD τ).loc main_arg2))
      (ix3 (⟨(grid0.coords t 0).val, head_lt t⟩ : Fin 4) d s) := by
  rw [← V_v]
  blk_simp [iblk]
  congr 1
  blk_ext [index2]

theorem blk_lam (t : Fin cfg0.N) (r : Fin 4) (e : Fin 64) :
    iblk m c 3 t (ix2 r e) = lamArr (m ((c : Thread nD τ).loc main_arg3)) (m ((c : Thread nD τ).loc main_arg4)) (m ((c : Thread nD τ).loc main_arg5)) (m ((c : Thread nD τ).loc main_arg6)) (ix2 r e) := by
  rw [← V_lam]
  blk_simp [iblk]
  congr 1
  blk_ext [index3]

theorem blk_sub (t : Fin cfg0.N) (e : Fin 128) :
    iblk m c 4 t (ix2 (0 : Fin 1) e) = subArr (m ((c : Thread nD τ).loc main_arg7)) (ix2 (0 : Fin 1) e) := by
  rw [← V_sub]
  blk_simp [iblk]
  congr 1
  blk_ext [index4]

/-! ## The result -/

/-- The result array over the rows' greatest scores. -/
def result (q k : FVec Ideal S1x8192x4x2x64 .f32) (v : FVec Ideal S1x8192x4x128 .f32) (z : EReal) (g : FVec Ideal S128 .f32) (L : Fin 4 → Fin 8192 → Fin 2 → ℝ) : FVec Ideal S8192x512 .bf16 := fun i =>
  entry q k v z g (L ⟨(i 1).val / 128, by have : (i 1).val < 512 := (i 1).isLt; omega⟩ ⟨(i 0).val, (i 0).isLt⟩) ⟨(i 0).val, (i 0).isLt⟩
    ⟨(i 1).val / 128, by have : (i 1).val < 512 := (i 1).isLt; omega⟩ ⟨(i 1).val % 128, by omega⟩

theorem result_apply (q k : FVec Ideal S1x8192x4x2x64 .f32) (v : FVec Ideal S1x8192x4x128 .f32) (z : EReal) (g : FVec Ideal S128 .f32) (L : Fin 4 → Fin 8192 → Fin 2 → ℝ) (s : Fin 8192) (h : Fin 4) (d : Fin 128)
    (i : S8192x512.Idx) (h0 : (i 0).val = s.val) (h1 : (i 1).val = 128 * h.val + d.val) :
    result q k v z g L i = entry q k v z g (L h s) s h d := by
  have e0 : (⟨(i 0).val, (i 0).isLt⟩ : Fin 8192) = s := Fin.ext h0
  have e1 : (⟨(i 1).val / 128, by have : (i 1).val < 512 := (i 1).isLt; omega⟩ : Fin 4) = h := Fin.ext (by show (i 1).val / 128 = h.val; omega)
  have e2 : (⟨(i 1).val % 128, by omega⟩ : Fin 128) = d := Fin.ext (by show (i 1).val % 128 = d.val; omega)
  show entry q k v z g _ _ _ _ = _
  rw [e0, e1, e2]

section
variable {c} (q k : FVec Ideal S1x8192x4x2x64 .f32) (v : FVec Ideal S1x8192x4x128 .f32) (a0 a1 a2 a3 : FVec Ideal S64 .f32) (g : FVec Ideal S128 .f32)
  (eq : m ((c : Thread nD τ).loc main_arg0) = q) (ek : m ((c : Thread nD τ).loc main_arg1) = k) (ev : m ((c : Thread nD τ).loc main_arg2) = v)
  (e3 : m ((c : Thread nD τ).loc main_arg3) = a0) (e4 : m ((c : Thread nD τ).loc main_arg4) = a1) (e5 : m ((c : Thread nD τ).loc main_arg5) = a2) (e6 : m ((c : Thread nD τ).loc main_arg6) = a3)
  (eg : m ((c : Thread nD τ).loc main_arg7) = g)
  (hq : ∀ i, max (q i : EReal) (-(q i : EReal)) < ⊤) (hk : ∀ i, max (k i : EReal) (-(k i : EReal)) < ⊤)

include eq ek ev e3 e4 e5 e6 eg hq hk in
theorem block_apply (L : Fin 2 → ℝ) (t : Fin cfg0.N) (i : Fin 2048) (d : Fin 128) :
    blockOut (grid0.coords t) (iblk m c 0 t) (iblk m c 1 t) (iblk m c 2 t) (iblk m c 3 t) (iblk m c 4 t) (ix2 i d)
      = entry q k v (weight a0 a1 a2 a3) g L (⟨2048 * (grid0.coords t 1).val + i.val, by have := step_lt t; omega⟩ : Fin 8192) ⟨(grid0.coords t 0).val, head_lt t⟩ d := by
  unfold blockOut
  rw [IdealRules.named_const.ideal_named_scalar κ "mask" _ ⊥ (by simp [κ])]
  refine outs_entry (iblk m c 1 t) (iblk m c 0 t) (iblk m c 2 t) (iblk m c 3 t) (iblk m c 4 t) _ (step_lt t) i d q k v _ g ⟨(grid0.coords t 0).val, head_lt t⟩ _ rfl hq hk
    (fun j w e => ?_) (fun w e => ?_) (fun j e => ?_) ?_ ?_ L
  · rw [blk_k, ek]; exact kArr_apply k ⟨_, head_lt t⟩ w e j
  · rw [blk_q, eq]; exact qArr_apply q ⟨_, head_lt t⟩ w e _
  · rw [blk_v, ev]; exact vArr_apply v ⟨_, head_lt t⟩ e j
  · rw [← lamOf_lamArr]
    unfold lamOf
    simp only [blk_lam, e3, e4, e5, e6]
  · rw [blk_sub, eg]; exact subArr_apply g d

include eq ek ev e3 e4 e5 e6 eg hq hk in
theorem arr_eq (L : Fin 4 → Fin 8192 → Fin 2 → ℝ) : (dats m 0 c).arrAt 5 cfg0.N = result q k v (weight a0 a1 a2 a3) g L := by
  refine (dats m 0 c).arrAt_eq_of_covers 5 _ (by decide +kernel) fun t hf y => ?_
  blk_simp
  have h0 : (y 0).val < 2048 := (y 0).isLt
  have h1 : (y 1).val < 128 := (y 1).isLt
  have hy : (y : S2048x128.Idx) = ix2 (⟨(y 0).val, h0⟩ : Fin 2048) (⟨(y 1).val, h1⟩ : Fin 128) := by
    funext a; fin_cases a <;> rfl
  refine Eq.trans ?_ ((block_apply m q k v a0 a1 a2 a3 g eq ek ev e3 e4 e5 e6 eg hq hk (L ⟨(grid0.coords t 0).val, head_lt t⟩ ⟨2048 * (grid0.coords t 1).val + (y 0).val, by have := step_lt t; omega⟩)
    t ⟨(y 0).val, h0⟩ ⟨(y 1).val, h1⟩).trans (result_apply q k v _ g L _ _ _ _ ?_ ?_).symm)
  · exact congrArg (blockOut (grid0.coords t) (iblk m c 0 t) (iblk m c 1 t) (iblk m c 2 t) (iblk m c 3 t) (iblk m c 4 t)) hy
  · blk_simp [index5]
    ring
  · blk_simp [index5]
    ring

end

end Cert.Kernel5Ideal.Hand

end
-- ==== Proof.DiffRef.lean ====
/- The differential attention's reference: its result at an index. -/
module

public import proofs.«01_k».proof.Proof.Gen.Reference5Ideal.Run
public import proofs.«01_k».proof.Proof.DiffHost
public import proofs.«01_k».proof.Proof.RefI
public import Idealize.ShloMosaic.Lib.Tactic.CleanTypes

@[expose] public section

set_option maxRecDepth 65536

noncomputable section

namespace Cert.Reference5Ideal.Hand

open Cert.Reference5Ideal Cert.Reference5Ideal.Gen Idealize.ShloMosaic Idealize.ShloMosaic.TcCoe Idealize.SL.Sem Cert.Attn Cert.Diff
open Cert.ReferenceIdeal.Hand (mask_bit fold_last max_at)

/-- The first map's rows. -/
def first (x : FVec Ideal S1x8192x4x2x64 .f32) : FVec Ideal S1x8192x4x64 .f32 :=
  shapeCast S1x8192x4x64 (extractStridedSlice S1x8192x4x1x64 ![0, 0, 0, 0, 0] x slices_S1x8192x4x2x64_S1x8192x4x1x64_0_0_0_0_0) shapeCasts_S1x8192x4x1x64_S1x8192x4x64

/-- The second map's rows. -/
def second (x : FVec Ideal S1x8192x4x2x64 .f32) : FVec Ideal S1x8192x4x64 .f32 :=
  shapeCast S1x8192x4x64 (extractStridedSlice S1x8192x4x1x64 ![0, 0, 0, 1, 0] x slices_S1x8192x4x2x64_S1x8192x4x1x64_0_0_0_1_0) shapeCasts_S1x8192x4x1x64_S1x8192x4x64

/-- The masked logits of one map. -/
def logits (q k : FVec Ideal S1x8192x4x64 .f32) : FVec Ideal S1x4x8192x8192 .f32 :=
  select (broadcastInDim S1x4x8192x8192 ![2, 3] bcast_S8192x8192_S1x4x8192x8192_2_3 (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))
    (mulf (Host.dotGeneral dot_S1x8192x4x64_S1x8192x4x64_S1x4x8192x8192_3_3_1_1_02_02 none q k) (broadcastInDim S1x4x8192x8192 ![] bcast_S_S1x4x8192x8192 (constant S_ .f32 0x3E000000#32)))
    (broadcastInDim S1x4x8192x8192 ![] bcast_S_S1x4x8192x8192 (id (constant S_ .f32 0xFF800000#32)))

/-- The greatest logits of the rows. -/
def rowMax (l : FVec Ideal S1x4x8192x8192 .f32) : FVec Ideal S1x4x8192 .f32 :=
  maximumf (broadcastInDim S1x4x8192 ![] bcast_S_S1x4x8192 (constant S_ .f32 0xFF800000#32)) (Host.reduce FloatOps.maximumf l (constant S_ .f32 0xFF800000#32) reducesTo_S1x4x8192x8192_S1x4x8192_d3 h_S_)

/-- A row statistic, along every key. -/
def along (x : FVec Ideal S1x4x8192 .f32) : FVec Ideal S1x4x8192x8192 .f32 :=
  broadcastInDim S1x4x8192x8192 ![0, 1, 2, 3] bcast_S1x4x8192x1_S1x4x8192x8192_0_1_2_3 (broadcastInDim S1x4x8192x1 ![0, 1, 2] bcast_S1x4x8192_S1x4x8192x1_0_1_2 x)

/-- The exponentials. -/
def exps (l : FVec Ideal S1x4x8192x8192 .f32) : FVec Ideal S1x4x8192x8192 .f32 := Host.exp (subf l (along (rowMax l)))

/-- The softmax. -/
def probs (p : FVec Ideal S1x4x8192x8192 .f32) : FVec Ideal S1x4x8192x8192 .f32 :=
  Host.divf p (along (Host.reduceAdd p (constant S_ .f32 0x00000000#32) reducesTo_S1x4x8192x8192_S1x4x8192_d3 h_S_))

/-- One map: the weighed values, a row per query and head. -/
def attend (v : FVec Ideal S1x8192x4x128 .f32) (q k : FVec Ideal S1x8192x4x64 .f32) : FVec Ideal S1x8192x4x128 .f32 :=
  transpose S1x8192x4x128 [0, 3, 1, 2] (Host.dotGeneral dot_S1x8192x4x128_S1x4x8192x8192_S1x4x128x8192_1_3_3_2_02_01 none v (probs (exps (logits q k)))) transposes_S1x4x128x8192_S1x8192x4x128_0_3_1_2

/-- The second map's weight. -/
def lam (a b c d : FVec Ideal S64 .f32) : FVec Ideal S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_)))
    (constant S_ .f32 0x3E4CCCCD#32)

/-- The difference of the maps. -/
def gap (z : FVec Ideal S_ .f32) (x y : FVec Ideal S1x8192x4x128 .f32) : FVec Ideal S1x8192x4x128 .f32 :=
  subf x (mulf (broadcastInDim S1x8192x4x128 ![] bcast_S_S1x8192x4x128 z) y)

/-- The rows over their root mean squares, by the gain and the constant. -/
def normed (o : FVec Ideal S1x8192x4x128 .f32) (g : FVec Ideal S128 .f32) : FVec Ideal S8192x512 .f32 :=
  shapeCast S8192x512 (mulf (mulf (mulf o (broadcastInDim S1x8192x4x128 ![0, 1, 2, 3] bcast_S1x8192x4x1_S1x8192x4x128_0_1_2_3 (Host.rsqrt (addf (Host.divf (broadcastInDim S1x8192x4x1 ![0, 1, 2] bcast_S1x8192x4_S1x8192x4x1_0_1_2
      (Host.reduceAdd (mulf o o) (constant S_ .f32 0x00000000#32) reducesTo_S1x8192x4x128_S1x8192x4_d3 h_S_)) (broadcastInDim S1x8192x4x1 ![] bcast_S_S1x8192x4x1 (constant S_ .f32 0x43000000#32)))
      (broadcastInDim S1x8192x4x1 ![] bcast_S_S1x8192x4x1 (constant S_ .f32 0x358637BD#32))))))
    (broadcastInDim S1x8192x4x128 ![0, 1, 2, 3] bcast_S1x1x1x128_S1x8192x4x128_0_1_2_3 (broadcastInDim S1x1x1x128 ![3] bcast_S128_S1x1x1x128_3 g)))
    (broadcastInDim S1x8192x4x128 ![] bcast_S_S1x8192x4x128 (constant S_ .f32 0x3F4CCCCD#32))) shapeCasts_S1x8192x4x128_S8192x512

/-- The reference's result as a function of its arguments. -/
def res (q k : FVec Ideal S1x8192x4x2x64 .f32) (v : FVec Ideal S1x8192x4x128 .f32) (a b c d : FVec Ideal S64 .f32) (g : FVec Ideal S128 .f32) : FVec Ideal S8192x512 .f32 :=
  normed (gap (lam a b c d) (attend v (first q) (first k)) (attend v (second q) (second k))) g

theorem res_eq (m : (ℓ : Loc nD τ sig) → Buf (Elt Ideal) ℓ) (c : Dev nD) :
    Value.res_main_v79 m c = res (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := rfl

theorem first_apply (x : FVec Ideal S1x8192x4x2x64 .f32) (s : Fin 8192) (h : Fin 4) (e : Fin 64) : first x (ix4 (0 : Fin 1) s h e) = x (ix5 (0 : Fin 1) s h (0 : Fin 2) e) := by
  pointwise [first]

theorem second_apply (x : FVec Ideal S1x8192x4x2x64 .f32) (s : Fin 8192) (h : Fin 4) (e : Fin 64) : second x (ix4 (0 : Fin 1) s h e) = x (ix5 (0 : Fin 1) s h (1 : Fin 2) e) := by
  pointwise [second]

theorem logits_apply (q k : FVec Ideal S1x8192x4x64 .f32) (h : Fin 4) (s j : Fin 8192) :
    logits q k (ix4 (0 : Fin 1) h s j) = if j.val ≤ s.val then (∑ e : Fin 64, (q (ix4 (0 : Fin 1) s h e) : EReal) * (k (ix4 (0 : Fin 1) j h e) : EReal)) * ((diffScale : ℝ) : EReal) else ⊥ := by
  pointwise [logits, id, neg_inf, diffScale_bits]
  exact mask_bit j.val s.val j.isLt s.isLt _ _

theorem rowMax_apply (l : FVec Ideal S1x4x8192x8192 .f32) (h : Fin 4) (s : Fin 8192) :
    rowMax l (ix3 (0 : Fin 1) h s) = max ⊥ (Finset.univ.fold max ⊥ (fun k : Fin 8192 => (l (ix4 (0 : Fin 1) h s k) : EReal))) := by
  have h1 := fold_last l (constant S_ .f32 0xFF800000#32) reducesTo_S1x4x8192x8192_S1x4x8192_d3 h_S_ (0 : Fin 1) h s
  have h2 : ∀ i, (constant S_ .f32 0xFF800000#32 : FVec Ideal S_ .f32) i = (⊥ : EReal) := fun _ => neg_inf
  have h3 : ∀ i, (broadcastInDim S1x4x8192 ![] bcast_S_S1x4x8192 (constant S_ .f32 0xFF800000#32) : FVec Ideal S1x4x8192 .f32) i = (⊥ : EReal) := fun _ => neg_inf
  unfold rowMax
  rw [max_at, h3, h1, h2]

theorem along_apply (x : FVec Ideal S1x4x8192 .f32) (h : Fin 4) (s j : Fin 8192) : along x (ix4 (0 : Fin 1) h s j) = x (ix3 (0 : Fin 1) h s) := by
  pointwise [along]

theorem exps_apply (l : FVec Ideal S1x4x8192x8192 .f32) (h : Fin 4) (s j : Fin 8192) :
    exps l (ix4 (0 : Fin 1) h s j) = Ideal.exp (l (ix4 (0 : Fin 1) h s j) - rowMax l (ix3 (0 : Fin 1) h s)) := by
  pointwise [exps, along_apply]

theorem probs_apply (p : FVec Ideal S1x4x8192x8192 .f32) (h : Fin 4) (s j : Fin 8192) :
    probs p (ix4 (0 : Fin 1) h s j) = Ideal.div (p (ix4 (0 : Fin 1) h s j)) (∑ k : Fin 8192, p (ix4 (0 : Fin 1) h s k)) := by
  pointwise [probs, along_apply]

theorem attend_apply (v : FVec Ideal S1x8192x4x128 .f32) (q k : FVec Ideal S1x8192x4x64 .f32) (h : Fin 4) (s : Fin 8192) (d : Fin 128) :
    attend v q k (ix4 (0 : Fin 1) s h d) = ∑ j : Fin 8192, v (ix4 (0 : Fin 1) j h d) * probs (exps (logits q k)) (ix4 (0 : Fin 1) h s j) := by
  pointwise [attend]

theorem gap_apply (z : FVec Ideal S_ .f32) (x y : FVec Ideal S1x8192x4x128 .f32) (h : Fin 4) (s : Fin 8192) (d : Fin 128) :
    gap z x y (ix4 (0 : Fin 1) s h d) = x (ix4 (0 : Fin 1) s h d) - z ix0 * y (ix4 (0 : Fin 1) s h d) := by
  pointwise [gap]

theorem lam_apply (a b c d : FVec Ideal S64 .f32) : lam a b c d ix0 = weight a b c d := by
  unfold weight
  pointwise [lam]

theorem normed_apply (o : FVec Ideal S1x8192x4x128 .f32) (g : FVec Ideal S128 .f32) (h : Fin 4) (s : Fin 8192) (d : Fin 128) :
    normed o g (ix2 s ⟨128 * h.val + d.val, by omega⟩) = nrm (fun e => o (ix4 (0 : Fin 1) s h e)) (g (ix1 d)) d := by
  unfold nrm
  pointwise [normed]

/-- Over real queries and keys one map is the softmax of the real logits against the values. -/
theorem attend_entry (q k : FVec Ideal S1x8192x4x64 .f32) (qr kr : Fin 8192 → Fin 4 → Fin 64 → ℝ)
    (hq : ∀ s h e, q (ix4 (0 : Fin 1) s h e) = ((qr s h e : ℝ) : EReal)) (hk : ∀ s h e, k (ix4 (0 : Fin 1) s h e) = ((kr s h e : ℝ) : EReal)) :
    ∃ L : Fin 4 → Fin 8192 → ℝ, ∀ (v : FVec Ideal S1x8192x4x128 .f32) (h : Fin 4) (s : Fin 8192) (d : Fin 128),
      attend v q k (ix4 (0 : Fin 1) s h d)
        = soft (fun j => v (ix4 (0 : Fin 1) (kat j) h d)) s.val (fun j => (∑ e, qr s h e * kr (kat j) h e) * diffScale) (L h s) := by
  have hkat : ∀ k : Fin 8192, kat k.val = k := fun k => Fin.ext (Nat.mod_eq_of_lt k.isLt)
  have hl : ∀ (h : Fin 4) (s : Fin 8192) (j : Fin 8192), (logits q k (ix4 (0 : Fin 1) h s j) : EReal)
      = if j.val ≤ s.val then (((∑ e, qr s h e * kr (kat j.val) h e) * diffScale : ℝ) : EReal) else ⊥ := fun h s j => by
    rw [logits_apply, hkat, EReal.coe_mul, coe_sum]
    simp only [EReal.coe_mul, hq, hk]
  have hL : ∀ (h : Fin 4) (s : Fin 8192), _ := fun h s =>
    softmax_row (fun j => logits q k (ix4 (0 : Fin 1) h s j)) (fun j => (∑ e, qr s h e * kr (kat j) h e) * diffScale) s.val s.isLt (hl h s)
  choose L hL using hL
  refine ⟨L, fun v h s d => ?_⟩
  refine Eq.trans ?_ (hL h s (fun j => v (ix4 (0 : Fin 1) (kat j) h d)))
  rw [attend_apply]
  refine Finset.sum_congr rfl fun j _ => ?_
  rw [probs_apply, hkat]
  simp only [exps_apply, rowMax_apply]

/-- Over finite queries and keys the reference's result is the entry both programs compute. -/
theorem res_entry (q k : FVec Ideal S1x8192x4x2x64 .f32)
    (hq : ∀ i, max (q i : EReal) (-(q i : EReal)) < ⊤) (hk : ∀ i, max (k i : EReal) (-(k i : EReal)) < ⊤) :
    ∃ L : Fin 4 → Fin 8192 → Fin 2 → ℝ, ∀ (v : FVec Ideal S1x8192x4x128 .f32) (a b c d : FVec Ideal S64 .f32) (g : FVec Ideal S128 .f32) (h : Fin 4) (s : Fin 8192) (e : Fin 128),
      res q k v a b c d g (ix2 s ⟨128 * h.val + e.val, by omega⟩) = entry q k v (weight a b c d) g (L h s) s h e := by
  obtain ⟨L0, h0⟩ := attend_entry (first q) (first k) (fun s h e => (q (ix5 (0 : Fin 1) s h (0 : Fin 2) e) : EReal).toReal) (fun s h e => (k (ix5 (0 : Fin 1) s h (0 : Fin 2) e) : EReal).toReal)
    (fun s h e => (first_apply q s h e).trans (real_of_abs_lt _ (hq _)).symm) (fun s h e => (first_apply k s h e).trans (real_of_abs_lt _ (hk _)).symm)
  obtain ⟨L1, h1⟩ := attend_entry (second q) (second k) (fun s h e => (q (ix5 (0 : Fin 1) s h (1 : Fin 2) e) : EReal).toReal) (fun s h e => (k (ix5 (0 : Fin 1) s h (1 : Fin 2) e) : EReal).toReal)
    (fun s h e => (second_apply q s h e).trans (real_of_abs_lt _ (hq _)).symm) (fun s h e => (second_apply k s h e).trans (real_of_abs_lt _ (hk _)).symm)
  refine ⟨fun h s => ![L0 h s, L1 h s], fun v a b c d g h s e => ?_⟩
  unfold res entry
  rw [normed_apply]
  refine congrArg (fun o => nrm o (g (ix1 e)) e) (funext fun e => ?_)
  rw [gap_apply, lam_apply, h0, h1]
  rfl

end Cert.Reference5Ideal.Hand

end
-- ==== Proof.DiffJoin.lean ====
/- The differential attention's result array is the reference's, over finite queries and keys. -/
module

public import proofs.«01_k».proof.Defs
public import proofs.«01_k».proof.Proof.DiffHost
public import proofs.«01_k».proof.Proof.DiffRef

@[expose] public section

set_option maxRecDepth 65536

noncomputable section

namespace Cert.DiffJoin

open Idealize.ShloMosaic Idealize.ShloMosaic.TcCoe Idealize.ShloMosaic.Tactic Idealize.SL Idealize.SL.Sem
open Cert.Kernel5Ideal Cert.Kernel5Ideal.Gen Cert.Kernel5Ideal.Hand Cert.Attn

/-- The side condition of the precondition. -/
theorem preFacts : Cert.Pre_finite5.Facts := ⟨by decide⟩

theorem both_one (p q : Bool) (h : IntOp.andi (BitVec.ofBool p) (BitVec.ofBool q) = 1#1) : p = true ∧ q = true := by
  revert h; cases p <;> cases q <;> decide

/-- The precondition says that the queries and the keys are finite. -/
theorem finite_iff [Cert.Pre_finite5.Facts] (q k : FVec Ideal S1x8192x4x2x64 .f32) (v : FVec Ideal S1x8192x4x128 .f32) (a0 a1 a2 a3 : FVec Ideal S64 .f32) (g : FVec Ideal S128 .f32)
    (h : (Cert.Pre_finite5.fn (F := Ideal) q k v a0 a1 a2 a3 g) = fun _ => 1#1) (s : Fin 8192) (n : Fin 4) (w : Fin 2) (e : Fin 64) :
    max (q (ix5 (0 : Fin 1) s n w e) : EReal) (-(q (ix5 (0 : Fin 1) s n w e) : EReal)) < ⊤ ∧ max (k (ix5 (0 : Fin 1) s n w e) : EReal) (-(k (ix5 (0 : Fin 1) s n w e) : EReal)) < ⊤ := by
  have h2 : Cert.Pre_finite5.fn (F := Ideal) q k v a0 a1 a2 a3 g (ix5 (0 : Fin 1) s n w e)
      = IntOp.andi (BitVec.ofBool (decide (FloatOps.absf (q (ix5 (0 : Fin 1) s n w e)) < Ideal.ofBits FTy.f32 0x7F800000#32)))
        (BitVec.ofBool (decide (FloatOps.absf (k (ix5 (0 : Fin 1) s n w e)) < Ideal.ofBits FTy.f32 0x7F800000#32))) := by
    pointwise [Cert.Pre_finite5.fn]
  have h3 := both_one _ _ (h2.symm.trans (congrFun h _))
  rw [inf_bits] at h3
  exact ⟨of_decide_eq_true h3.1, of_decide_eq_true h3.2⟩

theorem idx5 (i : S1x8192x4x2x64.Idx) : ∃ (s : Fin 8192) (n : Fin 4) (w : Fin 2) (e : Fin 64), i = ix5 (0 : Fin 1) s n w e := by
  refine ⟨⟨(i 1).val, (i 1).isLt⟩, ⟨(i 2).val, (i 2).isLt⟩, ⟨(i 3).val, (i 3).isLt⟩, ⟨(i 4).val, (i 4).isLt⟩, ?_⟩
  funext a
  fin_cases a
  · exact Fin.ext (by have : (i 0).val < 1 := (i 0).isLt; show (i 0).val = 0; omega)
  · rfl
  · rfl
  · rfl
  · rfl

variable (m : (ℓ : Loc nD τ sig) → Buf (Elt Ideal) ℓ) {c : Dev nD}

/-- The program's result is the call's result array. -/
theorem W_out : Pipeline.afterTail₀ cfgs (dats m) 0 (V0 m) [hostOps1] c main_v21
    = (extf .f32 · bitsLt_bf16_f32 : FVec Ideal S8192x512 .bf16 → FVec Ideal S8192x512 .f32) ((dats m 0 c).arrAt 5 cfg0.N) := by
  unfold Pipeline.afterTail₀
  simp only [hostOps1, List.flatten_cons, List.flatten_nil, List.append_nil]
  after_results_simp
  exact congrArg (extf .f32 · bitsLt_bf16_f32 : FVec Ideal S8192x512 .bf16 → FVec Ideal S8192x512 .f32)
    (Pipeline.withArrays_arr (cfgs 0).spec (by decide) c (V0 m c) (fun w => (dats m 0 c).arrAt w (cfgs 0).N) 5)

variable (q k q' k' : FVec Ideal S1x8192x4x2x64 .f32) (v v' : FVec Ideal S1x8192x4x128 .f32) (a0 a1 a2 a3 b0 b1 b2 b3 : FVec Ideal S64 .f32) (g g' : FVec Ideal S128 .f32)
  (eq : m ((c : Thread nD τ).loc main_arg0) = q) (ek : m ((c : Thread nD τ).loc main_arg1) = k) (ev : m ((c : Thread nD τ).loc main_arg2) = v)
  (e3 : m ((c : Thread nD τ).loc main_arg3) = a0) (e4 : m ((c : Thread nD τ).loc main_arg4) = a1) (e5 : m ((c : Thread nD τ).loc main_arg5) = a2) (e6 : m ((c : Thread nD τ).loc main_arg6) = a3)
  (eg : m ((c : Thread nD τ).loc main_arg7) = g)
include eq ek ev e3 e4 e5 e6 eg

/-- The two programs' results are one array. -/
theorem out_eq (hq : ∀ i, max (q i : EReal) (-(q i : EReal)) < ⊤) (hk : ∀ i, max (k i : EReal) (-(k i : EReal)) < ⊤) :
    Pipeline.afterTail₀ cfgs (dats m) 0 (V0 m) [hostOps1] c main_v21 = Cert.Reference5Ideal.Hand.res q k v a0 a1 a2 a3 g := by
  obtain ⟨L, hL⟩ := Cert.Reference5Ideal.Hand.res_entry q k hq hk
  rw [W_out, arr_eq m q k v a0 a1 a2 a3 g eq ek ev e3 e4 e5 e6 eg hq hk L]
  funext i
  have h0 : (i 0).val < 8192 := (i 0).isLt
  have h1 : (i 1).val < 512 := (i 1).isLt
  have hi : (i : S8192x512.Idx) = ix2 (⟨(i 0).val, h0⟩ : Fin 8192)
      (⟨128 * (⟨(i 1).val / 128, by omega⟩ : Fin 4).val + (⟨(i 1).val % 128, by omega⟩ : Fin 128).val, by show 128 * ((i 1).val / 128) + (i 1).val % 128 < 512; omega⟩ : Fin 512) := by
    funext a
    fin_cases a
    · rfl
    · exact Fin.ext (by show (i 1).val = 128 * ((i 1).val / 128) + (i 1).val % 128; omega)
  have hl := hL v a0 a1 a2 a3 g ⟨(i 1).val / 128, by omega⟩ ⟨(i 0).val, h0⟩ ⟨(i 1).val % 128, by omega⟩
  rw [← hi] at hl
  exact (result_apply q k v _ g L ⟨(i 0).val, h0⟩ ⟨(i 1).val / 128, by omega⟩ ⟨(i 1).val % 128, by omega⟩ i rfl
    (by show (i 1).val = 128 * ((i 1).val / 128) + (i 1).val % 128; omega)).trans hl.symm

/-- The same with the reference's own arguments, equal to the kernel's; the precondition as it is stated. -/
theorem out_eq_of_pre [Cert.Pre_finite5.Facts] (hpre : (Cert.Pre_finite5.fn (F := Ideal) q k v a0 a1 a2 a3 g) = fun _ => 1#1)
    (f0 : q' = q) (f1 : k' = k) (f2 : v' = v) (f3 : b0 = a0) (f4 : b1 = a1) (f5 : b2 = a2) (f6 : b3 = a3) (f7 : g' = g) :
    Pipeline.afterTail₀ cfgs (dats m) 0 (V0 m) [hostOps1] c main_v21 = Cert.Reference5Ideal.Hand.res q' k' v' b0 b1 b2 b3 g' := by
  rw [f0, f1, f2, f3, f4, f5, f6, f7]
  refine out_eq m q k v a0 a1 a2 a3 g eq ek ev e3 e4 e5 e6 eg (fun i => ?_) (fun i => ?_)
  · obtain ⟨s, n, w, e, rfl⟩ := idx5 i
    exact (finite_iff q k v a0 a1 a2 a3 g hpre s n w e).1
  · obtain ⟨s, n, w, e, rfl⟩ := idx5 i
    exact (finite_iff q k v a0 a1 a2 a3 g hpre s n w e).2

end Cert.DiffJoin

end
-- ==== Proof.lean ====
module

public import proofs.«01_k».proof.Defs
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.FfnJoin
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.BodyK
public import proofs.«01_k».proof.Proof.BodyI
public import proofs.«01_k».proof.Proof.Join
public import proofs.«01_k».proof.Proof.OutProj
public import proofs.«01_k».proof.Proof.FoxBodyK
public import proofs.«01_k».proof.Proof.FoxJoin
public import proofs.«01_k».proof.Proof.DiffBodyK
public import proofs.«01_k».proof.Proof.DiffJoin
public import Idealize.ShloMosaic.Adequacy
public import Idealize.ShloMosaic.Init

@[expose] public section

noncomputable section

namespace Cert.Proof

open Idealize.ShloMosaic Idealize.SL.Sem Cert.Kernel

/-- The reference runs and leaves its arguments and the counters as they were. -/
theorem frameR (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) ∧ r.2.sem = fun _ => 0) :=
  (θ_run _ _ _).mono (fun r h => ⟨fun c => (h c).2, sem_eq_zero_of_no_sems (by decide) r.2⟩) (Cert.ReferenceIdeal.Value.run m g)

/-- Over finite queries and keys the kernel's result is the reference's. -/
theorem value : Cert.algebraic_KernelIdeal_ReferenceIdeal_pre_finite (hKernelIdeal := Cert.KernelIdeal.Gen.facts) (hReferenceIdeal := Cert.ReferenceIdeal.Gen.facts) (hPre_finite := Cert.Join.preFacts) := by
  intro m g m' g' hpre harg
  refine ⟨fun c => Cert.ReferenceIdeal.Value.res_main_v23 m' c, ?_, Cert.ReferenceIdeal.Value.run m' g'⟩
  refine (θ_run _ _ _).mono (fun r h c => ⟨?_,
      (((h.1 c).2 Cert.KernelIdeal.main_arg0 (Pipeline.mem_restRefs_of Cert.KernelIdeal.main_arg0 (by decide) (by decide))).trans (Cert.KernelIdeal.Gen.W_main_arg0 m (Cert.KernelIdeal.Hand.dats m) c)),
      (((h.1 c).2 Cert.KernelIdeal.main_arg1 (Pipeline.mem_restRefs_of Cert.KernelIdeal.main_arg1 (by decide) (by decide))).trans (Cert.KernelIdeal.Gen.W_main_arg1 m (Cert.KernelIdeal.Hand.dats m) c)),
      (((h.1 c).2 Cert.KernelIdeal.main_arg2 (Pipeline.mem_restRefs_of Cert.KernelIdeal.main_arg2 (by decide) (by decide))).trans (Cert.KernelIdeal.Gen.W_main_arg2 m (Cert.KernelIdeal.Hand.dats m) c))⟩)
    (Cert.KernelIdeal.Hand.run_main m g)
  refine ((h.1 c).2 Cert.KernelIdeal.main_v22 (Pipeline.mem_restRefs_of Cert.KernelIdeal.main_v22 (by decide) (by decide))).trans ?_
  refine Eq.trans ?_ (Cert.ReferenceIdeal.Hand.res_eq m' c).symm
  exact @Cert.Join.out_eq_of_pre m c Cert.Join.preFacts _ _ _ _ _ _ rfl rfl rfl (hpre c) (harg c).1 (harg c).2.1 (harg c).2.2

/-- The feed-forward reference runs and leaves its arguments and the counters as they were. -/
theorem frameR2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

/-- The feed-forward call's result is the reference's. -/
theorem value2 : Cert.algebraic_Kernel2Ideal_Reference2Ideal (hKernel2Ideal := Cert.Kernel2Ideal.Gen.facts) (hReference2Ideal := Cert.Reference2Ideal.Gen.facts) := by
  intro m g m' g' _ harg
  refine ⟨fun c => Cert.Kernel2Ideal.Value.G4 m c, Cert.Kernel2Ideal.Value.run m g, ?_⟩
  refine (θ_run _ _ _).mono (fun r h c => ⟨(h c).1.trans ?_, (h c).2⟩) (Cert.Reference2Ideal.Value.run m' g')
  exact Cert.FfnJoin.out_eq m c _ _ _ _ _ _ _ _ rfl rfl rfl rfl (harg c).1 (harg c).2.1 (harg c).2.2.1 (harg c).2.2.2

/-- The output projection's reference runs and leaves its arguments and the counters as they were. -/
theorem frameR3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

/-- The output projection's result is the reference's. -/
theorem value3 : Cert.algebraic_Kernel3Ideal_Reference3Ideal (hKernel3Ideal := Cert.Kernel3Ideal.Gen.facts) (hReference3Ideal := Cert.Reference3Ideal.Gen.facts) := by
  intro m g m' g' _ harg
  refine ⟨fun c => (Cert.Kernel3Ideal.Gen.dats m 0 c).arrAt 5 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  exact Cert.Kernel3Ideal.Hand.arr_eq m _ _ _ _ _ _ _ _ _ _ rfl rfl rfl rfl rfl (harg c).1 (harg c).2.1 (harg c).2.2.1 (harg c).2.2.2.1 (harg c).2.2.2.2

/-- The forgetting attention's reference runs and leaves its arguments and the counters as they were. -/
theorem frameR4 : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

/-- Over finite queries, keys and decays the forgetting attention's result is the reference's. -/
theorem value4 : Cert.algebraic_Kernel4Ideal_Reference4Ideal_pre_finite4 (hKernel4Ideal := Cert.Kernel4Ideal.Gen.facts) (hReference4Ideal := Cert.Reference4Ideal.Gen.facts)
    (hPre_finite4 := Cert.FoxJoin.preFacts) := by
  intro m g m' g' hpre harg
  refine ⟨fun c => Cert.Reference4Ideal.Value.res_main_v30 m' c, ?_, Cert.Reference4Ideal.Value.run m' g'⟩
  refine (θ_run _ _ _).mono (fun r h c => ⟨?_,
      (((h.1 c).2 Cert.Kernel4Ideal.main_arg0 (Pipeline.mem_restRefs_of Cert.Kernel4Ideal.main_arg0 (by decide) (by decide))).trans (Cert.Kernel4Ideal.Gen.W_main_arg0 m (Cert.Kernel4Ideal.Hand.dats m) c)),
      (((h.1 c).2 Cert.Kernel4Ideal.main_arg1 (Pipeline.mem_restRefs_of Cert.Kernel4Ideal.main_arg1 (by decide) (by decide))).trans (Cert.Kernel4Ideal.Gen.W_main_arg1 m (Cert.Kernel4Ideal.Hand.dats m) c)),
      (((h.1 c).2 Cert.Kernel4Ideal.main_arg2 (Pipeline.mem_restRefs_of Cert.Kernel4Ideal.main_arg2 (by decide) (by decide))).trans (Cert.Kernel4Ideal.Gen.W_main_arg2 m (Cert.Kernel4Ideal.Hand.dats m) c)),
      (((h.1 c).2 Cert.Kernel4Ideal.main_arg3 (Pipeline.mem_restRefs_of Cert.Kernel4Ideal.main_arg3 (by decide) (by decide))).trans (Cert.Kernel4Ideal.Gen.W_main_arg3 m (Cert.Kernel4Ideal.Hand.dats m) c))⟩)
    (Cert.Kernel4Ideal.Hand.run_main m g)
  refine ((h.1 c).2 Cert.Kernel4Ideal.main_v32 (Pipeline.mem_restRefs_of Cert.Kernel4Ideal.main_v32 (by decide) (by decide))).trans ?_
  refine Eq.trans ?_ (Cert.Reference4Ideal.Hand.res_eq m' c).symm
  exact @Cert.FoxJoin.out_eq_of_pre m c Cert.FoxJoin.preFacts _ _ _ _ _ _ _ _ rfl rfl rfl rfl (hpre c) (harg c).1 (harg c).2.1 (harg c).2.2.1 (harg c).2.2.2

/-- The differential attention's reference runs and leaves its arguments and the counters as they were. -/
theorem frameR5 : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

/-- Over finite queries and keys the differential attention's result is the reference's. -/
theorem value5 : Cert.algebraic_Kernel5Ideal_Reference5Ideal_pre_finite5 (hKernel5Ideal := Cert.Kernel5Ideal.Gen.facts) (hReference5Ideal := Cert.Reference5Ideal.Gen.facts)
    (hPre_finite5 := Cert.DiffJoin.preFacts) := by
  intro m g m' g' hpre harg
  refine ⟨fun c => Cert.Reference5Ideal.Value.res_main_v79 m' c, ?_, Cert.Reference5Ideal.Value.run m' g'⟩
  refine (θ_run _ _ _).mono (fun r h c => ⟨?_,
      (((h.1 c).2 Cert.Kernel5Ideal.main_arg0 (Pipeline.mem_restRefs_of Cert.Kernel5Ideal.main_arg0 (by decide) (by decide))).trans (Cert.Kernel5Ideal.Gen.W_main_arg0 m (Cert.Kernel5Ideal.Hand.dats m) c)),
      (((h.1 c).2 Cert.Kernel5Ideal.main_arg1 (Pipeline.mem_restRefs_of Cert.Kernel5Ideal.main_arg1 (by decide) (by decide))).trans (Cert.Kernel5Ideal.Gen.W_main_arg1 m (Cert.Kernel5Ideal.Hand.dats m) c)),
      (((h.1 c).2 Cert.Kernel5Ideal.main_arg2 (Pipeline.mem_restRefs_of Cert.Kernel5Ideal.main_arg2 (by decide) (by decide))).trans (Cert.Kernel5Ideal.Gen.W_main_arg2 m (Cert.Kernel5Ideal.Hand.dats m) c)),
      (((h.1 c).2 Cert.Kernel5Ideal.main_arg3 (Pipeline.mem_restRefs_of Cert.Kernel5Ideal.main_arg3 (by decide) (by decide))).trans (Cert.Kernel5Ideal.Gen.W_main_arg3 m (Cert.Kernel5Ideal.Hand.dats m) c)),
      (((h.1 c).2 Cert.Kernel5Ideal.main_arg4 (Pipeline.mem_restRefs_of Cert.Kernel5Ideal.main_arg4 (by decide) (by decide))).trans (Cert.Kernel5Ideal.Gen.W_main_arg4 m (Cert.Kernel5Ideal.Hand.dats m) c)),
      (((h.1 c).2 Cert.Kernel5Ideal.main_arg5 (Pipeline.mem_restRefs_of Cert.Kernel5Ideal.main_arg5 (by decide) (by decide))).trans (Cert.Kernel5Ideal.Gen.W_main_arg5 m (Cert.Kernel5Ideal.Hand.dats m) c)),
      (((h.1 c).2 Cert.Kernel5Ideal.main_arg6 (Pipeline.mem_restRefs_of Cert.Kernel5Ideal.main_arg6 (by decide) (by decide))).trans (Cert.Kernel5Ideal.Gen.W_main_arg6 m (Cert.Kernel5Ideal.Hand.dats m) c)),
      (((h.1 c).2 Cert.Kernel5Ideal.main_arg7 (Pipeline.mem_restRefs_of Cert.Kernel5Ideal.main_arg7 (by decide) (by decide))).trans (Cert.Kernel5Ideal.Gen.W_main_arg7 m (Cert.Kernel5Ideal.Hand.dats m) c))⟩)
    (Cert.Kernel5Ideal.Hand.run_main m g)
  refine ((h.1 c).2 Cert.Kernel5Ideal.main_v21 (Pipeline.mem_restRefs_of Cert.Kernel5Ideal.main_v21 (by decide) (by decide))).trans ?_
  refine Eq.trans ?_ (Cert.Reference5Ideal.Hand.res_eq m' c).symm
  exact @Cert.DiffJoin.out_eq_of_pre m c _ _ _ _ _ _ _ _ _ _ _ _ _ _ _ _ rfl rfl rfl rfl rfl rfl rfl rfl Cert.DiffJoin.preFacts (hpre c)
    (harg c).1 (harg c).2.1 (harg c).2.2.1 (harg c).2.2.2.1 (harg c).2.2.2.2.1 (harg c).2.2.2.2.2.1 (harg c).2.2.2.2.2.2.1 (harg c).2.2.2.2.2.2.2

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Join.preFacts, Cert.FoxJoin.preFacts, Cert.DiffJoin.preFacts,
    fun m g _ => Cert.Kernel.Hand.frame m g, fun m g _ => Cert.KernelIdeal.Hand.frame m g, fun m g _ => Cert.KernelIdeal.Hand.frame m g, fun m g _ => frameR m g, fun m g _ => frameR m g,
    fun m g _ => Cert.Kernel2.Gen.frame m g, fun m g _ => Cert.Kernel2Ideal.Gen.frame m g, frameR2,
    fun m g _ => Cert.Kernel3.Gen.frame m g, fun m g _ => Cert.Kernel3Ideal.Gen.frame m g, frameR3,
    fun m g _ => Cert.Kernel4.Hand.frame m g, fun m g _ => Cert.Kernel4Ideal.Hand.frame m g, fun m g _ => Cert.Kernel4Ideal.Hand.frame m g, frameR4, fun m g _ => frameR4 m g trivial,
    fun m g _ => Cert.Kernel5.Hand.frame m g, fun m g _ => Cert.Kernel5Ideal.Hand.frame m g, fun m g _ => Cert.Kernel5Ideal.Hand.frame m g, frameR5, fun m g _ => frameR5 m g trivial,
    IdealRules.named_const.statement _ _ _ _ _ (by simp [Cert.KernelIdeal.κ]), value, trivial, value2, trivial, value3,
    IdealRules.named_const.statement _ _ _ _ _ (by simp [Cert.Kernel4Ideal.κ]), value4,
    IdealRules.named_const.statement _ _ _ _ _ (by simp [Cert.Kernel5Ideal.κ]), value5⟩

end Cert.Proof

end
